-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatherWeightsReferenceIdeal (m : (ℓ : Loc Cert.GatherWeightsReferenceIdeal.nD Cert.GatherWeightsReferenceIdeal.τ Cert.GatherWeightsReferenceIdeal.sig) → Buf (Elt Ideal) ℓ) : Prop :=
  True

def Pre_GatherWeightsReference (m : (ℓ : Loc Cert.GatherWeightsReference.nD Cert.GatherWeightsReference.τ Cert.GatherWeightsReference.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallReferenceIdeal (m : (ℓ : Loc Cert.GatherSmallReferenceIdeal.nD Cert.GatherSmallReferenceIdeal.τ Cert.GatherSmallReferenceIdeal.sig) → Buf (Elt Ideal) ℓ) : Prop :=
  True

def Pre_GatherSmallReference (m : (ℓ : Loc Cert.GatherSmallReference.nD Cert.GatherSmallReference.τ Cert.GatherSmallReference.sig) → Buf (Elt Bits) ℓ) : Prop :=
  True

def Pre_GatherMod (m : (ℓ : Loc Cert.GatherMod.nD Cert.GatherMod.τ Cert.GatherMod.sig) → Buf (Elt Bits) ℓ) : Prop :=
  True

def Pre_GatherModIdeal (m : (ℓ : Loc Cert.GatherModIdeal.nD Cert.GatherModIdeal.τ Cert.GatherModIdeal.sig) → Buf (Elt Ideal) ℓ) : Prop :=
  True

def Pre_GatherModReferenceIdeal (m : (ℓ : Loc Cert.GatherModReferenceIdeal.nD Cert.GatherModReferenceIdeal.τ Cert.GatherModReferenceIdeal.sig) → Buf (Elt Ideal) ℓ) : Prop :=
  True

def Pre_GatherModReference (m : (ℓ : Loc Cert.GatherModReference.nD Cert.GatherModReference.τ Cert.GatherModReference.sig) → Buf (Elt Bits) ℓ) : Prop :=
  True

def Pre_GatherSmallGrads (m : (ℓ : Loc Cert.GatherSmallGrads.nD Cert.GatherSmallGrads.τ Cert.GatherSmallGrads.sig) → Buf (Elt Bits) ℓ) : Prop :=
  True

def Pre_GatherSmallGradsIdeal (m : (ℓ : Loc Cert.GatherSmallGradsIdeal.nD Cert.GatherSmallGradsIdeal.τ Cert.GatherSmallGradsIdeal.sig) → Buf (Elt Ideal) ℓ) : Prop :=
  True

def Pre_GatherSmallGradsReferenceIdeal (m : (ℓ : Loc Cert.GatherSmallGradsReferenceIdeal.nD Cert.GatherSmallGradsReferenceIdeal.τ Cert.GatherSmallGradsReferenceIdeal.sig) → Buf (Elt Ideal) ℓ) : Prop :=
  True

def Pre_GatherSmallGradsReference (m : (ℓ : Loc Cert.GatherSmallGradsReference.nD Cert.GatherSmallGradsReference.τ Cert.GatherSmallGradsReference.sig) → Buf (Elt Bits) ℓ) : Prop :=
  True

def Pre_AdamwWAda (m : (ℓ : Loc Cert.AdamwWAda.nD Cert.AdamwWAda.τ Cert.AdamwWAda.sig) → Buf (Elt Bits) ℓ) : Prop :=
  True

def Pre_AdamwWAdaIdeal (m : (ℓ : Loc Cert.AdamwWAdaIdeal.nD Cert.AdamwWAdaIdeal.τ Cert.AdamwWAdaIdeal.sig) → Buf (Elt Ideal) ℓ) : Prop :=
  True

def Pre_AdamwWAdaReferenceIdeal (m : (ℓ : Loc Cert.AdamwWAdaReferenceIdeal.nD Cert.AdamwWAdaReferenceIdeal.τ Cert.AdamwWAdaReferenceIdeal.sig) → Buf (Elt Ideal) ℓ) : Prop :=
  True

def Pre_AdamwFfn1Gate (m : (ℓ : Loc Cert.AdamwFfn1Gate.nD Cert.AdamwFfn1Gate.τ Cert.AdamwFfn1Gate.sig) → Buf (Elt Bits) ℓ) : Prop :=
  True

def Pre_AdamwFfn1GateIdeal (m : (ℓ : Loc Cert.AdamwFfn1GateIdeal.nD Cert.AdamwFfn1GateIdeal.τ Cert.AdamwFfn1GateIdeal.sig) → Buf (Elt Ideal) ℓ) : Prop :=
  True

def Pre_AdamwFfn1GateReferenceIdeal (m : (ℓ : Loc Cert.AdamwFfn1GateReferenceIdeal.nD Cert.AdamwFfn1GateReferenceIdeal.τ Cert.AdamwFfn1GateReferenceIdeal.sig) → Buf (Elt Ideal) ℓ) : Prop :=
  True

def Pre_AdamwFfn1Down (m : (ℓ : Loc Cert.AdamwFfn1Down.nD Cert.AdamwFfn1Down.τ Cert.AdamwFfn1Down.sig) → Buf (Elt Bits) ℓ) : Prop :=
  True

def Pre_AdamwFfn1DownIdeal (m : (ℓ : Loc Cert.AdamwFfn1DownIdeal.nD Cert.AdamwFfn1DownIdeal.τ Cert.AdamwFfn1DownIdeal.sig) → Buf (Elt Ideal) ℓ) : Prop :=
  True

def Pre_AdamwFfn1DownReferenceIdeal (m : (ℓ : Loc Cert.AdamwFfn1DownReferenceIdeal.nD Cert.AdamwFfn1DownReferenceIdeal.τ Cert.AdamwFfn1DownReferenceIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInReferenceIdeal (m : (ℓ : Loc Cert.AdamwWInReferenceIdeal.nD Cert.AdamwWInReferenceIdeal.τ Cert.AdamwWInReferenceIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutReferenceIdeal (m : (ℓ : Loc Cert.AdamwWOutReferenceIdeal.nD Cert.AdamwWOutReferenceIdeal.τ Cert.AdamwWOutReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_WAdaGrad (m : (ℓ : Loc Cert.WAdaGrad.nD Cert.WAdaGrad.τ Cert.WAdaGrad.sig) → Buf (Elt Bits) ℓ) : Prop :=
  True

def Pre_WAdaGradIdeal (m : (ℓ : Loc Cert.WAdaGradIdeal.nD Cert.WAdaGradIdeal.τ Cert.WAdaGradIdeal.sig) → Buf (Elt Ideal) ℓ) : Prop :=
  True

def Pre_WAdaGradReferenceIdeal (m : (ℓ : Loc Cert.WAdaGradReferenceIdeal.nD Cert.WAdaGradReferenceIdeal.τ Cert.WAdaGradReferenceIdeal.sig) → Buf (Elt Ideal) ℓ) : Prop :=
  True

def Pre_SumGrads (m : (ℓ : Loc Cert.SumGrads.nD Cert.SumGrads.τ Cert.SumGrads.sig) → Buf (Elt Bits) ℓ) : Prop :=
  True

def Pre_SumGradsIdeal (m : (ℓ : Loc Cert.SumGradsIdeal.nD Cert.SumGradsIdeal.τ Cert.SumGradsIdeal.sig) → Buf (Elt Ideal) ℓ) : Prop :=
  True

def Pre_SumGradsReferenceIdeal (m : (ℓ : Loc Cert.SumGradsReferenceIdeal.nD Cert.SumGradsReferenceIdeal.τ Cert.SumGradsReferenceIdeal.sig) → Buf (Elt Ideal) ℓ) : Prop :=
  True

def Pre_SumSmallGrads (m : (ℓ : Loc Cert.SumSmallGrads.nD Cert.SumSmallGrads.τ Cert.SumSmallGrads.sig) → Buf (Elt Bits) ℓ) : Prop :=
  True

def Pre_SumSmallGradsIdeal (m : (ℓ : Loc Cert.SumSmallGradsIdeal.nD Cert.SumSmallGradsIdeal.τ Cert.SumSmallGradsIdeal.sig) → Buf (Elt Ideal) ℓ) : Prop :=
  True

def Pre_SumSmallGradsReferenceIdeal (m : (ℓ : Loc Cert.SumSmallGradsReferenceIdeal.nD Cert.SumSmallGradsReferenceIdeal.τ Cert.SumSmallGradsReferenceIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartReferenceIdeal (m : (ℓ : Loc Cert.ModPartReferenceIdeal.nD Cert.ModPartReferenceIdeal.τ Cert.ModPartReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ResidNorm (m : (ℓ : Loc Cert.ResidNorm.nD Cert.ResidNorm.τ Cert.ResidNorm.sig) → Buf (Elt Bits) ℓ) : Prop :=
  True

def Pre_ResidNormIdeal (m : (ℓ : Loc Cert.ResidNormIdeal.nD Cert.ResidNormIdeal.τ Cert.ResidNormIdeal.sig) → Buf (Elt Ideal) ℓ) : Prop :=
  True

def Pre_ResidNormReferenceIdeal (m : (ℓ : Loc Cert.ResidNormReferenceIdeal.nD Cert.ResidNormReferenceIdeal.τ Cert.ResidNormReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInReferenceIdeal (m : (ℓ : Loc Cert.ProjInReferenceIdeal.nD Cert.ProjInReferenceIdeal.τ Cert.ProjInReferenceIdeal.sig) → Buf (Elt Ideal) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradReferenceIdeal (m : (ℓ : Loc Cert.WeightGradReferenceIdeal.nD Cert.WeightGradReferenceIdeal.τ Cert.WeightGradReferenceIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossReferenceIdeal (m : (ℓ : Loc Cert.FinalLossReferenceIdeal.nD Cert.FinalLossReferenceIdeal.τ Cert.FinalLossReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_ResidNorm3 (m : (ℓ : Loc Cert.ResidNorm3.nD Cert.ResidNorm3.τ Cert.ResidNorm3.sig) → Buf (Elt Bits) ℓ) : Prop :=
  True

def Pre_ResidNorm3Ideal (m : (ℓ : Loc Cert.ResidNorm3Ideal.nD Cert.ResidNorm3Ideal.τ Cert.ResidNorm3Ideal.sig) → Buf (Elt Ideal) ℓ) : Prop :=
  True

def Pre_ResidNorm3ReferenceIdeal (m : (ℓ : Loc Cert.ResidNorm3ReferenceIdeal.nD Cert.ResidNorm3ReferenceIdeal.τ Cert.ResidNorm3ReferenceIdeal.sig) → Buf (Elt Ideal) ℓ) : Prop :=
  True

def Pre_MixGateBwd (m : (ℓ : Loc Cert.MixGateBwd.nD Cert.MixGateBwd.τ Cert.MixGateBwd.sig) → Buf (Elt Bits) ℓ) : Prop :=
  True

def Pre_MixGateBwdIdeal (m : (ℓ : Loc Cert.MixGateBwdIdeal.nD Cert.MixGateBwdIdeal.τ Cert.MixGateBwdIdeal.sig) → Buf (Elt Ideal) ℓ) : Prop :=
  True

def Pre_MixGateBwdReferenceIdeal (m : (ℓ : Loc Cert.MixGateBwdReferenceIdeal.nD Cert.MixGateBwdReferenceIdeal.τ Cert.MixGateBwdReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdReferenceIdeal (m : (ℓ : Loc Cert.MixOutBwdReferenceIdeal.nD Cert.MixOutBwdReferenceIdeal.τ Cert.MixOutBwdReferenceIdeal.sig) → Buf (Elt Ideal) ℓ) : Prop :=
  True

def Pre_MixDwo (m : (ℓ : Loc Cert.MixDwo.nD Cert.MixDwo.τ Cert.MixDwo.sig) → Buf (Elt Bits) ℓ) : Prop :=
  True

def Pre_MixDwoIdeal (m : (ℓ : Loc Cert.MixDwoIdeal.nD Cert.MixDwoIdeal.τ Cert.MixDwoIdeal.sig) → Buf (Elt Ideal) ℓ) : Prop :=
  True

def Pre_MixDwoReferenceIdeal (m : (ℓ : Loc Cert.MixDwoReferenceIdeal.nD Cert.MixDwoReferenceIdeal.τ Cert.MixDwoReferenceIdeal.sig) → Buf (Elt Ideal) ℓ) : Prop :=
  True

def Pre_ProjInBwd (m : (ℓ : Loc Cert.ProjInBwd.nD Cert.ProjInBwd.τ Cert.ProjInBwd.sig) → Buf (Elt Bits) ℓ) : Prop :=
  True

def Pre_ProjInBwdIdeal (m : (ℓ : Loc Cert.ProjInBwdIdeal.nD Cert.ProjInBwdIdeal.τ Cert.ProjInBwdIdeal.sig) → Buf (Elt Ideal) ℓ) : Prop :=
  True

def Pre_ProjInBwdReferenceIdeal (m : (ℓ : Loc Cert.ProjInBwdReferenceIdeal.nD Cert.ProjInBwdReferenceIdeal.τ Cert.ProjInBwdReferenceIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwReferenceIdeal (m : (ℓ : Loc Cert.ProjInDwReferenceIdeal.nD Cert.ProjInDwReferenceIdeal.τ Cert.ProjInDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0))
      ∧ r.2.sem = fun _ => 0)

def quiescent_GatherWeightsReferenceIdeal [hGatherWeightsReferenceIdeal : Cert.GatherWeightsReferenceIdeal.Facts] : Prop :=
  ∀ (m : (ℓ : Loc Cert.GatherWeightsReferenceIdeal.nD Cert.GatherWeightsReferenceIdeal.τ Cert.GatherWeightsReferenceIdeal.sig) → Buf (Elt Ideal) ℓ) (g : Dev Cert.GatherWeightsReferenceIdeal.nD → PrngReg), Pre_GatherWeightsReferenceIdeal m →
    θ_run (Cert.GatherWeightsReferenceIdeal.defs (F := Ideal)) (onTc (τ := Cert.GatherWeightsReferenceIdeal.τ) (Cert.GatherWeightsReferenceIdeal.main (F := Ideal))) ⟨m, fun _ => 0, g⟩ (fun r => (∀ c : Dev Cert.GatherWeightsReferenceIdeal.nD,
      r.2.mem ((c.tc : Thread Cert.GatherWeightsReferenceIdeal.nD Cert.GatherWeightsReferenceIdeal.τ).loc Cert.GatherWeightsReferenceIdeal.main_arg0) = m ((c.tc : Thread Cert.GatherWeightsReferenceIdeal.nD Cert.GatherWeightsReferenceIdeal.τ).loc Cert.GatherWeightsReferenceIdeal.main_arg0))
      ∧ r.2.sem = fun _ => 0)

def quiescent_GatherWeightsReference [hGatherWeightsReference : Cert.GatherWeightsReference.Facts] : Prop :=
  ∀ (m : (ℓ : Loc Cert.GatherWeightsReference.nD Cert.GatherWeightsReference.τ Cert.GatherWeightsReference.sig) → Buf (Elt Bits) ℓ) (g : Dev Cert.GatherWeightsReference.nD → PrngReg), Pre_GatherWeightsReference m →
    θ_run (Cert.GatherWeightsReference.defs (F := Bits)) (onTc (τ := Cert.GatherWeightsReference.τ) (Cert.GatherWeightsReference.main (F := Bits))) ⟨m, fun _ => 0, g⟩ (fun r => (∀ c : Dev Cert.GatherWeightsReference.nD,
      r.2.mem ((c.tc : Thread Cert.GatherWeightsReference.nD Cert.GatherWeightsReference.τ).loc Cert.GatherWeightsReference.main_arg0) = m ((c.tc : Thread Cert.GatherWeightsReference.nD Cert.GatherWeightsReference.τ).loc Cert.GatherWeightsReference.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallReferenceIdeal [hGatherSmallReferenceIdeal : Cert.GatherSmallReferenceIdeal.Facts] : Prop :=
  ∀ (m : (ℓ : Loc Cert.GatherSmallReferenceIdeal.nD Cert.GatherSmallReferenceIdeal.τ Cert.GatherSmallReferenceIdeal.sig) → Buf (Elt Ideal) ℓ) (g : Dev Cert.GatherSmallReferenceIdeal.nD → PrngReg), Pre_GatherSmallReferenceIdeal m →
    θ_run (Cert.GatherSmallReferenceIdeal.defs (F := Ideal)) (onTc (τ := Cert.GatherSmallReferenceIdeal.τ) (Cert.GatherSmallReferenceIdeal.main (F := Ideal))) ⟨m, fun _ => 0, g⟩ (fun r => (∀ c : Dev Cert.GatherSmallReferenceIdeal.nD,
      r.2.mem ((c.tc : Thread Cert.GatherSmallReferenceIdeal.nD Cert.GatherSmallReferenceIdeal.τ).loc Cert.GatherSmallReferenceIdeal.main_arg0) = m ((c.tc : Thread Cert.GatherSmallReferenceIdeal.nD Cert.GatherSmallReferenceIdeal.τ).loc Cert.GatherSmallReferenceIdeal.main_arg0))
      ∧ r.2.sem = fun _ => 0)

def quiescent_GatherSmallReference [hGatherSmallReference : Cert.GatherSmallReference.Facts] : Prop :=
  ∀ (m : (ℓ : Loc Cert.GatherSmallReference.nD Cert.GatherSmallReference.τ Cert.GatherSmallReference.sig) → Buf (Elt Bits) ℓ) (g : Dev Cert.GatherSmallReference.nD → PrngReg), Pre_GatherSmallReference m →
    θ_run (Cert.GatherSmallReference.defs (F := Bits)) (onTc (τ := Cert.GatherSmallReference.τ) (Cert.GatherSmallReference.main (F := Bits))) ⟨m, fun _ => 0, g⟩ (fun r => (∀ c : Dev Cert.GatherSmallReference.nD,
      r.2.mem ((c.tc : Thread Cert.GatherSmallReference.nD Cert.GatherSmallReference.τ).loc Cert.GatherSmallReference.main_arg0) = m ((c.tc : Thread Cert.GatherSmallReference.nD Cert.GatherSmallReference.τ).loc Cert.GatherSmallReference.main_arg0))
      ∧ r.2.sem = fun _ => 0)

def quiescent_GatherMod [hGatherMod : Cert.GatherMod.Facts] : Prop :=
  ∀ (m : (ℓ : Loc Cert.GatherMod.nD Cert.GatherMod.τ Cert.GatherMod.sig) → Buf (Elt Bits) ℓ) (g : Dev Cert.GatherMod.nD → PrngReg), Pre_GatherMod m →
    θ_run (Cert.GatherMod.defs (F := Bits)) (onTc (τ := Cert.GatherMod.τ) (Cert.GatherMod.main (F := Bits))) ⟨m, fun _ => 0, g⟩ (fun r => (∀ c : Dev Cert.GatherMod.nD,
      r.2.mem ((c.tc : Thread Cert.GatherMod.nD Cert.GatherMod.τ).loc Cert.GatherMod.main_arg0) = m ((c.tc : Thread Cert.GatherMod.nD Cert.GatherMod.τ).loc Cert.GatherMod.main_arg0))
      ∧ r.2.sem = fun _ => 0)

def quiescent_GatherModIdeal [hGatherModIdeal : Cert.GatherModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg), Pre_GatherModIdeal m →
    θ_run (Cert.GatherModIdeal.defs (F := Ideal)) (onTc (τ := Cert.GatherModIdeal.τ) (Cert.GatherModIdeal.main (F := Ideal))) ⟨m, fun _ => 0, g⟩ (fun r => (∀ c : Dev Cert.GatherModIdeal.nD,
      r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ r.2.sem = fun _ => 0)

def quiescent_GatherModReferenceIdeal [hGatherModReferenceIdeal : Cert.GatherModReferenceIdeal.Facts] : Prop :=
  ∀ (m : (ℓ : Loc Cert.GatherModReferenceIdeal.nD Cert.GatherModReferenceIdeal.τ Cert.GatherModReferenceIdeal.sig) → Buf (Elt Ideal) ℓ) (g : Dev Cert.GatherModReferenceIdeal.nD → PrngReg), Pre_GatherModReferenceIdeal m →
    θ_run (Cert.GatherModReferenceIdeal.defs (F := Ideal)) (onTc (τ := Cert.GatherModReferenceIdeal.τ) (Cert.GatherModReferenceIdeal.main (F := Ideal))) ⟨m, fun _ => 0, g⟩ (fun r => (∀ c : Dev Cert.GatherModReferenceIdeal.nD,
      r.2.mem ((c.tc : Thread Cert.GatherModReferenceIdeal.nD Cert.GatherModReferenceIdeal.τ).loc Cert.GatherModReferenceIdeal.main_arg0) = m ((c.tc : Thread Cert.GatherModReferenceIdeal.nD Cert.GatherModReferenceIdeal.τ).loc Cert.GatherModReferenceIdeal.main_arg0))
      ∧ r.2.sem = fun _ => 0)

def quiescent_GatherModReference [hGatherModReference : Cert.GatherModReference.Facts] : Prop :=
  ∀ (m : (ℓ : Loc Cert.GatherModReference.nD Cert.GatherModReference.τ Cert.GatherModReference.sig) → Buf (Elt Bits) ℓ) (g : Dev Cert.GatherModReference.nD → PrngReg), Pre_GatherModReference m →
    θ_run (Cert.GatherModReference.defs (F := Bits)) (onTc (τ := Cert.GatherModReference.τ) (Cert.GatherModReference.main (F := Bits))) ⟨m, fun _ => 0, g⟩ (fun r => (∀ c : Dev Cert.GatherModReference.nD,
      r.2.mem ((c.tc : Thread Cert.GatherModReference.nD Cert.GatherModReference.τ).loc Cert.GatherModReference.main_arg0) = m ((c.tc : Thread Cert.GatherModReference.nD Cert.GatherModReference.τ).loc Cert.GatherModReference.main_arg0))
      ∧ r.2.sem = fun _ => 0)

def quiescent_GatherSmallGrads [hGatherSmallGrads : Cert.GatherSmallGrads.Facts] : Prop :=
  ∀ (m : (ℓ : Loc Cert.GatherSmallGrads.nD Cert.GatherSmallGrads.τ Cert.GatherSmallGrads.sig) → Buf (Elt Bits) ℓ) (g : Dev Cert.GatherSmallGrads.nD → PrngReg), Pre_GatherSmallGrads m →
    θ_run (Cert.GatherSmallGrads.defs (F := Bits)) (onTc (τ := Cert.GatherSmallGrads.τ) (Cert.GatherSmallGrads.main (F := Bits))) ⟨m, fun _ => 0, g⟩ (fun r => (∀ c : Dev Cert.GatherSmallGrads.nD,
      r.2.mem ((c.tc : Thread Cert.GatherSmallGrads.nD Cert.GatherSmallGrads.τ).loc Cert.GatherSmallGrads.main_arg0) = m ((c.tc : Thread Cert.GatherSmallGrads.nD Cert.GatherSmallGrads.τ).loc Cert.GatherSmallGrads.main_arg0))
      ∧ r.2.sem = fun _ => 0)

def quiescent_GatherSmallGradsIdeal [hGatherSmallGradsIdeal : Cert.GatherSmallGradsIdeal.Facts] : Prop :=
  ∀ (m : (ℓ : Loc Cert.GatherSmallGradsIdeal.nD Cert.GatherSmallGradsIdeal.τ Cert.GatherSmallGradsIdeal.sig) → Buf (Elt Ideal) ℓ) (g : Dev Cert.GatherSmallGradsIdeal.nD → PrngReg), Pre_GatherSmallGradsIdeal m →
    θ_run (Cert.GatherSmallGradsIdeal.defs (F := Ideal)) (onTc (τ := Cert.GatherSmallGradsIdeal.τ) (Cert.GatherSmallGradsIdeal.main (F := Ideal))) ⟨m, fun _ => 0, g⟩ (fun r => (∀ c : Dev Cert.GatherSmallGradsIdeal.nD,
      r.2.mem ((c.tc : Thread Cert.GatherSmallGradsIdeal.nD Cert.GatherSmallGradsIdeal.τ).loc Cert.GatherSmallGradsIdeal.main_arg0) = m ((c.tc : Thread Cert.GatherSmallGradsIdeal.nD Cert.GatherSmallGradsIdeal.τ).loc Cert.GatherSmallGradsIdeal.main_arg0))
      ∧ r.2.sem = fun _ => 0)

def quiescent_GatherSmallGradsReferenceIdeal [hGatherSmallGradsReferenceIdeal : Cert.GatherSmallGradsReferenceIdeal.Facts] : Prop :=
  ∀ (m : (ℓ : Loc Cert.GatherSmallGradsReferenceIdeal.nD Cert.GatherSmallGradsReferenceIdeal.τ Cert.GatherSmallGradsReferenceIdeal.sig) → Buf (Elt Ideal) ℓ) (g : Dev Cert.GatherSmallGradsReferenceIdeal.nD → PrngReg), Pre_GatherSmallGradsReferenceIdeal m →
    θ_run (Cert.GatherSmallGradsReferenceIdeal.defs (F := Ideal)) (onTc (τ := Cert.GatherSmallGradsReferenceIdeal.τ) (Cert.GatherSmallGradsReferenceIdeal.main (F := Ideal))) ⟨m, fun _ => 0, g⟩ (fun r => (∀ c : Dev Cert.GatherSmallGradsReferenceIdeal.nD,
      r.2.mem ((c.tc : Thread Cert.GatherSmallGradsReferenceIdeal.nD Cert.GatherSmallGradsReferenceIdeal.τ).loc Cert.GatherSmallGradsReferenceIdeal.main_arg0) = m ((c.tc : Thread Cert.GatherSmallGradsReferenceIdeal.nD Cert.GatherSmallGradsReferenceIdeal.τ).loc Cert.GatherSmallGradsReferenceIdeal.main_arg0))
      ∧ r.2.sem = fun _ => 0)

def quiescent_GatherSmallGradsReference [hGatherSmallGradsReference : Cert.GatherSmallGradsReference.Facts] : Prop :=
  ∀ (m : (ℓ : Loc Cert.GatherSmallGradsReference.nD Cert.GatherSmallGradsReference.τ Cert.GatherSmallGradsReference.sig) → Buf (Elt Bits) ℓ) (g : Dev Cert.GatherSmallGradsReference.nD → PrngReg), Pre_GatherSmallGradsReference m →
    θ_run (Cert.GatherSmallGradsReference.defs (F := Bits)) (onTc (τ := Cert.GatherSmallGradsReference.τ) (Cert.GatherSmallGradsReference.main (F := Bits))) ⟨m, fun _ => 0, g⟩ (fun r => (∀ c : Dev Cert.GatherSmallGradsReference.nD,
      r.2.mem ((c.tc : Thread Cert.GatherSmallGradsReference.nD Cert.GatherSmallGradsReference.τ).loc Cert.GatherSmallGradsReference.main_arg0) = m ((c.tc : Thread Cert.GatherSmallGradsReference.nD Cert.GatherSmallGradsReference.τ).loc Cert.GatherSmallGradsReference.main_arg0))
      ∧ r.2.sem = fun _ => 0)

def quiescent_AdamwWAda [hAdamwWAda : Cert.AdamwWAda.Facts] : Prop :=
  ∀ (m : (ℓ : Loc Cert.AdamwWAda.nD Cert.AdamwWAda.τ Cert.AdamwWAda.sig) → Buf (Elt Bits) ℓ) (g : Dev Cert.AdamwWAda.nD → PrngReg), Pre_AdamwWAda m →
    θ_run (Cert.AdamwWAda.defs (F := Bits)) (onTc (τ := Cert.AdamwWAda.τ) (Cert.AdamwWAda.main (F := Bits))) ⟨m, fun _ => 0, g⟩ (fun r => (∀ c : Dev Cert.AdamwWAda.nD,
      r.2.mem ((c.tc : Thread Cert.AdamwWAda.nD Cert.AdamwWAda.τ).loc Cert.AdamwWAda.main_arg0) = m ((c.tc : Thread Cert.AdamwWAda.nD Cert.AdamwWAda.τ).loc Cert.AdamwWAda.main_arg0)
      ∧ r.2.mem ((c.tc : Thread Cert.AdamwWAda.nD Cert.AdamwWAda.τ).loc Cert.AdamwWAda.main_arg1) = m ((c.tc : Thread Cert.AdamwWAda.nD Cert.AdamwWAda.τ).loc Cert.AdamwWAda.main_arg1)
      ∧ r.2.mem ((c.tc : Thread Cert.AdamwWAda.nD Cert.AdamwWAda.τ).loc Cert.AdamwWAda.main_arg2) = m ((c.tc : Thread Cert.AdamwWAda.nD Cert.AdamwWAda.τ).loc Cert.AdamwWAda.main_arg2)
      ∧ r.2.mem ((c.tc : Thread Cert.AdamwWAda.nD Cert.AdamwWAda.τ).loc Cert.AdamwWAda.main_arg3) = m ((c.tc : Thread Cert.AdamwWAda.nD Cert.AdamwWAda.τ).loc Cert.AdamwWAda.main_arg3))
      ∧ r.2.sem = fun _ => 0)

def quiescent_AdamwWAdaIdeal [hAdamwWAdaIdeal : Cert.AdamwWAdaIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg), Pre_AdamwWAdaIdeal m →
    θ_run (Cert.AdamwWAdaIdeal.defs (F := Ideal)) (onTc (τ := Cert.AdamwWAdaIdeal.τ) (Cert.AdamwWAdaIdeal.main (F := Ideal))) ⟨m, fun _ => 0, g⟩ (fun r => (∀ c : Dev Cert.AdamwWAdaIdeal.nD,
      r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
      ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
      ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
      ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ r.2.sem = fun _ => 0)

def quiescent_AdamwWAdaReferenceIdeal [hAdamwWAdaReferenceIdeal : Cert.AdamwWAdaReferenceIdeal.Facts] : Prop :=
  ∀ (m : (ℓ : Loc Cert.AdamwWAdaReferenceIdeal.nD Cert.AdamwWAdaReferenceIdeal.τ Cert.AdamwWAdaReferenceIdeal.sig) → Buf (Elt Ideal) ℓ) (g : Dev Cert.AdamwWAdaReferenceIdeal.nD → PrngReg), Pre_AdamwWAdaReferenceIdeal m →
    θ_run (Cert.AdamwWAdaReferenceIdeal.defs (F := Ideal)) (onTc (τ := Cert.AdamwWAdaReferenceIdeal.τ) (Cert.AdamwWAdaReferenceIdeal.main (F := Ideal))) ⟨m, fun _ => 0, g⟩ (fun r => (∀ c : Dev Cert.AdamwWAdaReferenceIdeal.nD,
      r.2.mem ((c.tc : Thread Cert.AdamwWAdaReferenceIdeal.nD Cert.AdamwWAdaReferenceIdeal.τ).loc Cert.AdamwWAdaReferenceIdeal.main_arg0) = m ((c.tc : Thread Cert.AdamwWAdaReferenceIdeal.nD Cert.AdamwWAdaReferenceIdeal.τ).loc Cert.AdamwWAdaReferenceIdeal.main_arg0)
      ∧ r.2.mem ((c.tc : Thread Cert.AdamwWAdaReferenceIdeal.nD Cert.AdamwWAdaReferenceIdeal.τ).loc Cert.AdamwWAdaReferenceIdeal.main_arg1) = m ((c.tc : Thread Cert.AdamwWAdaReferenceIdeal.nD Cert.AdamwWAdaReferenceIdeal.τ).loc Cert.AdamwWAdaReferenceIdeal.main_arg1)
      ∧ r.2.mem ((c.tc : Thread Cert.AdamwWAdaReferenceIdeal.nD Cert.AdamwWAdaReferenceIdeal.τ).loc Cert.AdamwWAdaReferenceIdeal.main_arg2) = m ((c.tc : Thread Cert.AdamwWAdaReferenceIdeal.nD Cert.AdamwWAdaReferenceIdeal.τ).loc Cert.AdamwWAdaReferenceIdeal.main_arg2)
      ∧ r.2.mem ((c.tc : Thread Cert.AdamwWAdaReferenceIdeal.nD Cert.AdamwWAdaReferenceIdeal.τ).loc Cert.AdamwWAdaReferenceIdeal.main_arg3) = m ((c.tc : Thread Cert.AdamwWAdaReferenceIdeal.nD Cert.AdamwWAdaReferenceIdeal.τ).loc Cert.AdamwWAdaReferenceIdeal.main_arg3))
      ∧ r.2.sem = fun _ => 0)

def quiescent_AdamwFfn1Gate [hAdamwFfn1Gate : Cert.AdamwFfn1Gate.Facts] : Prop :=
  ∀ (m : (ℓ : Loc Cert.AdamwFfn1Gate.nD Cert.AdamwFfn1Gate.τ Cert.AdamwFfn1Gate.sig) → Buf (Elt Bits) ℓ) (g : Dev Cert.AdamwFfn1Gate.nD → PrngReg), Pre_AdamwFfn1Gate m →
    θ_run (Cert.AdamwFfn1Gate.defs (F := Bits)) (onTc (τ := Cert.AdamwFfn1Gate.τ) (Cert.AdamwFfn1Gate.main (F := Bits))) ⟨m, fun _ => 0, g⟩ (fun r => (∀ c : Dev Cert.AdamwFfn1Gate.nD,
      r.2.mem ((c.tc : Thread Cert.AdamwFfn1Gate.nD Cert.AdamwFfn1Gate.τ).loc Cert.AdamwFfn1Gate.main_arg0) = m ((c.tc : Thread Cert.AdamwFfn1Gate.nD Cert.AdamwFfn1Gate.τ).loc Cert.AdamwFfn1Gate.main_arg0)
      ∧ r.2.mem ((c.tc : Thread Cert.AdamwFfn1Gate.nD Cert.AdamwFfn1Gate.τ).loc Cert.AdamwFfn1Gate.main_arg1) = m ((c.tc : Thread Cert.AdamwFfn1Gate.nD Cert.AdamwFfn1Gate.τ).loc Cert.AdamwFfn1Gate.main_arg1)
      ∧ r.2.mem ((c.tc : Thread Cert.AdamwFfn1Gate.nD Cert.AdamwFfn1Gate.τ).loc Cert.AdamwFfn1Gate.main_arg2) = m ((c.tc : Thread Cert.AdamwFfn1Gate.nD Cert.AdamwFfn1Gate.τ).loc Cert.AdamwFfn1Gate.main_arg2)
      ∧ r.2.mem ((c.tc : Thread Cert.AdamwFfn1Gate.nD Cert.AdamwFfn1Gate.τ).loc Cert.AdamwFfn1Gate.main_arg3) = m ((c.tc : Thread Cert.AdamwFfn1Gate.nD Cert.AdamwFfn1Gate.τ).loc Cert.AdamwFfn1Gate.main_arg3))
      ∧ r.2.sem = fun _ => 0)

def quiescent_AdamwFfn1GateIdeal [hAdamwFfn1GateIdeal : Cert.AdamwFfn1GateIdeal.Facts] : Prop :=
  ∀ (m : (ℓ : Loc Cert.AdamwFfn1GateIdeal.nD Cert.AdamwFfn1GateIdeal.τ Cert.AdamwFfn1GateIdeal.sig) → Buf (Elt Ideal) ℓ) (g : Dev Cert.AdamwFfn1GateIdeal.nD → PrngReg), Pre_AdamwFfn1GateIdeal m →
    θ_run (Cert.AdamwFfn1GateIdeal.defs (F := Ideal)) (onTc (τ := Cert.AdamwFfn1GateIdeal.τ) (Cert.AdamwFfn1GateIdeal.main (F := Ideal))) ⟨m, fun _ => 0, g⟩ (fun r => (∀ c : Dev Cert.AdamwFfn1GateIdeal.nD,
      r.2.mem ((c.tc : Thread Cert.AdamwFfn1GateIdeal.nD Cert.AdamwFfn1GateIdeal.τ).loc Cert.AdamwFfn1GateIdeal.main_arg0) = m ((c.tc : Thread Cert.AdamwFfn1GateIdeal.nD Cert.AdamwFfn1GateIdeal.τ).loc Cert.AdamwFfn1GateIdeal.main_arg0)
      ∧ r.2.mem ((c.tc : Thread Cert.AdamwFfn1GateIdeal.nD Cert.AdamwFfn1GateIdeal.τ).loc Cert.AdamwFfn1GateIdeal.main_arg1) = m ((c.tc : Thread Cert.AdamwFfn1GateIdeal.nD Cert.AdamwFfn1GateIdeal.τ).loc Cert.AdamwFfn1GateIdeal.main_arg1)
      ∧ r.2.mem ((c.tc : Thread Cert.AdamwFfn1GateIdeal.nD Cert.AdamwFfn1GateIdeal.τ).loc Cert.AdamwFfn1GateIdeal.main_arg2) = m ((c.tc : Thread Cert.AdamwFfn1GateIdeal.nD Cert.AdamwFfn1GateIdeal.τ).loc Cert.AdamwFfn1GateIdeal.main_arg2)
      ∧ r.2.mem ((c.tc : Thread Cert.AdamwFfn1GateIdeal.nD Cert.AdamwFfn1GateIdeal.τ).loc Cert.AdamwFfn1GateIdeal.main_arg3) = m ((c.tc : Thread Cert.AdamwFfn1GateIdeal.nD Cert.AdamwFfn1GateIdeal.τ).loc Cert.AdamwFfn1GateIdeal.main_arg3))
      ∧ r.2.sem = fun _ => 0)

def quiescent_AdamwFfn1GateReferenceIdeal [hAdamwFfn1GateReferenceIdeal : Cert.AdamwFfn1GateReferenceIdeal.Facts] : Prop :=
  ∀ (m : (ℓ : Loc Cert.AdamwFfn1GateReferenceIdeal.nD Cert.AdamwFfn1GateReferenceIdeal.τ Cert.AdamwFfn1GateReferenceIdeal.sig) → Buf (Elt Ideal) ℓ) (g : Dev Cert.AdamwFfn1GateReferenceIdeal.nD → PrngReg), Pre_AdamwFfn1GateReferenceIdeal m →
    θ_run (Cert.AdamwFfn1GateReferenceIdeal.defs (F := Ideal)) (onTc (τ := Cert.AdamwFfn1GateReferenceIdeal.τ) (Cert.AdamwFfn1GateReferenceIdeal.main (F := Ideal))) ⟨m, fun _ => 0, g⟩ (fun r => (∀ c : Dev Cert.AdamwFfn1GateReferenceIdeal.nD,
      r.2.mem ((c.tc : Thread Cert.AdamwFfn1GateReferenceIdeal.nD Cert.AdamwFfn1GateReferenceIdeal.τ).loc Cert.AdamwFfn1GateReferenceIdeal.main_arg0) = m ((c.tc : Thread Cert.AdamwFfn1GateReferenceIdeal.nD Cert.AdamwFfn1GateReferenceIdeal.τ).loc Cert.AdamwFfn1GateReferenceIdeal.main_arg0)
      ∧ r.2.mem ((c.tc : Thread Cert.AdamwFfn1GateReferenceIdeal.nD Cert.AdamwFfn1GateReferenceIdeal.τ).loc Cert.AdamwFfn1GateReferenceIdeal.main_arg1) = m ((c.tc : Thread Cert.AdamwFfn1GateReferenceIdeal.nD Cert.AdamwFfn1GateReferenceIdeal.τ).loc Cert.AdamwFfn1GateReferenceIdeal.main_arg1)
      ∧ r.2.mem ((c.tc : Thread Cert.AdamwFfn1GateReferenceIdeal.nD Cert.AdamwFfn1GateReferenceIdeal.τ).loc Cert.AdamwFfn1GateReferenceIdeal.main_arg2) = m ((c.tc : Thread Cert.AdamwFfn1GateReferenceIdeal.nD Cert.AdamwFfn1GateReferenceIdeal.τ).loc Cert.AdamwFfn1GateReferenceIdeal.main_arg2)
      ∧ r.2.mem ((c.tc : Thread Cert.AdamwFfn1GateReferenceIdeal.nD Cert.AdamwFfn1GateReferenceIdeal.τ).loc Cert.AdamwFfn1GateReferenceIdeal.main_arg3) = m ((c.tc : Thread Cert.AdamwFfn1GateReferenceIdeal.nD Cert.AdamwFfn1GateReferenceIdeal.τ).loc Cert.AdamwFfn1GateReferenceIdeal.main_arg3))
      ∧ r.2.sem = fun _ => 0)

def quiescent_AdamwFfn1Down [hAdamwFfn1Down : Cert.AdamwFfn1Down.Facts] : Prop :=
  ∀ (m : (ℓ : Loc Cert.AdamwFfn1Down.nD Cert.AdamwFfn1Down.τ Cert.AdamwFfn1Down.sig) → Buf (Elt Bits) ℓ) (g : Dev Cert.AdamwFfn1Down.nD → PrngReg), Pre_AdamwFfn1Down m →
    θ_run (Cert.AdamwFfn1Down.defs (F := Bits)) (onTc (τ := Cert.AdamwFfn1Down.τ) (Cert.AdamwFfn1Down.main (F := Bits))) ⟨m, fun _ => 0, g⟩ (fun r => (∀ c : Dev Cert.AdamwFfn1Down.nD,
      r.2.mem ((c.tc : Thread Cert.AdamwFfn1Down.nD Cert.AdamwFfn1Down.τ).loc Cert.AdamwFfn1Down.main_arg0) = m ((c.tc : Thread Cert.AdamwFfn1Down.nD Cert.AdamwFfn1Down.τ).loc Cert.AdamwFfn1Down.main_arg0)
      ∧ r.2.mem ((c.tc : Thread Cert.AdamwFfn1Down.nD Cert.AdamwFfn1Down.τ).loc Cert.AdamwFfn1Down.main_arg1) = m ((c.tc : Thread Cert.AdamwFfn1Down.nD Cert.AdamwFfn1Down.τ).loc Cert.AdamwFfn1Down.main_arg1)
      ∧ r.2.mem ((c.tc : Thread Cert.AdamwFfn1Down.nD Cert.AdamwFfn1Down.τ).loc Cert.AdamwFfn1Down.main_arg2) = m ((c.tc : Thread Cert.AdamwFfn1Down.nD Cert.AdamwFfn1Down.τ).loc Cert.AdamwFfn1Down.main_arg2)
      ∧ r.2.mem ((c.tc : Thread Cert.AdamwFfn1Down.nD Cert.AdamwFfn1Down.τ).loc Cert.AdamwFfn1Down.main_arg3) = m ((c.tc : Thread Cert.AdamwFfn1Down.nD Cert.AdamwFfn1Down.τ).loc Cert.AdamwFfn1Down.main_arg3))
      ∧ r.2.sem = fun _ => 0)

def quiescent_AdamwFfn1DownIdeal [hAdamwFfn1DownIdeal : Cert.AdamwFfn1DownIdeal.Facts] : Prop :=
  ∀ (m : (ℓ : Loc Cert.AdamwFfn1DownIdeal.nD Cert.AdamwFfn1DownIdeal.τ Cert.AdamwFfn1DownIdeal.sig) → Buf (Elt Ideal) ℓ) (g : Dev Cert.AdamwFfn1DownIdeal.nD → PrngReg), Pre_AdamwFfn1DownIdeal m →
    θ_run (Cert.AdamwFfn1DownIdeal.defs (F := Ideal)) (onTc (τ := Cert.AdamwFfn1DownIdeal.τ) (Cert.AdamwFfn1DownIdeal.main (F := Ideal))) ⟨m, fun _ => 0, g⟩ (fun r => (∀ c : Dev Cert.AdamwFfn1DownIdeal.nD,
      r.2.mem ((c.tc : Thread Cert.AdamwFfn1DownIdeal.nD Cert.AdamwFfn1DownIdeal.τ).loc Cert.AdamwFfn1DownIdeal.main_arg0) = m ((c.tc : Thread Cert.AdamwFfn1DownIdeal.nD Cert.AdamwFfn1DownIdeal.τ).loc Cert.AdamwFfn1DownIdeal.main_arg0)
      ∧ r.2.mem ((c.tc : Thread Cert.AdamwFfn1DownIdeal.nD Cert.AdamwFfn1DownIdeal.τ).loc Cert.AdamwFfn1DownIdeal.main_arg1) = m ((c.tc : Thread Cert.AdamwFfn1DownIdeal.nD Cert.AdamwFfn1DownIdeal.τ).loc Cert.AdamwFfn1DownIdeal.main_arg1)
      ∧ r.2.mem ((c.tc : Thread Cert.AdamwFfn1DownIdeal.nD Cert.AdamwFfn1DownIdeal.τ).loc Cert.AdamwFfn1DownIdeal.main_arg2) = m ((c.tc : Thread Cert.AdamwFfn1DownIdeal.nD Cert.AdamwFfn1DownIdeal.τ).loc Cert.AdamwFfn1DownIdeal.main_arg2)
      ∧ r.2.mem ((c.tc : Thread Cert.AdamwFfn1DownIdeal.nD Cert.AdamwFfn1DownIdeal.τ).loc Cert.AdamwFfn1DownIdeal.main_arg3) = m ((c.tc : Thread Cert.AdamwFfn1DownIdeal.nD Cert.AdamwFfn1DownIdeal.τ).loc Cert.AdamwFfn1DownIdeal.main_arg3))
      ∧ r.2.sem = fun _ => 0)

def quiescent_AdamwFfn1DownReferenceIdeal [hAdamwFfn1DownReferenceIdeal : Cert.AdamwFfn1DownReferenceIdeal.Facts] : Prop :=
  ∀ (m : (ℓ : Loc Cert.AdamwFfn1DownReferenceIdeal.nD Cert.AdamwFfn1DownReferenceIdeal.τ Cert.AdamwFfn1DownReferenceIdeal.sig) → Buf (Elt Ideal) ℓ) (g : Dev Cert.AdamwFfn1DownReferenceIdeal.nD → PrngReg), Pre_AdamwFfn1DownReferenceIdeal m →
    θ_run (Cert.AdamwFfn1DownReferenceIdeal.defs (F := Ideal)) (onTc (τ := Cert.AdamwFfn1DownReferenceIdeal.τ) (Cert.AdamwFfn1DownReferenceIdeal.main (F := Ideal))) ⟨m, fun _ => 0, g⟩ (fun r => (∀ c : Dev Cert.AdamwFfn1DownReferenceIdeal.nD,
      r.2.mem ((c.tc : Thread Cert.AdamwFfn1DownReferenceIdeal.nD Cert.AdamwFfn1DownReferenceIdeal.τ).loc Cert.AdamwFfn1DownReferenceIdeal.main_arg0) = m ((c.tc : Thread Cert.AdamwFfn1DownReferenceIdeal.nD Cert.AdamwFfn1DownReferenceIdeal.τ).loc Cert.AdamwFfn1DownReferenceIdeal.main_arg0)
      ∧ r.2.mem ((c.tc : Thread Cert.AdamwFfn1DownReferenceIdeal.nD Cert.AdamwFfn1DownReferenceIdeal.τ).loc Cert.AdamwFfn1DownReferenceIdeal.main_arg1) = m ((c.tc : Thread Cert.AdamwFfn1DownReferenceIdeal.nD Cert.AdamwFfn1DownReferenceIdeal.τ).loc Cert.AdamwFfn1DownReferenceIdeal.main_arg1)
      ∧ r.2.mem ((c.tc : Thread Cert.AdamwFfn1DownReferenceIdeal.nD Cert.AdamwFfn1DownReferenceIdeal.τ).loc Cert.AdamwFfn1DownReferenceIdeal.main_arg2) = m ((c.tc : Thread Cert.AdamwFfn1DownReferenceIdeal.nD Cert.AdamwFfn1DownReferenceIdeal.τ).loc Cert.AdamwFfn1DownReferenceIdeal.main_arg2)
      ∧ r.2.mem ((c.tc : Thread Cert.AdamwFfn1DownReferenceIdeal.nD Cert.AdamwFfn1DownReferenceIdeal.τ).loc Cert.AdamwFfn1DownReferenceIdeal.main_arg3) = m ((c.tc : Thread Cert.AdamwFfn1DownReferenceIdeal.nD Cert.AdamwFfn1DownReferenceIdeal.τ).loc Cert.AdamwFfn1DownReferenceIdeal.main_arg3))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInReferenceIdeal [hAdamwWInReferenceIdeal : Cert.AdamwWInReferenceIdeal.Facts] : Prop :=
  ∀ (m : (ℓ : Loc Cert.AdamwWInReferenceIdeal.nD Cert.AdamwWInReferenceIdeal.τ Cert.AdamwWInReferenceIdeal.sig) → Buf (Elt Ideal) ℓ) (g : Dev Cert.AdamwWInReferenceIdeal.nD → PrngReg), Pre_AdamwWInReferenceIdeal m →
    θ_run (Cert.AdamwWInReferenceIdeal.defs (F := Ideal)) (onTc (τ := Cert.AdamwWInReferenceIdeal.τ) (Cert.AdamwWInReferenceIdeal.main (F := Ideal))) ⟨m, fun _ => 0, g⟩ (fun r => (∀ c : Dev Cert.AdamwWInReferenceIdeal.nD,
      r.2.mem ((c.tc : Thread Cert.AdamwWInReferenceIdeal.nD Cert.AdamwWInReferenceIdeal.τ).loc Cert.AdamwWInReferenceIdeal.main_arg0) = m ((c.tc : Thread Cert.AdamwWInReferenceIdeal.nD Cert.AdamwWInReferenceIdeal.τ).loc Cert.AdamwWInReferenceIdeal.main_arg0)
      ∧ r.2.mem ((c.tc : Thread Cert.AdamwWInReferenceIdeal.nD Cert.AdamwWInReferenceIdeal.τ).loc Cert.AdamwWInReferenceIdeal.main_arg1) = m ((c.tc : Thread Cert.AdamwWInReferenceIdeal.nD Cert.AdamwWInReferenceIdeal.τ).loc Cert.AdamwWInReferenceIdeal.main_arg1)
      ∧ r.2.mem ((c.tc : Thread Cert.AdamwWInReferenceIdeal.nD Cert.AdamwWInReferenceIdeal.τ).loc Cert.AdamwWInReferenceIdeal.main_arg2) = m ((c.tc : Thread Cert.AdamwWInReferenceIdeal.nD Cert.AdamwWInReferenceIdeal.τ).loc Cert.AdamwWInReferenceIdeal.main_arg2)
      ∧ r.2.mem ((c.tc : Thread Cert.AdamwWInReferenceIdeal.nD Cert.AdamwWInReferenceIdeal.τ).loc Cert.AdamwWInReferenceIdeal.main_arg3) = m ((c.tc : Thread Cert.AdamwWInReferenceIdeal.nD Cert.AdamwWInReferenceIdeal.τ).loc Cert.AdamwWInReferenceIdeal.main_arg3))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ r.2.sem = fun _ => 0)

def quiescent_AdamwWOutReferenceIdeal [hAdamwWOutReferenceIdeal : Cert.AdamwWOutReferenceIdeal.Facts] : Prop :=
  ∀ (m : (ℓ : Loc Cert.AdamwWOutReferenceIdeal.nD Cert.AdamwWOutReferenceIdeal.τ Cert.AdamwWOutReferenceIdeal.sig) → Buf (Elt Ideal) ℓ) (g : Dev Cert.AdamwWOutReferenceIdeal.nD → PrngReg), Pre_AdamwWOutReferenceIdeal m →
    θ_run (Cert.AdamwWOutReferenceIdeal.defs (F := Ideal)) (onTc (τ := Cert.AdamwWOutReferenceIdeal.τ) (Cert.AdamwWOutReferenceIdeal.main (F := Ideal))) ⟨m, fun _ => 0, g⟩ (fun r => (∀ c : Dev Cert.AdamwWOutReferenceIdeal.nD,
      r.2.mem ((c.tc : Thread Cert.AdamwWOutReferenceIdeal.nD Cert.AdamwWOutReferenceIdeal.τ).loc Cert.AdamwWOutReferenceIdeal.main_arg0) = m ((c.tc : Thread Cert.AdamwWOutReferenceIdeal.nD Cert.AdamwWOutReferenceIdeal.τ).loc Cert.AdamwWOutReferenceIdeal.main_arg0)
      ∧ r.2.mem ((c.tc : Thread Cert.AdamwWOutReferenceIdeal.nD Cert.AdamwWOutReferenceIdeal.τ).loc Cert.AdamwWOutReferenceIdeal.main_arg1) = m ((c.tc : Thread Cert.AdamwWOutReferenceIdeal.nD Cert.AdamwWOutReferenceIdeal.τ).loc Cert.AdamwWOutReferenceIdeal.main_arg1)
      ∧ r.2.mem ((c.tc : Thread Cert.AdamwWOutReferenceIdeal.nD Cert.AdamwWOutReferenceIdeal.τ).loc Cert.AdamwWOutReferenceIdeal.main_arg2) = m ((c.tc : Thread Cert.AdamwWOutReferenceIdeal.nD Cert.AdamwWOutReferenceIdeal.τ).loc Cert.AdamwWOutReferenceIdeal.main_arg2)
      ∧ r.2.mem ((c.tc : Thread Cert.AdamwWOutReferenceIdeal.nD Cert.AdamwWOutReferenceIdeal.τ).loc Cert.AdamwWOutReferenceIdeal.main_arg3) = m ((c.tc : Thread Cert.AdamwWOutReferenceIdeal.nD Cert.AdamwWOutReferenceIdeal.τ).loc Cert.AdamwWOutReferenceIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_WAdaGrad [hWAdaGrad : Cert.WAdaGrad.Facts] : Prop :=
  ∀ (m : (ℓ : Loc Cert.WAdaGrad.nD Cert.WAdaGrad.τ Cert.WAdaGrad.sig) → Buf (Elt Bits) ℓ) (g : Dev Cert.WAdaGrad.nD → PrngReg), Pre_WAdaGrad m →
    θ_run (Cert.WAdaGrad.defs (F := Bits)) (onTc (τ := Cert.WAdaGrad.τ) (Cert.WAdaGrad.main (F := Bits))) ⟨m, fun _ => 0, g⟩ (fun r => (∀ c : Dev Cert.WAdaGrad.nD,
      r.2.mem ((c.tc : Thread Cert.WAdaGrad.nD Cert.WAdaGrad.τ).loc Cert.WAdaGrad.main_arg0) = m ((c.tc : Thread Cert.WAdaGrad.nD Cert.WAdaGrad.τ).loc Cert.WAdaGrad.main_arg0)
      ∧ r.2.mem ((c.tc : Thread Cert.WAdaGrad.nD Cert.WAdaGrad.τ).loc Cert.WAdaGrad.main_arg1) = m ((c.tc : Thread Cert.WAdaGrad.nD Cert.WAdaGrad.τ).loc Cert.WAdaGrad.main_arg1))
      ∧ r.2.sem = fun _ => 0)

def quiescent_WAdaGradIdeal [hWAdaGradIdeal : Cert.WAdaGradIdeal.Facts] : Prop :=
  ∀ (m : (ℓ : Loc Cert.WAdaGradIdeal.nD Cert.WAdaGradIdeal.τ Cert.WAdaGradIdeal.sig) → Buf (Elt Ideal) ℓ) (g : Dev Cert.WAdaGradIdeal.nD → PrngReg), Pre_WAdaGradIdeal m →
    θ_run (Cert.WAdaGradIdeal.defs (F := Ideal)) (onTc (τ := Cert.WAdaGradIdeal.τ) (Cert.WAdaGradIdeal.main (F := Ideal))) ⟨m, fun _ => 0, g⟩ (fun r => (∀ c : Dev Cert.WAdaGradIdeal.nD,
      r.2.mem ((c.tc : Thread Cert.WAdaGradIdeal.nD Cert.WAdaGradIdeal.τ).loc Cert.WAdaGradIdeal.main_arg0) = m ((c.tc : Thread Cert.WAdaGradIdeal.nD Cert.WAdaGradIdeal.τ).loc Cert.WAdaGradIdeal.main_arg0)
      ∧ r.2.mem ((c.tc : Thread Cert.WAdaGradIdeal.nD Cert.WAdaGradIdeal.τ).loc Cert.WAdaGradIdeal.main_arg1) = m ((c.tc : Thread Cert.WAdaGradIdeal.nD Cert.WAdaGradIdeal.τ).loc Cert.WAdaGradIdeal.main_arg1))
      ∧ r.2.sem = fun _ => 0)

def quiescent_WAdaGradReferenceIdeal [hWAdaGradReferenceIdeal : Cert.WAdaGradReferenceIdeal.Facts] : Prop :=
  ∀ (m : (ℓ : Loc Cert.WAdaGradReferenceIdeal.nD Cert.WAdaGradReferenceIdeal.τ Cert.WAdaGradReferenceIdeal.sig) → Buf (Elt Ideal) ℓ) (g : Dev Cert.WAdaGradReferenceIdeal.nD → PrngReg), Pre_WAdaGradReferenceIdeal m →
    θ_run (Cert.WAdaGradReferenceIdeal.defs (F := Ideal)) (onTc (τ := Cert.WAdaGradReferenceIdeal.τ) (Cert.WAdaGradReferenceIdeal.main (F := Ideal))) ⟨m, fun _ => 0, g⟩ (fun r => (∀ c : Dev Cert.WAdaGradReferenceIdeal.nD,
      r.2.mem ((c.tc : Thread Cert.WAdaGradReferenceIdeal.nD Cert.WAdaGradReferenceIdeal.τ).loc Cert.WAdaGradReferenceIdeal.main_arg0) = m ((c.tc : Thread Cert.WAdaGradReferenceIdeal.nD Cert.WAdaGradReferenceIdeal.τ).loc Cert.WAdaGradReferenceIdeal.main_arg0)
      ∧ r.2.mem ((c.tc : Thread Cert.WAdaGradReferenceIdeal.nD Cert.WAdaGradReferenceIdeal.τ).loc Cert.WAdaGradReferenceIdeal.main_arg1) = m ((c.tc : Thread Cert.WAdaGradReferenceIdeal.nD Cert.WAdaGradReferenceIdeal.τ).loc Cert.WAdaGradReferenceIdeal.main_arg1))
      ∧ r.2.sem = fun _ => 0)

def quiescent_SumGrads [hSumGrads : Cert.SumGrads.Facts] : Prop :=
  ∀ (m : (ℓ : Loc Cert.SumGrads.nD Cert.SumGrads.τ Cert.SumGrads.sig) → Buf (Elt Bits) ℓ) (g : Dev Cert.SumGrads.nD → PrngReg), Pre_SumGrads m →
    θ_run (Cert.SumGrads.defs (F := Bits)) (onTc (τ := Cert.SumGrads.τ) (Cert.SumGrads.main (F := Bits))) ⟨m, fun _ => 0, g⟩ (fun r => (∀ c : Dev Cert.SumGrads.nD,
      r.2.mem ((c.tc : Thread Cert.SumGrads.nD Cert.SumGrads.τ).loc Cert.SumGrads.main_arg0) = m ((c.tc : Thread Cert.SumGrads.nD Cert.SumGrads.τ).loc Cert.SumGrads.main_arg0))
      ∧ r.2.sem = fun _ => 0)

def quiescent_SumGradsIdeal [hSumGradsIdeal : Cert.SumGradsIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg), Pre_SumGradsIdeal m →
    θ_run (Cert.SumGradsIdeal.defs (F := Ideal)) (onTc (τ := Cert.SumGradsIdeal.τ) (Cert.SumGradsIdeal.main (F := Ideal))) ⟨m, fun _ => 0, g⟩ (fun r => (∀ c : Dev Cert.SumGradsIdeal.nD,
      r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ r.2.sem = fun _ => 0)

def quiescent_SumGradsReferenceIdeal [hSumGradsReferenceIdeal : Cert.SumGradsReferenceIdeal.Facts] : Prop :=
  ∀ (m : (ℓ : Loc Cert.SumGradsReferenceIdeal.nD Cert.SumGradsReferenceIdeal.τ Cert.SumGradsReferenceIdeal.sig) → Buf (Elt Ideal) ℓ) (g : Dev Cert.SumGradsReferenceIdeal.nD → PrngReg), Pre_SumGradsReferenceIdeal m →
    θ_run (Cert.SumGradsReferenceIdeal.defs (F := Ideal)) (onTc (τ := Cert.SumGradsReferenceIdeal.τ) (Cert.SumGradsReferenceIdeal.main (F := Ideal))) ⟨m, fun _ => 0, g⟩ (fun r => (∀ c : Dev Cert.SumGradsReferenceIdeal.nD,
      r.2.mem ((c.tc : Thread Cert.SumGradsReferenceIdeal.nD Cert.SumGradsReferenceIdeal.τ).loc Cert.SumGradsReferenceIdeal.main_arg0) = m ((c.tc : Thread Cert.SumGradsReferenceIdeal.nD Cert.SumGradsReferenceIdeal.τ).loc Cert.SumGradsReferenceIdeal.main_arg0))
      ∧ r.2.sem = fun _ => 0)

def quiescent_SumSmallGrads [hSumSmallGrads : Cert.SumSmallGrads.Facts] : Prop :=
  ∀ (m : (ℓ : Loc Cert.SumSmallGrads.nD Cert.SumSmallGrads.τ Cert.SumSmallGrads.sig) → Buf (Elt Bits) ℓ) (g : Dev Cert.SumSmallGrads.nD → PrngReg), Pre_SumSmallGrads m →
    θ_run (Cert.SumSmallGrads.defs (F := Bits)) (onTc (τ := Cert.SumSmallGrads.τ) (Cert.SumSmallGrads.main (F := Bits))) ⟨m, fun _ => 0, g⟩ (fun r => (∀ c : Dev Cert.SumSmallGrads.nD,
      r.2.mem ((c.tc : Thread Cert.SumSmallGrads.nD Cert.SumSmallGrads.τ).loc Cert.SumSmallGrads.main_arg0) = m ((c.tc : Thread Cert.SumSmallGrads.nD Cert.SumSmallGrads.τ).loc Cert.SumSmallGrads.main_arg0))
      ∧ r.2.sem = fun _ => 0)

def quiescent_SumSmallGradsIdeal [hSumSmallGradsIdeal : Cert.SumSmallGradsIdeal.Facts] : Prop :=
  ∀ (m : (ℓ : Loc Cert.SumSmallGradsIdeal.nD Cert.SumSmallGradsIdeal.τ Cert.SumSmallGradsIdeal.sig) → Buf (Elt Ideal) ℓ) (g : Dev Cert.SumSmallGradsIdeal.nD → PrngReg), Pre_SumSmallGradsIdeal m →
    θ_run (Cert.SumSmallGradsIdeal.defs (F := Ideal)) (onTc (τ := Cert.SumSmallGradsIdeal.τ) (Cert.SumSmallGradsIdeal.main (F := Ideal))) ⟨m, fun _ => 0, g⟩ (fun r => (∀ c : Dev Cert.SumSmallGradsIdeal.nD,
      r.2.mem ((c.tc : Thread Cert.SumSmallGradsIdeal.nD Cert.SumSmallGradsIdeal.τ).loc Cert.SumSmallGradsIdeal.main_arg0) = m ((c.tc : Thread Cert.SumSmallGradsIdeal.nD Cert.SumSmallGradsIdeal.τ).loc Cert.SumSmallGradsIdeal.main_arg0))
      ∧ r.2.sem = fun _ => 0)

def quiescent_SumSmallGradsReferenceIdeal [hSumSmallGradsReferenceIdeal : Cert.SumSmallGradsReferenceIdeal.Facts] : Prop :=
  ∀ (m : (ℓ : Loc Cert.SumSmallGradsReferenceIdeal.nD Cert.SumSmallGradsReferenceIdeal.τ Cert.SumSmallGradsReferenceIdeal.sig) → Buf (Elt Ideal) ℓ) (g : Dev Cert.SumSmallGradsReferenceIdeal.nD → PrngReg), Pre_SumSmallGradsReferenceIdeal m →
    θ_run (Cert.SumSmallGradsReferenceIdeal.defs (F := Ideal)) (onTc (τ := Cert.SumSmallGradsReferenceIdeal.τ) (Cert.SumSmallGradsReferenceIdeal.main (F := Ideal))) ⟨m, fun _ => 0, g⟩ (fun r => (∀ c : Dev Cert.SumSmallGradsReferenceIdeal.nD,
      r.2.mem ((c.tc : Thread Cert.SumSmallGradsReferenceIdeal.nD Cert.SumSmallGradsReferenceIdeal.τ).loc Cert.SumSmallGradsReferenceIdeal.main_arg0) = m ((c.tc : Thread Cert.SumSmallGradsReferenceIdeal.nD Cert.SumSmallGradsReferenceIdeal.τ).loc Cert.SumSmallGradsReferenceIdeal.main_arg0))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1)
      ∧ r.2.mem ((c.tc : Thread Cert.ModPart.nD Cert.ModPart.τ).loc Cert.ModPart.main_arg2) = m ((c.tc : Thread Cert.ModPart.nD Cert.ModPart.τ).loc Cert.ModPart.main_arg2))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
      ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ r.2.sem = fun _ => 0)

def quiescent_ModPartReferenceIdeal [hModPartReferenceIdeal : Cert.ModPartReferenceIdeal.Facts] : Prop :=
  ∀ (m : (ℓ : Loc Cert.ModPartReferenceIdeal.nD Cert.ModPartReferenceIdeal.τ Cert.ModPartReferenceIdeal.sig) → Buf (Elt Ideal) ℓ) (g : Dev Cert.ModPartReferenceIdeal.nD → PrngReg), Pre_ModPartReferenceIdeal m →
    θ_run (Cert.ModPartReferenceIdeal.defs (F := Ideal)) (onTc (τ := Cert.ModPartReferenceIdeal.τ) (Cert.ModPartReferenceIdeal.main (F := Ideal))) ⟨m, fun _ => 0, g⟩ (fun r => (∀ c : Dev Cert.ModPartReferenceIdeal.nD,
      r.2.mem ((c.tc : Thread Cert.ModPartReferenceIdeal.nD Cert.ModPartReferenceIdeal.τ).loc Cert.ModPartReferenceIdeal.main_arg0) = m ((c.tc : Thread Cert.ModPartReferenceIdeal.nD Cert.ModPartReferenceIdeal.τ).loc Cert.ModPartReferenceIdeal.main_arg0)
      ∧ r.2.mem ((c.tc : Thread Cert.ModPartReferenceIdeal.nD Cert.ModPartReferenceIdeal.τ).loc Cert.ModPartReferenceIdeal.main_arg1) = m ((c.tc : Thread Cert.ModPartReferenceIdeal.nD Cert.ModPartReferenceIdeal.τ).loc Cert.ModPartReferenceIdeal.main_arg1)
      ∧ r.2.mem ((c.tc : Thread Cert.ModPartReferenceIdeal.nD Cert.ModPartReferenceIdeal.τ).loc Cert.ModPartReferenceIdeal.main_arg2) = m ((c.tc : Thread Cert.ModPartReferenceIdeal.nD Cert.ModPartReferenceIdeal.τ).loc Cert.ModPartReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_ResidNorm [hResidNorm : Cert.ResidNorm.Facts] : Prop :=
  ∀ (m : (ℓ : Loc Cert.ResidNorm.nD Cert.ResidNorm.τ Cert.ResidNorm.sig) → Buf (Elt Bits) ℓ) (g : Dev Cert.ResidNorm.nD → PrngReg), Pre_ResidNorm m →
    θ_run (Cert.ResidNorm.defs (F := Bits)) (onTc (τ := Cert.ResidNorm.τ) (Cert.ResidNorm.main (F := Bits))) ⟨m, fun _ => 0, g⟩ (fun r => (∀ c : Dev Cert.ResidNorm.nD,
      r.2.mem ((c.tc : Thread Cert.ResidNorm.nD Cert.ResidNorm.τ).loc Cert.ResidNorm.main_arg0) = m ((c.tc : Thread Cert.ResidNorm.nD Cert.ResidNorm.τ).loc Cert.ResidNorm.main_arg0)
      ∧ r.2.mem ((c.tc : Thread Cert.ResidNorm.nD Cert.ResidNorm.τ).loc Cert.ResidNorm.main_arg1) = m ((c.tc : Thread Cert.ResidNorm.nD Cert.ResidNorm.τ).loc Cert.ResidNorm.main_arg1)
      ∧ r.2.mem ((c.tc : Thread Cert.ResidNorm.nD Cert.ResidNorm.τ).loc Cert.ResidNorm.main_arg2) = m ((c.tc : Thread Cert.ResidNorm.nD Cert.ResidNorm.τ).loc Cert.ResidNorm.main_arg2)
      ∧ r.2.mem ((c.tc : Thread Cert.ResidNorm.nD Cert.ResidNorm.τ).loc Cert.ResidNorm.main_arg3) = m ((c.tc : Thread Cert.ResidNorm.nD Cert.ResidNorm.τ).loc Cert.ResidNorm.main_arg3)
      ∧ r.2.mem ((c.tc : Thread Cert.ResidNorm.nD Cert.ResidNorm.τ).loc Cert.ResidNorm.main_arg4) = m ((c.tc : Thread Cert.ResidNorm.nD Cert.ResidNorm.τ).loc Cert.ResidNorm.main_arg4)
      ∧ r.2.mem ((c.tc : Thread Cert.ResidNorm.nD Cert.ResidNorm.τ).loc Cert.ResidNorm.main_arg5) = m ((c.tc : Thread Cert.ResidNorm.nD Cert.ResidNorm.τ).loc Cert.ResidNorm.main_arg5))
      ∧ r.2.sem = fun _ => 0)

def quiescent_ResidNormIdeal [hResidNormIdeal : Cert.ResidNormIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg), Pre_ResidNormIdeal m →
    θ_run (Cert.ResidNormIdeal.defs (F := Ideal)) (onTc (τ := Cert.ResidNormIdeal.τ) (Cert.ResidNormIdeal.main (F := Ideal))) ⟨m, fun _ => 0, g⟩ (fun r => (∀ c : Dev Cert.ResidNormIdeal.nD,
      r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
      ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
      ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
      ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
      ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
      ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5))
      ∧ r.2.sem = fun _ => 0)

def quiescent_ResidNormReferenceIdeal [hResidNormReferenceIdeal : Cert.ResidNormReferenceIdeal.Facts] : Prop :=
  ∀ (m : (ℓ : Loc Cert.ResidNormReferenceIdeal.nD Cert.ResidNormReferenceIdeal.τ Cert.ResidNormReferenceIdeal.sig) → Buf (Elt Ideal) ℓ) (g : Dev Cert.ResidNormReferenceIdeal.nD → PrngReg), Pre_ResidNormReferenceIdeal m →
    θ_run (Cert.ResidNormReferenceIdeal.defs (F := Ideal)) (onTc (τ := Cert.ResidNormReferenceIdeal.τ) (Cert.ResidNormReferenceIdeal.main (F := Ideal))) ⟨m, fun _ => 0, g⟩ (fun r => (∀ c : Dev Cert.ResidNormReferenceIdeal.nD,
      r.2.mem ((c.tc : Thread Cert.ResidNormReferenceIdeal.nD Cert.ResidNormReferenceIdeal.τ).loc Cert.ResidNormReferenceIdeal.main_arg0) = m ((c.tc : Thread Cert.ResidNormReferenceIdeal.nD Cert.ResidNormReferenceIdeal.τ).loc Cert.ResidNormReferenceIdeal.main_arg0)
      ∧ r.2.mem ((c.tc : Thread Cert.ResidNormReferenceIdeal.nD Cert.ResidNormReferenceIdeal.τ).loc Cert.ResidNormReferenceIdeal.main_arg1) = m ((c.tc : Thread Cert.ResidNormReferenceIdeal.nD Cert.ResidNormReferenceIdeal.τ).loc Cert.ResidNormReferenceIdeal.main_arg1)
      ∧ r.2.mem ((c.tc : Thread Cert.ResidNormReferenceIdeal.nD Cert.ResidNormReferenceIdeal.τ).loc Cert.ResidNormReferenceIdeal.main_arg2) = m ((c.tc : Thread Cert.ResidNormReferenceIdeal.nD Cert.ResidNormReferenceIdeal.τ).loc Cert.ResidNormReferenceIdeal.main_arg2)
      ∧ r.2.mem ((c.tc : Thread Cert.ResidNormReferenceIdeal.nD Cert.ResidNormReferenceIdeal.τ).loc Cert.ResidNormReferenceIdeal.main_arg3) = m ((c.tc : Thread Cert.ResidNormReferenceIdeal.nD Cert.ResidNormReferenceIdeal.τ).loc Cert.ResidNormReferenceIdeal.main_arg3)
      ∧ r.2.mem ((c.tc : Thread Cert.ResidNormReferenceIdeal.nD Cert.ResidNormReferenceIdeal.τ).loc Cert.ResidNormReferenceIdeal.main_arg4) = m ((c.tc : Thread Cert.ResidNormReferenceIdeal.nD Cert.ResidNormReferenceIdeal.τ).loc Cert.ResidNormReferenceIdeal.main_arg4)
      ∧ r.2.mem ((c.tc : Thread Cert.ResidNormReferenceIdeal.nD Cert.ResidNormReferenceIdeal.τ).loc Cert.ResidNormReferenceIdeal.main_arg5) = m ((c.tc : Thread Cert.ResidNormReferenceIdeal.nD Cert.ResidNormReferenceIdeal.τ).loc Cert.ResidNormReferenceIdeal.main_arg5))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradReferenceIdeal [hWeightGradReferenceIdeal : Cert.WeightGradReferenceIdeal.Facts] : Prop :=
  ∀ (m : (ℓ : Loc Cert.WeightGradReferenceIdeal.nD Cert.WeightGradReferenceIdeal.τ Cert.WeightGradReferenceIdeal.sig) → Buf (Elt Ideal) ℓ) (g : Dev Cert.WeightGradReferenceIdeal.nD → PrngReg), Pre_WeightGradReferenceIdeal m →
    θ_run (Cert.WeightGradReferenceIdeal.defs (F := Ideal)) (onTc (τ := Cert.WeightGradReferenceIdeal.τ) (Cert.WeightGradReferenceIdeal.main (F := Ideal))) ⟨m, fun _ => 0, g⟩ (fun r => (∀ c : Dev Cert.WeightGradReferenceIdeal.nD,
      r.2.mem ((c.tc : Thread Cert.WeightGradReferenceIdeal.nD Cert.WeightGradReferenceIdeal.τ).loc Cert.WeightGradReferenceIdeal.main_arg0) = m ((c.tc : Thread Cert.WeightGradReferenceIdeal.nD Cert.WeightGradReferenceIdeal.τ).loc Cert.WeightGradReferenceIdeal.main_arg0)
      ∧ r.2.mem ((c.tc : Thread Cert.WeightGradReferenceIdeal.nD Cert.WeightGradReferenceIdeal.τ).loc Cert.WeightGradReferenceIdeal.main_arg1) = m ((c.tc : Thread Cert.WeightGradReferenceIdeal.nD Cert.WeightGradReferenceIdeal.τ).loc Cert.WeightGradReferenceIdeal.main_arg1))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossReferenceIdeal [hFinalLossReferenceIdeal : Cert.FinalLossReferenceIdeal.Facts] : Prop :=
  ∀ (m : (ℓ : Loc Cert.FinalLossReferenceIdeal.nD Cert.FinalLossReferenceIdeal.τ Cert.FinalLossReferenceIdeal.sig) → Buf (Elt Ideal) ℓ) (g : Dev Cert.FinalLossReferenceIdeal.nD → PrngReg), Pre_FinalLossReferenceIdeal m →
    θ_run (Cert.FinalLossReferenceIdeal.defs (F := Ideal)) (onTc (τ := Cert.FinalLossReferenceIdeal.τ) (Cert.FinalLossReferenceIdeal.main (F := Ideal))) ⟨m, fun _ => 0, g⟩ (fun r => (∀ c : Dev Cert.FinalLossReferenceIdeal.nD,
      r.2.mem ((c.tc : Thread Cert.FinalLossReferenceIdeal.nD Cert.FinalLossReferenceIdeal.τ).loc Cert.FinalLossReferenceIdeal.main_arg0) = m ((c.tc : Thread Cert.FinalLossReferenceIdeal.nD Cert.FinalLossReferenceIdeal.τ).loc Cert.FinalLossReferenceIdeal.main_arg0)
      ∧ r.2.mem ((c.tc : Thread Cert.FinalLossReferenceIdeal.nD Cert.FinalLossReferenceIdeal.τ).loc Cert.FinalLossReferenceIdeal.main_arg1) = m ((c.tc : Thread Cert.FinalLossReferenceIdeal.nD Cert.FinalLossReferenceIdeal.τ).loc Cert.FinalLossReferenceIdeal.main_arg1)
      ∧ r.2.mem ((c.tc : Thread Cert.FinalLossReferenceIdeal.nD Cert.FinalLossReferenceIdeal.τ).loc Cert.FinalLossReferenceIdeal.main_arg2) = m ((c.tc : Thread Cert.FinalLossReferenceIdeal.nD Cert.FinalLossReferenceIdeal.τ).loc Cert.FinalLossReferenceIdeal.main_arg2)
      ∧ r.2.mem ((c.tc : Thread Cert.FinalLossReferenceIdeal.nD Cert.FinalLossReferenceIdeal.τ).loc Cert.FinalLossReferenceIdeal.main_arg3) = m ((c.tc : Thread Cert.FinalLossReferenceIdeal.nD Cert.FinalLossReferenceIdeal.τ).loc Cert.FinalLossReferenceIdeal.main_arg3)
      ∧ r.2.mem ((c.tc : Thread Cert.FinalLossReferenceIdeal.nD Cert.FinalLossReferenceIdeal.τ).loc Cert.FinalLossReferenceIdeal.main_arg4) = m ((c.tc : Thread Cert.FinalLossReferenceIdeal.nD Cert.FinalLossReferenceIdeal.τ).loc Cert.FinalLossReferenceIdeal.main_arg4))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3))
      ∧ r.2.sem = fun _ => 0)

def quiescent_ResidNorm3 [hResidNorm3 : Cert.ResidNorm3.Facts] : Prop :=
  ∀ (m : (ℓ : Loc Cert.ResidNorm3.nD Cert.ResidNorm3.τ Cert.ResidNorm3.sig) → Buf (Elt Bits) ℓ) (g : Dev Cert.ResidNorm3.nD → PrngReg), Pre_ResidNorm3 m →
    θ_run (Cert.ResidNorm3.defs (F := Bits)) (onTc (τ := Cert.ResidNorm3.τ) (Cert.ResidNorm3.main (F := Bits))) ⟨m, fun _ => 0, g⟩ (fun r => (∀ c : Dev Cert.ResidNorm3.nD,
      r.2.mem ((c.tc : Thread Cert.ResidNorm3.nD Cert.ResidNorm3.τ).loc Cert.ResidNorm3.main_arg0) = m ((c.tc : Thread Cert.ResidNorm3.nD Cert.ResidNorm3.τ).loc Cert.ResidNorm3.main_arg0)
      ∧ r.2.mem ((c.tc : Thread Cert.ResidNorm3.nD Cert.ResidNorm3.τ).loc Cert.ResidNorm3.main_arg1) = m ((c.tc : Thread Cert.ResidNorm3.nD Cert.ResidNorm3.τ).loc Cert.ResidNorm3.main_arg1)
      ∧ r.2.mem ((c.tc : Thread Cert.ResidNorm3.nD Cert.ResidNorm3.τ).loc Cert.ResidNorm3.main_arg2) = m ((c.tc : Thread Cert.ResidNorm3.nD Cert.ResidNorm3.τ).loc Cert.ResidNorm3.main_arg2)
      ∧ r.2.mem ((c.tc : Thread Cert.ResidNorm3.nD Cert.ResidNorm3.τ).loc Cert.ResidNorm3.main_arg3) = m ((c.tc : Thread Cert.ResidNorm3.nD Cert.ResidNorm3.τ).loc Cert.ResidNorm3.main_arg3)
      ∧ r.2.mem ((c.tc : Thread Cert.ResidNorm3.nD Cert.ResidNorm3.τ).loc Cert.ResidNorm3.main_arg4) = m ((c.tc : Thread Cert.ResidNorm3.nD Cert.ResidNorm3.τ).loc Cert.ResidNorm3.main_arg4)
      ∧ r.2.mem ((c.tc : Thread Cert.ResidNorm3.nD Cert.ResidNorm3.τ).loc Cert.ResidNorm3.main_arg5) = m ((c.tc : Thread Cert.ResidNorm3.nD Cert.ResidNorm3.τ).loc Cert.ResidNorm3.main_arg5))
      ∧ r.2.sem = fun _ => 0)

def quiescent_ResidNorm3Ideal [hResidNorm3Ideal : Cert.ResidNorm3Ideal.Facts] : Prop :=
  ∀ (m : (ℓ : Loc Cert.ResidNorm3Ideal.nD Cert.ResidNorm3Ideal.τ Cert.ResidNorm3Ideal.sig) → Buf (Elt Ideal) ℓ) (g : Dev Cert.ResidNorm3Ideal.nD → PrngReg), Pre_ResidNorm3Ideal m →
    θ_run (Cert.ResidNorm3Ideal.defs (F := Ideal)) (onTc (τ := Cert.ResidNorm3Ideal.τ) (Cert.ResidNorm3Ideal.main (F := Ideal))) ⟨m, fun _ => 0, g⟩ (fun r => (∀ c : Dev Cert.ResidNorm3Ideal.nD,
      r.2.mem ((c.tc : Thread Cert.ResidNorm3Ideal.nD Cert.ResidNorm3Ideal.τ).loc Cert.ResidNorm3Ideal.main_arg0) = m ((c.tc : Thread Cert.ResidNorm3Ideal.nD Cert.ResidNorm3Ideal.τ).loc Cert.ResidNorm3Ideal.main_arg0)
      ∧ r.2.mem ((c.tc : Thread Cert.ResidNorm3Ideal.nD Cert.ResidNorm3Ideal.τ).loc Cert.ResidNorm3Ideal.main_arg1) = m ((c.tc : Thread Cert.ResidNorm3Ideal.nD Cert.ResidNorm3Ideal.τ).loc Cert.ResidNorm3Ideal.main_arg1)
      ∧ r.2.mem ((c.tc : Thread Cert.ResidNorm3Ideal.nD Cert.ResidNorm3Ideal.τ).loc Cert.ResidNorm3Ideal.main_arg2) = m ((c.tc : Thread Cert.ResidNorm3Ideal.nD Cert.ResidNorm3Ideal.τ).loc Cert.ResidNorm3Ideal.main_arg2)
      ∧ r.2.mem ((c.tc : Thread Cert.ResidNorm3Ideal.nD Cert.ResidNorm3Ideal.τ).loc Cert.ResidNorm3Ideal.main_arg3) = m ((c.tc : Thread Cert.ResidNorm3Ideal.nD Cert.ResidNorm3Ideal.τ).loc Cert.ResidNorm3Ideal.main_arg3)
      ∧ r.2.mem ((c.tc : Thread Cert.ResidNorm3Ideal.nD Cert.ResidNorm3Ideal.τ).loc Cert.ResidNorm3Ideal.main_arg4) = m ((c.tc : Thread Cert.ResidNorm3Ideal.nD Cert.ResidNorm3Ideal.τ).loc Cert.ResidNorm3Ideal.main_arg4)
      ∧ r.2.mem ((c.tc : Thread Cert.ResidNorm3Ideal.nD Cert.ResidNorm3Ideal.τ).loc Cert.ResidNorm3Ideal.main_arg5) = m ((c.tc : Thread Cert.ResidNorm3Ideal.nD Cert.ResidNorm3Ideal.τ).loc Cert.ResidNorm3Ideal.main_arg5))
      ∧ r.2.sem = fun _ => 0)

def quiescent_ResidNorm3ReferenceIdeal [hResidNorm3ReferenceIdeal : Cert.ResidNorm3ReferenceIdeal.Facts] : Prop :=
  ∀ (m : (ℓ : Loc Cert.ResidNorm3ReferenceIdeal.nD Cert.ResidNorm3ReferenceIdeal.τ Cert.ResidNorm3ReferenceIdeal.sig) → Buf (Elt Ideal) ℓ) (g : Dev Cert.ResidNorm3ReferenceIdeal.nD → PrngReg), Pre_ResidNorm3ReferenceIdeal m →
    θ_run (Cert.ResidNorm3ReferenceIdeal.defs (F := Ideal)) (onTc (τ := Cert.ResidNorm3ReferenceIdeal.τ) (Cert.ResidNorm3ReferenceIdeal.main (F := Ideal))) ⟨m, fun _ => 0, g⟩ (fun r => (∀ c : Dev Cert.ResidNorm3ReferenceIdeal.nD,
      r.2.mem ((c.tc : Thread Cert.ResidNorm3ReferenceIdeal.nD Cert.ResidNorm3ReferenceIdeal.τ).loc Cert.ResidNorm3ReferenceIdeal.main_arg0) = m ((c.tc : Thread Cert.ResidNorm3ReferenceIdeal.nD Cert.ResidNorm3ReferenceIdeal.τ).loc Cert.ResidNorm3ReferenceIdeal.main_arg0)
      ∧ r.2.mem ((c.tc : Thread Cert.ResidNorm3ReferenceIdeal.nD Cert.ResidNorm3ReferenceIdeal.τ).loc Cert.ResidNorm3ReferenceIdeal.main_arg1) = m ((c.tc : Thread Cert.ResidNorm3ReferenceIdeal.nD Cert.ResidNorm3ReferenceIdeal.τ).loc Cert.ResidNorm3ReferenceIdeal.main_arg1)
      ∧ r.2.mem ((c.tc : Thread Cert.ResidNorm3ReferenceIdeal.nD Cert.ResidNorm3ReferenceIdeal.τ).loc Cert.ResidNorm3ReferenceIdeal.main_arg2) = m ((c.tc : Thread Cert.ResidNorm3ReferenceIdeal.nD Cert.ResidNorm3ReferenceIdeal.τ).loc Cert.ResidNorm3ReferenceIdeal.main_arg2)
      ∧ r.2.mem ((c.tc : Thread Cert.ResidNorm3ReferenceIdeal.nD Cert.ResidNorm3ReferenceIdeal.τ).loc Cert.ResidNorm3ReferenceIdeal.main_arg3) = m ((c.tc : Thread Cert.ResidNorm3ReferenceIdeal.nD Cert.ResidNorm3ReferenceIdeal.τ).loc Cert.ResidNorm3ReferenceIdeal.main_arg3)
      ∧ r.2.mem ((c.tc : Thread Cert.ResidNorm3ReferenceIdeal.nD Cert.ResidNorm3ReferenceIdeal.τ).loc Cert.ResidNorm3ReferenceIdeal.main_arg4) = m ((c.tc : Thread Cert.ResidNorm3ReferenceIdeal.nD Cert.ResidNorm3ReferenceIdeal.τ).loc Cert.ResidNorm3ReferenceIdeal.main_arg4)
      ∧ r.2.mem ((c.tc : Thread Cert.ResidNorm3ReferenceIdeal.nD Cert.ResidNorm3ReferenceIdeal.τ).loc Cert.ResidNorm3ReferenceIdeal.main_arg5) = m ((c.tc : Thread Cert.ResidNorm3ReferenceIdeal.nD Cert.ResidNorm3ReferenceIdeal.τ).loc Cert.ResidNorm3ReferenceIdeal.main_arg5))
      ∧ r.2.sem = fun _ => 0)

def quiescent_MixGateBwd [hMixGateBwd : Cert.MixGateBwd.Facts] : Prop :=
  ∀ (m : (ℓ : Loc Cert.MixGateBwd.nD Cert.MixGateBwd.τ Cert.MixGateBwd.sig) → Buf (Elt Bits) ℓ) (g : Dev Cert.MixGateBwd.nD → PrngReg), Pre_MixGateBwd m →
    θ_run (Cert.MixGateBwd.defs (F := Bits)) (onTc (τ := Cert.MixGateBwd.τ) (Cert.MixGateBwd.main (F := Bits))) ⟨m, fun _ => 0, g⟩ (fun r => (∀ c : Dev Cert.MixGateBwd.nD,
      r.2.mem ((c.tc : Thread Cert.MixGateBwd.nD Cert.MixGateBwd.τ).loc Cert.MixGateBwd.main_arg0) = m ((c.tc : Thread Cert.MixGateBwd.nD Cert.MixGateBwd.τ).loc Cert.MixGateBwd.main_arg0)
      ∧ r.2.mem ((c.tc : Thread Cert.MixGateBwd.nD Cert.MixGateBwd.τ).loc Cert.MixGateBwd.main_arg1) = m ((c.tc : Thread Cert.MixGateBwd.nD Cert.MixGateBwd.τ).loc Cert.MixGateBwd.main_arg1)
      ∧ r.2.mem ((c.tc : Thread Cert.MixGateBwd.nD Cert.MixGateBwd.τ).loc Cert.MixGateBwd.main_arg2) = m ((c.tc : Thread Cert.MixGateBwd.nD Cert.MixGateBwd.τ).loc Cert.MixGateBwd.main_arg2))
      ∧ r.2.sem = fun _ => 0)

def quiescent_MixGateBwdIdeal [hMixGateBwdIdeal : Cert.MixGateBwdIdeal.Facts] : Prop :=
  ∀ (m : (ℓ : Loc Cert.MixGateBwdIdeal.nD Cert.MixGateBwdIdeal.τ Cert.MixGateBwdIdeal.sig) → Buf (Elt Ideal) ℓ) (g : Dev Cert.MixGateBwdIdeal.nD → PrngReg), Pre_MixGateBwdIdeal m →
    θ_run (Cert.MixGateBwdIdeal.defs (F := Ideal)) (onTc (τ := Cert.MixGateBwdIdeal.τ) (Cert.MixGateBwdIdeal.main (F := Ideal))) ⟨m, fun _ => 0, g⟩ (fun r => (∀ c : Dev Cert.MixGateBwdIdeal.nD,
      r.2.mem ((c.tc : Thread Cert.MixGateBwdIdeal.nD Cert.MixGateBwdIdeal.τ).loc Cert.MixGateBwdIdeal.main_arg0) = m ((c.tc : Thread Cert.MixGateBwdIdeal.nD Cert.MixGateBwdIdeal.τ).loc Cert.MixGateBwdIdeal.main_arg0)
      ∧ r.2.mem ((c.tc : Thread Cert.MixGateBwdIdeal.nD Cert.MixGateBwdIdeal.τ).loc Cert.MixGateBwdIdeal.main_arg1) = m ((c.tc : Thread Cert.MixGateBwdIdeal.nD Cert.MixGateBwdIdeal.τ).loc Cert.MixGateBwdIdeal.main_arg1)
      ∧ r.2.mem ((c.tc : Thread Cert.MixGateBwdIdeal.nD Cert.MixGateBwdIdeal.τ).loc Cert.MixGateBwdIdeal.main_arg2) = m ((c.tc : Thread Cert.MixGateBwdIdeal.nD Cert.MixGateBwdIdeal.τ).loc Cert.MixGateBwdIdeal.main_arg2))
      ∧ r.2.sem = fun _ => 0)

def quiescent_MixGateBwdReferenceIdeal [hMixGateBwdReferenceIdeal : Cert.MixGateBwdReferenceIdeal.Facts] : Prop :=
  ∀ (m : (ℓ : Loc Cert.MixGateBwdReferenceIdeal.nD Cert.MixGateBwdReferenceIdeal.τ Cert.MixGateBwdReferenceIdeal.sig) → Buf (Elt Ideal) ℓ) (g : Dev Cert.MixGateBwdReferenceIdeal.nD → PrngReg), Pre_MixGateBwdReferenceIdeal m →
    θ_run (Cert.MixGateBwdReferenceIdeal.defs (F := Ideal)) (onTc (τ := Cert.MixGateBwdReferenceIdeal.τ) (Cert.MixGateBwdReferenceIdeal.main (F := Ideal))) ⟨m, fun _ => 0, g⟩ (fun r => (∀ c : Dev Cert.MixGateBwdReferenceIdeal.nD,
      r.2.mem ((c.tc : Thread Cert.MixGateBwdReferenceIdeal.nD Cert.MixGateBwdReferenceIdeal.τ).loc Cert.MixGateBwdReferenceIdeal.main_arg0) = m ((c.tc : Thread Cert.MixGateBwdReferenceIdeal.nD Cert.MixGateBwdReferenceIdeal.τ).loc Cert.MixGateBwdReferenceIdeal.main_arg0)
      ∧ r.2.mem ((c.tc : Thread Cert.MixGateBwdReferenceIdeal.nD Cert.MixGateBwdReferenceIdeal.τ).loc Cert.MixGateBwdReferenceIdeal.main_arg1) = m ((c.tc : Thread Cert.MixGateBwdReferenceIdeal.nD Cert.MixGateBwdReferenceIdeal.τ).loc Cert.MixGateBwdReferenceIdeal.main_arg1)
      ∧ r.2.mem ((c.tc : Thread Cert.MixGateBwdReferenceIdeal.nD Cert.MixGateBwdReferenceIdeal.τ).loc Cert.MixGateBwdReferenceIdeal.main_arg2) = m ((c.tc : Thread Cert.MixGateBwdReferenceIdeal.nD Cert.MixGateBwdReferenceIdeal.τ).loc Cert.MixGateBwdReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1))
      ∧ r.2.sem = fun _ => 0)

def quiescent_MixOutBwdReferenceIdeal [hMixOutBwdReferenceIdeal : Cert.MixOutBwdReferenceIdeal.Facts] : Prop :=
  ∀ (m : (ℓ : Loc Cert.MixOutBwdReferenceIdeal.nD Cert.MixOutBwdReferenceIdeal.τ Cert.MixOutBwdReferenceIdeal.sig) → Buf (Elt Ideal) ℓ) (g : Dev Cert.MixOutBwdReferenceIdeal.nD → PrngReg), Pre_MixOutBwdReferenceIdeal m →
    θ_run (Cert.MixOutBwdReferenceIdeal.defs (F := Ideal)) (onTc (τ := Cert.MixOutBwdReferenceIdeal.τ) (Cert.MixOutBwdReferenceIdeal.main (F := Ideal))) ⟨m, fun _ => 0, g⟩ (fun r => (∀ c : Dev Cert.MixOutBwdReferenceIdeal.nD,
      r.2.mem ((c.tc : Thread Cert.MixOutBwdReferenceIdeal.nD Cert.MixOutBwdReferenceIdeal.τ).loc Cert.MixOutBwdReferenceIdeal.main_arg0) = m ((c.tc : Thread Cert.MixOutBwdReferenceIdeal.nD Cert.MixOutBwdReferenceIdeal.τ).loc Cert.MixOutBwdReferenceIdeal.main_arg0)
      ∧ r.2.mem ((c.tc : Thread Cert.MixOutBwdReferenceIdeal.nD Cert.MixOutBwdReferenceIdeal.τ).loc Cert.MixOutBwdReferenceIdeal.main_arg1) = m ((c.tc : Thread Cert.MixOutBwdReferenceIdeal.nD Cert.MixOutBwdReferenceIdeal.τ).loc Cert.MixOutBwdReferenceIdeal.main_arg1))
      ∧ r.2.sem = fun _ => 0)

def quiescent_MixDwo [hMixDwo : Cert.MixDwo.Facts] : Prop :=
  ∀ (m : (ℓ : Loc Cert.MixDwo.nD Cert.MixDwo.τ Cert.MixDwo.sig) → Buf (Elt Bits) ℓ) (g : Dev Cert.MixDwo.nD → PrngReg), Pre_MixDwo m →
    θ_run (Cert.MixDwo.defs (F := Bits)) (onTc (τ := Cert.MixDwo.τ) (Cert.MixDwo.main (F := Bits))) ⟨m, fun _ => 0, g⟩ (fun r => (∀ c : Dev Cert.MixDwo.nD,
      r.2.mem ((c.tc : Thread Cert.MixDwo.nD Cert.MixDwo.τ).loc Cert.MixDwo.main_arg0) = m ((c.tc : Thread Cert.MixDwo.nD Cert.MixDwo.τ).loc Cert.MixDwo.main_arg0)
      ∧ r.2.mem ((c.tc : Thread Cert.MixDwo.nD Cert.MixDwo.τ).loc Cert.MixDwo.main_arg1) = m ((c.tc : Thread Cert.MixDwo.nD Cert.MixDwo.τ).loc Cert.MixDwo.main_arg1))
      ∧ r.2.sem = fun _ => 0)

def quiescent_MixDwoIdeal [hMixDwoIdeal : Cert.MixDwoIdeal.Facts] : Prop :=
  ∀ (m : (ℓ : Loc Cert.MixDwoIdeal.nD Cert.MixDwoIdeal.τ Cert.MixDwoIdeal.sig) → Buf (Elt Ideal) ℓ) (g : Dev Cert.MixDwoIdeal.nD → PrngReg), Pre_MixDwoIdeal m →
    θ_run (Cert.MixDwoIdeal.defs (F := Ideal)) (onTc (τ := Cert.MixDwoIdeal.τ) (Cert.MixDwoIdeal.main (F := Ideal))) ⟨m, fun _ => 0, g⟩ (fun r => (∀ c : Dev Cert.MixDwoIdeal.nD,
      r.2.mem ((c.tc : Thread Cert.MixDwoIdeal.nD Cert.MixDwoIdeal.τ).loc Cert.MixDwoIdeal.main_arg0) = m ((c.tc : Thread Cert.MixDwoIdeal.nD Cert.MixDwoIdeal.τ).loc Cert.MixDwoIdeal.main_arg0)
      ∧ r.2.mem ((c.tc : Thread Cert.MixDwoIdeal.nD Cert.MixDwoIdeal.τ).loc Cert.MixDwoIdeal.main_arg1) = m ((c.tc : Thread Cert.MixDwoIdeal.nD Cert.MixDwoIdeal.τ).loc Cert.MixDwoIdeal.main_arg1))
      ∧ r.2.sem = fun _ => 0)

def quiescent_MixDwoReferenceIdeal [hMixDwoReferenceIdeal : Cert.MixDwoReferenceIdeal.Facts] : Prop :=
  ∀ (m : (ℓ : Loc Cert.MixDwoReferenceIdeal.nD Cert.MixDwoReferenceIdeal.τ Cert.MixDwoReferenceIdeal.sig) → Buf (Elt Ideal) ℓ) (g : Dev Cert.MixDwoReferenceIdeal.nD → PrngReg), Pre_MixDwoReferenceIdeal m →
    θ_run (Cert.MixDwoReferenceIdeal.defs (F := Ideal)) (onTc (τ := Cert.MixDwoReferenceIdeal.τ) (Cert.MixDwoReferenceIdeal.main (F := Ideal))) ⟨m, fun _ => 0, g⟩ (fun r => (∀ c : Dev Cert.MixDwoReferenceIdeal.nD,
      r.2.mem ((c.tc : Thread Cert.MixDwoReferenceIdeal.nD Cert.MixDwoReferenceIdeal.τ).loc Cert.MixDwoReferenceIdeal.main_arg0) = m ((c.tc : Thread Cert.MixDwoReferenceIdeal.nD Cert.MixDwoReferenceIdeal.τ).loc Cert.MixDwoReferenceIdeal.main_arg0)
      ∧ r.2.mem ((c.tc : Thread Cert.MixDwoReferenceIdeal.nD Cert.MixDwoReferenceIdeal.τ).loc Cert.MixDwoReferenceIdeal.main_arg1) = m ((c.tc : Thread Cert.MixDwoReferenceIdeal.nD Cert.MixDwoReferenceIdeal.τ).loc Cert.MixDwoReferenceIdeal.main_arg1))
      ∧ r.2.sem = fun _ => 0)

def quiescent_ProjInBwd [hProjInBwd : Cert.ProjInBwd.Facts] : Prop :=
  ∀ (m : (ℓ : Loc Cert.ProjInBwd.nD Cert.ProjInBwd.τ Cert.ProjInBwd.sig) → Buf (Elt Bits) ℓ) (g : Dev Cert.ProjInBwd.nD → PrngReg), Pre_ProjInBwd m →
    θ_run (Cert.ProjInBwd.defs (F := Bits)) (onTc (τ := Cert.ProjInBwd.τ) (Cert.ProjInBwd.main (F := Bits))) ⟨m, fun _ => 0, g⟩ (fun r => (∀ c : Dev Cert.ProjInBwd.nD,
      r.2.mem ((c.tc : Thread Cert.ProjInBwd.nD Cert.ProjInBwd.τ).loc Cert.ProjInBwd.main_arg0) = m ((c.tc : Thread Cert.ProjInBwd.nD Cert.ProjInBwd.τ).loc Cert.ProjInBwd.main_arg0)
      ∧ r.2.mem ((c.tc : Thread Cert.ProjInBwd.nD Cert.ProjInBwd.τ).loc Cert.ProjInBwd.main_arg1) = m ((c.tc : Thread Cert.ProjInBwd.nD Cert.ProjInBwd.τ).loc Cert.ProjInBwd.main_arg1))
      ∧ r.2.sem = fun _ => 0)

def quiescent_ProjInBwdIdeal [hProjInBwdIdeal : Cert.ProjInBwdIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg), Pre_ProjInBwdIdeal m →
    θ_run (Cert.ProjInBwdIdeal.defs (F := Ideal)) (onTc (τ := Cert.ProjInBwdIdeal.τ) (Cert.ProjInBwdIdeal.main (F := Ideal))) ⟨m, fun _ => 0, g⟩ (fun r => (∀ c : Dev Cert.ProjInBwdIdeal.nD,
      r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
      ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1))
      ∧ r.2.sem = fun _ => 0)

def quiescent_ProjInBwdReferenceIdeal [hProjInBwdReferenceIdeal : Cert.ProjInBwdReferenceIdeal.Facts] : Prop :=
  ∀ (m : (ℓ : Loc Cert.ProjInBwdReferenceIdeal.nD Cert.ProjInBwdReferenceIdeal.τ Cert.ProjInBwdReferenceIdeal.sig) → Buf (Elt Ideal) ℓ) (g : Dev Cert.ProjInBwdReferenceIdeal.nD → PrngReg), Pre_ProjInBwdReferenceIdeal m →
    θ_run (Cert.ProjInBwdReferenceIdeal.defs (F := Ideal)) (onTc (τ := Cert.ProjInBwdReferenceIdeal.τ) (Cert.ProjInBwdReferenceIdeal.main (F := Ideal))) ⟨m, fun _ => 0, g⟩ (fun r => (∀ c : Dev Cert.ProjInBwdReferenceIdeal.nD,
      r.2.mem ((c.tc : Thread Cert.ProjInBwdReferenceIdeal.nD Cert.ProjInBwdReferenceIdeal.τ).loc Cert.ProjInBwdReferenceIdeal.main_arg0) = m ((c.tc : Thread Cert.ProjInBwdReferenceIdeal.nD Cert.ProjInBwdReferenceIdeal.τ).loc Cert.ProjInBwdReferenceIdeal.main_arg0)
      ∧ r.2.mem ((c.tc : Thread Cert.ProjInBwdReferenceIdeal.nD Cert.ProjInBwdReferenceIdeal.τ).loc Cert.ProjInBwdReferenceIdeal.main_arg1) = m ((c.tc : Thread Cert.ProjInBwdReferenceIdeal.nD Cert.ProjInBwdReferenceIdeal.τ).loc Cert.ProjInBwdReferenceIdeal.main_arg1))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwReferenceIdeal [hProjInDwReferenceIdeal : Cert.ProjInDwReferenceIdeal.Facts] : Prop :=
  ∀ (m : (ℓ : Loc Cert.ProjInDwReferenceIdeal.nD Cert.ProjInDwReferenceIdeal.τ Cert.ProjInDwReferenceIdeal.sig) → Buf (Elt Ideal) ℓ) (g : Dev Cert.ProjInDwReferenceIdeal.nD → PrngReg), Pre_ProjInDwReferenceIdeal m →
    θ_run (Cert.ProjInDwReferenceIdeal.defs (F := Ideal)) (onTc (τ := Cert.ProjInDwReferenceIdeal.τ) (Cert.ProjInDwReferenceIdeal.main (F := Ideal))) ⟨m, fun _ => 0, g⟩ (fun r => (∀ c : Dev Cert.ProjInDwReferenceIdeal.nD,
      r.2.mem ((c.tc : Thread Cert.ProjInDwReferenceIdeal.nD Cert.ProjInDwReferenceIdeal.τ).loc Cert.ProjInDwReferenceIdeal.main_arg0) = m ((c.tc : Thread Cert.ProjInDwReferenceIdeal.nD Cert.ProjInDwReferenceIdeal.τ).loc Cert.ProjInDwReferenceIdeal.main_arg0)
      ∧ r.2.mem ((c.tc : Thread Cert.ProjInDwReferenceIdeal.nD Cert.ProjInDwReferenceIdeal.τ).loc Cert.ProjInDwReferenceIdeal.main_arg1) = m ((c.tc : Thread Cert.ProjInDwReferenceIdeal.nD Cert.ProjInDwReferenceIdeal.τ).loc Cert.ProjInDwReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 2576, 1024]⟩ ⟨3, ![64, 2576, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 2576, 1024]⟩ ⟨3, ![64, 2576, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 2576, 1024]⟩ ⟨3, ![64, 2576, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.block ⟨3, ![8, 2576, 1024]⟩ ⟨3, ![64, 2576, 1024]⟩ 0 8 c v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_GatherWeights_GatherWeightsIdeal : Prop :=
  True

def algebraic_GatherWeightsIdeal_GatherWeightsReferenceIdeal [hGatherWeightsIdeal : Cert.GatherWeightsIdeal.Facts] [hGatherWeightsReferenceIdeal : Cert.GatherWeightsReferenceIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatherWeightsReferenceIdeal.nD Cert.GatherWeightsReferenceIdeal.τ Cert.GatherWeightsReferenceIdeal.sig) → Buf (Elt Ideal) ℓ) (g' : Dev Cert.GatherWeightsReferenceIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.block ⟨2, ![2576, 1024]⟩ ⟨2, ![20608, 1024]⟩ 0 8 c (m' (((0 : Dev Cert.GatherWeightsReferenceIdeal.nD).tc : Thread Cert.GatherWeightsReferenceIdeal.nD Cert.GatherWeightsReferenceIdeal.τ).loc Cert.GatherWeightsReferenceIdeal.main_arg0))) →
    ∃ (v0 : Buf (Elt Ideal) (((0 : Dev Cert.GatherWeightsReferenceIdeal.nD).tc : Thread Cert.GatherWeightsReferenceIdeal.nD Cert.GatherWeightsReferenceIdeal.τ).loc Cert.GatherWeightsReferenceIdeal.main_v0)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1) = v0
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0))
      ∧ θ_run (Cert.GatherWeightsReferenceIdeal.defs (F := Ideal)) (onTc (τ := Cert.GatherWeightsReferenceIdeal.τ) (Cert.GatherWeightsReferenceIdeal.main (F := Ideal))) ⟨m', fun _ => 0, g'⟩ (fun r =>
          r.2.mem (((0 : Dev Cert.GatherWeightsReferenceIdeal.nD).tc : Thread Cert.GatherWeightsReferenceIdeal.nD Cert.GatherWeightsReferenceIdeal.τ).loc Cert.GatherWeightsReferenceIdeal.main_v0) = v0
          ∧ r.2.mem (((0 : Dev Cert.GatherWeightsReferenceIdeal.nD).tc : Thread Cert.GatherWeightsReferenceIdeal.nD Cert.GatherWeightsReferenceIdeal.τ).loc Cert.GatherWeightsReferenceIdeal.main_arg0) = m' (((0 : Dev Cert.GatherWeightsReferenceIdeal.nD).tc : Thread Cert.GatherWeightsReferenceIdeal.nD Cert.GatherWeightsReferenceIdeal.τ).loc Cert.GatherWeightsReferenceIdeal.main_arg0))

def bitexact_GatherWeights_GatherWeightsReference [hGatherWeights : Cert.GatherWeights.Facts] [hGatherWeightsReference : Cert.GatherWeightsReference.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.GatherWeightsReference.nD Cert.GatherWeightsReference.τ Cert.GatherWeightsReference.sig) → Buf (Elt Bits) ℓ) (g' : Dev Cert.GatherWeightsReference.nD → PrngReg), Pre_GatherWeights m →
    (∀ c : Dev Cert.GatherWeights.nD,
      m ((c.tc : Thread Cert.GatherWeights.nD Cert.GatherWeights.τ).loc Cert.GatherWeights.main_arg0) = Layout.block ⟨2, ![2576, 1024]⟩ ⟨2, ![20608, 1024]⟩ 0 8 c (m' (((0 : Dev Cert.GatherWeightsReference.nD).tc : Thread Cert.GatherWeightsReference.nD Cert.GatherWeightsReference.τ).loc Cert.GatherWeightsReference.main_arg0))) →
    ∃ (v0 : Buf (Elt Bits) (((0 : Dev Cert.GatherWeightsReference.nD).tc : Thread Cert.GatherWeightsReference.nD Cert.GatherWeightsReference.τ).loc Cert.GatherWeightsReference.main_v0)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1) = v0
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0))
      ∧ θ_run (Cert.GatherWeightsReference.defs (F := Bits)) (onTc (τ := Cert.GatherWeightsReference.τ) (Cert.GatherWeightsReference.main (F := Bits))) ⟨m', fun _ => 0, g'⟩ (fun r =>
          r.2.mem (((0 : Dev Cert.GatherWeightsReference.nD).tc : Thread Cert.GatherWeightsReference.nD Cert.GatherWeightsReference.τ).loc Cert.GatherWeightsReference.main_v0) = v0
          ∧ r.2.mem (((0 : Dev Cert.GatherWeightsReference.nD).tc : Thread Cert.GatherWeightsReference.nD Cert.GatherWeightsReference.τ).loc Cert.GatherWeightsReference.main_arg0) = m' (((0 : Dev Cert.GatherWeightsReference.nD).tc : Thread Cert.GatherWeightsReference.nD Cert.GatherWeightsReference.τ).loc Cert.GatherWeightsReference.main_arg0))

def preserves_GatherSmall_GatherSmallIdeal : Prop :=
  True

def algebraic_GatherSmallIdeal_GatherSmallReferenceIdeal [hGatherSmallIdeal : Cert.GatherSmallIdeal.Facts] [hGatherSmallReferenceIdeal : Cert.GatherSmallReferenceIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallReferenceIdeal.nD Cert.GatherSmallReferenceIdeal.τ Cert.GatherSmallReferenceIdeal.sig) → Buf (Elt Ideal) ℓ) (g' : Dev Cert.GatherSmallReferenceIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![16, 1024]⟩ ⟨2, ![128, 1024]⟩ 0 8 c (m' (((0 : Dev Cert.GatherSmallReferenceIdeal.nD).tc : Thread Cert.GatherSmallReferenceIdeal.nD Cert.GatherSmallReferenceIdeal.τ).loc Cert.GatherSmallReferenceIdeal.main_arg0))) →
    ∃ (v0 : Buf (Elt Ideal) (((0 : Dev Cert.GatherSmallReferenceIdeal.nD).tc : Thread Cert.GatherSmallReferenceIdeal.nD Cert.GatherSmallReferenceIdeal.τ).loc Cert.GatherSmallReferenceIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallReferenceIdeal.defs (F := Ideal)) (onTc (τ := Cert.GatherSmallReferenceIdeal.τ) (Cert.GatherSmallReferenceIdeal.main (F := Ideal))) ⟨m', fun _ => 0, g'⟩ (fun r =>
          r.2.mem (((0 : Dev Cert.GatherSmallReferenceIdeal.nD).tc : Thread Cert.GatherSmallReferenceIdeal.nD Cert.GatherSmallReferenceIdeal.τ).loc Cert.GatherSmallReferenceIdeal.main_v0) = v0
          ∧ r.2.mem (((0 : Dev Cert.GatherSmallReferenceIdeal.nD).tc : Thread Cert.GatherSmallReferenceIdeal.nD Cert.GatherSmallReferenceIdeal.τ).loc Cert.GatherSmallReferenceIdeal.main_arg0) = m' (((0 : Dev Cert.GatherSmallReferenceIdeal.nD).tc : Thread Cert.GatherSmallReferenceIdeal.nD Cert.GatherSmallReferenceIdeal.τ).loc Cert.GatherSmallReferenceIdeal.main_arg0))

def bitexact_GatherSmall_GatherSmallReference [hGatherSmall : Cert.GatherSmall.Facts] [hGatherSmallReference : Cert.GatherSmallReference.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallReference.nD Cert.GatherSmallReference.τ Cert.GatherSmallReference.sig) → Buf (Elt Bits) ℓ) (g' : Dev Cert.GatherSmallReference.nD → PrngReg), Pre_GatherSmall m →
    (∀ c : Dev Cert.GatherSmall.nD,
      m ((c.tc : Thread Cert.GatherSmall.nD Cert.GatherSmall.τ).loc Cert.GatherSmall.main_arg0) = Layout.block ⟨2, ![16, 1024]⟩ ⟨2, ![128, 1024]⟩ 0 8 c (m' (((0 : Dev Cert.GatherSmallReference.nD).tc : Thread Cert.GatherSmallReference.nD Cert.GatherSmallReference.τ).loc Cert.GatherSmallReference.main_arg0))) →
    ∃ (v0 : Buf (Elt Bits) (((0 : Dev Cert.GatherSmallReference.nD).tc : Thread Cert.GatherSmallReference.nD Cert.GatherSmallReference.τ).loc Cert.GatherSmallReference.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallReference.defs (F := Bits)) (onTc (τ := Cert.GatherSmallReference.τ) (Cert.GatherSmallReference.main (F := Bits))) ⟨m', fun _ => 0, g'⟩ (fun r =>
          r.2.mem (((0 : Dev Cert.GatherSmallReference.nD).tc : Thread Cert.GatherSmallReference.nD Cert.GatherSmallReference.τ).loc Cert.GatherSmallReference.main_v0) = v0
          ∧ r.2.mem (((0 : Dev Cert.GatherSmallReference.nD).tc : Thread Cert.GatherSmallReference.nD Cert.GatherSmallReference.τ).loc Cert.GatherSmallReference.main_arg0) = m' (((0 : Dev Cert.GatherSmallReference.nD).tc : Thread Cert.GatherSmallReference.nD Cert.GatherSmallReference.τ).loc Cert.GatherSmallReference.main_arg0))

def preserves_GatherMod_GatherModIdeal : Prop :=
  True

def algebraic_GatherModIdeal_GatherModReferenceIdeal [hGatherModIdeal : Cert.GatherModIdeal.Facts] [hGatherModReferenceIdeal : Cert.GatherModReferenceIdeal.Facts] : Prop :=
  ∀ (m : (ℓ : Loc Cert.GatherModIdeal.nD Cert.GatherModIdeal.τ Cert.GatherModIdeal.sig) → Buf (Elt Ideal) ℓ) (g : Dev Cert.GatherModIdeal.nD → PrngReg)
    (m' : (ℓ : Loc Cert.GatherModReferenceIdeal.nD Cert.GatherModReferenceIdeal.τ Cert.GatherModReferenceIdeal.sig) → Buf (Elt Ideal) ℓ) (g' : Dev Cert.GatherModReferenceIdeal.nD → PrngReg), Pre_GatherModIdeal m →
    (∀ c : Dev Cert.GatherModIdeal.nD,
      m ((c.tc : Thread Cert.GatherModIdeal.nD Cert.GatherModIdeal.τ).loc Cert.GatherModIdeal.main_arg0) = Layout.block ⟨2, ![8, 1152]⟩ ⟨2, ![64, 1152]⟩ 0 8 c (m' (((0 : Dev Cert.GatherModReferenceIdeal.nD).tc : Thread Cert.GatherModReferenceIdeal.nD Cert.GatherModReferenceIdeal.τ).loc Cert.GatherModReferenceIdeal.main_arg0))) →
    ∃ (v0 : Buf (Elt Ideal) (((0 : Dev Cert.GatherModReferenceIdeal.nD).tc : Thread Cert.GatherModReferenceIdeal.nD Cert.GatherModReferenceIdeal.τ).loc Cert.GatherModReferenceIdeal.main_v0)),
      θ_run (Cert.GatherModIdeal.defs (F := Ideal)) (onTc (τ := Cert.GatherModIdeal.τ) (Cert.GatherModIdeal.main (F := Ideal))) ⟨m, fun _ => 0, g⟩ (fun r => ∀ c : Dev Cert.GatherModIdeal.nD,
          r.2.mem ((c.tc : Thread Cert.GatherModIdeal.nD Cert.GatherModIdeal.τ).loc Cert.GatherModIdeal.main_v1) = v0
          ∧ r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ θ_run (Cert.GatherModReferenceIdeal.defs (F := Ideal)) (onTc (τ := Cert.GatherModReferenceIdeal.τ) (Cert.GatherModReferenceIdeal.main (F := Ideal))) ⟨m', fun _ => 0, g'⟩ (fun r =>
          r.2.mem (((0 : Dev Cert.GatherModReferenceIdeal.nD).tc : Thread Cert.GatherModReferenceIdeal.nD Cert.GatherModReferenceIdeal.τ).loc Cert.GatherModReferenceIdeal.main_v0) = v0
          ∧ r.2.mem (((0 : Dev Cert.GatherModReferenceIdeal.nD).tc : Thread Cert.GatherModReferenceIdeal.nD Cert.GatherModReferenceIdeal.τ).loc Cert.GatherModReferenceIdeal.main_arg0) = m' (((0 : Dev Cert.GatherModReferenceIdeal.nD).tc : Thread Cert.GatherModReferenceIdeal.nD Cert.GatherModReferenceIdeal.τ).loc Cert.GatherModReferenceIdeal.main_arg0))

def bitexact_GatherMod_GatherModReference [hGatherMod : Cert.GatherMod.Facts] [hGatherModReference : Cert.GatherModReference.Facts] : Prop :=
  ∀ (m : (ℓ : Loc Cert.GatherMod.nD Cert.GatherMod.τ Cert.GatherMod.sig) → Buf (Elt Bits) ℓ) (g : Dev Cert.GatherMod.nD → PrngReg)
    (m' : (ℓ : Loc Cert.GatherModReference.nD Cert.GatherModReference.τ Cert.GatherModReference.sig) → Buf (Elt Bits) ℓ) (g' : Dev Cert.GatherModReference.nD → PrngReg), Pre_GatherMod m →
    (∀ c : Dev Cert.GatherMod.nD,
      m ((c.tc : Thread Cert.GatherMod.nD Cert.GatherMod.τ).loc Cert.GatherMod.main_arg0) = Layout.block ⟨2, ![8, 1152]⟩ ⟨2, ![64, 1152]⟩ 0 8 c (m' (((0 : Dev Cert.GatherModReference.nD).tc : Thread Cert.GatherModReference.nD Cert.GatherModReference.τ).loc Cert.GatherModReference.main_arg0))) →
    ∃ (v0 : Buf (Elt Bits) (((0 : Dev Cert.GatherModReference.nD).tc : Thread Cert.GatherModReference.nD Cert.GatherModReference.τ).loc Cert.GatherModReference.main_v0)),
      θ_run (Cert.GatherMod.defs (F := Bits)) (onTc (τ := Cert.GatherMod.τ) (Cert.GatherMod.main (F := Bits))) ⟨m, fun _ => 0, g⟩ (fun r => ∀ c : Dev Cert.GatherMod.nD,
          r.2.mem ((c.tc : Thread Cert.GatherMod.nD Cert.GatherMod.τ).loc Cert.GatherMod.main_v1) = v0
          ∧ r.2.mem ((c.tc : Thread Cert.GatherMod.nD Cert.GatherMod.τ).loc Cert.GatherMod.main_arg0) = m ((c.tc : Thread Cert.GatherMod.nD Cert.GatherMod.τ).loc Cert.GatherMod.main_arg0))
      ∧ θ_run (Cert.GatherModReference.defs (F := Bits)) (onTc (τ := Cert.GatherModReference.τ) (Cert.GatherModReference.main (F := Bits))) ⟨m', fun _ => 0, g'⟩ (fun r =>
          r.2.mem (((0 : Dev Cert.GatherModReference.nD).tc : Thread Cert.GatherModReference.nD Cert.GatherModReference.τ).loc Cert.GatherModReference.main_v0) = v0
          ∧ r.2.mem (((0 : Dev Cert.GatherModReference.nD).tc : Thread Cert.GatherModReference.nD Cert.GatherModReference.τ).loc Cert.GatherModReference.main_arg0) = m' (((0 : Dev Cert.GatherModReference.nD).tc : Thread Cert.GatherModReference.nD Cert.GatherModReference.τ).loc Cert.GatherModReference.main_arg0))

def preserves_GatherSmallGrads_GatherSmallGradsIdeal : Prop :=
  True

def algebraic_GatherSmallGradsIdeal_GatherSmallGradsReferenceIdeal [hGatherSmallGradsIdeal : Cert.GatherSmallGradsIdeal.Facts] [hGatherSmallGradsReferenceIdeal : Cert.GatherSmallGradsReferenceIdeal.Facts] : Prop :=
  ∀ (m : (ℓ : Loc Cert.GatherSmallGradsIdeal.nD Cert.GatherSmallGradsIdeal.τ Cert.GatherSmallGradsIdeal.sig) → Buf (Elt Ideal) ℓ) (g : Dev Cert.GatherSmallGradsIdeal.nD → PrngReg)
    (m' : (ℓ : Loc Cert.GatherSmallGradsReferenceIdeal.nD Cert.GatherSmallGradsReferenceIdeal.τ Cert.GatherSmallGradsReferenceIdeal.sig) → Buf (Elt Ideal) ℓ) (g' : Dev Cert.GatherSmallGradsReferenceIdeal.nD → PrngReg), Pre_GatherSmallGradsIdeal m →
    (∀ c : Dev Cert.GatherSmallGradsIdeal.nD,
      m ((c.tc : Thread Cert.GatherSmallGradsIdeal.nD Cert.GatherSmallGradsIdeal.τ).loc Cert.GatherSmallGradsIdeal.main_arg0) = Layout.block ⟨2, ![88, 1024]⟩ ⟨2, ![704, 1024]⟩ 0 8 c (m' (((0 : Dev Cert.GatherSmallGradsReferenceIdeal.nD).tc : Thread Cert.GatherSmallGradsReferenceIdeal.nD Cert.GatherSmallGradsReferenceIdeal.τ).loc Cert.GatherSmallGradsReferenceIdeal.main_arg0))) →
    ∃ (v0 : Buf (Elt Ideal) (((0 : Dev Cert.GatherSmallGradsReferenceIdeal.nD).tc : Thread Cert.GatherSmallGradsReferenceIdeal.nD Cert.GatherSmallGradsReferenceIdeal.τ).loc Cert.GatherSmallGradsReferenceIdeal.main_v0)),
      θ_run (Cert.GatherSmallGradsIdeal.defs (F := Ideal)) (onTc (τ := Cert.GatherSmallGradsIdeal.τ) (Cert.GatherSmallGradsIdeal.main (F := Ideal))) ⟨m, fun _ => 0, g⟩ (fun r => ∀ c : Dev Cert.GatherSmallGradsIdeal.nD,
          r.2.mem ((c.tc : Thread Cert.GatherSmallGradsIdeal.nD Cert.GatherSmallGradsIdeal.τ).loc Cert.GatherSmallGradsIdeal.main_v1) = v0
          ∧ r.2.mem ((c.tc : Thread Cert.GatherSmallGradsIdeal.nD Cert.GatherSmallGradsIdeal.τ).loc Cert.GatherSmallGradsIdeal.main_arg0) = m ((c.tc : Thread Cert.GatherSmallGradsIdeal.nD Cert.GatherSmallGradsIdeal.τ).loc Cert.GatherSmallGradsIdeal.main_arg0))
      ∧ θ_run (Cert.GatherSmallGradsReferenceIdeal.defs (F := Ideal)) (onTc (τ := Cert.GatherSmallGradsReferenceIdeal.τ) (Cert.GatherSmallGradsReferenceIdeal.main (F := Ideal))) ⟨m', fun _ => 0, g'⟩ (fun r =>
          r.2.mem (((0 : Dev Cert.GatherSmallGradsReferenceIdeal.nD).tc : Thread Cert.GatherSmallGradsReferenceIdeal.nD Cert.GatherSmallGradsReferenceIdeal.τ).loc Cert.GatherSmallGradsReferenceIdeal.main_v0) = v0
          ∧ r.2.mem (((0 : Dev Cert.GatherSmallGradsReferenceIdeal.nD).tc : Thread Cert.GatherSmallGradsReferenceIdeal.nD Cert.GatherSmallGradsReferenceIdeal.τ).loc Cert.GatherSmallGradsReferenceIdeal.main_arg0) = m' (((0 : Dev Cert.GatherSmallGradsReferenceIdeal.nD).tc : Thread Cert.GatherSmallGradsReferenceIdeal.nD Cert.GatherSmallGradsReferenceIdeal.τ).loc Cert.GatherSmallGradsReferenceIdeal.main_arg0))

def bitexact_GatherSmallGrads_GatherSmallGradsReference [hGatherSmallGrads : Cert.GatherSmallGrads.Facts] [hGatherSmallGradsReference : Cert.GatherSmallGradsReference.Facts] : Prop :=
  ∀ (m : (ℓ : Loc Cert.GatherSmallGrads.nD Cert.GatherSmallGrads.τ Cert.GatherSmallGrads.sig) → Buf (Elt Bits) ℓ) (g : Dev Cert.GatherSmallGrads.nD → PrngReg)
    (m' : (ℓ : Loc Cert.GatherSmallGradsReference.nD Cert.GatherSmallGradsReference.τ Cert.GatherSmallGradsReference.sig) → Buf (Elt Bits) ℓ) (g' : Dev Cert.GatherSmallGradsReference.nD → PrngReg), Pre_GatherSmallGrads m →
    (∀ c : Dev Cert.GatherSmallGrads.nD,
      m ((c.tc : Thread Cert.GatherSmallGrads.nD Cert.GatherSmallGrads.τ).loc Cert.GatherSmallGrads.main_arg0) = Layout.block ⟨2, ![88, 1024]⟩ ⟨2, ![704, 1024]⟩ 0 8 c (m' (((0 : Dev Cert.GatherSmallGradsReference.nD).tc : Thread Cert.GatherSmallGradsReference.nD Cert.GatherSmallGradsReference.τ).loc Cert.GatherSmallGradsReference.main_arg0))) →
    ∃ (v0 : Buf (Elt Bits) (((0 : Dev Cert.GatherSmallGradsReference.nD).tc : Thread Cert.GatherSmallGradsReference.nD Cert.GatherSmallGradsReference.τ).loc Cert.GatherSmallGradsReference.main_v0)),
      θ_run (Cert.GatherSmallGrads.defs (F := Bits)) (onTc (τ := Cert.GatherSmallGrads.τ) (Cert.GatherSmallGrads.main (F := Bits))) ⟨m, fun _ => 0, g⟩ (fun r => ∀ c : Dev Cert.GatherSmallGrads.nD,
          r.2.mem ((c.tc : Thread Cert.GatherSmallGrads.nD Cert.GatherSmallGrads.τ).loc Cert.GatherSmallGrads.main_v1) = v0
          ∧ r.2.mem ((c.tc : Thread Cert.GatherSmallGrads.nD Cert.GatherSmallGrads.τ).loc Cert.GatherSmallGrads.main_arg0) = m ((c.tc : Thread Cert.GatherSmallGrads.nD Cert.GatherSmallGrads.τ).loc Cert.GatherSmallGrads.main_arg0))
      ∧ θ_run (Cert.GatherSmallGradsReference.defs (F := Bits)) (onTc (τ := Cert.GatherSmallGradsReference.τ) (Cert.GatherSmallGradsReference.main (F := Bits))) ⟨m', fun _ => 0, g'⟩ (fun r =>
          r.2.mem (((0 : Dev Cert.GatherSmallGradsReference.nD).tc : Thread Cert.GatherSmallGradsReference.nD Cert.GatherSmallGradsReference.τ).loc Cert.GatherSmallGradsReference.main_v0) = v0
          ∧ r.2.mem (((0 : Dev Cert.GatherSmallGradsReference.nD).tc : Thread Cert.GatherSmallGradsReference.nD Cert.GatherSmallGradsReference.τ).loc Cert.GatherSmallGradsReference.main_arg0) = m' (((0 : Dev Cert.GatherSmallGradsReference.nD).tc : Thread Cert.GatherSmallGradsReference.nD Cert.GatherSmallGradsReference.τ).loc Cert.GatherSmallGradsReference.main_arg0))

def preserves_AdamwWAda_AdamwWAdaIdeal : Prop :=
  True

def algebraic_AdamwWAdaIdeal_AdamwWAdaReferenceIdeal [hAdamwWAdaIdeal : Cert.AdamwWAdaIdeal.Facts] [hAdamwWAdaReferenceIdeal : Cert.AdamwWAdaReferenceIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg)
    (m' : (ℓ : Loc Cert.AdamwWAdaReferenceIdeal.nD Cert.AdamwWAdaReferenceIdeal.τ Cert.AdamwWAdaReferenceIdeal.sig) → Buf (Elt Ideal) ℓ) (g' : Dev Cert.AdamwWAdaReferenceIdeal.nD → PrngReg), Pre_AdamwWAdaIdeal m →
    (∀ c : Dev Cert.AdamwWAdaIdeal.nD,
      m' ((c.tc : Thread Cert.AdamwWAdaReferenceIdeal.nD Cert.AdamwWAdaReferenceIdeal.τ).loc Cert.AdamwWAdaReferenceIdeal.main_arg0) = m ((c.tc : Thread Cert.AdamwWAdaIdeal.nD Cert.AdamwWAdaIdeal.τ).loc Cert.AdamwWAdaIdeal.main_arg0)
      ∧ m' ((c.tc : Thread Cert.AdamwWAdaReferenceIdeal.nD Cert.AdamwWAdaReferenceIdeal.τ).loc Cert.AdamwWAdaReferenceIdeal.main_arg1) = m ((c.tc : Thread Cert.AdamwWAdaIdeal.nD Cert.AdamwWAdaIdeal.τ).loc Cert.AdamwWAdaIdeal.main_arg1)
      ∧ m' ((c.tc : Thread Cert.AdamwWAdaReferenceIdeal.nD Cert.AdamwWAdaReferenceIdeal.τ).loc Cert.AdamwWAdaReferenceIdeal.main_arg2) = m ((c.tc : Thread Cert.AdamwWAdaIdeal.nD Cert.AdamwWAdaIdeal.τ).loc Cert.AdamwWAdaIdeal.main_arg2)
      ∧ m' ((c.tc : Thread Cert.AdamwWAdaReferenceIdeal.nD Cert.AdamwWAdaReferenceIdeal.τ).loc Cert.AdamwWAdaReferenceIdeal.main_arg3) = m ((c.tc : Thread Cert.AdamwWAdaIdeal.nD Cert.AdamwWAdaIdeal.τ).loc Cert.AdamwWAdaIdeal.main_arg3)) →
    ∃ (v0 : (c : Dev Cert.AdamwWAdaIdeal.nD) → Buf (Elt Ideal) ((c.tc : Thread Cert.AdamwWAdaIdeal.nD Cert.AdamwWAdaIdeal.τ).loc Cert.AdamwWAdaIdeal.main_v0_0)) (v1 : (c : Dev Cert.AdamwWAdaIdeal.nD) → Buf (Elt Ideal) ((c.tc : Thread Cert.AdamwWAdaIdeal.nD Cert.AdamwWAdaIdeal.τ).loc Cert.AdamwWAdaIdeal.main_v0_1)) (v2 : (c : Dev Cert.AdamwWAdaIdeal.nD) → Buf (Elt Ideal) ((c.tc : Thread Cert.AdamwWAdaIdeal.nD Cert.AdamwWAdaIdeal.τ).loc Cert.AdamwWAdaIdeal.main_v0_2)),
      θ_run (Cert.AdamwWAdaIdeal.defs (F := Ideal)) (onTc (τ := Cert.AdamwWAdaIdeal.τ) (Cert.AdamwWAdaIdeal.main (F := Ideal))) ⟨m, fun _ => 0, g⟩ (fun r => ∀ c : Dev Cert.AdamwWAdaIdeal.nD,
          r.2.mem ((c.tc : Thread Cert.AdamwWAdaIdeal.nD Cert.AdamwWAdaIdeal.τ).loc Cert.AdamwWAdaIdeal.main_v0_0) = v0 c
          ∧ r.2.mem ((c.tc : Thread Cert.AdamwWAdaIdeal.nD Cert.AdamwWAdaIdeal.τ).loc Cert.AdamwWAdaIdeal.main_v0_1) = v1 c
          ∧ r.2.mem ((c.tc : Thread Cert.AdamwWAdaIdeal.nD Cert.AdamwWAdaIdeal.τ).loc Cert.AdamwWAdaIdeal.main_v0_2) = v2 c
          ∧ r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
          ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
          ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
          ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ θ_run (Cert.AdamwWAdaReferenceIdeal.defs (F := Ideal)) (onTc (τ := Cert.AdamwWAdaReferenceIdeal.τ) (Cert.AdamwWAdaReferenceIdeal.main (F := Ideal))) ⟨m', fun _ => 0, g'⟩ (fun r => ∀ c : Dev Cert.AdamwWAdaReferenceIdeal.nD,
          r.2.mem ((c.tc : Thread Cert.AdamwWAdaReferenceIdeal.nD Cert.AdamwWAdaReferenceIdeal.τ).loc Cert.AdamwWAdaReferenceIdeal.main_v23) = v0 c
          ∧ r.2.mem ((c.tc : Thread Cert.AdamwWAdaReferenceIdeal.nD Cert.AdamwWAdaReferenceIdeal.τ).loc Cert.AdamwWAdaReferenceIdeal.main_v4) = v1 c
          ∧ r.2.mem ((c.tc : Thread Cert.AdamwWAdaReferenceIdeal.nD Cert.AdamwWAdaReferenceIdeal.τ).loc Cert.AdamwWAdaReferenceIdeal.main_v10) = v2 c
          ∧ r.2.mem ((c.tc : Thread Cert.AdamwWAdaReferenceIdeal.nD Cert.AdamwWAdaReferenceIdeal.τ).loc Cert.AdamwWAdaReferenceIdeal.main_arg0) = m' ((c.tc : Thread Cert.AdamwWAdaReferenceIdeal.nD Cert.AdamwWAdaReferenceIdeal.τ).loc Cert.AdamwWAdaReferenceIdeal.main_arg0)
          ∧ r.2.mem ((c.tc : Thread Cert.AdamwWAdaReferenceIdeal.nD Cert.AdamwWAdaReferenceIdeal.τ).loc Cert.AdamwWAdaReferenceIdeal.main_arg1) = m' ((c.tc : Thread Cert.AdamwWAdaReferenceIdeal.nD Cert.AdamwWAdaReferenceIdeal.τ).loc Cert.AdamwWAdaReferenceIdeal.main_arg1)
          ∧ r.2.mem ((c.tc : Thread Cert.AdamwWAdaReferenceIdeal.nD Cert.AdamwWAdaReferenceIdeal.τ).loc Cert.AdamwWAdaReferenceIdeal.main_arg2) = m' ((c.tc : Thread Cert.AdamwWAdaReferenceIdeal.nD Cert.AdamwWAdaReferenceIdeal.τ).loc Cert.AdamwWAdaReferenceIdeal.main_arg2)
          ∧ r.2.mem ((c.tc : Thread Cert.AdamwWAdaReferenceIdeal.nD Cert.AdamwWAdaReferenceIdeal.τ).loc Cert.AdamwWAdaReferenceIdeal.main_arg3) = m' ((c.tc : Thread Cert.AdamwWAdaReferenceIdeal.nD Cert.AdamwWAdaReferenceIdeal.τ).loc Cert.AdamwWAdaReferenceIdeal.main_arg3))

def preserves_AdamwFfn1Gate_AdamwFfn1GateIdeal : Prop :=
  True

def algebraic_AdamwFfn1GateIdeal_AdamwFfn1GateReferenceIdeal [hAdamwFfn1GateIdeal : Cert.AdamwFfn1GateIdeal.Facts] [hAdamwFfn1GateReferenceIdeal : Cert.AdamwFfn1GateReferenceIdeal.Facts] : Prop :=
  ∀ (m : (ℓ : Loc Cert.AdamwFfn1GateIdeal.nD Cert.AdamwFfn1GateIdeal.τ Cert.AdamwFfn1GateIdeal.sig) → Buf (Elt Ideal) ℓ) (g : Dev Cert.AdamwFfn1GateIdeal.nD → PrngReg)
    (m' : (ℓ : Loc Cert.AdamwFfn1GateReferenceIdeal.nD Cert.AdamwFfn1GateReferenceIdeal.τ Cert.AdamwFfn1GateReferenceIdeal.sig) → Buf (Elt Ideal) ℓ) (g' : Dev Cert.AdamwFfn1GateReferenceIdeal.nD → PrngReg), Pre_AdamwFfn1GateIdeal m →
    (∀ c : Dev Cert.AdamwFfn1GateIdeal.nD,
      m' ((c.tc : Thread Cert.AdamwFfn1GateReferenceIdeal.nD Cert.AdamwFfn1GateReferenceIdeal.τ).loc Cert.AdamwFfn1GateReferenceIdeal.main_arg0) = m ((c.tc : Thread Cert.AdamwFfn1GateIdeal.nD Cert.AdamwFfn1GateIdeal.τ).loc Cert.AdamwFfn1GateIdeal.main_arg0)
      ∧ m' ((c.tc : Thread Cert.AdamwFfn1GateReferenceIdeal.nD Cert.AdamwFfn1GateReferenceIdeal.τ).loc Cert.AdamwFfn1GateReferenceIdeal.main_arg1) = m ((c.tc : Thread Cert.AdamwFfn1GateIdeal.nD Cert.AdamwFfn1GateIdeal.τ).loc Cert.AdamwFfn1GateIdeal.main_arg1)
      ∧ m' ((c.tc : Thread Cert.AdamwFfn1GateReferenceIdeal.nD Cert.AdamwFfn1GateReferenceIdeal.τ).loc Cert.AdamwFfn1GateReferenceIdeal.main_arg2) = m ((c.tc : Thread Cert.AdamwFfn1GateIdeal.nD Cert.AdamwFfn1GateIdeal.τ).loc Cert.AdamwFfn1GateIdeal.main_arg2)
      ∧ m' ((c.tc : Thread Cert.AdamwFfn1GateReferenceIdeal.nD Cert.AdamwFfn1GateReferenceIdeal.τ).loc Cert.AdamwFfn1GateReferenceIdeal.main_arg3) = m ((c.tc : Thread Cert.AdamwFfn1GateIdeal.nD Cert.AdamwFfn1GateIdeal.τ).loc Cert.AdamwFfn1GateIdeal.main_arg3)) →
    ∃ (v0 : (c : Dev Cert.AdamwFfn1GateIdeal.nD) → Buf (Elt Ideal) ((c.tc : Thread Cert.AdamwFfn1GateIdeal.nD Cert.AdamwFfn1GateIdeal.τ).loc Cert.AdamwFfn1GateIdeal.main_v0_0)) (v1 : (c : Dev Cert.AdamwFfn1GateIdeal.nD) → Buf (Elt Ideal) ((c.tc : Thread Cert.AdamwFfn1GateIdeal.nD Cert.AdamwFfn1GateIdeal.τ).loc Cert.AdamwFfn1GateIdeal.main_v0_1)) (v2 : (c : Dev Cert.AdamwFfn1GateIdeal.nD) → Buf (Elt Ideal) ((c.tc : Thread Cert.AdamwFfn1GateIdeal.nD Cert.AdamwFfn1GateIdeal.τ).loc Cert.AdamwFfn1GateIdeal.main_v0_2)),
      θ_run (Cert.AdamwFfn1GateIdeal.defs (F := Ideal)) (onTc (τ := Cert.AdamwFfn1GateIdeal.τ) (Cert.AdamwFfn1GateIdeal.main (F := Ideal))) ⟨m, fun _ => 0, g⟩ (fun r => ∀ c : Dev Cert.AdamwFfn1GateIdeal.nD,
          r.2.mem ((c.tc : Thread Cert.AdamwFfn1GateIdeal.nD Cert.AdamwFfn1GateIdeal.τ).loc Cert.AdamwFfn1GateIdeal.main_v0_0) = v0 c
          ∧ r.2.mem ((c.tc : Thread Cert.AdamwFfn1GateIdeal.nD Cert.AdamwFfn1GateIdeal.τ).loc Cert.AdamwFfn1GateIdeal.main_v0_1) = v1 c
          ∧ r.2.mem ((c.tc : Thread Cert.AdamwFfn1GateIdeal.nD Cert.AdamwFfn1GateIdeal.τ).loc Cert.AdamwFfn1GateIdeal.main_v0_2) = v2 c
          ∧ r.2.mem ((c.tc : Thread Cert.AdamwFfn1GateIdeal.nD Cert.AdamwFfn1GateIdeal.τ).loc Cert.AdamwFfn1GateIdeal.main_arg0) = m ((c.tc : Thread Cert.AdamwFfn1GateIdeal.nD Cert.AdamwFfn1GateIdeal.τ).loc Cert.AdamwFfn1GateIdeal.main_arg0)
          ∧ r.2.mem ((c.tc : Thread Cert.AdamwFfn1GateIdeal.nD Cert.AdamwFfn1GateIdeal.τ).loc Cert.AdamwFfn1GateIdeal.main_arg1) = m ((c.tc : Thread Cert.AdamwFfn1GateIdeal.nD Cert.AdamwFfn1GateIdeal.τ).loc Cert.AdamwFfn1GateIdeal.main_arg1)
          ∧ r.2.mem ((c.tc : Thread Cert.AdamwFfn1GateIdeal.nD Cert.AdamwFfn1GateIdeal.τ).loc Cert.AdamwFfn1GateIdeal.main_arg2) = m ((c.tc : Thread Cert.AdamwFfn1GateIdeal.nD Cert.AdamwFfn1GateIdeal.τ).loc Cert.AdamwFfn1GateIdeal.main_arg2)
          ∧ r.2.mem ((c.tc : Thread Cert.AdamwFfn1GateIdeal.nD Cert.AdamwFfn1GateIdeal.τ).loc Cert.AdamwFfn1GateIdeal.main_arg3) = m ((c.tc : Thread Cert.AdamwFfn1GateIdeal.nD Cert.AdamwFfn1GateIdeal.τ).loc Cert.AdamwFfn1GateIdeal.main_arg3))
      ∧ θ_run (Cert.AdamwFfn1GateReferenceIdeal.defs (F := Ideal)) (onTc (τ := Cert.AdamwFfn1GateReferenceIdeal.τ) (Cert.AdamwFfn1GateReferenceIdeal.main (F := Ideal))) ⟨m', fun _ => 0, g'⟩ (fun r => ∀ c : Dev Cert.AdamwFfn1GateReferenceIdeal.nD,
          r.2.mem ((c.tc : Thread Cert.AdamwFfn1GateReferenceIdeal.nD Cert.AdamwFfn1GateReferenceIdeal.τ).loc Cert.AdamwFfn1GateReferenceIdeal.main_v23) = v0 c
          ∧ r.2.mem ((c.tc : Thread Cert.AdamwFfn1GateReferenceIdeal.nD Cert.AdamwFfn1GateReferenceIdeal.τ).loc Cert.AdamwFfn1GateReferenceIdeal.main_v4) = v1 c
          ∧ r.2.mem ((c.tc : Thread Cert.AdamwFfn1GateReferenceIdeal.nD Cert.AdamwFfn1GateReferenceIdeal.τ).loc Cert.AdamwFfn1GateReferenceIdeal.main_v10) = v2 c
          ∧ r.2.mem ((c.tc : Thread Cert.AdamwFfn1GateReferenceIdeal.nD Cert.AdamwFfn1GateReferenceIdeal.τ).loc Cert.AdamwFfn1GateReferenceIdeal.main_arg0) = m' ((c.tc : Thread Cert.AdamwFfn1GateReferenceIdeal.nD Cert.AdamwFfn1GateReferenceIdeal.τ).loc Cert.AdamwFfn1GateReferenceIdeal.main_arg0)
          ∧ r.2.mem ((c.tc : Thread Cert.AdamwFfn1GateReferenceIdeal.nD Cert.AdamwFfn1GateReferenceIdeal.τ).loc Cert.AdamwFfn1GateReferenceIdeal.main_arg1) = m' ((c.tc : Thread Cert.AdamwFfn1GateReferenceIdeal.nD Cert.AdamwFfn1GateReferenceIdeal.τ).loc Cert.AdamwFfn1GateReferenceIdeal.main_arg1)
          ∧ r.2.mem ((c.tc : Thread Cert.AdamwFfn1GateReferenceIdeal.nD Cert.AdamwFfn1GateReferenceIdeal.τ).loc Cert.AdamwFfn1GateReferenceIdeal.main_arg2) = m' ((c.tc : Thread Cert.AdamwFfn1GateReferenceIdeal.nD Cert.AdamwFfn1GateReferenceIdeal.τ).loc Cert.AdamwFfn1GateReferenceIdeal.main_arg2)
          ∧ r.2.mem ((c.tc : Thread Cert.AdamwFfn1GateReferenceIdeal.nD Cert.AdamwFfn1GateReferenceIdeal.τ).loc Cert.AdamwFfn1GateReferenceIdeal.main_arg3) = m' ((c.tc : Thread Cert.AdamwFfn1GateReferenceIdeal.nD Cert.AdamwFfn1GateReferenceIdeal.τ).loc Cert.AdamwFfn1GateReferenceIdeal.main_arg3))

def preserves_AdamwFfn1Down_AdamwFfn1DownIdeal : Prop :=
  True

def algebraic_AdamwFfn1DownIdeal_AdamwFfn1DownReferenceIdeal [hAdamwFfn1DownIdeal : Cert.AdamwFfn1DownIdeal.Facts] [hAdamwFfn1DownReferenceIdeal : Cert.AdamwFfn1DownReferenceIdeal.Facts] : Prop :=
  ∀ (m : (ℓ : Loc Cert.AdamwFfn1DownIdeal.nD Cert.AdamwFfn1DownIdeal.τ Cert.AdamwFfn1DownIdeal.sig) → Buf (Elt Ideal) ℓ) (g : Dev Cert.AdamwFfn1DownIdeal.nD → PrngReg)
    (m' : (ℓ : Loc Cert.AdamwFfn1DownReferenceIdeal.nD Cert.AdamwFfn1DownReferenceIdeal.τ Cert.AdamwFfn1DownReferenceIdeal.sig) → Buf (Elt Ideal) ℓ) (g' : Dev Cert.AdamwFfn1DownReferenceIdeal.nD → PrngReg), Pre_AdamwFfn1DownIdeal m →
    (∀ c : Dev Cert.AdamwFfn1DownIdeal.nD,
      m' ((c.tc : Thread Cert.AdamwFfn1DownReferenceIdeal.nD Cert.AdamwFfn1DownReferenceIdeal.τ).loc Cert.AdamwFfn1DownReferenceIdeal.main_arg0) = m ((c.tc : Thread Cert.AdamwFfn1DownIdeal.nD Cert.AdamwFfn1DownIdeal.τ).loc Cert.AdamwFfn1DownIdeal.main_arg0)
      ∧ m' ((c.tc : Thread Cert.AdamwFfn1DownReferenceIdeal.nD Cert.AdamwFfn1DownReferenceIdeal.τ).loc Cert.AdamwFfn1DownReferenceIdeal.main_arg1) = m ((c.tc : Thread Cert.AdamwFfn1DownIdeal.nD Cert.AdamwFfn1DownIdeal.τ).loc Cert.AdamwFfn1DownIdeal.main_arg1)
      ∧ m' ((c.tc : Thread Cert.AdamwFfn1DownReferenceIdeal.nD Cert.AdamwFfn1DownReferenceIdeal.τ).loc Cert.AdamwFfn1DownReferenceIdeal.main_arg2) = m ((c.tc : Thread Cert.AdamwFfn1DownIdeal.nD Cert.AdamwFfn1DownIdeal.τ).loc Cert.AdamwFfn1DownIdeal.main_arg2)
      ∧ m' ((c.tc : Thread Cert.AdamwFfn1DownReferenceIdeal.nD Cert.AdamwFfn1DownReferenceIdeal.τ).loc Cert.AdamwFfn1DownReferenceIdeal.main_arg3) = m ((c.tc : Thread Cert.AdamwFfn1DownIdeal.nD Cert.AdamwFfn1DownIdeal.τ).loc Cert.AdamwFfn1DownIdeal.main_arg3)) →
    ∃ (v0 : (c : Dev Cert.AdamwFfn1DownIdeal.nD) → Buf (Elt Ideal) ((c.tc : Thread Cert.AdamwFfn1DownIdeal.nD Cert.AdamwFfn1DownIdeal.τ).loc Cert.AdamwFfn1DownIdeal.main_v0_0)) (v1 : (c : Dev Cert.AdamwFfn1DownIdeal.nD) → Buf (Elt Ideal) ((c.tc : Thread Cert.AdamwFfn1DownIdeal.nD Cert.AdamwFfn1DownIdeal.τ).loc Cert.AdamwFfn1DownIdeal.main_v0_1)) (v2 : (c : Dev Cert.AdamwFfn1DownIdeal.nD) → Buf (Elt Ideal) ((c.tc : Thread Cert.AdamwFfn1DownIdeal.nD Cert.AdamwFfn1DownIdeal.τ).loc Cert.AdamwFfn1DownIdeal.main_v0_2)),
      θ_run (Cert.AdamwFfn1DownIdeal.defs (F := Ideal)) (onTc (τ := Cert.AdamwFfn1DownIdeal.τ) (Cert.AdamwFfn1DownIdeal.main (F := Ideal))) ⟨m, fun _ => 0, g⟩ (fun r => ∀ c : Dev Cert.AdamwFfn1DownIdeal.nD,
          r.2.mem ((c.tc : Thread Cert.AdamwFfn1DownIdeal.nD Cert.AdamwFfn1DownIdeal.τ).loc Cert.AdamwFfn1DownIdeal.main_v0_0) = v0 c
          ∧ r.2.mem ((c.tc : Thread Cert.AdamwFfn1DownIdeal.nD Cert.AdamwFfn1DownIdeal.τ).loc Cert.AdamwFfn1DownIdeal.main_v0_1) = v1 c
          ∧ r.2.mem ((c.tc : Thread Cert.AdamwFfn1DownIdeal.nD Cert.AdamwFfn1DownIdeal.τ).loc Cert.AdamwFfn1DownIdeal.main_v0_2) = v2 c
          ∧ r.2.mem ((c.tc : Thread Cert.AdamwFfn1DownIdeal.nD Cert.AdamwFfn1DownIdeal.τ).loc Cert.AdamwFfn1DownIdeal.main_arg0) = m ((c.tc : Thread Cert.AdamwFfn1DownIdeal.nD Cert.AdamwFfn1DownIdeal.τ).loc Cert.AdamwFfn1DownIdeal.main_arg0)
          ∧ r.2.mem ((c.tc : Thread Cert.AdamwFfn1DownIdeal.nD Cert.AdamwFfn1DownIdeal.τ).loc Cert.AdamwFfn1DownIdeal.main_arg1) = m ((c.tc : Thread Cert.AdamwFfn1DownIdeal.nD Cert.AdamwFfn1DownIdeal.τ).loc Cert.AdamwFfn1DownIdeal.main_arg1)
          ∧ r.2.mem ((c.tc : Thread Cert.AdamwFfn1DownIdeal.nD Cert.AdamwFfn1DownIdeal.τ).loc Cert.AdamwFfn1DownIdeal.main_arg2) = m ((c.tc : Thread Cert.AdamwFfn1DownIdeal.nD Cert.AdamwFfn1DownIdeal.τ).loc Cert.AdamwFfn1DownIdeal.main_arg2)
          ∧ r.2.mem ((c.tc : Thread Cert.AdamwFfn1DownIdeal.nD Cert.AdamwFfn1DownIdeal.τ).loc Cert.AdamwFfn1DownIdeal.main_arg3) = m ((c.tc : Thread Cert.AdamwFfn1DownIdeal.nD Cert.AdamwFfn1DownIdeal.τ).loc Cert.AdamwFfn1DownIdeal.main_arg3))
      ∧ θ_run (Cert.AdamwFfn1DownReferenceIdeal.defs (F := Ideal)) (onTc (τ := Cert.AdamwFfn1DownReferenceIdeal.τ) (Cert.AdamwFfn1DownReferenceIdeal.main (F := Ideal))) ⟨m', fun _ => 0, g'⟩ (fun r => ∀ c : Dev Cert.AdamwFfn1DownReferenceIdeal.nD,
          r.2.mem ((c.tc : Thread Cert.AdamwFfn1DownReferenceIdeal.nD Cert.AdamwFfn1DownReferenceIdeal.τ).loc Cert.AdamwFfn1DownReferenceIdeal.main_v23) = v0 c
          ∧ r.2.mem ((c.tc : Thread Cert.AdamwFfn1DownReferenceIdeal.nD Cert.AdamwFfn1DownReferenceIdeal.τ).loc Cert.AdamwFfn1DownReferenceIdeal.main_v4) = v1 c
          ∧ r.2.mem ((c.tc : Thread Cert.AdamwFfn1DownReferenceIdeal.nD Cert.AdamwFfn1DownReferenceIdeal.τ).loc Cert.AdamwFfn1DownReferenceIdeal.main_v10) = v2 c
          ∧ r.2.mem ((c.tc : Thread Cert.AdamwFfn1DownReferenceIdeal.nD Cert.AdamwFfn1DownReferenceIdeal.τ).loc Cert.AdamwFfn1DownReferenceIdeal.main_arg0) = m' ((c.tc : Thread Cert.AdamwFfn1DownReferenceIdeal.nD Cert.AdamwFfn1DownReferenceIdeal.τ).loc Cert.AdamwFfn1DownReferenceIdeal.main_arg0)
          ∧ r.2.mem ((c.tc : Thread Cert.AdamwFfn1DownReferenceIdeal.nD Cert.AdamwFfn1DownReferenceIdeal.τ).loc Cert.AdamwFfn1DownReferenceIdeal.main_arg1) = m' ((c.tc : Thread Cert.AdamwFfn1DownReferenceIdeal.nD Cert.AdamwFfn1DownReferenceIdeal.τ).loc Cert.AdamwFfn1DownReferenceIdeal.main_arg1)
          ∧ r.2.mem ((c.tc : Thread Cert.AdamwFfn1DownReferenceIdeal.nD Cert.AdamwFfn1DownReferenceIdeal.τ).loc Cert.AdamwFfn1DownReferenceIdeal.main_arg2) = m' ((c.tc : Thread Cert.AdamwFfn1DownReferenceIdeal.nD Cert.AdamwFfn1DownReferenceIdeal.τ).loc Cert.AdamwFfn1DownReferenceIdeal.main_arg2)
          ∧ r.2.mem ((c.tc : Thread Cert.AdamwFfn1DownReferenceIdeal.nD Cert.AdamwFfn1DownReferenceIdeal.τ).loc Cert.AdamwFfn1DownReferenceIdeal.main_arg3) = m' ((c.tc : Thread Cert.AdamwFfn1DownReferenceIdeal.nD Cert.AdamwFfn1DownReferenceIdeal.τ).loc Cert.AdamwFfn1DownReferenceIdeal.main_arg3))

def preserves_AdamwWIn_AdamwWInIdeal : Prop :=
  True

def algebraic_AdamwWInIdeal_AdamwWInReferenceIdeal [hAdamwWInIdeal : Cert.AdamwWInIdeal.Facts] [hAdamwWInReferenceIdeal : Cert.AdamwWInReferenceIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInReferenceIdeal.nD Cert.AdamwWInReferenceIdeal.τ Cert.AdamwWInReferenceIdeal.sig) → Buf (Elt Ideal) ℓ) (g' : Dev Cert.AdamwWInReferenceIdeal.nD → PrngReg), Pre_AdamwWInIdeal m →
    (∀ c : Dev Cert.AdamwWInIdeal.nD,
      m' ((c.tc : Thread Cert.AdamwWInReferenceIdeal.nD Cert.AdamwWInReferenceIdeal.τ).loc Cert.AdamwWInReferenceIdeal.main_arg0) = m ((c.tc : Thread Cert.AdamwWInIdeal.nD Cert.AdamwWInIdeal.τ).loc Cert.AdamwWInIdeal.main_arg0)
      ∧ m' ((c.tc : Thread Cert.AdamwWInReferenceIdeal.nD Cert.AdamwWInReferenceIdeal.τ).loc Cert.AdamwWInReferenceIdeal.main_arg1) = m ((c.tc : Thread Cert.AdamwWInIdeal.nD Cert.AdamwWInIdeal.τ).loc Cert.AdamwWInIdeal.main_arg1)
      ∧ m' ((c.tc : Thread Cert.AdamwWInReferenceIdeal.nD Cert.AdamwWInReferenceIdeal.τ).loc Cert.AdamwWInReferenceIdeal.main_arg2) = m ((c.tc : Thread Cert.AdamwWInIdeal.nD Cert.AdamwWInIdeal.τ).loc Cert.AdamwWInIdeal.main_arg2)
      ∧ m' ((c.tc : Thread Cert.AdamwWInReferenceIdeal.nD Cert.AdamwWInReferenceIdeal.τ).loc Cert.AdamwWInReferenceIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v0_0)) (v1 : (c : Dev Cert.AdamwWInIdeal.nD) → Buf (Elt Ideal) ((c.tc : Thread Cert.AdamwWInIdeal.nD Cert.AdamwWInIdeal.τ).loc Cert.AdamwWInIdeal.main_v0_1)) (v2 : (c : Dev Cert.AdamwWInIdeal.nD) → Buf (Elt Ideal) ((c.tc : Thread Cert.AdamwWInIdeal.nD Cert.AdamwWInIdeal.τ).loc Cert.AdamwWInIdeal.main_v0_2)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v0_0) = v0 c
          ∧ r.2.mem ((c.tc : Thread Cert.AdamwWInIdeal.nD Cert.AdamwWInIdeal.τ).loc Cert.AdamwWInIdeal.main_v0_1) = v1 c
          ∧ r.2.mem ((c.tc : Thread Cert.AdamwWInIdeal.nD Cert.AdamwWInIdeal.τ).loc Cert.AdamwWInIdeal.main_v0_2) = v2 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInReferenceIdeal.defs (F := Ideal)) (onTc (τ := Cert.AdamwWInReferenceIdeal.τ) (Cert.AdamwWInReferenceIdeal.main (F := Ideal))) ⟨m', fun _ => 0, g'⟩ (fun r => ∀ c : Dev Cert.AdamwWInReferenceIdeal.nD,
          r.2.mem ((c.tc : Thread Cert.AdamwWInReferenceIdeal.nD Cert.AdamwWInReferenceIdeal.τ).loc Cert.AdamwWInReferenceIdeal.main_v23) = v0 c
          ∧ r.2.mem ((c.tc : Thread Cert.AdamwWInReferenceIdeal.nD Cert.AdamwWInReferenceIdeal.τ).loc Cert.AdamwWInReferenceIdeal.main_v4) = v1 c
          ∧ r.2.mem ((c.tc : Thread Cert.AdamwWInReferenceIdeal.nD Cert.AdamwWInReferenceIdeal.τ).loc Cert.AdamwWInReferenceIdeal.main_v10) = v2 c
          ∧ r.2.mem ((c.tc : Thread Cert.AdamwWInReferenceIdeal.nD Cert.AdamwWInReferenceIdeal.τ).loc Cert.AdamwWInReferenceIdeal.main_arg0) = m' ((c.tc : Thread Cert.AdamwWInReferenceIdeal.nD Cert.AdamwWInReferenceIdeal.τ).loc Cert.AdamwWInReferenceIdeal.main_arg0)
          ∧ r.2.mem ((c.tc : Thread Cert.AdamwWInReferenceIdeal.nD Cert.AdamwWInReferenceIdeal.τ).loc Cert.AdamwWInReferenceIdeal.main_arg1) = m' ((c.tc : Thread Cert.AdamwWInReferenceIdeal.nD Cert.AdamwWInReferenceIdeal.τ).loc Cert.AdamwWInReferenceIdeal.main_arg1)
          ∧ r.2.mem ((c.tc : Thread Cert.AdamwWInReferenceIdeal.nD Cert.AdamwWInReferenceIdeal.τ).loc Cert.AdamwWInReferenceIdeal.main_arg2) = m' ((c.tc : Thread Cert.AdamwWInReferenceIdeal.nD Cert.AdamwWInReferenceIdeal.τ).loc Cert.AdamwWInReferenceIdeal.main_arg2)
          ∧ r.2.mem ((c.tc : Thread Cert.AdamwWInReferenceIdeal.nD Cert.AdamwWInReferenceIdeal.τ).loc Cert.AdamwWInReferenceIdeal.main_arg3) = m' ((c.tc : Thread Cert.AdamwWInReferenceIdeal.nD Cert.AdamwWInReferenceIdeal.τ).loc Cert.AdamwWInReferenceIdeal.main_arg3))

def preserves_AdamwWOut_AdamwWOutIdeal : Prop :=
  True

def algebraic_AdamwWOutIdeal_AdamwWOutReferenceIdeal [hAdamwWOutIdeal : Cert.AdamwWOutIdeal.Facts] [hAdamwWOutReferenceIdeal : Cert.AdamwWOutReferenceIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutReferenceIdeal.nD Cert.AdamwWOutReferenceIdeal.τ Cert.AdamwWOutReferenceIdeal.sig) → Buf (Elt Ideal) ℓ) (g' : Dev Cert.AdamwWOutReferenceIdeal.nD → PrngReg), Pre_AdamwWOutIdeal m →
    (∀ c : Dev Cert.AdamwWOutIdeal.nD,
      m' ((c.tc : Thread Cert.AdamwWOutReferenceIdeal.nD Cert.AdamwWOutReferenceIdeal.τ).loc Cert.AdamwWOutReferenceIdeal.main_arg0) = m ((c.tc : Thread Cert.AdamwWOutIdeal.nD Cert.AdamwWOutIdeal.τ).loc Cert.AdamwWOutIdeal.main_arg0)
      ∧ m' ((c.tc : Thread Cert.AdamwWOutReferenceIdeal.nD Cert.AdamwWOutReferenceIdeal.τ).loc Cert.AdamwWOutReferenceIdeal.main_arg1) = m ((c.tc : Thread Cert.AdamwWOutIdeal.nD Cert.AdamwWOutIdeal.τ).loc Cert.AdamwWOutIdeal.main_arg1)
      ∧ m' ((c.tc : Thread Cert.AdamwWOutReferenceIdeal.nD Cert.AdamwWOutReferenceIdeal.τ).loc Cert.AdamwWOutReferenceIdeal.main_arg2) = m ((c.tc : Thread Cert.AdamwWOutIdeal.nD Cert.AdamwWOutIdeal.τ).loc Cert.AdamwWOutIdeal.main_arg2)
      ∧ m' ((c.tc : Thread Cert.AdamwWOutReferenceIdeal.nD Cert.AdamwWOutReferenceIdeal.τ).loc Cert.AdamwWOutReferenceIdeal.main_arg3) = m ((c.tc : Thread Cert.AdamwWOutIdeal.nD Cert.AdamwWOutIdeal.τ).loc Cert.AdamwWOutIdeal.main_arg3)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ θ_run (Cert.AdamwWOutReferenceIdeal.defs (F := Ideal)) (onTc (τ := Cert.AdamwWOutReferenceIdeal.τ) (Cert.AdamwWOutReferenceIdeal.main (F := Ideal))) ⟨m', fun _ => 0, g'⟩ (fun r => ∀ c : Dev Cert.AdamwWOutReferenceIdeal.nD,
          r.2.mem ((c.tc : Thread Cert.AdamwWOutReferenceIdeal.nD Cert.AdamwWOutReferenceIdeal.τ).loc Cert.AdamwWOutReferenceIdeal.main_v23) = v0 c
          ∧ r.2.mem ((c.tc : Thread Cert.AdamwWOutReferenceIdeal.nD Cert.AdamwWOutReferenceIdeal.τ).loc Cert.AdamwWOutReferenceIdeal.main_v4) = v1 c
          ∧ r.2.mem ((c.tc : Thread Cert.AdamwWOutReferenceIdeal.nD Cert.AdamwWOutReferenceIdeal.τ).loc Cert.AdamwWOutReferenceIdeal.main_v10) = v2 c
          ∧ r.2.mem ((c.tc : Thread Cert.AdamwWOutReferenceIdeal.nD Cert.AdamwWOutReferenceIdeal.τ).loc Cert.AdamwWOutReferenceIdeal.main_arg0) = m' ((c.tc : Thread Cert.AdamwWOutReferenceIdeal.nD Cert.AdamwWOutReferenceIdeal.τ).loc Cert.AdamwWOutReferenceIdeal.main_arg0)
          ∧ r.2.mem ((c.tc : Thread Cert.AdamwWOutReferenceIdeal.nD Cert.AdamwWOutReferenceIdeal.τ).loc Cert.AdamwWOutReferenceIdeal.main_arg1) = m' ((c.tc : Thread Cert.AdamwWOutReferenceIdeal.nD Cert.AdamwWOutReferenceIdeal.τ).loc Cert.AdamwWOutReferenceIdeal.main_arg1)
          ∧ r.2.mem ((c.tc : Thread Cert.AdamwWOutReferenceIdeal.nD Cert.AdamwWOutReferenceIdeal.τ).loc Cert.AdamwWOutReferenceIdeal.main_arg2) = m' ((c.tc : Thread Cert.AdamwWOutReferenceIdeal.nD Cert.AdamwWOutReferenceIdeal.τ).loc Cert.AdamwWOutReferenceIdeal.main_arg2)
          ∧ r.2.mem ((c.tc : Thread Cert.AdamwWOutReferenceIdeal.nD Cert.AdamwWOutReferenceIdeal.τ).loc Cert.AdamwWOutReferenceIdeal.main_arg3) = m' ((c.tc : Thread Cert.AdamwWOutReferenceIdeal.nD Cert.AdamwWOutReferenceIdeal.τ).loc Cert.AdamwWOutReferenceIdeal.main_arg3))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v23) = v0 c
          ∧ r.2.mem ((c.tc : Thread Cert.AdamwSmallReferenceIdeal.nD Cert.AdamwSmallReferenceIdeal.τ).loc Cert.AdamwSmallReferenceIdeal.main_v4) = v1 c
          ∧ r.2.mem ((c.tc : Thread Cert.AdamwSmallReferenceIdeal.nD Cert.AdamwSmallReferenceIdeal.τ).loc Cert.AdamwSmallReferenceIdeal.main_v10) = v2 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_WAdaGrad_WAdaGradIdeal : Prop :=
  True

def algebraic_WAdaGradIdeal_WAdaGradReferenceIdeal [hWAdaGradIdeal : Cert.WAdaGradIdeal.Facts] [hWAdaGradReferenceIdeal : Cert.WAdaGradReferenceIdeal.Facts] : Prop :=
  ∀ (m : (ℓ : Loc Cert.WAdaGradIdeal.nD Cert.WAdaGradIdeal.τ Cert.WAdaGradIdeal.sig) → Buf (Elt Ideal) ℓ) (g : Dev Cert.WAdaGradIdeal.nD → PrngReg)
    (m' : (ℓ : Loc Cert.WAdaGradReferenceIdeal.nD Cert.WAdaGradReferenceIdeal.τ Cert.WAdaGradReferenceIdeal.sig) → Buf (Elt Ideal) ℓ) (g' : Dev Cert.WAdaGradReferenceIdeal.nD → PrngReg), Pre_WAdaGradIdeal m →
    (∀ c : Dev Cert.WAdaGradIdeal.nD,
      m' ((c.tc : Thread Cert.WAdaGradReferenceIdeal.nD Cert.WAdaGradReferenceIdeal.τ).loc Cert.WAdaGradReferenceIdeal.main_arg0) = m ((c.tc : Thread Cert.WAdaGradIdeal.nD Cert.WAdaGradIdeal.τ).loc Cert.WAdaGradIdeal.main_arg0)
      ∧ m' ((c.tc : Thread Cert.WAdaGradReferenceIdeal.nD Cert.WAdaGradReferenceIdeal.τ).loc Cert.WAdaGradReferenceIdeal.main_arg1) = m ((c.tc : Thread Cert.WAdaGradIdeal.nD Cert.WAdaGradIdeal.τ).loc Cert.WAdaGradIdeal.main_arg1)) →
    ∃ (v0 : (c : Dev Cert.WAdaGradIdeal.nD) → Buf (Elt Ideal) ((c.tc : Thread Cert.WAdaGradIdeal.nD Cert.WAdaGradIdeal.τ).loc Cert.WAdaGradIdeal.main_v0)),
      θ_run (Cert.WAdaGradIdeal.defs (F := Ideal)) (onTc (τ := Cert.WAdaGradIdeal.τ) (Cert.WAdaGradIdeal.main (F := Ideal))) ⟨m, fun _ => 0, g⟩ (fun r => ∀ c : Dev Cert.WAdaGradIdeal.nD,
          r.2.mem ((c.tc : Thread Cert.WAdaGradIdeal.nD Cert.WAdaGradIdeal.τ).loc Cert.WAdaGradIdeal.main_v0) = v0 c
          ∧ r.2.mem ((c.tc : Thread Cert.WAdaGradIdeal.nD Cert.WAdaGradIdeal.τ).loc Cert.WAdaGradIdeal.main_arg0) = m ((c.tc : Thread Cert.WAdaGradIdeal.nD Cert.WAdaGradIdeal.τ).loc Cert.WAdaGradIdeal.main_arg0)
          ∧ r.2.mem ((c.tc : Thread Cert.WAdaGradIdeal.nD Cert.WAdaGradIdeal.τ).loc Cert.WAdaGradIdeal.main_arg1) = m ((c.tc : Thread Cert.WAdaGradIdeal.nD Cert.WAdaGradIdeal.τ).loc Cert.WAdaGradIdeal.main_arg1))
      ∧ θ_run (Cert.WAdaGradReferenceIdeal.defs (F := Ideal)) (onTc (τ := Cert.WAdaGradReferenceIdeal.τ) (Cert.WAdaGradReferenceIdeal.main (F := Ideal))) ⟨m', fun _ => 0, g'⟩ (fun r => ∀ c : Dev Cert.WAdaGradReferenceIdeal.nD,
          r.2.mem ((c.tc : Thread Cert.WAdaGradReferenceIdeal.nD Cert.WAdaGradReferenceIdeal.τ).loc Cert.WAdaGradReferenceIdeal.main_v2) = v0 c
          ∧ r.2.mem ((c.tc : Thread Cert.WAdaGradReferenceIdeal.nD Cert.WAdaGradReferenceIdeal.τ).loc Cert.WAdaGradReferenceIdeal.main_arg0) = m' ((c.tc : Thread Cert.WAdaGradReferenceIdeal.nD Cert.WAdaGradReferenceIdeal.τ).loc Cert.WAdaGradReferenceIdeal.main_arg0)
          ∧ r.2.mem ((c.tc : Thread Cert.WAdaGradReferenceIdeal.nD Cert.WAdaGradReferenceIdeal.τ).loc Cert.WAdaGradReferenceIdeal.main_arg1) = m' ((c.tc : Thread Cert.WAdaGradReferenceIdeal.nD Cert.WAdaGradReferenceIdeal.τ).loc Cert.WAdaGradReferenceIdeal.main_arg1))

def preserves_SumGrads_SumGradsIdeal : Prop :=
  True

def algebraic_SumGradsIdeal_SumGradsReferenceIdeal [hSumGradsIdeal : Cert.SumGradsIdeal.Facts] [hSumGradsReferenceIdeal : Cert.SumGradsReferenceIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg)
    (m' : (ℓ : Loc Cert.SumGradsReferenceIdeal.nD Cert.SumGradsReferenceIdeal.τ Cert.SumGradsReferenceIdeal.sig) → Buf (Elt Ideal) ℓ) (g' : Dev Cert.SumGradsReferenceIdeal.nD → PrngReg), Pre_SumGradsIdeal m →
    (∀ c : Dev Cert.SumGradsIdeal.nD,
      m' ((c.tc : Thread Cert.SumGradsReferenceIdeal.nD Cert.SumGradsReferenceIdeal.τ).loc Cert.SumGradsReferenceIdeal.main_arg0) = m ((c.tc : Thread Cert.SumGradsIdeal.nD Cert.SumGradsIdeal.τ).loc Cert.SumGradsIdeal.main_arg0)) →
    ∃ (v0 : (c : Dev Cert.SumGradsIdeal.nD) → Buf (Elt Ideal) ((c.tc : Thread Cert.SumGradsIdeal.nD Cert.SumGradsIdeal.τ).loc Cert.SumGradsIdeal.main_v0)),
      θ_run (Cert.SumGradsIdeal.defs (F := Ideal)) (onTc (τ := Cert.SumGradsIdeal.τ) (Cert.SumGradsIdeal.main (F := Ideal))) ⟨m, fun _ => 0, g⟩ (fun r => ∀ c : Dev Cert.SumGradsIdeal.nD,
          r.2.mem ((c.tc : Thread Cert.SumGradsIdeal.nD Cert.SumGradsIdeal.τ).loc Cert.SumGradsIdeal.main_v0) = v0 c
          ∧ r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ θ_run (Cert.SumGradsReferenceIdeal.defs (F := Ideal)) (onTc (τ := Cert.SumGradsReferenceIdeal.τ) (Cert.SumGradsReferenceIdeal.main (F := Ideal))) ⟨m', fun _ => 0, g'⟩ (fun r => ∀ c : Dev Cert.SumGradsReferenceIdeal.nD,
          r.2.mem ((c.tc : Thread Cert.SumGradsReferenceIdeal.nD Cert.SumGradsReferenceIdeal.τ).loc Cert.SumGradsReferenceIdeal.main_v1) = v0 c
          ∧ r.2.mem ((c.tc : Thread Cert.SumGradsReferenceIdeal.nD Cert.SumGradsReferenceIdeal.τ).loc Cert.SumGradsReferenceIdeal.main_arg0) = m' ((c.tc : Thread Cert.SumGradsReferenceIdeal.nD Cert.SumGradsReferenceIdeal.τ).loc Cert.SumGradsReferenceIdeal.main_arg0))

def preserves_SumSmallGrads_SumSmallGradsIdeal : Prop :=
  True

def algebraic_SumSmallGradsIdeal_SumSmallGradsReferenceIdeal [hSumSmallGradsIdeal : Cert.SumSmallGradsIdeal.Facts] [hSumSmallGradsReferenceIdeal : Cert.SumSmallGradsReferenceIdeal.Facts] : Prop :=
  ∀ (m : (ℓ : Loc Cert.SumSmallGradsIdeal.nD Cert.SumSmallGradsIdeal.τ Cert.SumSmallGradsIdeal.sig) → Buf (Elt Ideal) ℓ) (g : Dev Cert.SumSmallGradsIdeal.nD → PrngReg)
    (m' : (ℓ : Loc Cert.SumSmallGradsReferenceIdeal.nD Cert.SumSmallGradsReferenceIdeal.τ Cert.SumSmallGradsReferenceIdeal.sig) → Buf (Elt Ideal) ℓ) (g' : Dev Cert.SumSmallGradsReferenceIdeal.nD → PrngReg), Pre_SumSmallGradsIdeal m →
    (∀ c : Dev Cert.SumSmallGradsIdeal.nD,
      m' ((c.tc : Thread Cert.SumSmallGradsReferenceIdeal.nD Cert.SumSmallGradsReferenceIdeal.τ).loc Cert.SumSmallGradsReferenceIdeal.main_arg0) = m ((c.tc : Thread Cert.SumSmallGradsIdeal.nD Cert.SumSmallGradsIdeal.τ).loc Cert.SumSmallGradsIdeal.main_arg0)) →
    ∃ (v0 : (c : Dev Cert.SumSmallGradsIdeal.nD) → Buf (Elt Ideal) ((c.tc : Thread Cert.SumSmallGradsIdeal.nD Cert.SumSmallGradsIdeal.τ).loc Cert.SumSmallGradsIdeal.main_v0)),
      θ_run (Cert.SumSmallGradsIdeal.defs (F := Ideal)) (onTc (τ := Cert.SumSmallGradsIdeal.τ) (Cert.SumSmallGradsIdeal.main (F := Ideal))) ⟨m, fun _ => 0, g⟩ (fun r => ∀ c : Dev Cert.SumSmallGradsIdeal.nD,
          r.2.mem ((c.tc : Thread Cert.SumSmallGradsIdeal.nD Cert.SumSmallGradsIdeal.τ).loc Cert.SumSmallGradsIdeal.main_v0) = v0 c
          ∧ r.2.mem ((c.tc : Thread Cert.SumSmallGradsIdeal.nD Cert.SumSmallGradsIdeal.τ).loc Cert.SumSmallGradsIdeal.main_arg0) = m ((c.tc : Thread Cert.SumSmallGradsIdeal.nD Cert.SumSmallGradsIdeal.τ).loc Cert.SumSmallGradsIdeal.main_arg0))
      ∧ θ_run (Cert.SumSmallGradsReferenceIdeal.defs (F := Ideal)) (onTc (τ := Cert.SumSmallGradsReferenceIdeal.τ) (Cert.SumSmallGradsReferenceIdeal.main (F := Ideal))) ⟨m', fun _ => 0, g'⟩ (fun r => ∀ c : Dev Cert.SumSmallGradsReferenceIdeal.nD,
          r.2.mem ((c.tc : Thread Cert.SumSmallGradsReferenceIdeal.nD Cert.SumSmallGradsReferenceIdeal.τ).loc Cert.SumSmallGradsReferenceIdeal.main_v0) = v0 c
          ∧ r.2.mem ((c.tc : Thread Cert.SumSmallGradsReferenceIdeal.nD Cert.SumSmallGradsReferenceIdeal.τ).loc Cert.SumSmallGradsReferenceIdeal.main_arg0) = m' ((c.tc : Thread Cert.SumSmallGradsReferenceIdeal.nD Cert.SumSmallGradsReferenceIdeal.τ).loc Cert.SumSmallGradsReferenceIdeal.main_arg0))

def preserves_ModPart_ModPartIdeal : Prop :=
  True

def algebraic_ModPartIdeal_ModPartReferenceIdeal [hModPartIdeal : Cert.ModPartIdeal.Facts] [hModPartReferenceIdeal : Cert.ModPartReferenceIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartReferenceIdeal.nD Cert.ModPartReferenceIdeal.τ Cert.ModPartReferenceIdeal.sig) → Buf (Elt Ideal) ℓ) (g' : Dev Cert.ModPartReferenceIdeal.nD → PrngReg), Pre_ModPartIdeal m →
    (∀ c : Dev Cert.ModPartIdeal.nD,
      m' ((c.tc : Thread Cert.ModPartReferenceIdeal.nD Cert.ModPartReferenceIdeal.τ).loc Cert.ModPartReferenceIdeal.main_arg0) = m ((c.tc : Thread Cert.ModPartIdeal.nD Cert.ModPartIdeal.τ).loc Cert.ModPartIdeal.main_arg0)
      ∧ m' ((c.tc : Thread Cert.ModPartReferenceIdeal.nD Cert.ModPartReferenceIdeal.τ).loc Cert.ModPartReferenceIdeal.main_arg1) = m ((c.tc : Thread Cert.ModPartIdeal.nD Cert.ModPartIdeal.τ).loc Cert.ModPartIdeal.main_arg1)
      ∧ m' ((c.tc : Thread Cert.ModPartReferenceIdeal.nD Cert.ModPartReferenceIdeal.τ).loc Cert.ModPartReferenceIdeal.main_arg2) = m ((c.tc : Thread Cert.ModPartIdeal.nD Cert.ModPartIdeal.τ).loc Cert.ModPartIdeal.main_arg2)) →
    ∃ (v0 : (c : Dev Cert.ModPartIdeal.nD) → Buf (Elt Ideal) ((c.tc : Thread Cert.ModPartIdeal.nD Cert.ModPartIdeal.τ).loc Cert.ModPartIdeal.main_v0)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0) = v0 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1)
          ∧ r.2.mem ((c.tc : Thread Cert.ModPartIdeal.nD Cert.ModPartIdeal.τ).loc Cert.ModPartIdeal.main_arg2) = m ((c.tc : Thread Cert.ModPartIdeal.nD Cert.ModPartIdeal.τ).loc Cert.ModPartIdeal.main_arg2))
      ∧ θ_run (Cert.ModPartReferenceIdeal.defs (F := Ideal)) (onTc (τ := Cert.ModPartReferenceIdeal.τ) (Cert.ModPartReferenceIdeal.main (F := Ideal))) ⟨m', fun _ => 0, g'⟩ (fun r => ∀ c : Dev Cert.ModPartReferenceIdeal.nD,
          r.2.mem ((c.tc : Thread Cert.ModPartReferenceIdeal.nD Cert.ModPartReferenceIdeal.τ).loc Cert.ModPartReferenceIdeal.main_v3) = v0 c
          ∧ r.2.mem ((c.tc : Thread Cert.ModPartReferenceIdeal.nD Cert.ModPartReferenceIdeal.τ).loc Cert.ModPartReferenceIdeal.main_arg0) = m' ((c.tc : Thread Cert.ModPartReferenceIdeal.nD Cert.ModPartReferenceIdeal.τ).loc Cert.ModPartReferenceIdeal.main_arg0)
          ∧ r.2.mem ((c.tc : Thread Cert.ModPartReferenceIdeal.nD Cert.ModPartReferenceIdeal.τ).loc Cert.ModPartReferenceIdeal.main_arg1) = m' ((c.tc : Thread Cert.ModPartReferenceIdeal.nD Cert.ModPartReferenceIdeal.τ).loc Cert.ModPartReferenceIdeal.main_arg1)
          ∧ r.2.mem ((c.tc : Thread Cert.ModPartReferenceIdeal.nD Cert.ModPartReferenceIdeal.τ).loc Cert.ModPartReferenceIdeal.main_arg2) = m' ((c.tc : Thread Cert.ModPartReferenceIdeal.nD Cert.ModPartReferenceIdeal.τ).loc Cert.ModPartReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v18) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_ResidNorm_ResidNormIdeal : Prop :=
  True

def algebraic_ResidNormIdeal_ResidNormReferenceIdeal [hResidNormIdeal : Cert.ResidNormIdeal.Facts] [hResidNormReferenceIdeal : Cert.ResidNormReferenceIdeal.Facts] : Prop :=
  ∀ (m : (ℓ : Loc Cert.ResidNormIdeal.nD Cert.ResidNormIdeal.τ Cert.ResidNormIdeal.sig) → Buf (Elt Ideal) ℓ) (g : Dev Cert.ResidNormIdeal.nD → PrngReg)
    (m' : (ℓ : Loc Cert.ResidNormReferenceIdeal.nD Cert.ResidNormReferenceIdeal.τ Cert.ResidNormReferenceIdeal.sig) → Buf (Elt Ideal) ℓ) (g' : Dev Cert.ResidNormReferenceIdeal.nD → PrngReg), Pre_ResidNormIdeal m →
    (∀ c : Dev Cert.ResidNormIdeal.nD,
      m' ((c.tc : Thread Cert.ResidNormReferenceIdeal.nD Cert.ResidNormReferenceIdeal.τ).loc Cert.ResidNormReferenceIdeal.main_arg0) = m ((c.tc : Thread Cert.ResidNormIdeal.nD Cert.ResidNormIdeal.τ).loc Cert.ResidNormIdeal.main_arg0)
      ∧ m' ((c.tc : Thread Cert.ResidNormReferenceIdeal.nD Cert.ResidNormReferenceIdeal.τ).loc Cert.ResidNormReferenceIdeal.main_arg1) = m ((c.tc : Thread Cert.ResidNormIdeal.nD Cert.ResidNormIdeal.τ).loc Cert.ResidNormIdeal.main_arg1)
      ∧ m' ((c.tc : Thread Cert.ResidNormReferenceIdeal.nD Cert.ResidNormReferenceIdeal.τ).loc Cert.ResidNormReferenceIdeal.main_arg2) = m ((c.tc : Thread Cert.ResidNormIdeal.nD Cert.ResidNormIdeal.τ).loc Cert.ResidNormIdeal.main_arg2)
      ∧ m' ((c.tc : Thread Cert.ResidNormReferenceIdeal.nD Cert.ResidNormReferenceIdeal.τ).loc Cert.ResidNormReferenceIdeal.main_arg3) = m ((c.tc : Thread Cert.ResidNormIdeal.nD Cert.ResidNormIdeal.τ).loc Cert.ResidNormIdeal.main_arg3)
      ∧ m' ((c.tc : Thread Cert.ResidNormReferenceIdeal.nD Cert.ResidNormReferenceIdeal.τ).loc Cert.ResidNormReferenceIdeal.main_arg4) = m ((c.tc : Thread Cert.ResidNormIdeal.nD Cert.ResidNormIdeal.τ).loc Cert.ResidNormIdeal.main_arg4)
      ∧ m' ((c.tc : Thread Cert.ResidNormReferenceIdeal.nD Cert.ResidNormReferenceIdeal.τ).loc Cert.ResidNormReferenceIdeal.main_arg5) = m ((c.tc : Thread Cert.ResidNormIdeal.nD Cert.ResidNormIdeal.τ).loc Cert.ResidNormIdeal.main_arg5)) →
    ∃ (v0 : (c : Dev Cert.ResidNormIdeal.nD) → Buf (Elt Ideal) ((c.tc : Thread Cert.ResidNormIdeal.nD Cert.ResidNormIdeal.τ).loc Cert.ResidNormIdeal.main_v0_0)) (v1 : (c : Dev Cert.ResidNormIdeal.nD) → Buf (Elt Ideal) ((c.tc : Thread Cert.ResidNormIdeal.nD Cert.ResidNormIdeal.τ).loc Cert.ResidNormIdeal.main_v0_1)),
      θ_run (Cert.ResidNormIdeal.defs (F := Ideal)) (onTc (τ := Cert.ResidNormIdeal.τ) (Cert.ResidNormIdeal.main (F := Ideal))) ⟨m, fun _ => 0, g⟩ (fun r => ∀ c : Dev Cert.ResidNormIdeal.nD,
          r.2.mem ((c.tc : Thread Cert.ResidNormIdeal.nD Cert.ResidNormIdeal.τ).loc Cert.ResidNormIdeal.main_v0_0) = v0 c
          ∧ r.2.mem ((c.tc : Thread Cert.ResidNormIdeal.nD Cert.ResidNormIdeal.τ).loc Cert.ResidNormIdeal.main_v0_1) = v1 c
          ∧ r.2.mem ((c.tc : Thread Cert.ResidNormIdeal.nD Cert.ResidNormIdeal.τ).loc Cert.ResidNormIdeal.main_arg0) = m ((c.tc : Thread Cert.ResidNormIdeal.nD Cert.ResidNormIdeal.τ).loc Cert.ResidNormIdeal.main_arg0)
          ∧ r.2.mem ((c.tc : Thread Cert.ResidNormIdeal.nD Cert.ResidNormIdeal.τ).loc Cert.ResidNormIdeal.main_arg1) = m ((c.tc : Thread Cert.ResidNormIdeal.nD Cert.ResidNormIdeal.τ).loc Cert.ResidNormIdeal.main_arg1)
          ∧ r.2.mem ((c.tc : Thread Cert.ResidNormIdeal.nD Cert.ResidNormIdeal.τ).loc Cert.ResidNormIdeal.main_arg2) = m ((c.tc : Thread Cert.ResidNormIdeal.nD Cert.ResidNormIdeal.τ).loc Cert.ResidNormIdeal.main_arg2)
          ∧ r.2.mem ((c.tc : Thread Cert.ResidNormIdeal.nD Cert.ResidNormIdeal.τ).loc Cert.ResidNormIdeal.main_arg3) = m ((c.tc : Thread Cert.ResidNormIdeal.nD Cert.ResidNormIdeal.τ).loc Cert.ResidNormIdeal.main_arg3)
          ∧ r.2.mem ((c.tc : Thread Cert.ResidNormIdeal.nD Cert.ResidNormIdeal.τ).loc Cert.ResidNormIdeal.main_arg4) = m ((c.tc : Thread Cert.ResidNormIdeal.nD Cert.ResidNormIdeal.τ).loc Cert.ResidNormIdeal.main_arg4)
          ∧ r.2.mem ((c.tc : Thread Cert.ResidNormIdeal.nD Cert.ResidNormIdeal.τ).loc Cert.ResidNormIdeal.main_arg5) = m ((c.tc : Thread Cert.ResidNormIdeal.nD Cert.ResidNormIdeal.τ).loc Cert.ResidNormIdeal.main_arg5))
      ∧ θ_run (Cert.ResidNormReferenceIdeal.defs (F := Ideal)) (onTc (τ := Cert.ResidNormReferenceIdeal.τ) (Cert.ResidNormReferenceIdeal.main (F := Ideal))) ⟨m', fun _ => 0, g'⟩ (fun r => ∀ c : Dev Cert.ResidNormReferenceIdeal.nD,
          r.2.mem ((c.tc : Thread Cert.ResidNormReferenceIdeal.nD Cert.ResidNormReferenceIdeal.τ).loc Cert.ResidNormReferenceIdeal.main_v4) = v0 c
          ∧ r.2.mem ((c.tc : Thread Cert.ResidNormReferenceIdeal.nD Cert.ResidNormReferenceIdeal.τ).loc Cert.ResidNormReferenceIdeal.main_v23) = v1 c
          ∧ r.2.mem ((c.tc : Thread Cert.ResidNormReferenceIdeal.nD Cert.ResidNormReferenceIdeal.τ).loc Cert.ResidNormReferenceIdeal.main_arg0) = m' ((c.tc : Thread Cert.ResidNormReferenceIdeal.nD Cert.ResidNormReferenceIdeal.τ).loc Cert.ResidNormReferenceIdeal.main_arg0)
          ∧ r.2.mem ((c.tc : Thread Cert.ResidNormReferenceIdeal.nD Cert.ResidNormReferenceIdeal.τ).loc Cert.ResidNormReferenceIdeal.main_arg1) = m' ((c.tc : Thread Cert.ResidNormReferenceIdeal.nD Cert.ResidNormReferenceIdeal.τ).loc Cert.ResidNormReferenceIdeal.main_arg1)
          ∧ r.2.mem ((c.tc : Thread Cert.ResidNormReferenceIdeal.nD Cert.ResidNormReferenceIdeal.τ).loc Cert.ResidNormReferenceIdeal.main_arg2) = m' ((c.tc : Thread Cert.ResidNormReferenceIdeal.nD Cert.ResidNormReferenceIdeal.τ).loc Cert.ResidNormReferenceIdeal.main_arg2)
          ∧ r.2.mem ((c.tc : Thread Cert.ResidNormReferenceIdeal.nD Cert.ResidNormReferenceIdeal.τ).loc Cert.ResidNormReferenceIdeal.main_arg3) = m' ((c.tc : Thread Cert.ResidNormReferenceIdeal.nD Cert.ResidNormReferenceIdeal.τ).loc Cert.ResidNormReferenceIdeal.main_arg3)
          ∧ r.2.mem ((c.tc : Thread Cert.ResidNormReferenceIdeal.nD Cert.ResidNormReferenceIdeal.τ).loc Cert.ResidNormReferenceIdeal.main_arg4) = m' ((c.tc : Thread Cert.ResidNormReferenceIdeal.nD Cert.ResidNormReferenceIdeal.τ).loc Cert.ResidNormReferenceIdeal.main_arg4)
          ∧ r.2.mem ((c.tc : Thread Cert.ResidNormReferenceIdeal.nD Cert.ResidNormReferenceIdeal.τ).loc Cert.ResidNormReferenceIdeal.main_arg5) = m' ((c.tc : Thread Cert.ResidNormReferenceIdeal.nD Cert.ResidNormReferenceIdeal.τ).loc Cert.ResidNormReferenceIdeal.main_arg5))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v0_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v39) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v11) = v0 c
          ∧ r.2.mem ((c.tc : Thread Cert.GateBwdReferenceIdeal.nD Cert.GateBwdReferenceIdeal.τ).loc Cert.GateBwdReferenceIdeal.main_v10) = v1 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v10) = v0 c
          ∧ r.2.mem ((c.tc : Thread Cert.FfnFwdReferenceIdeal.nD Cert.FfnFwdReferenceIdeal.τ).loc Cert.FfnFwdReferenceIdeal.main_v5) = v1 c
          ∧ r.2.mem ((c.tc : Thread Cert.FfnFwdReferenceIdeal.nD Cert.FfnFwdReferenceIdeal.τ).loc Cert.FfnFwdReferenceIdeal.main_v7) = v2 c
          ∧ r.2.mem ((c.tc : Thread Cert.FfnFwdReferenceIdeal.nD Cert.FfnFwdReferenceIdeal.τ).loc Cert.FfnFwdReferenceIdeal.main_v11) = v3 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3))

def preserves_ProjIn_ProjInIdeal : Prop :=
  True

def algebraic_ProjInIdeal_ProjInReferenceIdeal [hProjInIdeal : Cert.ProjInIdeal.Facts] [hProjInReferenceIdeal : Cert.ProjInReferenceIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v3) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1))

def preserves_WeightGrad_WeightGradIdeal : Prop :=
  True

def algebraic_WeightGradIdeal_WeightGradReferenceIdeal [hWeightGradIdeal : Cert.WeightGradIdeal.Facts] [hWeightGradReferenceIdeal : Cert.WeightGradReferenceIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradReferenceIdeal.nD Cert.WeightGradReferenceIdeal.τ Cert.WeightGradReferenceIdeal.sig) → Buf (Elt Ideal) ℓ) (g' : Dev Cert.WeightGradReferenceIdeal.nD → PrngReg), Pre_WeightGradIdeal m →
    (∀ c : Dev Cert.WeightGradIdeal.nD,
      m' ((c.tc : Thread Cert.WeightGradReferenceIdeal.nD Cert.WeightGradReferenceIdeal.τ).loc Cert.WeightGradReferenceIdeal.main_arg0) = m ((c.tc : Thread Cert.WeightGradIdeal.nD Cert.WeightGradIdeal.τ).loc Cert.WeightGradIdeal.main_arg0)
      ∧ m' ((c.tc : Thread Cert.WeightGradReferenceIdeal.nD Cert.WeightGradReferenceIdeal.τ).loc Cert.WeightGradReferenceIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradReferenceIdeal.defs (F := Ideal)) (onTc (τ := Cert.WeightGradReferenceIdeal.τ) (Cert.WeightGradReferenceIdeal.main (F := Ideal))) ⟨m', fun _ => 0, g'⟩ (fun r => ∀ c : Dev Cert.WeightGradReferenceIdeal.nD,
          r.2.mem ((c.tc : Thread Cert.WeightGradReferenceIdeal.nD Cert.WeightGradReferenceIdeal.τ).loc Cert.WeightGradReferenceIdeal.main_v3) = v0 c
          ∧ r.2.mem ((c.tc : Thread Cert.WeightGradReferenceIdeal.nD Cert.WeightGradReferenceIdeal.τ).loc Cert.WeightGradReferenceIdeal.main_arg0) = m' ((c.tc : Thread Cert.WeightGradReferenceIdeal.nD Cert.WeightGradReferenceIdeal.τ).loc Cert.WeightGradReferenceIdeal.main_arg0)
          ∧ r.2.mem ((c.tc : Thread Cert.WeightGradReferenceIdeal.nD Cert.WeightGradReferenceIdeal.τ).loc Cert.WeightGradReferenceIdeal.main_arg1) = m' ((c.tc : Thread Cert.WeightGradReferenceIdeal.nD Cert.WeightGradReferenceIdeal.τ).loc Cert.WeightGradReferenceIdeal.main_arg1))

def preserves_FinalLoss_FinalLossIdeal : Prop :=
  True

def algebraic_FinalLossIdeal_FinalLossReferenceIdeal [hFinalLossIdeal : Cert.FinalLossIdeal.Facts] [hFinalLossReferenceIdeal : Cert.FinalLossReferenceIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossReferenceIdeal.nD Cert.FinalLossReferenceIdeal.τ Cert.FinalLossReferenceIdeal.sig) → Buf (Elt Ideal) ℓ) (g' : Dev Cert.FinalLossReferenceIdeal.nD → PrngReg), Pre_FinalLossIdeal m →
    (∀ c : Dev Cert.FinalLossIdeal.nD,
      m' ((c.tc : Thread Cert.FinalLossReferenceIdeal.nD Cert.FinalLossReferenceIdeal.τ).loc Cert.FinalLossReferenceIdeal.main_arg0) = m ((c.tc : Thread Cert.FinalLossIdeal.nD Cert.FinalLossIdeal.τ).loc Cert.FinalLossIdeal.main_arg0)
      ∧ m' ((c.tc : Thread Cert.FinalLossReferenceIdeal.nD Cert.FinalLossReferenceIdeal.τ).loc Cert.FinalLossReferenceIdeal.main_arg1) = m ((c.tc : Thread Cert.FinalLossIdeal.nD Cert.FinalLossIdeal.τ).loc Cert.FinalLossIdeal.main_arg1)
      ∧ m' ((c.tc : Thread Cert.FinalLossReferenceIdeal.nD Cert.FinalLossReferenceIdeal.τ).loc Cert.FinalLossReferenceIdeal.main_arg2) = m ((c.tc : Thread Cert.FinalLossIdeal.nD Cert.FinalLossIdeal.τ).loc Cert.FinalLossIdeal.main_arg2)
      ∧ m' ((c.tc : Thread Cert.FinalLossReferenceIdeal.nD Cert.FinalLossReferenceIdeal.τ).loc Cert.FinalLossReferenceIdeal.main_arg3) = m ((c.tc : Thread Cert.FinalLossIdeal.nD Cert.FinalLossIdeal.τ).loc Cert.FinalLossIdeal.main_arg3)
      ∧ m' ((c.tc : Thread Cert.FinalLossReferenceIdeal.nD Cert.FinalLossReferenceIdeal.τ).loc Cert.FinalLossReferenceIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossReferenceIdeal.defs (F := Ideal)) (onTc (τ := Cert.FinalLossReferenceIdeal.τ) (Cert.FinalLossReferenceIdeal.main (F := Ideal))) ⟨m', fun _ => 0, g'⟩ (fun r => ∀ c : Dev Cert.FinalLossReferenceIdeal.nD,
          r.2.mem ((c.tc : Thread Cert.FinalLossReferenceIdeal.nD Cert.FinalLossReferenceIdeal.τ).loc Cert.FinalLossReferenceIdeal.main_v54) = v0 c
          ∧ r.2.mem ((c.tc : Thread Cert.FinalLossReferenceIdeal.nD Cert.FinalLossReferenceIdeal.τ).loc Cert.FinalLossReferenceIdeal.main_v53) = v1 c
          ∧ r.2.mem ((c.tc : Thread Cert.FinalLossReferenceIdeal.nD Cert.FinalLossReferenceIdeal.τ).loc Cert.FinalLossReferenceIdeal.main_v37) = v2 c
          ∧ r.2.mem ((c.tc : Thread Cert.FinalLossReferenceIdeal.nD Cert.FinalLossReferenceIdeal.τ).loc Cert.FinalLossReferenceIdeal.main_arg0) = m' ((c.tc : Thread Cert.FinalLossReferenceIdeal.nD Cert.FinalLossReferenceIdeal.τ).loc Cert.FinalLossReferenceIdeal.main_arg0)
          ∧ r.2.mem ((c.tc : Thread Cert.FinalLossReferenceIdeal.nD Cert.FinalLossReferenceIdeal.τ).loc Cert.FinalLossReferenceIdeal.main_arg1) = m' ((c.tc : Thread Cert.FinalLossReferenceIdeal.nD Cert.FinalLossReferenceIdeal.τ).loc Cert.FinalLossReferenceIdeal.main_arg1)
          ∧ r.2.mem ((c.tc : Thread Cert.FinalLossReferenceIdeal.nD Cert.FinalLossReferenceIdeal.τ).loc Cert.FinalLossReferenceIdeal.main_arg2) = m' ((c.tc : Thread Cert.FinalLossReferenceIdeal.nD Cert.FinalLossReferenceIdeal.τ).loc Cert.FinalLossReferenceIdeal.main_arg2)
          ∧ r.2.mem ((c.tc : Thread Cert.FinalLossReferenceIdeal.nD Cert.FinalLossReferenceIdeal.τ).loc Cert.FinalLossReferenceIdeal.main_arg3) = m' ((c.tc : Thread Cert.FinalLossReferenceIdeal.nD Cert.FinalLossReferenceIdeal.τ).loc Cert.FinalLossReferenceIdeal.main_arg3)
          ∧ r.2.mem ((c.tc : Thread Cert.FinalLossReferenceIdeal.nD Cert.FinalLossReferenceIdeal.τ).loc Cert.FinalLossReferenceIdeal.main_arg4) = m' ((c.tc : Thread Cert.FinalLossReferenceIdeal.nD Cert.FinalLossReferenceIdeal.τ).loc Cert.FinalLossReferenceIdeal.main_arg4))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)) →
    ∃ (v0 : (c : Dev Cert.FfnDhIdeal.nD) → Buf (Elt Ideal) ((c.tc : Thread Cert.FfnDhIdeal.nD Cert.FfnDhIdeal.τ).loc Cert.FfnDhIdeal.main_v0)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v6) = v0 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3))

def preserves_ResidNorm3_ResidNorm3Ideal : Prop :=
  True

def algebraic_ResidNorm3Ideal_ResidNorm3ReferenceIdeal [hResidNorm3Ideal : Cert.ResidNorm3Ideal.Facts] [hResidNorm3ReferenceIdeal : Cert.ResidNorm3ReferenceIdeal.Facts] : Prop :=
  ∀ (m : (ℓ : Loc Cert.ResidNorm3Ideal.nD Cert.ResidNorm3Ideal.τ Cert.ResidNorm3Ideal.sig) → Buf (Elt Ideal) ℓ) (g : Dev Cert.ResidNorm3Ideal.nD → PrngReg)
    (m' : (ℓ : Loc Cert.ResidNorm3ReferenceIdeal.nD Cert.ResidNorm3ReferenceIdeal.τ Cert.ResidNorm3ReferenceIdeal.sig) → Buf (Elt Ideal) ℓ) (g' : Dev Cert.ResidNorm3ReferenceIdeal.nD → PrngReg), Pre_ResidNorm3Ideal m →
    (∀ c : Dev Cert.ResidNorm3Ideal.nD,
      m' ((c.tc : Thread Cert.ResidNorm3ReferenceIdeal.nD Cert.ResidNorm3ReferenceIdeal.τ).loc Cert.ResidNorm3ReferenceIdeal.main_arg0) = m ((c.tc : Thread Cert.ResidNorm3Ideal.nD Cert.ResidNorm3Ideal.τ).loc Cert.ResidNorm3Ideal.main_arg0)
      ∧ m' ((c.tc : Thread Cert.ResidNorm3ReferenceIdeal.nD Cert.ResidNorm3ReferenceIdeal.τ).loc Cert.ResidNorm3ReferenceIdeal.main_arg1) = m ((c.tc : Thread Cert.ResidNorm3Ideal.nD Cert.ResidNorm3Ideal.τ).loc Cert.ResidNorm3Ideal.main_arg1)
      ∧ m' ((c.tc : Thread Cert.ResidNorm3ReferenceIdeal.nD Cert.ResidNorm3ReferenceIdeal.τ).loc Cert.ResidNorm3ReferenceIdeal.main_arg2) = m ((c.tc : Thread Cert.ResidNorm3Ideal.nD Cert.ResidNorm3Ideal.τ).loc Cert.ResidNorm3Ideal.main_arg2)
      ∧ m' ((c.tc : Thread Cert.ResidNorm3ReferenceIdeal.nD Cert.ResidNorm3ReferenceIdeal.τ).loc Cert.ResidNorm3ReferenceIdeal.main_arg3) = m ((c.tc : Thread Cert.ResidNorm3Ideal.nD Cert.ResidNorm3Ideal.τ).loc Cert.ResidNorm3Ideal.main_arg3)
      ∧ m' ((c.tc : Thread Cert.ResidNorm3ReferenceIdeal.nD Cert.ResidNorm3ReferenceIdeal.τ).loc Cert.ResidNorm3ReferenceIdeal.main_arg4) = m ((c.tc : Thread Cert.ResidNorm3Ideal.nD Cert.ResidNorm3Ideal.τ).loc Cert.ResidNorm3Ideal.main_arg4)
      ∧ m' ((c.tc : Thread Cert.ResidNorm3ReferenceIdeal.nD Cert.ResidNorm3ReferenceIdeal.τ).loc Cert.ResidNorm3ReferenceIdeal.main_arg5) = m ((c.tc : Thread Cert.ResidNorm3Ideal.nD Cert.ResidNorm3Ideal.τ).loc Cert.ResidNorm3Ideal.main_arg5)) →
    ∃ (v0 : (c : Dev Cert.ResidNorm3Ideal.nD) → Buf (Elt Ideal) ((c.tc : Thread Cert.ResidNorm3Ideal.nD Cert.ResidNorm3Ideal.τ).loc Cert.ResidNorm3Ideal.main_v0_0)) (v1 : (c : Dev Cert.ResidNorm3Ideal.nD) → Buf (Elt Ideal) ((c.tc : Thread Cert.ResidNorm3Ideal.nD Cert.ResidNorm3Ideal.τ).loc Cert.ResidNorm3Ideal.main_v0_1)),
      θ_run (Cert.ResidNorm3Ideal.defs (F := Ideal)) (onTc (τ := Cert.ResidNorm3Ideal.τ) (Cert.ResidNorm3Ideal.main (F := Ideal))) ⟨m, fun _ => 0, g⟩ (fun r => ∀ c : Dev Cert.ResidNorm3Ideal.nD,
          r.2.mem ((c.tc : Thread Cert.ResidNorm3Ideal.nD Cert.ResidNorm3Ideal.τ).loc Cert.ResidNorm3Ideal.main_v0_0) = v0 c
          ∧ r.2.mem ((c.tc : Thread Cert.ResidNorm3Ideal.nD Cert.ResidNorm3Ideal.τ).loc Cert.ResidNorm3Ideal.main_v0_1) = v1 c
          ∧ r.2.mem ((c.tc : Thread Cert.ResidNorm3Ideal.nD Cert.ResidNorm3Ideal.τ).loc Cert.ResidNorm3Ideal.main_arg0) = m ((c.tc : Thread Cert.ResidNorm3Ideal.nD Cert.ResidNorm3Ideal.τ).loc Cert.ResidNorm3Ideal.main_arg0)
          ∧ r.2.mem ((c.tc : Thread Cert.ResidNorm3Ideal.nD Cert.ResidNorm3Ideal.τ).loc Cert.ResidNorm3Ideal.main_arg1) = m ((c.tc : Thread Cert.ResidNorm3Ideal.nD Cert.ResidNorm3Ideal.τ).loc Cert.ResidNorm3Ideal.main_arg1)
          ∧ r.2.mem ((c.tc : Thread Cert.ResidNorm3Ideal.nD Cert.ResidNorm3Ideal.τ).loc Cert.ResidNorm3Ideal.main_arg2) = m ((c.tc : Thread Cert.ResidNorm3Ideal.nD Cert.ResidNorm3Ideal.τ).loc Cert.ResidNorm3Ideal.main_arg2)
          ∧ r.2.mem ((c.tc : Thread Cert.ResidNorm3Ideal.nD Cert.ResidNorm3Ideal.τ).loc Cert.ResidNorm3Ideal.main_arg3) = m ((c.tc : Thread Cert.ResidNorm3Ideal.nD Cert.ResidNorm3Ideal.τ).loc Cert.ResidNorm3Ideal.main_arg3)
          ∧ r.2.mem ((c.tc : Thread Cert.ResidNorm3Ideal.nD Cert.ResidNorm3Ideal.τ).loc Cert.ResidNorm3Ideal.main_arg4) = m ((c.tc : Thread Cert.ResidNorm3Ideal.nD Cert.ResidNorm3Ideal.τ).loc Cert.ResidNorm3Ideal.main_arg4)
          ∧ r.2.mem ((c.tc : Thread Cert.ResidNorm3Ideal.nD Cert.ResidNorm3Ideal.τ).loc Cert.ResidNorm3Ideal.main_arg5) = m ((c.tc : Thread Cert.ResidNorm3Ideal.nD Cert.ResidNorm3Ideal.τ).loc Cert.ResidNorm3Ideal.main_arg5))
      ∧ θ_run (Cert.ResidNorm3ReferenceIdeal.defs (F := Ideal)) (onTc (τ := Cert.ResidNorm3ReferenceIdeal.τ) (Cert.ResidNorm3ReferenceIdeal.main (F := Ideal))) ⟨m', fun _ => 0, g'⟩ (fun r => ∀ c : Dev Cert.ResidNorm3ReferenceIdeal.nD,
          r.2.mem ((c.tc : Thread Cert.ResidNorm3ReferenceIdeal.nD Cert.ResidNorm3ReferenceIdeal.τ).loc Cert.ResidNorm3ReferenceIdeal.main_v2) = v0 c
          ∧ r.2.mem ((c.tc : Thread Cert.ResidNorm3ReferenceIdeal.nD Cert.ResidNorm3ReferenceIdeal.τ).loc Cert.ResidNorm3ReferenceIdeal.main_v21) = v1 c
          ∧ r.2.mem ((c.tc : Thread Cert.ResidNorm3ReferenceIdeal.nD Cert.ResidNorm3ReferenceIdeal.τ).loc Cert.ResidNorm3ReferenceIdeal.main_arg0) = m' ((c.tc : Thread Cert.ResidNorm3ReferenceIdeal.nD Cert.ResidNorm3ReferenceIdeal.τ).loc Cert.ResidNorm3ReferenceIdeal.main_arg0)
          ∧ r.2.mem ((c.tc : Thread Cert.ResidNorm3ReferenceIdeal.nD Cert.ResidNorm3ReferenceIdeal.τ).loc Cert.ResidNorm3ReferenceIdeal.main_arg1) = m' ((c.tc : Thread Cert.ResidNorm3ReferenceIdeal.nD Cert.ResidNorm3ReferenceIdeal.τ).loc Cert.ResidNorm3ReferenceIdeal.main_arg1)
          ∧ r.2.mem ((c.tc : Thread Cert.ResidNorm3ReferenceIdeal.nD Cert.ResidNorm3ReferenceIdeal.τ).loc Cert.ResidNorm3ReferenceIdeal.main_arg2) = m' ((c.tc : Thread Cert.ResidNorm3ReferenceIdeal.nD Cert.ResidNorm3ReferenceIdeal.τ).loc Cert.ResidNorm3ReferenceIdeal.main_arg2)
          ∧ r.2.mem ((c.tc : Thread Cert.ResidNorm3ReferenceIdeal.nD Cert.ResidNorm3ReferenceIdeal.τ).loc Cert.ResidNorm3ReferenceIdeal.main_arg3) = m' ((c.tc : Thread Cert.ResidNorm3ReferenceIdeal.nD Cert.ResidNorm3ReferenceIdeal.τ).loc Cert.ResidNorm3ReferenceIdeal.main_arg3)
          ∧ r.2.mem ((c.tc : Thread Cert.ResidNorm3ReferenceIdeal.nD Cert.ResidNorm3ReferenceIdeal.τ).loc Cert.ResidNorm3ReferenceIdeal.main_arg4) = m' ((c.tc : Thread Cert.ResidNorm3ReferenceIdeal.nD Cert.ResidNorm3ReferenceIdeal.τ).loc Cert.ResidNorm3ReferenceIdeal.main_arg4)
          ∧ r.2.mem ((c.tc : Thread Cert.ResidNorm3ReferenceIdeal.nD Cert.ResidNorm3ReferenceIdeal.τ).loc Cert.ResidNorm3ReferenceIdeal.main_arg5) = m' ((c.tc : Thread Cert.ResidNorm3ReferenceIdeal.nD Cert.ResidNorm3ReferenceIdeal.τ).loc Cert.ResidNorm3ReferenceIdeal.main_arg5))

def preserves_MixGateBwd_MixGateBwdIdeal : Prop :=
  True

def algebraic_MixGateBwdIdeal_MixGateBwdReferenceIdeal [hMixGateBwdIdeal : Cert.MixGateBwdIdeal.Facts] [hMixGateBwdReferenceIdeal : Cert.MixGateBwdReferenceIdeal.Facts] : Prop :=
  ∀ (m : (ℓ : Loc Cert.MixGateBwdIdeal.nD Cert.MixGateBwdIdeal.τ Cert.MixGateBwdIdeal.sig) → Buf (Elt Ideal) ℓ) (g : Dev Cert.MixGateBwdIdeal.nD → PrngReg)
    (m' : (ℓ : Loc Cert.MixGateBwdReferenceIdeal.nD Cert.MixGateBwdReferenceIdeal.τ Cert.MixGateBwdReferenceIdeal.sig) → Buf (Elt Ideal) ℓ) (g' : Dev Cert.MixGateBwdReferenceIdeal.nD → PrngReg), Pre_MixGateBwdIdeal m →
    (∀ c : Dev Cert.MixGateBwdIdeal.nD,
      m' ((c.tc : Thread Cert.MixGateBwdReferenceIdeal.nD Cert.MixGateBwdReferenceIdeal.τ).loc Cert.MixGateBwdReferenceIdeal.main_arg0) = m ((c.tc : Thread Cert.MixGateBwdIdeal.nD Cert.MixGateBwdIdeal.τ).loc Cert.MixGateBwdIdeal.main_arg0)
      ∧ m' ((c.tc : Thread Cert.MixGateBwdReferenceIdeal.nD Cert.MixGateBwdReferenceIdeal.τ).loc Cert.MixGateBwdReferenceIdeal.main_arg1) = m ((c.tc : Thread Cert.MixGateBwdIdeal.nD Cert.MixGateBwdIdeal.τ).loc Cert.MixGateBwdIdeal.main_arg1)
      ∧ m' ((c.tc : Thread Cert.MixGateBwdReferenceIdeal.nD Cert.MixGateBwdReferenceIdeal.τ).loc Cert.MixGateBwdReferenceIdeal.main_arg2) = m ((c.tc : Thread Cert.MixGateBwdIdeal.nD Cert.MixGateBwdIdeal.τ).loc Cert.MixGateBwdIdeal.main_arg2)) →
    ∃ (v0 : (c : Dev Cert.MixGateBwdIdeal.nD) → Buf (Elt Ideal) ((c.tc : Thread Cert.MixGateBwdIdeal.nD Cert.MixGateBwdIdeal.τ).loc Cert.MixGateBwdIdeal.main_v0_0)) (v1 : (c : Dev Cert.MixGateBwdIdeal.nD) → Buf (Elt Ideal) ((c.tc : Thread Cert.MixGateBwdIdeal.nD Cert.MixGateBwdIdeal.τ).loc Cert.MixGateBwdIdeal.main_v0_1)),
      θ_run (Cert.MixGateBwdIdeal.defs (F := Ideal)) (onTc (τ := Cert.MixGateBwdIdeal.τ) (Cert.MixGateBwdIdeal.main (F := Ideal))) ⟨m, fun _ => 0, g⟩ (fun r => ∀ c : Dev Cert.MixGateBwdIdeal.nD,
          r.2.mem ((c.tc : Thread Cert.MixGateBwdIdeal.nD Cert.MixGateBwdIdeal.τ).loc Cert.MixGateBwdIdeal.main_v0_0) = v0 c
          ∧ r.2.mem ((c.tc : Thread Cert.MixGateBwdIdeal.nD Cert.MixGateBwdIdeal.τ).loc Cert.MixGateBwdIdeal.main_v0_1) = v1 c
          ∧ r.2.mem ((c.tc : Thread Cert.MixGateBwdIdeal.nD Cert.MixGateBwdIdeal.τ).loc Cert.MixGateBwdIdeal.main_arg0) = m ((c.tc : Thread Cert.MixGateBwdIdeal.nD Cert.MixGateBwdIdeal.τ).loc Cert.MixGateBwdIdeal.main_arg0)
          ∧ r.2.mem ((c.tc : Thread Cert.MixGateBwdIdeal.nD Cert.MixGateBwdIdeal.τ).loc Cert.MixGateBwdIdeal.main_arg1) = m ((c.tc : Thread Cert.MixGateBwdIdeal.nD Cert.MixGateBwdIdeal.τ).loc Cert.MixGateBwdIdeal.main_arg1)
          ∧ r.2.mem ((c.tc : Thread Cert.MixGateBwdIdeal.nD Cert.MixGateBwdIdeal.τ).loc Cert.MixGateBwdIdeal.main_arg2) = m ((c.tc : Thread Cert.MixGateBwdIdeal.nD Cert.MixGateBwdIdeal.τ).loc Cert.MixGateBwdIdeal.main_arg2))
      ∧ θ_run (Cert.MixGateBwdReferenceIdeal.defs (F := Ideal)) (onTc (τ := Cert.MixGateBwdReferenceIdeal.τ) (Cert.MixGateBwdReferenceIdeal.main (F := Ideal))) ⟨m', fun _ => 0, g'⟩ (fun r => ∀ c : Dev Cert.MixGateBwdReferenceIdeal.nD,
          r.2.mem ((c.tc : Thread Cert.MixGateBwdReferenceIdeal.nD Cert.MixGateBwdReferenceIdeal.τ).loc Cert.MixGateBwdReferenceIdeal.main_v7) = v0 c
          ∧ r.2.mem ((c.tc : Thread Cert.MixGateBwdReferenceIdeal.nD Cert.MixGateBwdReferenceIdeal.τ).loc Cert.MixGateBwdReferenceIdeal.main_v6) = v1 c
          ∧ r.2.mem ((c.tc : Thread Cert.MixGateBwdReferenceIdeal.nD Cert.MixGateBwdReferenceIdeal.τ).loc Cert.MixGateBwdReferenceIdeal.main_arg0) = m' ((c.tc : Thread Cert.MixGateBwdReferenceIdeal.nD Cert.MixGateBwdReferenceIdeal.τ).loc Cert.MixGateBwdReferenceIdeal.main_arg0)
          ∧ r.2.mem ((c.tc : Thread Cert.MixGateBwdReferenceIdeal.nD Cert.MixGateBwdReferenceIdeal.τ).loc Cert.MixGateBwdReferenceIdeal.main_arg1) = m' ((c.tc : Thread Cert.MixGateBwdReferenceIdeal.nD Cert.MixGateBwdReferenceIdeal.τ).loc Cert.MixGateBwdReferenceIdeal.main_arg1)
          ∧ r.2.mem ((c.tc : Thread Cert.MixGateBwdReferenceIdeal.nD Cert.MixGateBwdReferenceIdeal.τ).loc Cert.MixGateBwdReferenceIdeal.main_arg2) = m' ((c.tc : Thread Cert.MixGateBwdReferenceIdeal.nD Cert.MixGateBwdReferenceIdeal.τ).loc Cert.MixGateBwdReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v2) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1))

def preserves_MixOutBwd_MixOutBwdIdeal : Prop :=
  True

def algebraic_MixOutBwdIdeal_MixOutBwdReferenceIdeal [hMixOutBwdIdeal : Cert.MixOutBwdIdeal.Facts] [hMixOutBwdReferenceIdeal : Cert.MixOutBwdReferenceIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdReferenceIdeal.nD Cert.MixOutBwdReferenceIdeal.τ Cert.MixOutBwdReferenceIdeal.sig) → Buf (Elt Ideal) ℓ) (g' : Dev Cert.MixOutBwdReferenceIdeal.nD → PrngReg), Pre_MixOutBwdIdeal m →
    (∀ c : Dev Cert.MixOutBwdIdeal.nD,
      m' ((c.tc : Thread Cert.MixOutBwdReferenceIdeal.nD Cert.MixOutBwdReferenceIdeal.τ).loc Cert.MixOutBwdReferenceIdeal.main_arg0) = m ((c.tc : Thread Cert.MixOutBwdIdeal.nD Cert.MixOutBwdIdeal.τ).loc Cert.MixOutBwdIdeal.main_arg0)
      ∧ m' ((c.tc : Thread Cert.MixOutBwdReferenceIdeal.nD Cert.MixOutBwdReferenceIdeal.τ).loc Cert.MixOutBwdReferenceIdeal.main_arg1) = m ((c.tc : Thread Cert.MixOutBwdIdeal.nD Cert.MixOutBwdIdeal.τ).loc Cert.MixOutBwdIdeal.main_arg1)) →
    ∃ (v0 : (c : Dev Cert.MixOutBwdIdeal.nD) → Buf (Elt Ideal) ((c.tc : Thread Cert.MixOutBwdIdeal.nD Cert.MixOutBwdIdeal.τ).loc Cert.MixOutBwdIdeal.main_v0)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v0) = v0 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1))
      ∧ θ_run (Cert.MixOutBwdReferenceIdeal.defs (F := Ideal)) (onTc (τ := Cert.MixOutBwdReferenceIdeal.τ) (Cert.MixOutBwdReferenceIdeal.main (F := Ideal))) ⟨m', fun _ => 0, g'⟩ (fun r => ∀ c : Dev Cert.MixOutBwdReferenceIdeal.nD,
          r.2.mem ((c.tc : Thread Cert.MixOutBwdReferenceIdeal.nD Cert.MixOutBwdReferenceIdeal.τ).loc Cert.MixOutBwdReferenceIdeal.main_v3) = v0 c
          ∧ r.2.mem ((c.tc : Thread Cert.MixOutBwdReferenceIdeal.nD Cert.MixOutBwdReferenceIdeal.τ).loc Cert.MixOutBwdReferenceIdeal.main_arg0) = m' ((c.tc : Thread Cert.MixOutBwdReferenceIdeal.nD Cert.MixOutBwdReferenceIdeal.τ).loc Cert.MixOutBwdReferenceIdeal.main_arg0)
          ∧ r.2.mem ((c.tc : Thread Cert.MixOutBwdReferenceIdeal.nD Cert.MixOutBwdReferenceIdeal.τ).loc Cert.MixOutBwdReferenceIdeal.main_arg1) = m' ((c.tc : Thread Cert.MixOutBwdReferenceIdeal.nD Cert.MixOutBwdReferenceIdeal.τ).loc Cert.MixOutBwdReferenceIdeal.main_arg1))

def preserves_MixDwo_MixDwoIdeal : Prop :=
  True

def algebraic_MixDwoIdeal_MixDwoReferenceIdeal [hMixDwoIdeal : Cert.MixDwoIdeal.Facts] [hMixDwoReferenceIdeal : Cert.MixDwoReferenceIdeal.Facts] : Prop :=
  ∀ (m : (ℓ : Loc Cert.MixDwoIdeal.nD Cert.MixDwoIdeal.τ Cert.MixDwoIdeal.sig) → Buf (Elt Ideal) ℓ) (g : Dev Cert.MixDwoIdeal.nD → PrngReg)
    (m' : (ℓ : Loc Cert.MixDwoReferenceIdeal.nD Cert.MixDwoReferenceIdeal.τ Cert.MixDwoReferenceIdeal.sig) → Buf (Elt Ideal) ℓ) (g' : Dev Cert.MixDwoReferenceIdeal.nD → PrngReg), Pre_MixDwoIdeal m →
    (∀ c : Dev Cert.MixDwoIdeal.nD,
      m' ((c.tc : Thread Cert.MixDwoReferenceIdeal.nD Cert.MixDwoReferenceIdeal.τ).loc Cert.MixDwoReferenceIdeal.main_arg0) = m ((c.tc : Thread Cert.MixDwoIdeal.nD Cert.MixDwoIdeal.τ).loc Cert.MixDwoIdeal.main_arg0)
      ∧ m' ((c.tc : Thread Cert.MixDwoReferenceIdeal.nD Cert.MixDwoReferenceIdeal.τ).loc Cert.MixDwoReferenceIdeal.main_arg1) = m ((c.tc : Thread Cert.MixDwoIdeal.nD Cert.MixDwoIdeal.τ).loc Cert.MixDwoIdeal.main_arg1)) →
    ∃ (v0 : (c : Dev Cert.MixDwoIdeal.nD) → Buf (Elt Ideal) ((c.tc : Thread Cert.MixDwoIdeal.nD Cert.MixDwoIdeal.τ).loc Cert.MixDwoIdeal.main_v0)),
      θ_run (Cert.MixDwoIdeal.defs (F := Ideal)) (onTc (τ := Cert.MixDwoIdeal.τ) (Cert.MixDwoIdeal.main (F := Ideal))) ⟨m, fun _ => 0, g⟩ (fun r => ∀ c : Dev Cert.MixDwoIdeal.nD,
          r.2.mem ((c.tc : Thread Cert.MixDwoIdeal.nD Cert.MixDwoIdeal.τ).loc Cert.MixDwoIdeal.main_v0) = v0 c
          ∧ r.2.mem ((c.tc : Thread Cert.MixDwoIdeal.nD Cert.MixDwoIdeal.τ).loc Cert.MixDwoIdeal.main_arg0) = m ((c.tc : Thread Cert.MixDwoIdeal.nD Cert.MixDwoIdeal.τ).loc Cert.MixDwoIdeal.main_arg0)
          ∧ r.2.mem ((c.tc : Thread Cert.MixDwoIdeal.nD Cert.MixDwoIdeal.τ).loc Cert.MixDwoIdeal.main_arg1) = m ((c.tc : Thread Cert.MixDwoIdeal.nD Cert.MixDwoIdeal.τ).loc Cert.MixDwoIdeal.main_arg1))
      ∧ θ_run (Cert.MixDwoReferenceIdeal.defs (F := Ideal)) (onTc (τ := Cert.MixDwoReferenceIdeal.τ) (Cert.MixDwoReferenceIdeal.main (F := Ideal))) ⟨m', fun _ => 0, g'⟩ (fun r => ∀ c : Dev Cert.MixDwoReferenceIdeal.nD,
          r.2.mem ((c.tc : Thread Cert.MixDwoReferenceIdeal.nD Cert.MixDwoReferenceIdeal.τ).loc Cert.MixDwoReferenceIdeal.main_v3) = v0 c
          ∧ r.2.mem ((c.tc : Thread Cert.MixDwoReferenceIdeal.nD Cert.MixDwoReferenceIdeal.τ).loc Cert.MixDwoReferenceIdeal.main_arg0) = m' ((c.tc : Thread Cert.MixDwoReferenceIdeal.nD Cert.MixDwoReferenceIdeal.τ).loc Cert.MixDwoReferenceIdeal.main_arg0)
          ∧ r.2.mem ((c.tc : Thread Cert.MixDwoReferenceIdeal.nD Cert.MixDwoReferenceIdeal.τ).loc Cert.MixDwoReferenceIdeal.main_arg1) = m' ((c.tc : Thread Cert.MixDwoReferenceIdeal.nD Cert.MixDwoReferenceIdeal.τ).loc Cert.MixDwoReferenceIdeal.main_arg1))

def preserves_ProjInBwd_ProjInBwdIdeal : Prop :=
  True

def algebraic_ProjInBwdIdeal_ProjInBwdReferenceIdeal [hProjInBwdIdeal : Cert.ProjInBwdIdeal.Facts] [hProjInBwdReferenceIdeal : Cert.ProjInBwdReferenceIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg)
    (m' : (ℓ : Loc Cert.ProjInBwdReferenceIdeal.nD Cert.ProjInBwdReferenceIdeal.τ Cert.ProjInBwdReferenceIdeal.sig) → Buf (Elt Ideal) ℓ) (g' : Dev Cert.ProjInBwdReferenceIdeal.nD → PrngReg), Pre_ProjInBwdIdeal m →
    (∀ c : Dev Cert.ProjInBwdIdeal.nD,
      m' ((c.tc : Thread Cert.ProjInBwdReferenceIdeal.nD Cert.ProjInBwdReferenceIdeal.τ).loc Cert.ProjInBwdReferenceIdeal.main_arg0) = m ((c.tc : Thread Cert.ProjInBwdIdeal.nD Cert.ProjInBwdIdeal.τ).loc Cert.ProjInBwdIdeal.main_arg0)
      ∧ m' ((c.tc : Thread Cert.ProjInBwdReferenceIdeal.nD Cert.ProjInBwdReferenceIdeal.τ).loc Cert.ProjInBwdReferenceIdeal.main_arg1) = m ((c.tc : Thread Cert.ProjInBwdIdeal.nD Cert.ProjInBwdIdeal.τ).loc Cert.ProjInBwdIdeal.main_arg1)) →
    ∃ (v0 : (c : Dev Cert.ProjInBwdIdeal.nD) → Buf (Elt Ideal) ((c.tc : Thread Cert.ProjInBwdIdeal.nD Cert.ProjInBwdIdeal.τ).loc Cert.ProjInBwdIdeal.main_v0)),
      θ_run (Cert.ProjInBwdIdeal.defs (F := Ideal)) (onTc (τ := Cert.ProjInBwdIdeal.τ) (Cert.ProjInBwdIdeal.main (F := Ideal))) ⟨m, fun _ => 0, g⟩ (fun r => ∀ c : Dev Cert.ProjInBwdIdeal.nD,
          r.2.mem ((c.tc : Thread Cert.ProjInBwdIdeal.nD Cert.ProjInBwdIdeal.τ).loc Cert.ProjInBwdIdeal.main_v0) = v0 c
          ∧ r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
          ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1))
      ∧ θ_run (Cert.ProjInBwdReferenceIdeal.defs (F := Ideal)) (onTc (τ := Cert.ProjInBwdReferenceIdeal.τ) (Cert.ProjInBwdReferenceIdeal.main (F := Ideal))) ⟨m', fun _ => 0, g'⟩ (fun r => ∀ c : Dev Cert.ProjInBwdReferenceIdeal.nD,
          r.2.mem ((c.tc : Thread Cert.ProjInBwdReferenceIdeal.nD Cert.ProjInBwdReferenceIdeal.τ).loc Cert.ProjInBwdReferenceIdeal.main_v2) = v0 c
          ∧ r.2.mem ((c.tc : Thread Cert.ProjInBwdReferenceIdeal.nD Cert.ProjInBwdReferenceIdeal.τ).loc Cert.ProjInBwdReferenceIdeal.main_arg0) = m' ((c.tc : Thread Cert.ProjInBwdReferenceIdeal.nD Cert.ProjInBwdReferenceIdeal.τ).loc Cert.ProjInBwdReferenceIdeal.main_arg0)
          ∧ r.2.mem ((c.tc : Thread Cert.ProjInBwdReferenceIdeal.nD Cert.ProjInBwdReferenceIdeal.τ).loc Cert.ProjInBwdReferenceIdeal.main_arg1) = m' ((c.tc : Thread Cert.ProjInBwdReferenceIdeal.nD Cert.ProjInBwdReferenceIdeal.τ).loc Cert.ProjInBwdReferenceIdeal.main_arg1))

def preserves_ProjInDw_ProjInDwIdeal : Prop :=
  True

def algebraic_ProjInDwIdeal_ProjInDwReferenceIdeal [hProjInDwIdeal : Cert.ProjInDwIdeal.Facts] [hProjInDwReferenceIdeal : Cert.ProjInDwReferenceIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwReferenceIdeal.nD Cert.ProjInDwReferenceIdeal.τ Cert.ProjInDwReferenceIdeal.sig) → Buf (Elt Ideal) ℓ) (g' : Dev Cert.ProjInDwReferenceIdeal.nD → PrngReg), Pre_ProjInDwIdeal m →
    (∀ c : Dev Cert.ProjInDwIdeal.nD,
      m' ((c.tc : Thread Cert.ProjInDwReferenceIdeal.nD Cert.ProjInDwReferenceIdeal.τ).loc Cert.ProjInDwReferenceIdeal.main_arg0) = m ((c.tc : Thread Cert.ProjInDwIdeal.nD Cert.ProjInDwIdeal.τ).loc Cert.ProjInDwIdeal.main_arg0)
      ∧ m' ((c.tc : Thread Cert.ProjInDwReferenceIdeal.nD Cert.ProjInDwReferenceIdeal.τ).loc Cert.ProjInDwReferenceIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v0)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v0) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwReferenceIdeal.defs (F := Ideal)) (onTc (τ := Cert.ProjInDwReferenceIdeal.τ) (Cert.ProjInDwReferenceIdeal.main (F := Ideal))) ⟨m', fun _ => 0, g'⟩ (fun r => ∀ c : Dev Cert.ProjInDwReferenceIdeal.nD,
          r.2.mem ((c.tc : Thread Cert.ProjInDwReferenceIdeal.nD Cert.ProjInDwReferenceIdeal.τ).loc Cert.ProjInDwReferenceIdeal.main_v3) = v0 c
          ∧ r.2.mem ((c.tc : Thread Cert.ProjInDwReferenceIdeal.nD Cert.ProjInDwReferenceIdeal.τ).loc Cert.ProjInDwReferenceIdeal.main_arg0) = m' ((c.tc : Thread Cert.ProjInDwReferenceIdeal.nD Cert.ProjInDwReferenceIdeal.τ).loc Cert.ProjInDwReferenceIdeal.main_arg0)
          ∧ r.2.mem ((c.tc : Thread Cert.ProjInDwReferenceIdeal.nD Cert.ProjInDwReferenceIdeal.τ).loc Cert.ProjInDwReferenceIdeal.main_arg1) = m' ((c.tc : Thread Cert.ProjInDwReferenceIdeal.nD Cert.ProjInDwReferenceIdeal.τ).loc Cert.ProjInDwReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hGatherWeights : Cert.GatherWeights.Facts) (hGatherWeightsIdeal : Cert.GatherWeightsIdeal.Facts) (hGatherWeightsReferenceIdeal : Cert.GatherWeightsReferenceIdeal.Facts) (hGatherWeightsReference : Cert.GatherWeightsReference.Facts) (hGatherSmall : Cert.GatherSmall.Facts) (hGatherSmallIdeal : Cert.GatherSmallIdeal.Facts) (hGatherSmallReferenceIdeal : Cert.GatherSmallReferenceIdeal.Facts) (hGatherSmallReference : Cert.GatherSmallReference.Facts) (hGatherMod : Cert.GatherMod.Facts) (hGatherModIdeal : Cert.GatherModIdeal.Facts) (hGatherModReferenceIdeal : Cert.GatherModReferenceIdeal.Facts) (hGatherModReference : Cert.GatherModReference.Facts) (hGatherSmallGrads : Cert.GatherSmallGrads.Facts) (hGatherSmallGradsIdeal : Cert.GatherSmallGradsIdeal.Facts) (hGatherSmallGradsReferenceIdeal : Cert.GatherSmallGradsReferenceIdeal.Facts) (hGatherSmallGradsReference : Cert.GatherSmallGradsReference.Facts) (hAdamwWAda : Cert.AdamwWAda.Facts) (hAdamwWAdaIdeal : Cert.AdamwWAdaIdeal.Facts) (hAdamwWAdaReferenceIdeal : Cert.AdamwWAdaReferenceIdeal.Facts) (hAdamwFfn1Gate : Cert.AdamwFfn1Gate.Facts) (hAdamwFfn1GateIdeal : Cert.AdamwFfn1GateIdeal.Facts) (hAdamwFfn1GateReferenceIdeal : Cert.AdamwFfn1GateReferenceIdeal.Facts) (hAdamwFfn1Down : Cert.AdamwFfn1Down.Facts) (hAdamwFfn1DownIdeal : Cert.AdamwFfn1DownIdeal.Facts) (hAdamwFfn1DownReferenceIdeal : Cert.AdamwFfn1DownReferenceIdeal.Facts) (hAdamwWIn : Cert.AdamwWIn.Facts) (hAdamwWInIdeal : Cert.AdamwWInIdeal.Facts) (hAdamwWInReferenceIdeal : Cert.AdamwWInReferenceIdeal.Facts) (hAdamwWOut : Cert.AdamwWOut.Facts) (hAdamwWOutIdeal : Cert.AdamwWOutIdeal.Facts) (hAdamwWOutReferenceIdeal : Cert.AdamwWOutReferenceIdeal.Facts) (hAdamwSmall : Cert.AdamwSmall.Facts) (hAdamwSmallIdeal : Cert.AdamwSmallIdeal.Facts) (hAdamwSmallReferenceIdeal : Cert.AdamwSmallReferenceIdeal.Facts) (hWAdaGrad : Cert.WAdaGrad.Facts) (hWAdaGradIdeal : Cert.WAdaGradIdeal.Facts) (hWAdaGradReferenceIdeal : Cert.WAdaGradReferenceIdeal.Facts) (hSumGrads : Cert.SumGrads.Facts) (hSumGradsIdeal : Cert.SumGradsIdeal.Facts) (hSumGradsReferenceIdeal : Cert.SumGradsReferenceIdeal.Facts) (hSumSmallGrads : Cert.SumSmallGrads.Facts) (hSumSmallGradsIdeal : Cert.SumSmallGradsIdeal.Facts) (hSumSmallGradsReferenceIdeal : Cert.SumSmallGradsReferenceIdeal.Facts) (hModPart : Cert.ModPart.Facts) (hModPartIdeal : Cert.ModPartIdeal.Facts) (hModPartReferenceIdeal : Cert.ModPartReferenceIdeal.Facts) (hNorm : Cert.Norm.Facts) (hNormIdeal : Cert.NormIdeal.Facts) (hNormReferenceIdeal : Cert.NormReferenceIdeal.Facts) (hResidNorm : Cert.ResidNorm.Facts) (hResidNormIdeal : Cert.ResidNormIdeal.Facts) (hResidNormReferenceIdeal : Cert.ResidNormReferenceIdeal.Facts) (hGradX : Cert.GradX.Facts) (hGradXIdeal : Cert.GradXIdeal.Facts) (hGradXReferenceIdeal : Cert.GradXReferenceIdeal.Facts) (hGateBwd : Cert.GateBwd.Facts) (hGateBwdIdeal : Cert.GateBwdIdeal.Facts) (hGateBwdReferenceIdeal : Cert.GateBwdReferenceIdeal.Facts) (hFfnFwd : Cert.FfnFwd.Facts) (hFfnFwdIdeal : Cert.FfnFwdIdeal.Facts) (hFfnFwdReferenceIdeal : Cert.FfnFwdReferenceIdeal.Facts) (hProjIn : Cert.ProjIn.Facts) (hProjInIdeal : Cert.ProjInIdeal.Facts) (hProjInReferenceIdeal : Cert.ProjInReferenceIdeal.Facts) (hWeightGrad : Cert.WeightGrad.Facts) (hWeightGradIdeal : Cert.WeightGradIdeal.Facts) (hWeightGradReferenceIdeal : Cert.WeightGradReferenceIdeal.Facts) (hFinalLoss : Cert.FinalLoss.Facts) (hFinalLossIdeal : Cert.FinalLossIdeal.Facts) (hFinalLossReferenceIdeal : Cert.FinalLossReferenceIdeal.Facts) (hFfnDh : Cert.FfnDh.Facts) (hFfnDhIdeal : Cert.FfnDhIdeal.Facts) (hFfnDhReferenceIdeal : Cert.FfnDhReferenceIdeal.Facts) (hResidNorm3 : Cert.ResidNorm3.Facts) (hResidNorm3Ideal : Cert.ResidNorm3Ideal.Facts) (hResidNorm3ReferenceIdeal : Cert.ResidNorm3ReferenceIdeal.Facts) (hMixGateBwd : Cert.MixGateBwd.Facts) (hMixGateBwdIdeal : Cert.MixGateBwdIdeal.Facts) (hMixGateBwdReferenceIdeal : Cert.MixGateBwdReferenceIdeal.Facts) (hMixOut : Cert.MixOut.Facts) (hMixOutIdeal : Cert.MixOutIdeal.Facts) (hMixOutReferenceIdeal : Cert.MixOutReferenceIdeal.Facts) (hMixOutBwd : Cert.MixOutBwd.Facts) (hMixOutBwdIdeal : Cert.MixOutBwdIdeal.Facts) (hMixOutBwdReferenceIdeal : Cert.MixOutBwdReferenceIdeal.Facts) (hMixDwo : Cert.MixDwo.Facts) (hMixDwoIdeal : Cert.MixDwoIdeal.Facts) (hMixDwoReferenceIdeal : Cert.MixDwoReferenceIdeal.Facts) (hProjInBwd : Cert.ProjInBwd.Facts) (hProjInBwdIdeal : Cert.ProjInBwdIdeal.Facts) (hProjInBwdReferenceIdeal : Cert.ProjInBwdReferenceIdeal.Facts) (hProjInDw : Cert.ProjInDw.Facts) (hProjInDwIdeal : Cert.ProjInDwIdeal.Facts) (hProjInDwReferenceIdeal : Cert.ProjInDwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_GatherWeights (hGatherWeights := hGatherWeights)
    ∧ quiescent_GatherWeightsIdeal (hGatherWeightsIdeal := hGatherWeightsIdeal)
    ∧ quiescent_GatherWeightsReferenceIdeal (hGatherWeightsReferenceIdeal := hGatherWeightsReferenceIdeal)
    ∧ quiescent_GatherWeightsReference (hGatherWeightsReference := hGatherWeightsReference)
    ∧ quiescent_GatherSmall (hGatherSmall := hGatherSmall)
    ∧ quiescent_GatherSmallIdeal (hGatherSmallIdeal := hGatherSmallIdeal)
    ∧ quiescent_GatherSmallReferenceIdeal (hGatherSmallReferenceIdeal := hGatherSmallReferenceIdeal)
    ∧ quiescent_GatherSmallReference (hGatherSmallReference := hGatherSmallReference)
    ∧ quiescent_GatherMod (hGatherMod := hGatherMod)
    ∧ quiescent_GatherModIdeal (hGatherModIdeal := hGatherModIdeal)
    ∧ quiescent_GatherModReferenceIdeal (hGatherModReferenceIdeal := hGatherModReferenceIdeal)
    ∧ quiescent_GatherModReference (hGatherModReference := hGatherModReference)
    ∧ quiescent_GatherSmallGrads (hGatherSmallGrads := hGatherSmallGrads)
    ∧ quiescent_GatherSmallGradsIdeal (hGatherSmallGradsIdeal := hGatherSmallGradsIdeal)
    ∧ quiescent_GatherSmallGradsReferenceIdeal (hGatherSmallGradsReferenceIdeal := hGatherSmallGradsReferenceIdeal)
    ∧ quiescent_GatherSmallGradsReference (hGatherSmallGradsReference := hGatherSmallGradsReference)
    ∧ quiescent_AdamwWAda (hAdamwWAda := hAdamwWAda)
    ∧ quiescent_AdamwWAdaIdeal (hAdamwWAdaIdeal := hAdamwWAdaIdeal)
    ∧ quiescent_AdamwWAdaReferenceIdeal (hAdamwWAdaReferenceIdeal := hAdamwWAdaReferenceIdeal)
    ∧ quiescent_AdamwFfn1Gate (hAdamwFfn1Gate := hAdamwFfn1Gate)
    ∧ quiescent_AdamwFfn1GateIdeal (hAdamwFfn1GateIdeal := hAdamwFfn1GateIdeal)
    ∧ quiescent_AdamwFfn1GateReferenceIdeal (hAdamwFfn1GateReferenceIdeal := hAdamwFfn1GateReferenceIdeal)
    ∧ quiescent_AdamwFfn1Down (hAdamwFfn1Down := hAdamwFfn1Down)
    ∧ quiescent_AdamwFfn1DownIdeal (hAdamwFfn1DownIdeal := hAdamwFfn1DownIdeal)
    ∧ quiescent_AdamwFfn1DownReferenceIdeal (hAdamwFfn1DownReferenceIdeal := hAdamwFfn1DownReferenceIdeal)
    ∧ quiescent_AdamwWIn (hAdamwWIn := hAdamwWIn)
    ∧ quiescent_AdamwWInIdeal (hAdamwWInIdeal := hAdamwWInIdeal)
    ∧ quiescent_AdamwWInReferenceIdeal (hAdamwWInReferenceIdeal := hAdamwWInReferenceIdeal)
    ∧ quiescent_AdamwWOut (hAdamwWOut := hAdamwWOut)
    ∧ quiescent_AdamwWOutIdeal (hAdamwWOutIdeal := hAdamwWOutIdeal)
    ∧ quiescent_AdamwWOutReferenceIdeal (hAdamwWOutReferenceIdeal := hAdamwWOutReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_WAdaGrad (hWAdaGrad := hWAdaGrad)
    ∧ quiescent_WAdaGradIdeal (hWAdaGradIdeal := hWAdaGradIdeal)
    ∧ quiescent_WAdaGradReferenceIdeal (hWAdaGradReferenceIdeal := hWAdaGradReferenceIdeal)
    ∧ quiescent_SumGrads (hSumGrads := hSumGrads)
    ∧ quiescent_SumGradsIdeal (hSumGradsIdeal := hSumGradsIdeal)
    ∧ quiescent_SumGradsReferenceIdeal (hSumGradsReferenceIdeal := hSumGradsReferenceIdeal)
    ∧ quiescent_SumSmallGrads (hSumSmallGrads := hSumSmallGrads)
    ∧ quiescent_SumSmallGradsIdeal (hSumSmallGradsIdeal := hSumSmallGradsIdeal)
    ∧ quiescent_SumSmallGradsReferenceIdeal (hSumSmallGradsReferenceIdeal := hSumSmallGradsReferenceIdeal)
    ∧ quiescent_ModPart (hModPart := hModPart)
    ∧ quiescent_ModPartIdeal (hModPartIdeal := hModPartIdeal)
    ∧ quiescent_ModPartReferenceIdeal (hModPartReferenceIdeal := hModPartReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_ResidNorm (hResidNorm := hResidNorm)
    ∧ quiescent_ResidNormIdeal (hResidNormIdeal := hResidNormIdeal)
    ∧ quiescent_ResidNormReferenceIdeal (hResidNormReferenceIdeal := hResidNormReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_ProjIn (hProjIn := hProjIn)
    ∧ quiescent_ProjInIdeal (hProjInIdeal := hProjInIdeal)
    ∧ quiescent_ProjInReferenceIdeal (hProjInReferenceIdeal := hProjInReferenceIdeal)
    ∧ quiescent_WeightGrad (hWeightGrad := hWeightGrad)
    ∧ quiescent_WeightGradIdeal (hWeightGradIdeal := hWeightGradIdeal)
    ∧ quiescent_WeightGradReferenceIdeal (hWeightGradReferenceIdeal := hWeightGradReferenceIdeal)
    ∧ quiescent_FinalLoss (hFinalLoss := hFinalLoss)
    ∧ quiescent_FinalLossIdeal (hFinalLossIdeal := hFinalLossIdeal)
    ∧ quiescent_FinalLossReferenceIdeal (hFinalLossReferenceIdeal := hFinalLossReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_ResidNorm3 (hResidNorm3 := hResidNorm3)
    ∧ quiescent_ResidNorm3Ideal (hResidNorm3Ideal := hResidNorm3Ideal)
    ∧ quiescent_ResidNorm3ReferenceIdeal (hResidNorm3ReferenceIdeal := hResidNorm3ReferenceIdeal)
    ∧ quiescent_MixGateBwd (hMixGateBwd := hMixGateBwd)
    ∧ quiescent_MixGateBwdIdeal (hMixGateBwdIdeal := hMixGateBwdIdeal)
    ∧ quiescent_MixGateBwdReferenceIdeal (hMixGateBwdReferenceIdeal := hMixGateBwdReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixOutBwd (hMixOutBwd := hMixOutBwd)
    ∧ quiescent_MixOutBwdIdeal (hMixOutBwdIdeal := hMixOutBwdIdeal)
    ∧ quiescent_MixOutBwdReferenceIdeal (hMixOutBwdReferenceIdeal := hMixOutBwdReferenceIdeal)
    ∧ quiescent_MixDwo (hMixDwo := hMixDwo)
    ∧ quiescent_MixDwoIdeal (hMixDwoIdeal := hMixDwoIdeal)
    ∧ quiescent_MixDwoReferenceIdeal (hMixDwoReferenceIdeal := hMixDwoReferenceIdeal)
    ∧ quiescent_ProjInBwd (hProjInBwd := hProjInBwd)
    ∧ quiescent_ProjInBwdIdeal (hProjInBwdIdeal := hProjInBwdIdeal)
    ∧ quiescent_ProjInBwdReferenceIdeal (hProjInBwdReferenceIdeal := hProjInBwdReferenceIdeal)
    ∧ quiescent_ProjInDw (hProjInDw := hProjInDw)
    ∧ quiescent_ProjInDwIdeal (hProjInDwIdeal := hProjInDwIdeal)
    ∧ quiescent_ProjInDwReferenceIdeal (hProjInDwReferenceIdeal := hProjInDwReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_GatherWeights_GatherWeightsIdeal
    ∧ algebraic_GatherWeightsIdeal_GatherWeightsReferenceIdeal (hGatherWeightsIdeal := hGatherWeightsIdeal) (hGatherWeightsReferenceIdeal := hGatherWeightsReferenceIdeal)
    ∧ bitexact_GatherWeights_GatherWeightsReference (hGatherWeights := hGatherWeights) (hGatherWeightsReference := hGatherWeightsReference)
    ∧ preserves_GatherSmall_GatherSmallIdeal
    ∧ algebraic_GatherSmallIdeal_GatherSmallReferenceIdeal (hGatherSmallIdeal := hGatherSmallIdeal) (hGatherSmallReferenceIdeal := hGatherSmallReferenceIdeal)
    ∧ bitexact_GatherSmall_GatherSmallReference (hGatherSmall := hGatherSmall) (hGatherSmallReference := hGatherSmallReference)
    ∧ preserves_GatherMod_GatherModIdeal
    ∧ algebraic_GatherModIdeal_GatherModReferenceIdeal (hGatherModIdeal := hGatherModIdeal) (hGatherModReferenceIdeal := hGatherModReferenceIdeal)
    ∧ bitexact_GatherMod_GatherModReference (hGatherMod := hGatherMod) (hGatherModReference := hGatherModReference)
    ∧ preserves_GatherSmallGrads_GatherSmallGradsIdeal
    ∧ algebraic_GatherSmallGradsIdeal_GatherSmallGradsReferenceIdeal (hGatherSmallGradsIdeal := hGatherSmallGradsIdeal) (hGatherSmallGradsReferenceIdeal := hGatherSmallGradsReferenceIdeal)
    ∧ bitexact_GatherSmallGrads_GatherSmallGradsReference (hGatherSmallGrads := hGatherSmallGrads) (hGatherSmallGradsReference := hGatherSmallGradsReference)
    ∧ preserves_AdamwWAda_AdamwWAdaIdeal
    ∧ algebraic_AdamwWAdaIdeal_AdamwWAdaReferenceIdeal (hAdamwWAdaIdeal := hAdamwWAdaIdeal) (hAdamwWAdaReferenceIdeal := hAdamwWAdaReferenceIdeal)
    ∧ preserves_AdamwFfn1Gate_AdamwFfn1GateIdeal
    ∧ algebraic_AdamwFfn1GateIdeal_AdamwFfn1GateReferenceIdeal (hAdamwFfn1GateIdeal := hAdamwFfn1GateIdeal) (hAdamwFfn1GateReferenceIdeal := hAdamwFfn1GateReferenceIdeal)
    ∧ preserves_AdamwFfn1Down_AdamwFfn1DownIdeal
    ∧ algebraic_AdamwFfn1DownIdeal_AdamwFfn1DownReferenceIdeal (hAdamwFfn1DownIdeal := hAdamwFfn1DownIdeal) (hAdamwFfn1DownReferenceIdeal := hAdamwFfn1DownReferenceIdeal)
    ∧ preserves_AdamwWIn_AdamwWInIdeal
    ∧ algebraic_AdamwWInIdeal_AdamwWInReferenceIdeal (hAdamwWInIdeal := hAdamwWInIdeal) (hAdamwWInReferenceIdeal := hAdamwWInReferenceIdeal)
    ∧ preserves_AdamwWOut_AdamwWOutIdeal
    ∧ algebraic_AdamwWOutIdeal_AdamwWOutReferenceIdeal (hAdamwWOutIdeal := hAdamwWOutIdeal) (hAdamwWOutReferenceIdeal := hAdamwWOutReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_WAdaGrad_WAdaGradIdeal
    ∧ algebraic_WAdaGradIdeal_WAdaGradReferenceIdeal (hWAdaGradIdeal := hWAdaGradIdeal) (hWAdaGradReferenceIdeal := hWAdaGradReferenceIdeal)
    ∧ preserves_SumGrads_SumGradsIdeal
    ∧ algebraic_SumGradsIdeal_SumGradsReferenceIdeal (hSumGradsIdeal := hSumGradsIdeal) (hSumGradsReferenceIdeal := hSumGradsReferenceIdeal)
    ∧ preserves_SumSmallGrads_SumSmallGradsIdeal
    ∧ algebraic_SumSmallGradsIdeal_SumSmallGradsReferenceIdeal (hSumSmallGradsIdeal := hSumSmallGradsIdeal) (hSumSmallGradsReferenceIdeal := hSumSmallGradsReferenceIdeal)
    ∧ preserves_ModPart_ModPartIdeal
    ∧ algebraic_ModPartIdeal_ModPartReferenceIdeal (hModPartIdeal := hModPartIdeal) (hModPartReferenceIdeal := hModPartReferenceIdeal)
    ∧ preserves_Norm_NormIdeal
    ∧ algebraic_NormIdeal_NormReferenceIdeal (hNormIdeal := hNormIdeal) (hNormReferenceIdeal := hNormReferenceIdeal)
    ∧ preserves_ResidNorm_ResidNormIdeal
    ∧ algebraic_ResidNormIdeal_ResidNormReferenceIdeal (hResidNormIdeal := hResidNormIdeal) (hResidNormReferenceIdeal := hResidNormReferenceIdeal)
    ∧ preserves_GradX_GradXIdeal
    ∧ algebraic_GradXIdeal_GradXReferenceIdeal (hGradXIdeal := hGradXIdeal) (hGradXReferenceIdeal := hGradXReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_ProjIn_ProjInIdeal
    ∧ algebraic_ProjInIdeal_ProjInReferenceIdeal (hProjInIdeal := hProjInIdeal) (hProjInReferenceIdeal := hProjInReferenceIdeal)
    ∧ preserves_WeightGrad_WeightGradIdeal
    ∧ algebraic_WeightGradIdeal_WeightGradReferenceIdeal (hWeightGradIdeal := hWeightGradIdeal) (hWeightGradReferenceIdeal := hWeightGradReferenceIdeal)
    ∧ preserves_FinalLoss_FinalLossIdeal
    ∧ algebraic_FinalLossIdeal_FinalLossReferenceIdeal (hFinalLossIdeal := hFinalLossIdeal) (hFinalLossReferenceIdeal := hFinalLossReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_ResidNorm3_ResidNorm3Ideal
    ∧ algebraic_ResidNorm3Ideal_ResidNorm3ReferenceIdeal (hResidNorm3Ideal := hResidNorm3Ideal) (hResidNorm3ReferenceIdeal := hResidNorm3ReferenceIdeal)
    ∧ preserves_MixGateBwd_MixGateBwdIdeal
    ∧ algebraic_MixGateBwdIdeal_MixGateBwdReferenceIdeal (hMixGateBwdIdeal := hMixGateBwdIdeal) (hMixGateBwdReferenceIdeal := hMixGateBwdReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixOutBwd_MixOutBwdIdeal
    ∧ algebraic_MixOutBwdIdeal_MixOutBwdReferenceIdeal (hMixOutBwdIdeal := hMixOutBwdIdeal) (hMixOutBwdReferenceIdeal := hMixOutBwdReferenceIdeal)
    ∧ preserves_MixDwo_MixDwoIdeal
    ∧ algebraic_MixDwoIdeal_MixDwoReferenceIdeal (hMixDwoIdeal := hMixDwoIdeal) (hMixDwoReferenceIdeal := hMixDwoReferenceIdeal)
    ∧ preserves_ProjInBwd_ProjInBwdIdeal
    ∧ algebraic_ProjInBwdIdeal_ProjInBwdReferenceIdeal (hProjInBwdIdeal := hProjInBwdIdeal) (hProjInBwdReferenceIdeal := hProjInBwdReferenceIdeal)
    ∧ preserves_ProjInDw_ProjInDwIdeal
    ∧ algebraic_ProjInDwIdeal_ProjInDwReferenceIdeal (hProjInDwIdeal := hProjInDwIdeal) (hProjInDwReferenceIdeal := hProjInDwReferenceIdeal)
-- ==== Kernel.lean ====
abbrev S8x2576x1024 : Shape := ⟨3, ![8, 2576, 1024]⟩
abbrev S7 : Shape := ⟨1, ![7]⟩
abbrev S_ : Shape := ⟨0, ![]⟩
abbrev S1x2576x1024 : Shape := ⟨3, ![1, 2576, 1024]⟩
abbrev S2576x1024 : Shape := ⟨2, ![2576, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x2576x1024, .bf16⟩
  | .hbm, ⟨1, _⟩ => ⟨S8x2576x1024, .bf16⟩
  | _, _ => ⟨S8x2576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_9 v2
  let c2_i32_10 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_10 v5
  let v20 : BitVec 32 := Scalar.addi v18 v19
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let v21 : BitVec 32 := Scalar.addi v20 v17
  let c0_i32_42 : BitVec 32 := 0#32
  let c0_i32_43 : BitVec 32 := 0#32
  ![v21.toNat, 0, 0]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_39 : BitVec 32 := 1#32
  let v61 : BitVec 32 := Scalar.muli v17 c1_i32_39
  let v62 : BitVec 32 := Scalar.addi v60 v61
  v62.toNat
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.muli c4_i32_12 v2
  let c2_i32_13 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let v24 : BitVec 32 := Scalar.muli c2_i32_13 v22
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.addi v25 v8
  let c0_i32_52 : BitVec 32 := 0#32
  let c0_i32_53 : BitVec 32 := 0#32
  ![v26.toNat, 0, 0]
def k0_dev2 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v71 : BitVec 32 := Scalar.muli v2 c4_i32_46
  let v72 : BitVec 32 := Scalar.addi c0_i32_47 v71
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_11 v5
  let c2_i32_48 : BitVec 32 := 2#32
  let v73 : BitVec 32 := Scalar.muli v22 c2_i32_48
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v75 : BitVec 32 := Scalar.muli v8 c1_i32_49
  let v76 : BitVec 32 := Scalar.addi v74 v75
  v76.toNat
def k0_off4 (d0 : Dev nD) : Fin 3 → Nat :=
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c4_i32_16 v2
  let c2_i32_17 : BitVec 32 := 2#32
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let v30 : BitVec 32 := Scalar.muli c2_i32_17 v27
  let v31 : BitVec 32 := Scalar.addi v29 v30
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let v32 : BitVec 32 := Scalar.addi v31 v28
  let c0_i32_62 : BitVec 32 := 0#32
  let c0_i32_63 : BitVec 32 := 0#32
  ![v32.toNat, 0, 0]
def k0_dev3 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v85 : BitVec 32 := Scalar.muli v2 c4_i32_56
  let v86 : BitVec 32 := Scalar.addi c0_i32_57 v85
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.subi c1_i32_14 v5
  let c2_i32_58 : BitVec 32 := 2#32
  let v87 : BitVec 32 := Scalar.muli v27 c2_i32_58
  let v88 : BitVec 32 := Scalar.addi v86 v87
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_15 v8
  let c1_i32_59 : BitVec 32 := 1#32
  let v89 : BitVec 32 := Scalar.muli v28 c1_i32_59
  let v90 : BitVec 32 := Scalar.addi v88 v89
  v90.toNat
def k0_off5 (d0 : Dev nD) : Fin 3 → Nat :=
  let c4_i32_19 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let v34 : BitVec 32 := Scalar.muli c4_i32_19 v33
  let c2_i32_20 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_20 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_71 : BitVec 32 := 0#32
  let c0_i32_72 : BitVec 32 := 0#32
  ![v37.toNat, 0, 0]
def k0_dev4 (d0 : Dev nD) : Nat :=
  let c0_i32_66 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v33 : BitVec 32 := Scalar.subi c1_i32_18 v2
  let c4_i32_65 : BitVec 32 := 4#32
  let v99 : BitVec 32 := Scalar.muli v33 c4_i32_65
  let v100 : BitVec 32 := Scalar.addi c0_i32_66 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v101 : BitVec 32 := Scalar.muli v5 c2_i32_67
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v103 : BitVec 32 := Scalar.muli v8 c1_i32_68
  let v104 : BitVec 32 := Scalar.addi v102 v103
  v104.toNat
def k0_off6 (d0 : Dev nD) : Fin 3 → Nat :=
  let c4_i32_23 : BitVec 32 := 4#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let v40 : BitVec 32 := Scalar.muli c4_i32_23 v38
  let c2_i32_24 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.muli c2_i32_24 v5
  let v42 : BitVec 32 := Scalar.addi v40 v41
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let v43 : BitVec 32 := Scalar.addi v42 v39
  let c0_i32_81 : BitVec 32 := 0#32
  let c0_i32_82 : BitVec 32 := 0#32
  ![v43.toNat, 0, 0]
def k0_dev5 (d0 : Dev nD) : Nat :=
  let c0_i32_76 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v38 : BitVec 32 := Scalar.subi c1_i32_21 v2
  let c4_i32_75 : BitVec 32 := 4#32
  let v113 : BitVec 32 := Scalar.muli v38 c4_i32_75
  let v114 : BitVec 32 := Scalar.addi c0_i32_76 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v115 : BitVec 32 := Scalar.muli v5 c2_i32_77
  let v116 : BitVec 32 := Scalar.addi v114 v115
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_22 v8
  let c1_i32_78 : BitVec 32 := 1#32
  let v117 : BitVec 32 := Scalar.muli v39 c1_i32_78
  let v118 : BitVec 32 := Scalar.addi v116 v117
  v118.toNat
def k0_off7 (d0 : Dev nD) : Fin 3 → Nat :=
  let c4_i32_27 : BitVec 32 := 4#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let v46 : BitVec 32 := Scalar.muli c4_i32_27 v44
  let c2_i32_28 : BitVec 32 := 2#32
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let v47 : BitVec 32 := Scalar.muli c2_i32_28 v45
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v49 : BitVec 32 := Scalar.addi v48 v8
  let c0_i32_90 : BitVec 32 := 0#32
  let c0_i32_91 : BitVec 32 := 0#32
  ![v49.toNat, 0, 0]
def k0_dev6 (d0 : Dev nD) : Nat :=
  let c0_i32_85 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v44 : BitVec 32 := Scalar.subi c1_i32_25 v2
  let c4_i32_84 : BitVec 32 := 4#32
  let v127 : BitVec 32 := Scalar.muli v44 c4_i32_84
  let v128 : BitVec 32 := Scalar.addi c0_i32_85 v127
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v45 : BitVec 32 := Scalar.subi c1_i32_26 v5
  let c2_i32_86 : BitVec 32 := 2#32
  let v129 : BitVec 32 := Scalar.muli v45 c2_i32_86
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v131 : BitVec 32 := Scalar.muli v8 c1_i32_87
  let v132 : BitVec 32 := Scalar.addi v130 v131
  v132.toNat
def k0_off8 (d0 : Dev nD) : Fin 3 → Nat :=
  let c4_i32_32 : BitVec 32 := 4#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let v53 : BitVec 32 := Scalar.muli c4_i32_32 v50
  let c2_i32_33 : BitVec 32 := 2#32
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let v54 : BitVec 32 := Scalar.muli c2_i32_33 v51
  let v55 : BitVec 32 := Scalar.addi v53 v54
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let v56 : BitVec 32 := Scalar.addi v55 v52
  let c0_i32_99 : BitVec 32 := 0#32
  let c0_i32_100 : BitVec 32 := 0#32
  ![v56.toNat, 0, 0]
def k0_dev7 (d0 : Dev nD) : Nat :=
  let c0_i32_94 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v50 : BitVec 32 := Scalar.subi c1_i32_29 v2
  let c4_i32_93 : BitVec 32 := 4#32
  let v141 : BitVec 32 := Scalar.muli v50 c4_i32_93
  let v142 : BitVec 32 := Scalar.addi c0_i32_94 v141
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v51 : BitVec 32 := Scalar.subi c1_i32_30 v5
  let c2_i32_95 : BitVec 32 := 2#32
  let v143 : BitVec 32 := Scalar.muli v51 c2_i32_95
  let v144 : BitVec 32 := Scalar.addi v142 v143
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v52 : BitVec 32 := Scalar.subi c1_i32_31 v8
  let c1_i32_96 : BitVec 32 := 1#32
  let v145 : BitVec 32 := Scalar.muli v52 c1_i32_96
  let v146 : BitVec 32 := Scalar.addi v144 v145
  v146.toNat
-- ==== Reference.lean ====
abbrev S64x2576x1024 : Shape := ⟨3, ![64, 2576, 1024]⟩
abbrev S8x8x2576x1024 : Shape := ⟨4, ![8, 8, 2576, 1024]⟩

abbrev nBuf : Space → Nat
  | .hbm => 4
  | .vmem => 0
  | .smem => 0
  | _ => 0

abbrev bufTy : (tb : Table) → Fin (tcTables nBuf tb) → BufTy
  | .hbm, ⟨0, _⟩ => ⟨S64x2576x1024, .bf16⟩
  | .hbm, ⟨1, _⟩ => ⟨S8x8x2576x1024, .bf16⟩
  | .hbm, ⟨2, _⟩ => ⟨S8x8x2576x1024, .bf16⟩
  | .hbm, ⟨3, _⟩ => ⟨S64x2576x1024, .bf16⟩
  | _, _ => ⟨S64x2576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GatherWeights.lean ====
abbrev S2576x1024 : Shape := ⟨2, ![2576, 1024]⟩
abbrev S8x2576x1024 : Shape := ⟨3, ![8, 2576, 1024]⟩
abbrev S7 : Shape := ⟨1, ![7]⟩
abbrev S_ : Shape := ⟨0, ![]⟩
abbrev S1x2576x1024 : Shape := ⟨3, ![1, 2576, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2576x1024, .bf16⟩
  | .hbm, ⟨1, _⟩ => ⟨S8x2576x1024, .bf16⟩
  | _, _ => ⟨S2576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherWeightsIdeal.lean ====
abbrev S2576x1024 : Shape := ⟨2, ![2576, 1024]⟩
abbrev S8x2576x1024 : Shape := ⟨3, ![8, 2576, 1024]⟩
abbrev S7 : Shape := ⟨1, ![7]⟩
abbrev S_ : Shape := ⟨0, ![]⟩
abbrev S1x2576x1024 : Shape := ⟨3, ![1, 2576, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S2576x1024, .bf16⟩
  | .hbm, ⟨1, _⟩ => ⟨S8x2576x1024, .bf16⟩
  | _, _ => ⟨S2576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherWeightsReferenceIdeal.lean ====
abbrev S20608x1024 : Shape := ⟨2, ![20608, 1024]⟩
abbrev S8x2576x1024 : Shape := ⟨3, ![8, 2576, 1024]⟩

abbrev nBuf : Space → Nat
  | .hbm => 2
  | .vmem => 0
  | .smem => 0
  | _ => 0

abbrev bufTy : (tb : Table) → Fin (tcTables nBuf tb) → BufTy
  | .hbm, ⟨0, _⟩ => ⟨S20608x1024, .bf16⟩
  | .hbm, ⟨1, _⟩ => ⟨S8x2576x1024, .bf16⟩
  | _, _ => ⟨S20608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWeightsReference.lean ====
abbrev S20608x1024 : Shape := ⟨2, ![20608, 1024]⟩
abbrev S8x2576x1024 : Shape := ⟨3, ![8, 2576, 1024]⟩

abbrev nBuf : Space → Nat
  | .hbm => 2
  | .vmem => 0
  | .smem => 0
  | _ => 0

abbrev bufTy : (tb : Table) → Fin (tcTables nBuf tb) → BufTy
  | .hbm, ⟨0, _⟩ => ⟨S20608x1024, .bf16⟩
  | .hbm, ⟨1, _⟩ => ⟨S8x2576x1024, .bf16⟩
  | _, _ => ⟨S20608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S16x1024 : Shape := ⟨2, ![16, 1024]⟩
abbrev S8x16x1024 : Shape := ⟨3, ![8, 16, 1024]⟩
abbrev S7 : Shape := ⟨1, ![7]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallIdeal.lean ====
abbrev S16x1024 : Shape := ⟨2, ![16, 1024]⟩
abbrev S8x16x1024 : Shape := ⟨3, ![8, 16, 1024]⟩
abbrev S7 : Shape := ⟨1, ![7]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallReferenceIdeal.lean ====
abbrev S128x1024 : Shape := ⟨2, ![128, 1024]⟩
abbrev S8x16x1024 : Shape := ⟨3, ![8, 16, 1024]⟩

abbrev nBuf : Space → Nat
  | .hbm => 2
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmallReference.lean ====
abbrev S128x1024 : Shape := ⟨2, ![128, 1024]⟩
abbrev S8x16x1024 : Shape := ⟨3, ![8, 16, 1024]⟩

abbrev nBuf : Space → Nat
  | .hbm => 2
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherMod.lean ====
abbrev S8x1152 : Shape := ⟨2, ![8, 1152]⟩
abbrev S8x8x1152 : Shape := ⟨3, ![8, 8, 1152]⟩
abbrev S7 : Shape := ⟨1, ![7]⟩
abbrev S_ : Shape := ⟨0, ![]⟩
abbrev S1x8x1152 : Shape := ⟨3, ![1, 8, 1152]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1152, .f32⟩
  | .hbm, ⟨1, _⟩ => ⟨S8x8x1152, .f32⟩
  | _, _ => ⟨S8x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherModIdeal.lean ====
abbrev S8x1152 : Shape := ⟨2, ![8, 1152]⟩
abbrev S8x8x1152 : Shape := ⟨3, ![8, 8, 1152]⟩
abbrev S7 : Shape := ⟨1, ![7]⟩
abbrev S_ : Shape := ⟨0, ![]⟩
abbrev S1x8x1152 : Shape := ⟨3, ![1, 8, 1152]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S8x1152, .f32⟩
  | .hbm, ⟨1, _⟩ => ⟨S8x8x1152, .f32⟩
  | _, _ => ⟨S8x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherModReferenceIdeal.lean ====
abbrev S64x1152 : Shape := ⟨2, ![64, 1152]⟩
abbrev S8x8x1152 : Shape := ⟨3, ![8, 8, 1152]⟩

abbrev nBuf : Space → Nat
  | .hbm => 2
  | .vmem => 0
  | .smem => 0
  | _ => 0

abbrev bufTy : (tb : Table) → Fin (tcTables nBuf tb) → BufTy
  | .hbm, ⟨0, _⟩ => ⟨S64x1152, .f32⟩
  | .hbm, ⟨1, _⟩ => ⟨S8x8x1152, .f32⟩
  | _, _ => ⟨S64x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherModReference.lean ====
abbrev S64x1152 : Shape := ⟨2, ![64, 1152]⟩
abbrev S8x8x1152 : Shape := ⟨3, ![8, 8, 1152]⟩

abbrev nBuf : Space → Nat
  | .hbm => 2
  | .vmem => 0
  | .smem => 0
  | _ => 0

abbrev bufTy : (tb : Table) → Fin (tcTables nBuf tb) → BufTy
  | .hbm, ⟨0, _⟩ => ⟨S64x1152, .f32⟩
  | .hbm, ⟨1, _⟩ => ⟨S8x8x1152, .f32⟩
  | _, _ => ⟨S64x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmallGrads.lean ====
abbrev S88x1024 : Shape := ⟨2, ![88, 1024]⟩
abbrev S8x88x1024 : Shape := ⟨3, ![8, 88, 1024]⟩
abbrev S7 : Shape := ⟨1, ![7]⟩
abbrev S_ : Shape := ⟨0, ![]⟩
abbrev S1x88x1024 : Shape := ⟨3, ![1, 88, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S88x1024, .f32⟩
  | .hbm, ⟨1, _⟩ => ⟨S8x88x1024, .f32⟩
  | _, _ => ⟨S88x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v40 : BitVec 32 := Scalar.muli v9 c1_i32_24
  let v41 : BitVec 32 := Scalar.addi v39 v40
  v41.toNat
def k0_dev2 (d0 : Dev nD) : Nat :=
  let c0_i32_30 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_29 : BitVec 32 := 4#32
  let v48 : BitVec 32 := Scalar.muli v10 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_39 : BitVec 32 := 2#32
  let v62 : BitVec 32 := Scalar.muli v11 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_44 : BitVec 32 := 4#32
  let v72 : BitVec 32 := Scalar.muli v12 c4_i32_44
  let v73 : BitVec 32 := Scalar.addi c0_i32_45 v72
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_46 : BitVec 32 := 2#32
  let v74 : BitVec 32 := Scalar.muli v13 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v112 : BitVec 32 := Scalar.muli c4_i32_64 v10
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v132 : BitVec 32 := Scalar.muli v9 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v147 : BitVec 32 := Scalar.muli c2_i32_89 v11
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v166 : BitVec 32 := Scalar.muli v9 c1_i32_104
  let v167 : BitVec 32 := Scalar.addi v165 v166
  v167.toNat
def k0_off4 (d0 : Dev nD) : Fin 3 → Nat :=
  let c4_i32_111 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v180 : BitVec 32 := Scalar.muli c4_i32_111 v12
  let c2_i32_112 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v181 : BitVec 32 := Scalar.muli c2_i32_112 v13
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v200 : BitVec 32 := Scalar.muli v9 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v217 : BitVec 32 := Scalar.addi v216 v9
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v235 : BitVec 32 := Scalar.muli c4_i32_149 v10
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v257 : BitVec 32 := Scalar.muli c2_i32_165 v11
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v277 : BitVec 32 := Scalar.muli c4_i32_179 v12
  let c2_i32_180 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v278 : BitVec 32 := Scalar.muli c2_i32_180 v13
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== GatherSmallGradsReference.lean ====
abbrev S704x1024 : Shape := ⟨2, ![704, 1024]⟩
abbrev S8x88x1024 : Shape := ⟨3, ![8, 88, 1024]⟩

abbrev nBuf : Space → Nat
  | .hbm => 2
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x88x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamwWAda.lean ====
abbrev S1024x1152 : Shape := ⟨2, ![1024, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWAdaIdeal.lean ====
abbrev S1024x1152 : Shape := ⟨2, ![1024, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWAdaReferenceIdeal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFfn1Gate.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfn1GateIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfn1GateReferenceIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFfn1Down.lean ====
abbrev S352x1024 : Shape := ⟨2, ![352, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfn1DownIdeal.lean ====
abbrev S352x1024 : Shape := ⟨2, ![352, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfn1DownReferenceIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWIn.lean ====
abbrev S1024x321 : Shape := ⟨2, ![1024, 321]⟩
abbrev S256x321 : Shape := ⟨2, ![256, 321]⟩

abbrev nBuf : Space → Nat
  | .hbm => 7
  | .vmem => 14
  | .smem => 0
  | _ => 0

abbrev bufTy : (tb : Table) → Fin (tcTables nBuf tb) → BufTy
  | .hbm, ⟨0, _⟩ => ⟨S1024x321, .f32⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S1024x321, .f32⟩
  | .hbm, ⟨5, _⟩ => ⟨S1024x321, .f32⟩
  | .hbm, ⟨6, _⟩ => ⟨S1024x321, .f32⟩
  | .local _ .vmem, ⟨0, _⟩ => ⟨S256x321, .f32⟩
  | .local _ .vmem, ⟨1, _⟩ => ⟨S256x321, .f32⟩
  | .local _ .vmem, ⟨2, _⟩ => ⟨S256x321, .f32⟩
  | .local _ .vmem, ⟨3, _⟩ => ⟨S256x321, .f32⟩
  | .local _ .vmem, ⟨4, _⟩ => ⟨S256x321, .f32⟩
  | .local _ .vmem, ⟨5, _⟩ => ⟨S256x321, .f32⟩
  | .local _ .vmem, ⟨6, _⟩ => ⟨S256x321, .f32⟩
  | .local _ .vmem, ⟨7, _⟩ => ⟨S256x321, .f32⟩
  | .local _ .vmem, ⟨8, _⟩ => ⟨S256x321, .f32⟩
  | .local _ .vmem, ⟨9, _⟩ => ⟨S256x321, .f32⟩
  | .local _ .vmem, ⟨10, _⟩ => ⟨S256x321, .f32⟩
  | .local _ .vmem, ⟨11, _⟩ => ⟨S256x321, .f32⟩
  | .local _ .vmem, ⟨12, _⟩ => ⟨S256x321, .f32⟩
  | .local _ .vmem, ⟨13, _⟩ => ⟨S256x321, .f32⟩
  | _, _ => ⟨S1024x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x321 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x321 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x321 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x321 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x321 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInIdeal.lean ====
abbrev S1024x321 : Shape := ⟨2, ![1024, 321]⟩
abbrev S256x321 : Shape := ⟨2, ![256, 321]⟩

abbrev nBuf : Space → Nat
  | .hbm => 7
  | .vmem => 14
  | .smem => 0
  | _ => 0

abbrev bufTy : (tb : Table) → Fin (tcTables nBuf tb) → BufTy
  | .hbm, ⟨0, _⟩ => ⟨S1024x321, .f32⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S1024x321, .f32⟩
  | .hbm, ⟨5, _⟩ => ⟨S1024x321, .f32⟩
  | .hbm, ⟨6, _⟩ => ⟨S1024x321, .f32⟩
  | .local _ .vmem, ⟨0, _⟩ => ⟨S256x321, .f32⟩
  | .local _ .vmem, ⟨1, _⟩ => ⟨S256x321, .f32⟩
  | .local _ .vmem, ⟨2, _⟩ => ⟨S256x321, .f32⟩
  | .local _ .vmem, ⟨3, _⟩ => ⟨S256x321, .f32⟩
  | .local _ .vmem, ⟨4, _⟩ => ⟨S256x321, .f32⟩
  | .local _ .vmem, ⟨5, _⟩ => ⟨S256x321, .f32⟩
  | .local _ .vmem, ⟨6, _⟩ => ⟨S256x321, .f32⟩
  | .local _ .vmem, ⟨7, _⟩ => ⟨S256x321, .f32⟩
  | .local _ .vmem, ⟨8, _⟩ => ⟨S256x321, .f32⟩
  | .local _ .vmem, ⟨9, _⟩ => ⟨S256x321, .f32⟩
  | .local _ .vmem, ⟨10, _⟩ => ⟨S256x321, .f32⟩
  | .local _ .vmem, ⟨11, _⟩ => ⟨S256x321, .f32⟩
  | .local _ .vmem, ⟨12, _⟩ => ⟨S256x321, .f32⟩
  | .local _ .vmem, ⟨13, _⟩ => ⟨S256x321, .f32⟩
  | _, _ => ⟨S1024x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x321 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x321 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x321 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x321 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x321 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x321 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x321 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInReferenceIdeal.lean ====
abbrev S1024x321 : Shape := ⟨2, ![1024, 321]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x321, .f32⟩
  | .hbm, ⟨1, _⟩ => ⟨S1024x321, .f32⟩
  | .hbm, ⟨2, _⟩ => ⟨S1024x321, .f32⟩
  | .hbm, ⟨3, _⟩ => ⟨S1024x321, .f32⟩
  | .hbm, ⟨4, _⟩ => ⟨S_, .f32⟩
  | .hbm, ⟨5, _⟩ => ⟨S1024x321, .f32⟩
  | .hbm, ⟨6, _⟩ => ⟨S1024x321, .f32⟩
  | .hbm, ⟨7, _⟩ => ⟨S_, .f32⟩
  | .hbm, ⟨8, _⟩ => ⟨S1024x321, .f32⟩
  | .hbm, ⟨9, _⟩ => ⟨S1024x321, .f32⟩
  | .hbm, ⟨10, _⟩ => ⟨S1024x321, .f32⟩
  | .hbm, ⟨11, _⟩ => ⟨S_, .f32⟩
  | .hbm, ⟨12, _⟩ => ⟨S1024x321, .f32⟩
  | .hbm, ⟨13, _⟩ => ⟨S1024x321, .f32⟩
  | .hbm, ⟨14, _⟩ => ⟨S1024x321, .f32⟩
  | .hbm, ⟨15, _⟩ => ⟨S_, .f32⟩
  | .hbm, ⟨16, _⟩ => ⟨S1024x321, .f32⟩
  | .hbm, ⟨17, _⟩ => ⟨S1024x321, .f32⟩
  | .hbm, ⟨18, _⟩ => ⟨S1024x321, .f32⟩
  | .hbm, ⟨19, _⟩ => ⟨S_, .f32⟩
  | .hbm, ⟨20, _⟩ => ⟨S1024x321, .f32⟩
  | .hbm, ⟨21, _⟩ => ⟨S1024x321, .f32⟩
  | .hbm, ⟨22, _⟩ => ⟨S_, .f32⟩
  | .hbm, ⟨23, _⟩ => ⟨S1024x321, .f32⟩
  | .hbm, ⟨24, _⟩ => ⟨S1024x321, .f32⟩
  | .hbm, ⟨25, _⟩ => ⟨S1024x321, .f32⟩
  | .hbm, ⟨26, _⟩ => ⟨S_, .f32⟩
  | .hbm, ⟨27, _⟩ => ⟨S1024x321, .f32⟩
  | .hbm, ⟨28, _⟩ => ⟨S1024x321, .f32⟩
  | .hbm, ⟨29, _⟩ => ⟨S1024x321, .f32⟩
  | .hbm, ⟨30, _⟩ => ⟨S_, .f32⟩
  | .hbm, ⟨31, _⟩ => ⟨S1024x321, .f32⟩
  | .hbm, ⟨32, _⟩ => ⟨S1024x321, .f32⟩
  | .hbm, ⟨33, _⟩ => ⟨S1024x321, .f32⟩
  | .hbm, ⟨34, _⟩ => ⟨S_, .f32⟩
  | .hbm, ⟨35, _⟩ => ⟨S1024x321, .f32⟩
  | .hbm, ⟨36, _⟩ => ⟨S1024x321, .f32⟩
  | _, _ => ⟨S1024x321, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWOutReferenceIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S88x1024 : Shape := ⟨2, ![88, 1024]⟩

abbrev nBuf : Space → Nat
  | .hbm => 7
  | .vmem => 7
  | .smem => 0
  | _ => 0

abbrev bufTy : (tb : Table) → Fin (tcTables nBuf tb) → BufTy
  | .hbm, ⟨0, _⟩ => ⟨S88x1024, .f32⟩
  | .hbm, ⟨1, _⟩ => ⟨S88x1024, .f32⟩
  | .hbm, ⟨2, _⟩ => ⟨S88x1024, .f32⟩
  | .hbm, ⟨3, _⟩ => ⟨S88x1024, .f32⟩
  | .hbm, ⟨4, _⟩ => ⟨S88x1024, .f32⟩
  | .hbm, ⟨5, _⟩ => ⟨S88x1024, .f32⟩
  | .hbm, ⟨6, _⟩ => ⟨S88x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | _, _ => ⟨S88x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallReferenceIdeal.lean ====
abbrev S88x1024 : Shape := ⟨2, ![88, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S88x1024, .f32⟩
  | .hbm, ⟨1, _⟩ => ⟨S88x1024, .f32⟩
  | .hbm, ⟨2, _⟩ => ⟨S88x1024, .f32⟩
  | .hbm, ⟨3, _⟩ => ⟨S88x1024, .f32⟩
  | .hbm, ⟨4, _⟩ => ⟨S_, .f32⟩
  | .hbm, ⟨5, _⟩ => ⟨S88x1024, .f32⟩
  | .hbm, ⟨6, _⟩ => ⟨S88x1024, .f32⟩
  | .hbm, ⟨7, _⟩ => ⟨S_, .f32⟩
  | .hbm, ⟨8, _⟩ => ⟨S88x1024, .f32⟩
  | .hbm, ⟨9, _⟩ => ⟨S88x1024, .f32⟩
  | .hbm, ⟨10, _⟩ => ⟨S88x1024, .f32⟩
  | .hbm, ⟨11, _⟩ => ⟨S_, .f32⟩
  | .hbm, ⟨12, _⟩ => ⟨S88x1024, .f32⟩
  | .hbm, ⟨13, _⟩ => ⟨S88x1024, .f32⟩
  | .hbm, ⟨14, _⟩ => ⟨S88x1024, .f32⟩
  | .hbm, ⟨15, _⟩ => ⟨S_, .f32⟩
  | .hbm, ⟨16, _⟩ => ⟨S88x1024, .f32⟩
  | .hbm, ⟨17, _⟩ => ⟨S88x1024, .f32⟩
  | .hbm, ⟨18, _⟩ => ⟨S88x1024, .f32⟩
  | .hbm, ⟨19, _⟩ => ⟨S_, .f32⟩
  | .hbm, ⟨20, _⟩ => ⟨S88x1024, .f32⟩
  | .hbm, ⟨21, _⟩ => ⟨S88x1024, .f32⟩
  | .hbm, ⟨22, _⟩ => ⟨S_, .f32⟩
  | .hbm, ⟨23, _⟩ => ⟨S88x1024, .f32⟩
  | .hbm, ⟨24, _⟩ => ⟨S88x1024, .f32⟩
  | .hbm, ⟨25, _⟩ => ⟨S88x1024, .f32⟩
  | .hbm, ⟨26, _⟩ => ⟨S_, .f32⟩
  | .hbm, ⟨27, _⟩ => ⟨S88x1024, .f32⟩
  | .hbm, ⟨28, _⟩ => ⟨S88x1024, .f32⟩
  | .hbm, ⟨29, _⟩ => ⟨S88x1024, .f32⟩
  | .hbm, ⟨30, _⟩ => ⟨S_, .f32⟩
  | .hbm, ⟨31, _⟩ => ⟨S88x1024, .f32⟩
  | .hbm, ⟨32, _⟩ => ⟨S88x1024, .f32⟩
  | .hbm, ⟨33, _⟩ => ⟨S88x1024, .f32⟩
  | .hbm, ⟨34, _⟩ => ⟨S_, .f32⟩
  | .hbm, ⟨35, _⟩ => ⟨S88x1024, .f32⟩
  | .hbm, ⟨36, _⟩ => ⟨S88x1024, .f32⟩
  | _, _ => ⟨S88x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== WAdaGrad.lean ====
abbrev S8x1024 : Shape := ⟨2, ![8, 1024]⟩
abbrev S8x1152 : Shape := ⟨2, ![8, 1152]⟩
abbrev S1024x1152 : Shape := ⟨2, ![1024, 1152]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .local _ .vmem, ⟨0, _⟩ => ⟨S8x1024, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== WAdaGradReferenceIdeal.lean ====
abbrev S8x1024 : Shape := ⟨2, ![8, 1024]⟩
abbrev S8x1152 : Shape := ⟨2, ![8, 1152]⟩
abbrev S_ : Shape := ⟨0, ![]⟩
abbrev S1024x8 : Shape := ⟨2, ![1024, 8]⟩
abbrev S1024x1152 : Shape := ⟨2, ![1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== SumGrads.lean ====
abbrev S8x2576x1024 : Shape := ⟨3, ![8, 2576, 1024]⟩
abbrev S2576x1024 : Shape := ⟨2, ![2576, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x2576x1024, .bf16⟩
  | .hbm, ⟨1, _⟩ => ⟨S2576x1024, .f32⟩
  | .local _ .vmem, ⟨0, _⟩ => ⟨S8x16x1024, .bf16⟩
  | .local _ .vmem, ⟨1, _⟩ => ⟨S8x16x1024, .bf16⟩
  | .local _ .vmem, ⟨2, _⟩ => ⟨S16x1024, .f32⟩
  | .local _ .vmem, ⟨3, _⟩ => ⟨S16x1024, .f32⟩
  | _, _ => ⟨S8x2576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![161], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGradsIdeal.lean ====
abbrev S8x2576x1024 : Shape := ⟨3, ![8, 2576, 1024]⟩
abbrev S2576x1024 : Shape := ⟨2, ![2576, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x2576x1024, .bf16⟩
  | .hbm, ⟨1, _⟩ => ⟨S2576x1024, .f32⟩
  | .local _ .vmem, ⟨0, _⟩ => ⟨S8x16x1024, .bf16⟩
  | .local _ .vmem, ⟨1, _⟩ => ⟨S8x16x1024, .bf16⟩
  | .local _ .vmem, ⟨2, _⟩ => ⟨S16x1024, .f32⟩
  | .local _ .vmem, ⟨3, _⟩ => ⟨S16x1024, .f32⟩
  | _, _ => ⟨S8x2576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![161], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGradsReferenceIdeal.lean ====
abbrev S8x2576x1024 : Shape := ⟨3, ![8, 2576, 1024]⟩
abbrev S_ : Shape := ⟨0, ![]⟩
abbrev S2576x1024 : Shape := ⟨2, ![2576, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2576x1024, .bf16⟩
  | .hbm, ⟨1, _⟩ => ⟨S8x2576x1024, .f32⟩
  | .hbm, ⟨2, _⟩ => ⟨S_, .f32⟩
  | .hbm, ⟨3, _⟩ => ⟨S2576x1024, .f32⟩
  | _, _ => ⟨S8x2576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmallGrads.lean ====
abbrev S8x88x1024 : Shape := ⟨3, ![8, 88, 1024]⟩
abbrev S88x1024 : Shape := ⟨2, ![88, 1024]⟩
abbrev S1x88x1024 : Shape := ⟨3, ![1, 88, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x88x1024, .f32⟩
  | .hbm, ⟨1, _⟩ => ⟨S88x1024, .f32⟩
  | .local _ .vmem, ⟨0, _⟩ => ⟨S8x88x1024, .f32⟩
  | .local _ .vmem, ⟨1, _⟩ => ⟨S88x1024, .f32⟩
  | _, _ => ⟨S8x88x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x88x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S88x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallGradsReferenceIdeal.lean ====
abbrev S8x88x1024 : Shape := ⟨3, ![8, 88, 1024]⟩
abbrev S_ : Shape := ⟨0, ![]⟩
abbrev S88x1024 : Shape := ⟨2, ![88, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x88x1024, .f32⟩
  | .hbm, ⟨1, _⟩ => ⟨S_, .f32⟩
  | .hbm, ⟨2, _⟩ => ⟨S88x1024, .f32⟩
  | _, _ => ⟨S8x88x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ModPart.lean ====
abbrev S8x1024 : Shape := ⟨2, ![8, 1024]⟩
abbrev S1024x1152 : Shape := ⟨2, ![1024, 1152]⟩
abbrev S1x1152 : Shape := ⟨2, ![1, 1152]⟩
abbrev S8x1152 : Shape := ⟨2, ![8, 1152]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S1x1152, .f32⟩
  | .local _ .vmem, ⟨3, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ModPartReferenceIdeal.lean ====
abbrev S8x1024 : Shape := ⟨2, ![8, 1024]⟩
abbrev S1024x1152 : Shape := ⟨2, ![1024, 1152]⟩
abbrev S1x1152 : Shape := ⟨2, ![1, 1152]⟩
abbrev S_ : Shape := ⟨0, ![]⟩
abbrev S8x1152 : Shape := ⟨2, ![8, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1152, .f32⟩
  | .hbm, ⟨13, _⟩ => ⟨S8x1152, .f32⟩
  | .hbm, ⟨14, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== ResidNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidNormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== GradX.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== GradXReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== GateBwd.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateBwdReferenceIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FfnFwd.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_23 : BitVec 32 := 0#32
  let v30 : BitVec 1 := Scalar.cmpi .ne v29 c0_i32_23
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnFwdReferenceIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S1024x2816, .f32⟩
  | .hbm, ⟨9, _⟩ => ⟨S8192x2816, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== ProjIn.lean ====
abbrev S8192x1024 : Shape := ⟨2, ![8192, 1024]⟩
abbrev S2688x1024 : Shape := ⟨2, ![2688, 1024]⟩
abbrev S8192x2688 : Shape := ⟨2, ![8192, 2688]⟩
abbrev S512x1024 : Shape := ⟨2, ![512, 1024]⟩
abbrev S896x1024 : Shape := ⟨2, ![896, 1024]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2688x1024, .bf16⟩
  | .hbm, ⟨2, _⟩ => ⟨S8192x2688, .f32⟩
  | .local _ .vmem, ⟨0, _⟩ => ⟨S512x1024, .bf16⟩
  | .local _ .vmem, ⟨1, _⟩ => ⟨S512x1024, .bf16⟩
  | .local _ .vmem, ⟨2, _⟩ => ⟨S896x1024, .bf16⟩
  | .local _ .vmem, ⟨3, _⟩ => ⟨S896x1024, .bf16⟩
  | .local _ .vmem, ⟨4, _⟩ => ⟨S512x896, .f32⟩
  | .local _ .vmem, ⟨5, _⟩ => ⟨S512x896, .f32⟩
  | .local _ .vmem, ⟨6, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInReferenceIdeal.lean ====
abbrev S8192x1024 : Shape := ⟨2, ![8192, 1024]⟩
abbrev S2688x1024 : Shape := ⟨2, ![2688, 1024]⟩
abbrev S1024x2688 : Shape := ⟨2, ![1024, 2688]⟩
abbrev S8192x2688 : Shape := ⟨2, ![8192, 2688]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2688x1024, .bf16⟩
  | .hbm, ⟨2, _⟩ => ⟨S8192x1024, .f32⟩
  | .hbm, ⟨3, _⟩ => ⟨S2688x1024, .f32⟩
  | .hbm, ⟨4, _⟩ => ⟨S1024x2688, .f32⟩
  | .hbm, ⟨5, _⟩ => ⟨S8192x2688, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WeightGrad.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGradReferenceIdeal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S2816x8192, .f32⟩
  | .hbm, ⟨4, _⟩ => ⟨S8192x1024, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FinalLoss.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S8192x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FinalLossReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_cst_9 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== FfnDh.lean ====
abbrev S8192x2816 : Shape := ⟨2, ![8192, 2816]⟩
abbrev S2816x1024 : Shape := ⟨2, ![2816, 1024]⟩
abbrev S8192x1024 : Shape := ⟨2, ![8192, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDhReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x2816, .f32⟩
  | .hbm, ⟨5, _⟩ => ⟨S2816x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ResidNorm3.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ResidNorm3ReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== MixGateBwd.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MixGateBwdReferenceIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutBwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutBwdReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixDwo.lean ====
abbrev S8192x1024 : Shape := ⟨2, ![8192, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwoReferenceIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjInBwd.lean ====
abbrev S8192x2688 : Shape := ⟨2, ![8192, 2688]⟩
abbrev S2688x1024 : Shape := ⟨2, ![2688, 1024]⟩
abbrev S8192x1024 : Shape := ⟨2, ![8192, 1024]⟩
abbrev S512x896 : Shape := ⟨2, ![512, 896]⟩
abbrev S896x1024 : Shape := ⟨2, ![896, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2688, .bf16⟩
  | .hbm, ⟨1, _⟩ => ⟨S2688x1024, .bf16⟩
  | .hbm, ⟨2, _⟩ => ⟨S8192x1024, .f32⟩
  | .local _ .vmem, ⟨0, _⟩ => ⟨S512x896, .bf16⟩
  | .local _ .vmem, ⟨1, _⟩ => ⟨S512x896, .bf16⟩
  | .local _ .vmem, ⟨2, _⟩ => ⟨S896x1024, .bf16⟩
  | .local _ .vmem, ⟨3, _⟩ => ⟨S896x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInBwdReferenceIdeal.lean ====
abbrev S8192x2688 : Shape := ⟨2, ![8192, 2688]⟩
abbrev S2688x1024 : Shape := ⟨2, ![2688, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2688, .bf16⟩
  | .hbm, ⟨1, _⟩ => ⟨S2688x1024, .bf16⟩
  | .hbm, ⟨2, _⟩ => ⟨S8192x2688, .f32⟩
  | .hbm, ⟨3, _⟩ => ⟨S2688x1024, .f32⟩
  | .hbm, ⟨4, _⟩ => ⟨S8192x1024, .f32⟩
  | _, _ => ⟨S8192x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjInDw.lean ====
abbrev S8192x2688 : Shape := ⟨2, ![8192, 2688]⟩
abbrev S8192x1024 : Shape := ⟨2, ![8192, 1024]⟩
abbrev S2688x1024 : Shape := ⟨2, ![2688, 1024]⟩
abbrev S512x896 : Shape := ⟨2, ![512, 896]⟩
abbrev S512x1024 : Shape := ⟨2, ![512, 1024]⟩
abbrev S896x1024 : Shape := ⟨2, ![896, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2688, .bf16⟩
  | .hbm, ⟨1, _⟩ => ⟨S8192x1024, .bf16⟩
  | .hbm, ⟨2, _⟩ => ⟨S2688x1024, .f32⟩
  | .local _ .vmem, ⟨0, _⟩ => ⟨S512x896, .bf16⟩
  | .local _ .vmem, ⟨1, _⟩ => ⟨S512x896, .bf16⟩
  | .local _ .vmem, ⟨2, _⟩ => ⟨S512x1024, .bf16⟩
  | .local _ .vmem, ⟨3, _⟩ => ⟨S512x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S8192x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwReferenceIdeal.lean ====
abbrev S8192x2688 : Shape := ⟨2, ![8192, 2688]⟩
abbrev S8192x1024 : Shape := ⟨2, ![8192, 1024]⟩
abbrev S2688x8192 : Shape := ⟨2, ![2688, 8192]⟩
abbrev S2688x1024 : Shape := ⟨2, ![2688, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2688, .bf16⟩
  | .hbm, ⟨1, _⟩ => ⟨S8192x1024, .bf16⟩
  | .hbm, ⟨2, _⟩ => ⟨S8192x2688, .f32⟩
  | .hbm, ⟨3, _⟩ => ⟨S2688x8192, .f32⟩
  | .hbm, ⟨4, _⟩ => ⟨S8192x1024, .f32⟩
  | .hbm, ⟨5, _⟩ => ⟨S2688x1024, .f32⟩
  | _, _ => ⟨S8192x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Wiring.lean ====
/-
# Seven copies out, seven copies in, one at home

Both exchanges of this problem have the same wiring.  A device has seven pairs of semaphores, one pair for each copy that it
sends, and one more semaphore for the copy that it makes at home.  Copy `k` of device `c` goes to `peer k c`; it credits send
semaphore `k` of `c` once the source has been read, and receive semaphore `k` of `peer k c` once the destination has been
written.  `peer k` is its own inverse, so every receive semaphore is credited by exactly one copy.  Every semaphore is credited
once and waited on once, always by the same number of units.

This file says that once for any machine: a semaphore's credit hands its owner a given payload (`pay`); `wp_send`, `wp_home` and
`wp_take` are the rules of a copy to a peer, of the copy at home and of a wait; `close` gives the semaphore back at zero; `fund`
makes all of it from semaphores at zero; `launch_credit` is what the launch deals for the copies still due.
-/
module

public import Idealize.ShloMosaic.Lib.Pipeline.Launch
public import Idealize.ShloMosaic.Lib.Pipeline.Kit
public import Idealize.ShloMosaic.Lib.Rounds
public import Idealize.ShloMosaic.Lib.Tactic

@[expose] public section

set_option Elab.async false

noncomputable section

namespace Cert.Wiring

open Idealize.ShloMosaic
open TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- A device's semaphores: seven for the copies it sends, seven for those it receives, one for the copy at home. -/
abbrev Slot : Type := Fin 7 ⊕ Fin 7 ⊕ Unit
abbrev snd (k : Fin 7) : Slot := .inl k
abbrev rcv (k : Fin 7) : Slot := .inr (.inl k)
abbrev home : Slot := .inr (.inr ())

/-- Which semaphores play which part, who copies to whom, and how many units one copy credits. -/
structure Plan (nD : Nat) (sig : RefSig) where
  sem : Slot → SemLoc sig
  sem_inj : Function.Injective sem
  peer : Fin 7 → Dev nD → Dev nD
  peer_peer : ∀ k c, peer k (peer k c) = c
  N : ℕ
  N_pos : 0 < N

variable {nD : Nat} {τ : Topo} {sig : RefSig} {Val : EltTy → Type} {Name : Type} [DecidableEq Name] {U : Type} [URA U]

local notation "𝕄" => MT nD τ sig Unit Val Name U ℕ

variable (pl : Plan nD sig) (ER : Emb (URounds (GSem nD τ sig) Unit) (MT nD τ sig Unit Val Name U ℕ))
  (pay : Dev nD → Slot → sProp (MT nD τ sig Unit Val Name U ℕ))

/-- Semaphore `s` of device `c`. -/
abbrev Plan.cell (c : Dev nD) (s : Slot) : GSem nD τ sig := ((c.tc : Thread nD τ), pl.sem s)

/-- Every semaphore has one round of one credit of `N` units, which hands the owner the semaphore's payload. -/
def sched : Schedule (GSem nD τ sig) Unit 𝕄 where
  duties _ r := if r = 0 then {()} else ∅
  amount _ _ _ := pl.N
  payload g _ _ := bigSep (Finset.univ.filter fun s => pl.sem s = g.2) fun s => pay g.1.1 s
  amount_pos _ _ _ _ := pl.N_pos

theorem payload_cell (c : Dev nD) (s : Slot) (r : ℕ) (d : Unit) : (sched (τ := τ) pl pay).payload (pl.cell c s) r d = pay c s := by
  dsimp only [sched]
  rw [show (Finset.univ.filter fun s' => pl.sem s' = (pl.cell (τ := τ) c s).2) = {s} from
    Finset.ext fun s' => by simp only [Finset.mem_filter, Finset.mem_univ, true_and, Finset.mem_singleton]; exact pl.sem_inj.eq_iff, bigSep_singleton]

theorem mem_duties (g : GSem nD τ sig) : () ∈ (sched pl pay).duties g 0 := by
  dsimp only [sched]; rw [if_pos rfl]; exact Finset.mem_singleton_self _

theorem duties_zero (g : GSem nD τ sig) : (sched pl pay).duties g 0 = {()} := by dsimp only [sched]; exact if_pos rfl

theorem duties_later (g : GSem nD τ sig) : ∀ r, 0 + 1 ≤ r → (sched pl pay).duties g r = ∅ := fun r hr => by
  dsimp only [sched]; exact if_neg fun h => by omega

theorem expect_zero (g : GSem nD τ sig) : (sched pl pay).expect g 0 = pl.N := by
  unfold Schedule.expect Schedule.amountOf; rw [duties_zero, Finset.sum_singleton]; rfl

/-- Every payload may be kept in an invariant. -/
def Stores : Prop := ∀ (c : Dev nD) (s : Slot), BI.Storable (upEmb : UEmb _ 𝕄) (pay c s)

theorem sched_storable (hst : Stores pay) (g : GSem nD τ sig) (r : ℕ) (d : Unit) : BI.Storable (upEmb : UEmb _ 𝕄) ((sched pl pay).payload g r d) := by
  have := fun s => hst g.1.1 s
  show BI.Storable upEmb (bigSep (Finset.univ.filter fun s => pl.sem s = g.2) fun s => pay g.1.1 s)
  exact BI.Storable.bigSep _ _ _

/-- The semaphore follows its plan. -/
def inv (c : Dev nD) (s : Slot) : sProp 𝕄 := iprop(∃ κ, cellInv ER (sched pl pay) κ (pl.cell c s))
/-- Every semaphore of every device follows its plan. -/
def invs : sProp 𝕄 := bigSep Finset.univ fun x : Dev nD × Slot => inv pl ER pay x.1 x.2
/-- The right to credit semaphore `s` of device `c`. -/
def tok (c : Dev nD) (s : Slot) : sProp 𝕄 := iprop(dutyTok ER (pl.cell c s) 0 () ∗ reached ER (pl.cell c s) 0)
/-- The owner has not waited on the semaphore yet. -/
def fresh (c : Dev nD) (s : Slot) : sProp 𝕄 := atPos ER (pl.cell c s) 0 ∅ 0
/-- The owner has waited on the semaphore. -/
def spent (c : Dev nD) (s : Slot) : sProp 𝕄 := atPos ER (pl.cell c s) (0 + 1) ∅ 0

instance inv_persistent (c : Dev nD) (s : Slot) : BI.Persistent (inv pl ER pay c s) := by unfold inv; infer_instance
instance invs_persistent : BI.Persistent (invs pl ER pay) := by unfold invs; infer_instance

theorem invs_elim (c : Dev nD) (s : Slot) : invs pl ER pay ⊢ inv pl ER pay c s := by
  classical
  exact BI.bigSep_elim (Φ := fun x : Dev nD × Slot => inv pl ER pay x.1 x.2) (Finset.mem_univ (c, s))

/-! ## The launch -/

theorem cell_inj : Function.Injective fun x : Dev nD × Slot => (pl.cell x.1 x.2 : GSem nD τ sig) := fun x y h => by
  have h1 := congrArg (fun g : GSem nD τ sig => g.1.1) h
  have h2 : pl.sem x.2 = pl.sem y.2 := congrArg (fun g : GSem nD τ sig => g.2) h
  exact Prod.ext h1 (pl.sem_inj h2)

/-- All the semaphores, and the one credit that each is to receive. -/
def cells : Finset (GSem nD τ sig) := Finset.univ.map ⟨fun x : Dev nD × Slot => (pl.cell x.1 x.2 : GSem nD τ sig), cell_inj pl⟩
def toks : Finset (GSem nD τ sig × ℕ × Unit) :=
  Finset.univ.map ⟨fun x : Dev nD × Slot => ((pl.cell x.1 x.2 : GSem nD τ sig), 0, ()), fun x y h => cell_inj (τ := τ) pl (congrArg Prod.fst h)⟩

/-- From every semaphore at zero: every semaphore follows its plan, and the rights to credit them and to wait on them. -/
theorem fund [Infinite Name] [ER.LandsIn (upEmb : UEmb _ 𝕄)] (hst : Stores pay) :
    iprop((bigSep Finset.univ fun c => bigSep Finset.univ fun s => (semVal (pl.cell c s) 0 : sProp 𝕄)) ∗ BI.own (ER (initOf (cells pl) (toks pl))))
      ⊢ |={Set.univ}=> iprop(invs pl ER pay ∗ (bigSep Finset.univ fun x : Dev nD × Slot => tok pl ER x.1 x.2)
          ∗ bigSep Finset.univ fun c => bigSep Finset.univ fun s => fresh pl ER c s) := by
  have := sched_storable pl pay hst
  have hone : ∀ x : Dev nD × Slot, (iprop(semVal (pl.cell x.1 x.2) 0 ∗ roundState ER (sched pl pay) (pl.cell x.1 x.2) 0) : sProp 𝕄)
      ⊢ |={Set.univ}=> inv pl ER pay x.1 x.2 := fun x => by
    iintro H
    ihave Hb := (body_intro ER (sched pl pay) (pl.cell x.1 x.2)) $$ H
    imod (Idealize.ShloMosaic.inv_alloc (E := Set.univ) (P := body ER (sched pl pay) (pl.cell x.1 x.2))) $$ Hb with ⟨%κ, H⟩
    imodintro
    unfold inv
    iexists κ
    iexact H
  have hfund : BI.own (ER (initOf (cells (τ := τ) pl) (toks pl))) ⊢ (|==> iprop((bigSep Finset.univ fun x : Dev nD × Slot => roundState ER (sched pl pay) (pl.cell x.1 x.2) 0)
      ∗ (bigSep Finset.univ fun x : Dev nD × Slot => reached ER (pl.cell x.1 x.2) 0) ∗ (bigSep Finset.univ fun x : Dev nD × Slot => atPos ER (pl.cell x.1 x.2) 0 ∅ 0)
      ∗ bigSep Finset.univ fun x : Dev nD × Slot => dutyTok ER (pl.cell x.1 x.2) 0 ()) : sProp 𝕄) := by
    have h := Rounds.fund ER (sched pl pay) (cells (τ := τ) pl) (toks pl)
    unfold cells toks at h
    rw [BI.bigSep_map, BI.bigSep_map, BI.bigSep_map, BI.bigSep_map] at h
    exact h
  have halloc : (bigSep Finset.univ fun x : Dev nD × Slot => (iprop(semVal (pl.cell x.1 x.2) 0 ∗ roundState ER (sched pl pay) (pl.cell x.1 x.2) 0) : sProp 𝕄))
      ⊢ |={Set.univ}=> invs pl ER pay := by
    unfold invs
    exact (bigSep_mono fun x _ => hone x).trans (BI.bigSep_fupd _ _)
  iintro ⟨Hv, Hu⟩
  imod hfund $$ Hu with ⟨Hst, #Hr, Hat, Ht⟩
  imod halloc $$ [Hv Hst] with #HI
  · rw [bigSep_sep']
    isplitl [Hv]; · iapply (Entails.of_eq (bigSep_univ_prod fun x : Dev nD × Slot => (semVal (pl.cell x.1 x.2) 0 : sProp 𝕄)).symm); iexact Hv
    iexact Hst
  imodintro
  isplitr; · iexact HI
  isplitl [Ht]
  · unfold tok
    rw [bigSep_sep']
    isplitl [Ht]; · iexact Ht
    iexact Hr
  · iapply (Entails.of_eq (bigSep_univ_prod fun x : Dev nD × Slot => (fresh pl ER x.1 x.2 : sProp 𝕄)))
    unfold fresh; iexact Hat

/-- Whose semaphore `s` device `c` credits: its own for a source read and for the copy at home, its peer's for an arrival. -/
def payee (c : Dev nD) (s : Slot) : Dev nD := match s with
  | .inr (.inl k) => pl.peer k c
  | _ => c

theorem payee_payee (c : Dev nD) (s : Slot) : payee pl (payee pl c s) s = c := by
  rcases s with k | k | u
  · rfl
  · exact pl.peer_peer k c
  · rfl

/-- The rights to credit, each to the device that uses it. -/
theorem tok_deal : (bigSep Finset.univ fun x : Dev nD × Slot => (tok pl ER x.1 x.2 : sProp 𝕄))
    = bigSep Finset.univ fun c => iprop((bigSep Finset.univ fun k => tok pl ER c (snd k)) ∗ (bigSep Finset.univ fun k => tok pl ER (pl.peer k c) (rcv k))
        ∗ tok pl ER c home) := by
  let e : Dev nD × Slot ≃ Dev nD × Slot := ⟨fun x => (payee pl x.1 x.2, x.2), fun x => (payee pl x.1 x.2, x.2),
    fun x => Prod.ext (payee_payee pl x.1 x.2) rfl, fun x => Prod.ext (payee_payee pl x.1 x.2) rfl⟩
  rw [bigSep_univ_equiv e, bigSep_univ_prod]
  refine bigSep_congr fun c _ => ?_
  rw [bigSep_univ_sum, bigSep_univ_sum, bigSep_univ_of_subsingleton ()]
  rfl

/-- The arrivals that the copies `l` of device `c` still have to pay for. -/
def dues (c : Dev nD) : List (Fin 7) → CellTallies nD τ sig Unit
  | [] => 0
  | k :: l => dues c l + tallyAt (pl.cell (pl.peer k c) (rcv k)) () pl.N

theorem dues_pos {c : Dev nD} : ∀ {l : List (Fin 7)} {g : GSem nD τ sig} {u : Unit}, 0 < dues pl c l g u → ∃ k ∈ l, g = pl.cell (pl.peer k c) (rcv k)
  | [], g, u, h => absurd h (Nat.lt_irrefl 0)
  | k :: l, g, u, h => by
    by_cases hg : g = pl.cell (pl.peer k c) (rcv k)
    · exact ⟨k, List.mem_cons_self, hg⟩
    · unfold dues at h
      rw [Pi.add_apply, Finsupp.add_apply, tallyAt_apply, if_neg fun h' => hg h'.1, Nat.add_zero] at h
      obtain ⟨k', hk, e⟩ := dues_pos h
      exact ⟨k', List.mem_cons_of_mem _ hk, e⟩

/-- What the launch deals a device: for each copy the others are due to send it, the credit to wait for its arrival. -/
theorem launch_credit (c : Dev nD) : ∀ l : List (Fin 7),
    (Pipeline.launchCred (fun d => dues pl d l) c : sProp 𝕄) ⊢ bigSepL l fun k => cred (tallyAt (pl.cell c (rcv k)) () pl.N)
  | [] => by
    rw [show (fun d => dues (τ := τ) pl d []) = fun _ => 0 from rfl, Pipeline.launchCred_zero]; rfl
  | k :: l => by
    rw [show (fun d => dues (τ := τ) pl d (k :: l)) = fun d => dues pl d l + tallyAt (pl.cell (pl.peer k d) (rcv k)) () pl.N from rfl,
      Pipeline.launchCred_add, bigSepL_cons]
    show _ ⊢ iprop(_ ∗ _)
    iintro ⟨Hl, Hk⟩
    isplitl [Hk]
    · iapply (Pipeline.launchCred_tallyAt (pl.sem (rcv k)) (pl.peer k) (pl.peer k) (pl.peer_peer k) (pl.peer_peer k) () pl.N c); iexact Hk
    · iapply (launch_credit c l); iexact Hl

/-- Levels: every semaphore of a TensorCore has one, by the semaphore alone. -/
def Lt (g : GSem nD τ sig) : Finset Unit := if g.1.2 = .tc then {()} else ∅
theorem Lt_of_ne (g : GSem nD τ sig) (h : g.1.2 ≠ .tc) : Lt g = ∅ := if_neg h

/-- A wait below the arrivals still due. -/
theorem mayWait_dues (lv : SemLoc sig → ℕ) (c : Dev nD) (sm : SemLoc sig) (l : List (Fin 7)) (h : ∀ k ∈ l, lv sm < lv (pl.sem (rcv k))) :
    (levAts Lt (fun g _ => lv g.2) : sProp 𝕄) ⊢ MayWait (c.tc : Thread nD τ) sm () (dues pl c l) :=
  MayOwe.of_cut (L := Lt) (lev := fun g _ => lv g.2) (lv sm)
    (fun p hp => by rw [Finset.mem_singleton.mp hp]; unfold Lt; rw [if_pos rfl]; exact Finset.mem_singleton_self _)
    (fun g u hg => by obtain ⟨k, -, rfl⟩ := dues_pos pl hg; unfold Lt; rw [if_pos rfl]; exact Finset.mem_singleton_self _)
    (fun p hp => by rw [Finset.mem_singleton.mp hp])
    (fun g u hg => by obtain ⟨k, hk, rfl⟩ := dues_pos pl hg; exact h k hk)

/-! ## The rules -/

section Rules

variable {Λ : Labels} {defs : Defs nD τ sig Val Λ} (𝒱 : Variants) {α : Type} {Q : α → sProp (MT nD τ sig Unit Val Name U ℕ)}
variable {sp sp' : Space} {s : Shape} {e : EltTy}

/-- Copy `k` to the peer: its source, its destination on the peer, the two rights to credit.  The send semaphore's payload is the
    source, the receive semaphore's the destination rewritten. -/
theorem wp_send (c p : Dev nD) (k : Fin 7) (hp : p = pl.peer k c) (l : List (Fin 7)) {src : Memref sig .tc sp s e} {dst : Memref sig .tc sp' s e}
    {hsc : (dst : Memref sig (Dev.tc p : Thread nD τ).2.kind sp' s e).view.ref.isScScratch = false} {sS sR : SemLoc sig} (hS : sS = pl.sem (snd k)) (hR : sR = pl.sem (rcv k))
    {hsrc : src.view.WordExact} {hdst : dst.view.WordExact} {hsem : DmaTarget.Typed sp sR (.remote (Dev.tc p : Thread nD τ) dst sS hsc)}
    {kk : PUnit → Prog (TpuEff nD τ sig Val Λ .tc) α} {q : PosShare TreeShare}
    {fs : Buf Val (src.view.loc (c.tc : Thread nD τ))} {fd : Buf Val (dst.view.loc ((pl.peer k c).tc : Thread nD τ))}
    (hN : dst.view.amount sR = pl.N) {W : Waits sig Unit}
    (hpayS : (src.view.loc (c.tc : Thread nD τ) ↦[src.view.set]{q} fs) ⊢ pay c (snd k))
    (hpayR : (dst.view.loc ((pl.peer k c).tc : Thread nD τ) ↦[dst.view.set]{fullShare} (dst.view.write Val fd (src.view.read Val fs) Finset.univ))
      ⊢ pay (pl.peer k c) (rcv k)) (hr : τ.routes (c.tc : Thread nD τ) ((pl.peer k c).tc : Thread nD τ) = true) :
    iprop(invs pl ER pay ∗ (src.view.loc (c.tc : Thread nD τ) ↦[src.view.set]{q} fs) ∗ (dst.view.loc ((pl.peer k c).tc : Thread nD τ) ↦[dst.view.set]{fullShare} fd)
        ∗ tok pl ER c (snd k) ∗ tok pl ER (pl.peer k c) (rcv k) ∗ owes (c.tc : Thread nD τ) (dues pl c (k :: l)) W)
      ⊢ iprop(((cred (tallyAt (pl.cell c (snd k)) () pl.N) ∗ owes (c.tc : Thread nD τ) (dues pl c l) W) -∗ wp frame (wpE defs 𝒱 (c.tc : Thread nD τ) none) Set.univ (kk ⟨⟩) Q)
          -∗ wp frame (wpE defs 𝒱 (c.tc : Thread nD τ) none) Set.univ (.op (.enqueueDma src (.remote (Dev.tc p : Thread nD τ) dst sS hsc) sR hsrc hdst hsem) kk) Q) := by
  subst hp hS hR
  unfold tok
  iintro ⟨#HI, Hx, Ho, ⟨HtS, HrS⟩, ⟨HtR, HrR⟩, HO⟩ Hk
  ihave HIS := (invs_elim pl ER pay c (snd k)) $$ HI
  ihave HIR := (invs_elim pl ER pay (pl.peer k c) (rcv k)) $$ HI
  unfold inv
  icases HIS with ⟨%κ₁, HIS⟩
  icases HIR with ⟨%κ₂, HIR⟩
  iapply (Rounds.wp_send_pointsTo 𝒱 ER (sched pl pay) (c.tc : Thread nD τ) none (κ₁ := κ₁) (κ₂ := κ₂) (r₁ := 0) (r₂ := 0) (d₁ := ()) (d₂ := ()) (fd := fd)
    (mem_duties pl pay _) (mem_duties pl pay _) () () pl.N hN rfl rfl (dues pl c l) rfl (W := W)
    (by rw [payload_cell]; exact hpayS) (by rw [payload_cell]; exact hpayR) hr) $$ [HIS HIR Hx Ho HO HtS HrS HtR HrR]
  · isplitl [HIS]; · iexact HIS
    isplitl [HIR]; · iexact HIR
    isplitl [Hx]; · iexact Hx
    isplitl [Ho]; · iexact Ho
    isplitl [HO]; · iexact HO
    isplitl [HtS]; · iexact HtS
    isplitl [HrS]; · iexact HrS
    isplitl [HtR]; · iexact HtR
    iexact HrR
  iexact Hk

/-- The copy at home: the payload is the destination rewritten, and the source. -/
theorem wp_home (c : Dev nD) {src : Memref sig .tc sp s e} {dst : Memref sig .tc sp' s e} {sm : SemLoc sig} (hS : sm = pl.sem home)
    {hsrc : src.view.WordExact} {hdst : dst.view.WordExact} {hsem : DmaTarget.Typed (nD := nD) (p := (Proc.tc : Proc τ)) sp sm (.here dst)}
    {kk : PUnit → Prog (TpuEff nD τ sig Val Λ .tc) α} {q : PosShare TreeShare}
    {fs : Buf Val (src.view.loc (c.tc : Thread nD τ))} {fd : Buf Val (dst.view.loc (c.tc : Thread nD τ))}
    (hN : dst.view.amount sm = pl.N)
    (hpay : iprop((dst.view.loc (c.tc : Thread nD τ) ↦[dst.view.set]{fullShare} (dst.view.write Val fd (src.view.read Val fs) Finset.univ))
        ∗ (src.view.loc (c.tc : Thread nD τ) ↦[src.view.set]{q} fs)) ⊢ pay c home) :
    iprop(invs pl ER pay ∗ (src.view.loc (c.tc : Thread nD τ) ↦[src.view.set]{q} fs) ∗ (dst.view.loc (c.tc : Thread nD τ) ↦[dst.view.set]{fullShare} fd)
        ∗ tok pl ER c home)
      ⊢ iprop((cred (tallyAt (pl.cell c home) () pl.N) -∗ wp frame (wpE defs 𝒱 (c.tc : Thread nD τ) none) Set.univ (kk ⟨⟩) Q)
          -∗ wp frame (wpE defs 𝒱 (c.tc : Thread nD τ) none) Set.univ (.op (.enqueueDma src (.here dst) sm hsrc hdst hsem) kk) Q) := by
  subst hS
  unfold tok
  iintro ⟨#HI, Hx, Ho, ⟨HtS, HrS⟩⟩ Hk
  ihave HIS := (invs_elim pl ER pay c home) $$ HI
  unfold inv
  icases HIS with ⟨%κ₁, HIS⟩
  iapply (Rounds.wp_copy_pointsTo 𝒱 ER (sched pl pay) (c.tc : Thread nD τ) none (κ := κ₁) (r := 0) (d := ()) (fd := fd)
    (mem_duties pl pay _) () pl.N hN rfl (by rw [payload_cell]; exact hpay)) $$ [HIS Hx Ho HtS HrS]
  · isplitl [HIS]; · iexact HIS
    isplitl [Hx]; · iexact Hx
    isplitl [Ho]; · iexact Ho
    isplitl [HtS]; · iexact HtS
    iexact HrS
  iexact Hk

/-- A wait: the owner gets the semaphore's payload. -/
theorem wp_take (c : Dev nD) (x : Slot) {q : DmaSem sig} (hq : SemLoc.dma q = pl.sem x) {O : CellTallies nD τ sig Unit} {W : Waits sig Unit}
    {src : Memref sig .tc sp s e} {dst : Memref sig .tc sp' s e} {hsrc : src.view.WordExact} {hdst : dst.view.WordExact} (hN : dst.view.dmaCredit = pl.N)
    {kk : PUnit → Prog (TpuEff nD τ sig Val Λ .tc) α} :
    iprop(invs pl ER pay ∗ cred (tallyAt (pl.cell c x) () pl.N) ∗ fresh pl ER c x ∗ MayWait (c.tc : Thread nD τ) (pl.sem x) () O ∗ owes (c.tc : Thread nD τ) O W)
      ⊢ iprop(((pay c x ∗ spent pl ER c x ∗ owes (c.tc : Thread nD τ) O (insert (pl.sem x, ()) W)) -∗ wp frame (wpE defs 𝒱 (c.tc : Thread nD τ) none) Set.univ (kk ⟨⟩) Q)
          -∗ wp frame (wpE defs 𝒱 (c.tc : Thread nD τ) none) Set.univ (.op (.waitDma2 q src dst hsrc hdst) kk) Q) := by
  have hrest : bigSep ((sched (τ := τ) pl pay).duties ((c.tc : Thread nD τ), SemLoc.dma q) 0 \ ∅)
      (fun d => (sched pl pay).payload ((c.tc : Thread nD τ), SemLoc.dma q) 0 d) = pay c x := by
    rw [Finset.sdiff_empty, duties_zero, bigSep_singleton, hq]
    exact payload_cell pl pay c x 0 ()
  unfold fresh spent
  rw [Plan.cell, ← hq]
  iintro ⟨#HI, Hc, Hat, HM, HO⟩ Hk
  ihave HIS := (invs_elim pl ER pay c x) $$ HI
  unfold inv
  rw [Plan.cell, ← hq]
  icases HIS with ⟨%κ, HIS⟩
  iapply (Rounds.wp_wait_rest_token 𝒱 ER (sched pl pay) (c.tc : Thread nD τ) none (κ := κ)
      (wpE_waitDma2_eq 𝒱 (c.tc : Thread nD τ) none Set.univ) (Set.mem_univ _) () (O := O) (W := W) (R := 0) (m := 0) (T := ∅)
      (by rw [Nat.zero_add, hN, expect_zero])) $$ [HIS Hc HO HM Hat]
  · isplitl [HIS]; · iexact HIS
    isplitl [Hc]; · rw [hN]; iexact Hc
    isplitl [HO]; · iexact HO
    isplitl [HM]; · iexact HM
    iexact Hat
  iintro ⟨HO, Hat, -, Hpay⟩
  iapply Hk
  isplitl [Hpay]
  · iapply (Entails.of_eq hrest); iexact Hpay
  isplitl [Hat]; · iexact Hat
  iexact HO

end Rules

/-- After its wait a semaphore is given back at zero. -/
theorem close (c : Dev nD) (s : Slot) : iprop(invs pl ER pay ∗ spent pl ER c s) ⊢ |={Set.univ}=> (semVal (pl.cell c s) 0 : sProp 𝕄) := by
  iintro ⟨HI, Hat⟩
  ihave HIS := (invs_elim pl ER pay c s) $$ HI
  unfold inv spent
  icases HIS with ⟨%κ, HIS⟩
  iapply (Rounds.cell_close ER (sched pl pay) (Set.mem_univ κ) (fun h => h) (R := 0 + 1) (duties_later pl pay (pl.cell c s)))
  isplitl [HIS] <;> iassumption

/-- All of a device's semaphores given back at zero. -/
theorem close_all (c : Dev nD) : iprop(invs pl ER pay ∗ bigSep Finset.univ fun s => spent pl ER c s)
    ⊢ |={Set.univ}=> bigSep Finset.univ fun s => (semVal (pl.cell c s) 0 : sProp 𝕄) := by
  refine (bigSep_with_persistent (S := Finset.univ) (fun s _ => close pl ER pay c s)).trans ?_
  exact BI.bigSep_fupd _ _

end Cert.Wiring

end
-- ==== Proof.Rows.lean ====
/-
# The rows of a stack

Both exchanges move rows: a stack is an array of `n` rows, each an `R × C` matrix, and a copy reads one row (or a whole matrix)
and writes one row.  `rowSet M r` is where row `r` of the stack `M` lies in its buffer, `rowRef M off` the memref that a kernel
forms for the row at offset `off`.  A stack is held row by row (`stack_rows`, over any listing of the rows), and after a copy the
destination's row holds the source's (`row_copied`, `slab_copied`).
-/
module

public import Idealize.ShloMosaic.Lib.Pipeline.Launch
public import Idealize.ShloMosaic.Lib.Ring

@[expose] public section

set_option Elab.async false

noncomputable section

namespace Cert.Rows

open Idealize.ShloMosaic
open TcCoe
open Idealize.SL Idealize.SL.RA Idealize.SL.BI
open scoped Idealize.SL.BI
open Idealize.SL.BI.BIBase Idealize.SL.BI.Laws Idealize.SL.ProofMode Idealize.SL.Sem

/-- A stack of `n` matrices, and one matrix. -/
abbrev Stack (n R C : ℕ) : Shape := ⟨3, ![n, R, C]⟩
abbrev Slab (R C : ℕ) : Shape := ⟨2, ![R, C]⟩

variable {sig : RefSig} {n R C : ℕ} {sp sp' : Space} {e : EltTy}

/-- The indices of row `r`. -/
def rowIdx (n R C r : ℕ) : Finset (Stack n R C).Idx := Finset.univ.filter fun i => (i 0 : ℕ) = r
/-- The elements of row `r` of the stack `M` in its buffer. -/
def rowSet (M : Memref sig .tc sp (Stack n R C) e) (r : ℕ) : Finset M.view.ty.Idx := (rowIdx n R C r).map M.view.emb

/-- The memref of one row: a slice one row thick with the unit axis dropped. -/
abbrev rowRef (M : Memref sig .tc sp (Stack n R C) e) (off : Fin 3 → ℕ) (inb : ∀ a, off a + (Stack 1 R C).size a ≤ (Stack n R C).size a)
    (hq : (Stack 1 R C).Squeezes (Slab R C)) : Memref sig .tc sp (Slab R C) e :=
  (M.slice (Rect.unit (s := Stack n R C) off (Stack 1 R C).size inb) (fun _ => rfl)).squeeze (Slab R C) hq

theorem rect_set {off : Fin 3 → ℕ} {r : ℕ} (h : off = ![r, 0, 0]) (inb : ∀ a, off a + (Stack 1 R C).size a ≤ (Stack n R C).size a) :
    (Rect.unit (s := Stack n R C) off (Stack 1 R C).size inb).set = rowIdx n R C r := by
  subst h
  ext i
  rw [Rect.mem_set_unit, rowIdx, Finset.mem_filter]
  constructor
  · intro hi
    have h0 : r ≤ (i 0 : ℕ) ∧ (i 0 : ℕ) < r + 1 := hi 0
    exact ⟨Finset.mem_univ _, by omega⟩
  · rintro ⟨-, hi⟩ a
    have h1 : (i 1 : ℕ) < R := (i 1).isLt
    have h2 : (i 2 : ℕ) < C := (i 2).isLt
    match a with
    | ⟨0, _⟩ => show r ≤ (i 0 : ℕ) ∧ (i 0 : ℕ) < r + 1; omega
    | ⟨1, _⟩ => show 0 ≤ (i 1 : ℕ) ∧ (i 1 : ℕ) < 0 + R; omega
    | ⟨2, _⟩ => show 0 ≤ (i 2 : ℕ) ∧ (i 2 : ℕ) < 0 + C; omega

theorem set_rowRef (M : Memref sig .tc sp (Stack n R C) e) {off : Fin 3 → ℕ} {r : ℕ} (h : off = ![r, 0, 0])
    (inb : ∀ a, off a + (Stack 1 R C).size a ≤ (Stack n R C).size a) (hq : (Stack 1 R C).Squeezes (Slab R C)) :
    (rowRef M off inb hq).view.set = rowSet M r := by
  refine (View.set_reshape _ _).trans ((View.set_slice _ _).trans ?_)
  rw [rect_set h]; rfl

/-- The rows that a listing names are disjoint if it names no row twice, -/
theorem rows_disjoint (M : Memref sig .tc sp (Stack n R C) e) {I : Type} (f : I → Fin n) (hf : Function.Injective f) (a b : I) (h : a ≠ b) :
    Disjoint (rowSet M (f a)) (rowSet M (f b)) := by
  unfold rowSet
  rw [Finset.disjoint_map]
  refine Finset.disjoint_left.mpr fun i ha hb => h (hf (Fin.ext ?_))
  unfold rowIdx at ha hb
  rw [← (Finset.mem_filter.mp ha).2, (Finset.mem_filter.mp hb).2]

/-- and fill the buffer of a whole stack if it names every row. -/
theorem rows_cover (M : Memref sig .tc sp (Stack n R C) e) (hM : M.IsWhole) {I : Type} [Fintype I] (f : I → Fin n) (hf : Function.Surjective f) :
    Finset.univ.biUnion (fun a => rowSet M (f a)) = Finset.univ := by
  classical
  refine Finset.eq_univ_of_forall fun j => ?_
  have hj : j ∈ M.view.set := by rw [hM.set_eq_univ]; exact Finset.mem_univ j
  obtain ⟨i, -, rfl⟩ := Finset.mem_map.mp hj
  obtain ⟨a, ha⟩ := hf (i 0)
  refine Finset.mem_biUnion.mpr ⟨a, Finset.mem_univ a, Finset.mem_map_of_mem _ ?_⟩
  unfold rowIdx
  exact Finset.mem_filter.mpr ⟨Finset.mem_univ _, by rw [ha]⟩

variable {nD : Nat} {τ : Topo} {Val : EltTy → Type} {Ix : Type} [DecidableEq Ix] {Name : Type} [DecidableEq Name] {U : Type} [URA U] {Lvl : Type}

/-- A stack that is a whole buffer is held row by row. -/
theorem stack_rows (M : Memref sig .tc sp (Stack n R C) e) (hM : M.IsWhole) (c : Dev nD) (q : PosShare TreeShare)
    (f : Buf Val (M.view.loc (c.tc : Thread nD τ))) {I : Type} [Fintype I] (who : I → Fin n) (hw : Function.Bijective who) :
    (M.view.loc (c.tc : Thread nD τ) ↦{q} f : sProp (MT nD τ sig Ix Val Name U Lvl))
      = bigSep Finset.univ fun a => M.view.loc (c.tc : Thread nD τ) ↦[rowSet M (who a)]{q} f := by
  have hcov : (Finset.univ.biUnion fun a => (rowSet M (who a) : Finset (Idx (M.view.loc (c.tc : Thread nD τ))))) = Finset.univ :=
    rows_cover M hM who hw.2
  have h := pointsTo_biUnion (ℓ := M.view.loc (c.tc : Thread nD τ)) (q := q) (f := f) (Ix := Ix) (Name := Name) (U := U) (Lvl := Lvl) Finset.univ
    (fun a => (rowSet M (who a) : Finset (Idx (M.view.loc (c.tc : Thread nD τ))))) (fun a _ b _ h => rows_disjoint M who hw.1 a b h)
  rw [hcov] at h
  exact h

/-- After the copy of a row onto a row, the destination's row is row `ro` of any stack `g` whose row `ro` is the source's row `rx`. -/
theorem row_copied (Mx : Memref sig .tc sp (Stack n R C) e) (Mo : Memref sig .tc sp' (Stack n R C) e) {offx offo : Fin 3 → ℕ} {rx ro : ℕ}
    (hx : offx = ![rx, 0, 0]) (ho : offo = ![ro, 0, 0]) (inbx : ∀ a, offx a + (Stack 1 R C).size a ≤ (Stack n R C).size a)
    (inbo : ∀ a, offo a + (Stack 1 R C).size a ≤ (Stack n R C).size a) (hq hq' : (Stack 1 R C).Squeezes (Slab R C))
    (fd g : Mo.view.ty.Contents Val) (fs : Mx.view.ty.Contents Val)
    (hg : ∀ i j : (Stack n R C).Idx, (i 0 : ℕ) = ro → (j 0 : ℕ) = rx → (i 1 : ℕ) = j 1 → (i 2 : ℕ) = j 2 → Mo.view.read Val g i = Mx.view.read Val fs j) :
    ∀ p ∈ (rowRef Mo offo inbo hq).view.set,
      (rowRef Mo offo inbo hq).view.write Val fd ((rowRef Mx offx inbx hq').view.read Val fs) Finset.univ p = g p := by
  subst hx ho
  intro p hp
  obtain ⟨y, -, rfl⟩ := Finset.mem_map.mp hp
  refine (View.write_emb_of_mem _ _ (Finset.mem_univ y)).trans ?_
  have key : (rowRef Mo ![ro, 0, 0] inbo hq).view.read Val g y = (rowRef Mx ![rx, 0, 0] inbx hq').view.read Val fs y := by
    refine hg ((Rect.unit (s := Stack n R C) ![ro, 0, 0] (Stack 1 R C).size inbo).emb (Shape.reshapeEquiv hq.numel_eq y))
      ((Rect.unit (s := Stack n R C) ![rx, 0, 0] (Stack 1 R C).size inbx).emb (Shape.reshapeEquiv hq'.numel_eq y)) ?_ ?_ ?_ ?_
    · have h := ((Shape.reshapeEquiv hq.numel_eq y : (Stack 1 R C).Idx) 0).isLt
      rw [Rect.emb_apply]
      show ro + 1 * ((Shape.reshapeEquiv hq.numel_eq y : (Stack 1 R C).Idx) 0 : ℕ) = ro
      have : ((Shape.reshapeEquiv hq.numel_eq y : (Stack 1 R C).Idx) 0 : ℕ) < 1 := h
      omega
    · have h := ((Shape.reshapeEquiv hq.numel_eq y : (Stack 1 R C).Idx) 0).isLt
      rw [Rect.emb_apply]
      show rx + 1 * ((Shape.reshapeEquiv hq.numel_eq y : (Stack 1 R C).Idx) 0 : ℕ) = rx
      have : ((Shape.reshapeEquiv hq.numel_eq y : (Stack 1 R C).Idx) 0 : ℕ) < 1 := h
      omega
    · rw [Rect.emb_apply, Rect.emb_apply]; rfl
    · rw [Rect.emb_apply, Rect.emb_apply]; rfl
  rw [← key, View.read_apply, cast_cast, cast_eq]

/-- After the copy of a matrix onto a row, the destination's row is row `ro` of any stack `g` whose row `ro` is that matrix. -/
theorem slab_copied (Mx : Memref sig .tc sp (Slab R C) e) (Mo : Memref sig .tc sp' (Stack n R C) e) {offo : Fin 3 → ℕ} {ro : ℕ}
    (ho : offo = ![ro, 0, 0]) (inbo : ∀ a, offo a + (Stack 1 R C).size a ≤ (Stack n R C).size a) (hq : (Stack 1 R C).Squeezes (Slab R C))
    (fd g : Mo.view.ty.Contents Val) (fs : Mx.view.ty.Contents Val)
    (hg : ∀ (i : (Stack n R C).Idx) (j : (Slab R C).Idx), (i 0 : ℕ) = ro → (i 1 : ℕ) = j 0 → (i 2 : ℕ) = j 1 → Mo.view.read Val g i = Mx.view.read Val fs j) :
    ∀ p ∈ (rowRef Mo offo inbo hq).view.set,
      (rowRef Mo offo inbo hq).view.write Val fd (Mx.view.read Val fs) Finset.univ p = g p := by
  subst ho
  intro p hp
  obtain ⟨y, -, rfl⟩ := Finset.mem_map.mp hp
  refine (View.write_emb_of_mem _ _ (Finset.mem_univ y)).trans ?_
  have key : (rowRef Mo ![ro, 0, 0] inbo hq).view.read Val g y = Mx.view.read Val fs y := by
    have hy : (Shape.reshapeEquiv hq.numel_eq y : (Stack 1 R C).Idx) = Fin.cons ⟨0, Nat.one_pos⟩ y := Shape.reshapeEquiv_cons_one hq.numel_eq y
    refine hg ((Rect.unit (s := Stack n R C) ![ro, 0, 0] (Stack 1 R C).size inbo).emb (Shape.reshapeEquiv hq.numel_eq y)) y ?_ ?_ ?_
    · rw [hy, Rect.emb_apply]; rfl
    · rw [hy, Rect.emb_apply]; show 0 + 1 * (y 0 : ℕ) = y 0; omega
    · rw [hy, Rect.emb_apply]; show 0 + 1 * (y 1 : ℕ) = y 1; omega
  rw [← key, View.read_apply, cast_cast, cast_eq]

end Cert.Rows

end
-- ==== Proof.ExchangePlan.lean ====
/-
# The exchange of the gradients: who copies what

Every device holds a stack of eight rows, row `j` meant for device `j`.  Device `c` copies its row `d` onto row `c` of the stack of
results of device `d`; its own row it copies at home.  So in the end row `j` of the results of device `d` is row `d` of what device
`j` was given: `want`.

Here: the plan of the copies for `Cert.Wiring`, the payload of every semaphore, and the rules of the three kinds of step
(`send`, `keep`, `take`) with everything but the program's own names filled in.
-/
module

public import proofs.«01_k».proof.Proof.Wiring
public import proofs.«01_k».proof.Proof.Rows
public import proofs.«01_k».proof.Proof.Gen.KernelIdeal
public import proofs.«01_k».proof.Proof.Gen.KernelIdeal.Skeleton
public import proofs.«01_k».proof.Proof.Gen.KernelIdeal.Launch

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Wiring Cert.Rows

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The plan -/

/-- The device's parts and its results, as stacks of eight rows. -/
abbrev xM : Memref sig .tc .hbm (Stack 8 2576 1024) .bf16 := Memref.whole main_arg0
abbrev oM : Memref sig .tc .hbm (Stack 8 2576 1024) .bf16 := Memref.whole main_v1

/-- Copy `k` goes to the device whose three coordinates differ where the binary digits of `k + 1` are 1. -/
def peer (k : Fin 7) (c : Dev nD) : Dev nD := (c : Fin 8) ^^^ (k.succ : Fin 8)

theorem peer_peer (k : Fin 7) (c : Dev nD) : peer k (peer k c) = c := by revert k c; decide

/-- A device's peers and the device itself are all the devices. -/
def who (c : Dev nD) : Fin 7 ⊕ Unit → Fin 8
  | .inl k => peer k c
  | .inr _ => c
theorem who_bijective (c : Dev nD) : Function.Bijective (who c) := by revert c; decide

/-- The kernel's semaphores. -/
def sem : Slot → SemLoc sig
  | .inl k => .dma (⟨k.val, Nat.lt_of_lt_of_le k.isLt (by decide)⟩ : Fin 15)
  | .inr (.inl k) => .dma (⟨7 + k.val, Nat.lt_of_lt_of_le (Nat.add_lt_add_left k.isLt 7) (by decide)⟩ : Fin 15)
  | .inr (.inr _) => .dma (14 : Fin 15)

theorem sem_injective : Function.Injective sem := by decide

/-- The units that the copy of one row credits. -/
abbrev rowUnits : ℕ := (rowRef oM ![0, 0, 0] (by decide) squeezes_S1x2576x1024_S2576x1024).view.dmaCredit

def plan : Plan nD sig where
  sem := sem
  sem_inj := sem_injective
  peer := peer
  peer_peer := peer_peer
  N := rowUnits
  N_pos := View.dmaCredit_pos _ (by decide)

/-! ## The payloads -/

/-- What the results hold in the end: row `j` of device `d` is row `d` of device `j`'s parts. -/
def want (d : Dev nD) : Buf (Elt F) (oM.view.loc (d.tc : Thread nD τ)) := fun i : (Stack 8 2576 1024).Idx =>
  m (xM.view.loc (Dev.tc (i 0 : Fin 8) : Thread nD τ)) (Function.update i 0 (d : Fin 8) : (Stack 8 2576 1024).Idx)

/-- Row `r` of device `c`'s parts; row `r` of its results before and after its rewriting. -/
def part (c r : Dev nD) : sProp 𝕄 := xM.view.loc (c.tc : Thread nD τ) ↦[rowSet xM (r : ℕ)]{fullShare} m (xM.view.loc (c.tc : Thread nD τ))
def blank (c r : Dev nD) : sProp 𝕄 := oM.view.loc (c.tc : Thread nD τ) ↦[rowSet oM (r : ℕ)]{fullShare} m (oM.view.loc (c.tc : Thread nD τ))
def got (c r : Dev nD) : sProp 𝕄 := oM.view.loc (c.tc : Thread nD τ) ↦[rowSet oM (r : ℕ)]{fullShare} want m c

/-- What a semaphore's credit hands over: the row read, the row that has arrived, or both at home. -/
def pay (c : Dev nD) : Slot → sProp 𝕄
  | .inl k => part m c (peer k c)
  | .inr (.inl k) => got m c (peer k c)
  | .inr (.inr _) => iprop(got m c c ∗ part m c c)

theorem pay_stores : Stores (pay m) := fun c s => by
  rcases s with k | k | u
  · show BI.Storable _ (part m c (peer k c)); unfold part; infer_instance
  · show BI.Storable _ (got m c (peer k c)); unfold got; infer_instance
  · show BI.Storable _ iprop(got m c c ∗ part m c c); unfold got part; infer_instance

/-- A copied row is the row wanted. -/
theorem want_eq (c d : Dev nD) (i j : (Stack 8 2576 1024).Idx) (hi : (i 0 : ℕ) = (c : ℕ)) (hj : (j 0 : ℕ) = (d : ℕ)) (h1 : (i 1 : ℕ) = j 1)
    (h2 : (i 2 : ℕ) = j 2) : want m d i = m (xM.view.loc (c.tc : Thread nD τ)) j := by
  have hc : (i 0 : Dev nD) = c := Fin.ext hi
  have hij : (Function.update i 0 (d : Fin 8) : (Stack 8 2576 1024).Idx) = j := by
    funext a
    match a with
    | ⟨0, _⟩ => exact Fin.ext hj.symm
    | ⟨1, _⟩ => exact Fin.ext h1
    | ⟨2, _⟩ => exact Fin.ext h2
  unfold want
  subst hc
  exact congrArg _ hij

/-! ## The steps -/

/-- What copy `k` of device `c` takes: the row to read, the peer's row to write, and the rights to credit. -/
def kit (c : Dev nD) (k : Fin 7) : sProp 𝕄 :=
  iprop(part m c (peer k c) ∗ blank m (peer k c) c ∗ tok plan ER c (snd k) ∗ tok plan ER (peer k c) (rcv k))
/-- What the copy at home takes. -/
def homeKit (c : Dev nD) : sProp 𝕄 := iprop(part m c c ∗ blank m c c ∗ tok plan ER c home)

section Steps

variable (𝒱 : Variants) {α : Type} {Q : α → sProp (MT nD τ sig Unit (Elt F) ℕ UU ℕ)} {kk : PUnit → Prog (TpuEff nD τ sig (Elt F) Λ₀ .tc) α}

/-- A row that has been copied. -/
theorem got_intro (c d : Dev nD) {offx offo : Fin 3 → ℕ} (hx : offx = ![(d : ℕ), 0, 0]) (ho : offo = ![(c : ℕ), 0, 0])
    {inbx : ∀ a, offx a + (Stack 1 2576 1024).size a ≤ (Stack 8 2576 1024).size a} {inbo : ∀ a, offo a + (Stack 1 2576 1024).size a ≤ (Stack 8 2576 1024).size a}
    {hqx hqo : (Stack 1 2576 1024).Squeezes (Slab 2576 1024)} (fd : Buf (Elt F) (oM.view.loc (d.tc : Thread nD τ))) :
    (((rowRef oM offo inbo hqo).view.loc (d.tc : Thread nD τ) ↦[(rowRef oM offo inbo hqo).view.set]{fullShare}
        ((rowRef oM offo inbo hqo).view.write (Elt F) fd ((rowRef xM offx inbx hqx).view.read (Elt F) (m (xM.view.loc (c.tc : Thread nD τ)))) Finset.univ)) : sProp 𝕄)
      ⊢ got m d c := by
  refine Entails.of_eq ((pointsTo_congr (g := want m d) (row_copied xM oM hx ho inbx inbo hqo hqx fd (want m d) _ fun i j hi hj h1 h2 => ?_)).trans ?_)
  · exact want_eq m c d i j hi hj h1 h2
  exact congrArg (fun S => (pointsTo (oM.view.loc (d.tc : Thread nD τ)) S fullShare (want m d) : sProp 𝕄)) (set_rowRef oM ho inbo hqo)

theorem part_eq (c r : Dev nD) {off : Fin 3 → ℕ} (h : off = ![(r : ℕ), 0, 0]) {inb : ∀ a, off a + (Stack 1 2576 1024).size a ≤ (Stack 8 2576 1024).size a}
    {hq : (Stack 1 2576 1024).Squeezes (Slab 2576 1024)} :
    (((rowRef xM off inb hq).view.loc (c.tc : Thread nD τ) ↦[(rowRef xM off inb hq).view.set]{fullShare} m (xM.view.loc (c.tc : Thread nD τ))) : sProp 𝕄) = part m c r :=
  congrArg (fun S => (pointsTo (xM.view.loc (c.tc : Thread nD τ)) S fullShare (m (xM.view.loc (c.tc : Thread nD τ))) : sProp 𝕄)) (set_rowRef xM h inb hq)

theorem blank_eq (c r : Dev nD) {off : Fin 3 → ℕ} (h : off = ![(r : ℕ), 0, 0]) {inb : ∀ a, off a + (Stack 1 2576 1024).size a ≤ (Stack 8 2576 1024).size a}
    {hq : (Stack 1 2576 1024).Squeezes (Slab 2576 1024)} :
    (((rowRef oM off inb hq).view.loc (c.tc : Thread nD τ) ↦[(rowRef oM off inb hq).view.set]{fullShare} m (oM.view.loc (c.tc : Thread nD τ))) : sProp 𝕄) = blank m c r :=
  congrArg (fun S => (pointsTo (oM.view.loc (c.tc : Thread nD τ)) S fullShare (m (oM.view.loc (c.tc : Thread nD τ))) : sProp 𝕄)) (set_rowRef oM h inb hq)

/-- What copy `k` of device `c` brings its peer. -/
theorem arrival (c : Dev nD) (k : Fin 7) : got m (peer k c) c = pay m (peer k c) (rcv k) := by
  show _ = got m (peer k c) (peer k (peer k c))
  rw [peer_peer]

/-- Any device can copy to any other. -/
theorem routes (c d : Dev nD) : τ.routes (c.tc : Thread nD τ) (d.tc : Thread nD τ) = true := by revert c d; decide

/-- Copy `k` goes out. -/
theorem send (c p : Dev nD) (k : Fin 7) (hp : p = peer k c) (l : List (Fin 7)) {offx offo : Fin 3 → ℕ} (hx : offx = ![(peer k c : ℕ), 0, 0]) (ho : offo = ![(c : ℕ), 0, 0])
    {inbx : ∀ a, offx a + (Stack 1 2576 1024).size a ≤ (Stack 8 2576 1024).size a} {inbo : ∀ a, offo a + (Stack 1 2576 1024).size a ≤ (Stack 8 2576 1024).size a}
    {hqx hqo : (Stack 1 2576 1024).Squeezes (Slab 2576 1024)} {qS qR : DmaSem sig} (hS : SemLoc.dma qS = sem (snd k)) (hR : SemLoc.dma qR = sem (rcv k))
    {hsc : ((rowRef oM offo inbo hqo : Memref sig (Dev.tc p : Thread nD τ).2.kind .hbm (Slab 2576 1024) .bf16)).view.ref.isScScratch = false}
    {hsrc : (rowRef xM offx inbx hqx).view.WordExact} {hdst : (rowRef oM offo inbo hqo).view.WordExact}
    {hsem : DmaTarget.Typed .hbm (.dma qR) (.remote (Dev.tc p : Thread nD τ) (rowRef oM offo inbo hqo) (.dma qS) hsc)} {W : Waits sig Unit} :
    iprop(invs plan ER (pay m) ∗ kit m c k ∗ owes (c.tc : Thread nD τ) (dues plan c (k :: l)) W)
      ⊢ iprop(((cred (tallyAt (plan.cell c (snd k)) () plan.N) ∗ owes (c.tc : Thread nD τ) (dues plan c l) W)
            -∗ wp frame (wpE (defs₀ (F := F)) 𝒱 (c.tc : Thread nD τ) none) Set.univ (kk ⟨⟩) Q)
          -∗ wp frame (wpE (defs₀ (F := F)) 𝒱 (c.tc : Thread nD τ) none) Set.univ
            (.op (.enqueueDma (rowRef xM offx inbx hqx) (.remote (Dev.tc p : Thread nD τ) (rowRef oM offo inbo hqo) (.dma qS) hsc) (.dma qR) hsrc hdst hsem) kk) Q) := by
  unfold kit
  iintro ⟨#HI, ⟨Hx, Ho, Hs, Hr⟩, HO⟩
  iapply (Cert.Wiring.wp_send plan ER (pay m) 𝒱 c p k hp l (src := rowRef xM offx inbx hqx) (dst := rowRef oM offo inbo hqo) hS hR (q := fullShare)
    (fs := m (xM.view.loc (c.tc : Thread nD τ))) (fd := m (oM.view.loc ((peer k c).tc : Thread nD τ))) rfl
    (Entails.of_eq (part_eq m c (peer k c) hx)) ((got_intro m c (peer k c) hx ho _).trans (Entails.of_eq (arrival m c k))) (routes c (peer k c)))
  isplitr; · iexact HI
  isplitl [Hx]; · iapply (Entails.of_eq (part_eq m c (peer k c) hx).symm); iexact Hx
  isplitl [Ho]; · iapply (Entails.of_eq (blank_eq m (peer k c) c ho).symm); iexact Ho
  isplitl [Hs]; · iexact Hs
  isplitl [Hr]; · iexact Hr
  iexact HO

/-- The copy at home starts. -/
theorem keep (c : Dev nD) {offx offo : Fin 3 → ℕ} (hx : offx = ![(c : ℕ), 0, 0]) (ho : offo = ![(c : ℕ), 0, 0])
    {inbx : ∀ a, offx a + (Stack 1 2576 1024).size a ≤ (Stack 8 2576 1024).size a} {inbo : ∀ a, offo a + (Stack 1 2576 1024).size a ≤ (Stack 8 2576 1024).size a}
    {hqx hqo : (Stack 1 2576 1024).Squeezes (Slab 2576 1024)} {q : DmaSem sig} (hS : SemLoc.dma q = sem home)
    {hsrc : (rowRef xM offx inbx hqx).view.WordExact} {hdst : (rowRef oM offo inbo hqo).view.WordExact}
    {hsem : DmaTarget.Typed (nD := nD) (p := (Proc.tc : Proc τ)) .hbm (.dma q) (.here (rowRef oM offo inbo hqo))} :
    iprop(invs plan ER (pay m) ∗ homeKit m c)
      ⊢ iprop((cred (tallyAt (plan.cell c home) () plan.N) -∗ wp frame (wpE (defs₀ (F := F)) 𝒱 (c.tc : Thread nD τ) none) Set.univ (kk ⟨⟩) Q)
          -∗ wp frame (wpE (defs₀ (F := F)) 𝒱 (c.tc : Thread nD τ) none) Set.univ
            (.op (.enqueueDma (rowRef xM offx inbx hqx) (.here (rowRef oM offo inbo hqo)) (.dma q) hsrc hdst hsem) kk) Q) := by
  unfold homeKit
  iintro ⟨#HI, Hx, Ho, Ht⟩
  iapply (wp_home plan ER (pay m) 𝒱 c (src := rowRef xM offx inbx hqx) (dst := rowRef oM offo inbo hqo) hS (q := fullShare)
    (fs := m (xM.view.loc (c.tc : Thread nD τ))) (fd := m (oM.view.loc (c.tc : Thread nD τ))) rfl
    (BI.sep_mono (got_intro m c c hx ho _) (Entails.of_eq (part_eq m c c hx))))
  isplitr; · iexact HI
  isplitl [Hx]; · iapply (Entails.of_eq (part_eq m c c hx).symm); iexact Hx
  isplitl [Ho]; · iapply (Entails.of_eq (blank_eq m c c ho).symm); iexact Ho
  iexact Ht

/-- A wait after all copies have gone out: the payload. -/
theorem take (c : Dev nD) (x : Slot) {q : DmaSem sig} (hq : SemLoc.dma q = sem x) {W : Waits sig Unit} {src dst : Memref sig .tc .hbm (Slab 2576 1024) .bf16}
    {hsrc : src.view.WordExact} {hdst : dst.view.WordExact} (hN : dst.view.dmaCredit = rowUnits) :
    iprop(invs plan ER (pay m) ∗ cred (tallyAt (plan.cell c x) () plan.N) ∗ fresh plan ER c x ∗ owes (c.tc : Thread nD τ) 0 W)
      ⊢ iprop(((pay m c x ∗ spent plan ER c x ∗ owes (c.tc : Thread nD τ) 0 (insert (sem x, ()) W))
            -∗ wp frame (wpE (defs₀ (F := F)) 𝒱 (c.tc : Thread nD τ) none) Set.univ (kk ⟨⟩) Q)
          -∗ wp frame (wpE (defs₀ (F := F)) 𝒱 (c.tc : Thread nD τ) none) Set.univ (.op (.waitDma2 q src dst hsrc hdst) kk) Q) := by
  iintro ⟨#HI, Hc, Hf, HO⟩
  iapply (wp_take plan ER (pay m) 𝒱 c x hq hN)
  isplitr; · iexact HI
  isplitl [Hc]; · iexact Hc
  isplitl [Hf]; · iexact Hf
  isplitr; · iapply (Entails.of_eq (MayWait_zero (c.tc : Thread nD τ) (plan.sem x) ()).symm); iempintro
  iexact HO

/-- The same, where the wait names a row of the results, -/
theorem take_result (c : Dev nD) (x : Slot) {q : DmaSem sig} (hq : SemLoc.dma q = sem x) {W : Waits sig Unit} {src : Memref sig .tc .hbm (Slab 2576 1024) .bf16}
    {off : Fin 3 → ℕ} {inb : ∀ a, off a + (Stack 1 2576 1024).size a ≤ (Stack 8 2576 1024).size a} {hqo : (Stack 1 2576 1024).Squeezes (Slab 2576 1024)}
    {hsrc : src.view.WordExact} {hdst : (rowRef oM off inb hqo).view.WordExact} :
    iprop(invs plan ER (pay m) ∗ cred (tallyAt (plan.cell c x) () plan.N) ∗ fresh plan ER c x ∗ owes (c.tc : Thread nD τ) 0 W)
      ⊢ iprop(((pay m c x ∗ spent plan ER c x ∗ owes (c.tc : Thread nD τ) 0 (insert (sem x, ()) W))
            -∗ wp frame (wpE (defs₀ (F := F)) 𝒱 (c.tc : Thread nD τ) none) Set.univ (kk ⟨⟩) Q)
          -∗ wp frame (wpE (defs₀ (F := F)) 𝒱 (c.tc : Thread nD τ) none) Set.univ (.op (.waitDma2 q src (rowRef oM off inb hqo) hsrc hdst) kk) Q) :=
  take m 𝒱 c x hq rfl

/-- or a row of the parts. -/
theorem take_part (c : Dev nD) (x : Slot) {q : DmaSem sig} (hq : SemLoc.dma q = sem x) {W : Waits sig Unit} {src : Memref sig .tc .hbm (Slab 2576 1024) .bf16}
    {off : Fin 3 → ℕ} {inb : ∀ a, off a + (Stack 1 2576 1024).size a ≤ (Stack 8 2576 1024).size a} {hqx : (Stack 1 2576 1024).Squeezes (Slab 2576 1024)}
    {hsrc : src.view.WordExact} {hdst : (rowRef xM off inb hqx).view.WordExact} :
    iprop(invs plan ER (pay m) ∗ cred (tallyAt (plan.cell c x) () plan.N) ∗ fresh plan ER c x ∗ owes (c.tc : Thread nD τ) 0 W)
      ⊢ iprop(((pay m c x ∗ spent plan ER c x ∗ owes (c.tc : Thread nD τ) 0 (insert (sem x, ()) W))
            -∗ wp frame (wpE (defs₀ (F := F)) 𝒱 (c.tc : Thread nD τ) none) Set.univ (kk ⟨⟩) Q)
          -∗ wp frame (wpE (defs₀ (F := F)) 𝒱 (c.tc : Thread nD τ) none) Set.univ (.op (.waitDma2 q src (rowRef xM off inb hqx) hsrc hdst) kk) Q) :=
  take m 𝒱 c x hq rfl

end Steps

end Cert.Exchange

end
-- ==== Proof.GlobalLaunch.lean ====
/-
# A launch whose first step sees the whole machine

The kernels of this problem start their remote copies without a handshake: a device writes into a peer's array before the peer
need have entered its kernel.  So the peer's rows, and the counters of the semaphores that those copies credit, have to change
hands BEFORE any device runs.  `run_from_all` is the launch in that form: one update that sees every device's buffers, counters,
credit and dues together (`hinit`), then each device's run (`hrun`), then the final readings (`hfin`).  `wp_region_open` is the
entry of a kernel region by a device whose own semaphores have already been given away to invariants.

Both are stated for any program in the pipelined form, over any values.
-/
module

public import Idealize.ShloMosaic.Lib.Pipeline.Regions
public import Idealize.ShloMosaic.Lib.Pipeline.RegionArrays
public import Idealize.ShloMosaic.Lib.Pipeline.Kit
public import Idealize.ShloMosaic.Lib.Tactic

@[expose] public section

set_option Elab.async false

noncomputable section

namespace Cert.GlobalLaunch

open Idealize.ShloMosaic
open Idealize.ShloMosaic.Pipeline
open Idealize.SL.RA.PCS
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (pin pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

local notation "𝔻" => Pipeline.defs pcs defs₀
local notation "𝕍" => Variants.lift 𝒱₀

/-- What a device holds at the launch, the counters of its scoped semaphores within `boundary`. -/
def dealt (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- The levels, assigned once for the whole machine. -/
theorem levels_all (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  -- a thread that is no TensorCore has no cell with a level
  have hno : ∀ (d : Dev nD), ∀ q ∈ Finset.univ.erase (Proc.tc : Proc τ), (coreLevAts ((d, q) : Thread nD τ) L lv : sProp 𝕄) = BI.emp := fun d q hq => by
    unfold coreLevAts
    rw [bigSep_congr (Ψ := fun _ : SemLoc sig => (BI.emp : sProp 𝕄)) fun sm _ => by
      rw [hL (((d, q) : Thread nD τ), sm) (Finset.ne_of_mem_erase hq), BI.bigSep_empty], BI.bigSep_emp_const]
  refine (bigSep_mono fun c _ => lev_assign_cells (c.tc : Thread nD τ) L lv).trans <| (BI.bigSep_bupd _ _).trans <| BI.bupd_mono ?_
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv),
    bigSep_congr (Ψ := fun _ : Dev nD => (BI.emp : sProp 𝕄)) fun d _ => (bigSep_congr (hno d)).trans (BI.bigSep_emp_const _), BI.bigSep_emp_const,
    bigSep_sep']
  show (iprop(_ ∗ _) : sProp 𝕄) ⊢ iprop(_ ∗ _)
  iintro ⟨-, H⟩
  isplitl [H]; · iexact H
  iempintro

include phinj in
/-- The run of a program from the launch of the whole machine.  `hinit` gets every device's holdings at once (`dealt`, the ghost
    state of every pipeline, the levels and the certificate's own ghost state `G`) and makes of them what each device starts from;
    `hrun` is a device's run of @main; `hfin` reads its end against a final state. -/
theorem run_from_all [DecidableEq P] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G : sProp 𝕄) (u₀ : U)
    (hu₀ : (ownU u₀ : sProp 𝕄) ⊢ |={Set.univ}=> iprop(BI.own (EP (initOf (cells (pin pcs a) phinj) (launchToks (pin pcs a) phinj))) ∗ G))
    (T₀ Tₙ : Dev nD → sProp 𝕄)
    (hinit : iprop((bigSep Finset.univ fun c : Dev nD => dealt m g O₀ c)
          ∗ (bigSep Finset.univ fun c : Dev nD => iprop((bigSep Finset.univ fun p => cellsGhost (pin pcs a) EP p c) ∗ bigSep Finset.univ fun p => toksInit (pin pcs a) EP p c))
          ∗ levAts L lv ∗ G)
      ⊢ |={Set.univ}=> bigSep Finset.univ T₀)
    (hrun : ∀ c, T₀ c ⊢ wp frame (wpE 𝔻 𝕍 (c.tc : Thread nD τ) none) Set.univ (main c)
      (fun _ => iprop((Tₙ c ∗ boundary (c.tc : Thread nD τ)) ∗ ∃ W, owes (c.tc : Thread nD τ) (0 : CellTallies nD τ sig Ix) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let fin : Dev nD → sProp 𝕄 := fun c => iprop(Tₙ c ∗ boundary (c.tc : Thread nD τ))
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => T₀) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => dealt m g O₀ c)
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      show _ ⊢ iprop(dealt m g O₀ c ∗ levels0 c)
      unfold dealt
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr] <;> iassumption
      · iexact Hlv
    iintro ⟨Hcores, Hu⟩
    ihave Hc := hcores $$ Hcores
    icases Hc with ⟨Hd, Hlv⟩
    imod (levels_all L lv hL) $$ Hlv with Hla
    imod hu₀ $$ Hu with ⟨HP, HG⟩
    imod (fund_ghost (pin pcs a) EP phinj) $$ HP with ⟨Hg, Ht⟩
    imod hinit $$ [Hd Hg Ht Hla HG] with HT
    · isplitl [Hd]; · iexact Hd
      isplitl [Hg Ht]
      · rw [bigSep_sep']; isplitl [Hg] <;> iassumption
      isplitl [Hla] <;> iassumption
    imodintro
    iexists ()
    isplitl [HT]; · iexact HT
    iempintro
  · refine (hrun c).trans (wp_mono _ _ _ fun _ => ?_)
    unfold post; simp only [liftTc_tc, fin]
    exact BI.Entails.refl _
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

include phinj in
/-- A kernel region without prefetched tables, entered by a device that holds everything of its boundary but the counters of the
    kernel's own semaphores `osem`: those are in invariants since the launch.  The kernel's last point gives them back, so the
    device leaves with its whole boundary. -/
theorem wp_region_open [∀ e, Nonempty (Val e)] [Infinite Name] [EP.LandsIn (upEmb : UEmb _ 𝕄)]
    (p : P) {K : Type} [Fintype K] {osem : K → SemLoc sig} (hw : WinFacts₀ (pcs p).spec) (ho : OwnSemFacts (pcs p).spec osem)
    (hK : (pcs p).pre.K = 0)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (c : Dev nD) (hbody : BodyObligationLoose (pdats p c) defs₀ 𝒱₀ ι Set.univ)
    (hwaits : (levAts L lv : sProp 𝕄) ⊢ cellsWaits (pin pcs a) pdats ι p c)
    (X Y : sProp 𝕄)
    (hin : iprop(X ∗ scopedRest (pin pcs a p).spec c) ⊢ (pdats p c).Φ 0)
    (hout : (pdats p c).Φ (Fin.last (pin pcs a p).N) ⊢ iprop(Y ∗ ownSems0 osem c ∗ scopedRest (pin pcs a p).spec c))
    {α : Type} (k : PUnit → Prog (TpuEff nD τ sig Val (Sig Λ₀ P fun p => (pcs p).Adm) .tc) α) (Q : α → sProp 𝕄) :
    iprop((iprop(boundary (c.tc : Thread nD τ) ∗ EntryPost (pin pcs a) pdats ι p c ∗ Y)
            -∗ wp frame (wpE 𝔻 𝕍 (c.tc : Thread nD τ) none) Set.univ (k ⟨⟩) Q)
        ∗ (scopedBufs (c.tc : Thread nD τ) ∗ cellsSems0 (pin pcs a) p c ∗ idleSems0 (pin pcs a) phinj p ho c ∗ opIdle (c.tc : Thread nD τ))
        ∗ (pdats p c).arrays ((pdats p c).arrAt · 0) ∗ (pdats p c).owesAt ι 0 ∗ X ∗ levAts L lv
        ∗ cellsGhost (pin pcs a) EP p c ∗ toksInit (pin pcs a) EP p c)
      ⊢ wp frame (wpE 𝔻 𝕍 (c.tc : Thread nD τ) none) Set.univ (.op (.customCall (entry p) ()) k) Q := by
  classical
  have hss := scopedSems0_split (pin pcs a) phinj p hw ho (Ix := Ix) (Val := Val) (Name := Name) (U := U) (Lvl := Lvl) c
  have hsb := scopedBufs_split (pin pcs a) p hw.stage_scoped hw.stage_inj hstage c (τ := τ) (Ix := Ix) (Val := Val) (Name := Name) (U := U) (Lvl := Lvl)
  have hout' : iprop((pdats p c).Φ (Fin.last (pin pcs a p).N) ∗ cellsSems0 (pin pcs a) p c ∗ Dat.staging (pin pcs a p) c ∗ idleSems0 (pin pcs a) phinj p ho c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitr [Hidle]
      · isplitl [Hcells] <;> iassumption
      iexact Hidle
    isplitl [Hst] <;> iassumption
  have hin' : iprop(X ∗ prefHeld (pcs p).pre c (fun _ => fullShare) (a p).1 ∗ scopedRest (pin pcs a p).spec c) ⊢ (pdats p c).Φ 0 := by
    rw [prefHeld_of_none _ hK]
    iintro ⟨HX, -, HR⟩
    iapply hin
    isplitl [HX] <;> iassumption
  iintro ⟨Hk, ⟨Hsc, Hcells, Hidle, Hidl⟩, Harr, HO, HX, Hla, Hg, Ht⟩
  ihave Hw := hwaits $$ Hla
  iapply (fupd_wp frame (wpE 𝔻 𝕍 (c.tc : Thread nD τ) none) Set.univ _ _)
  imod (Pipeline.cellsInit_alloc (pin pcs a) pdats EP phinj p c) $$ [Hcells Hg] with ⟨%κ, -, Hinit⟩
  · isplitl [Hcells] <;> iassumption
  imodintro
  iapply (wp_customCall_entry_frame pcs a pdats ι EP κ phinj p defs₀ 𝒱₀ (fun _ => fullShare) c Set.univ (fun _ _ => Set.mem_univ _)
      hbody hne none (fun u h => nomatch h) (X := X) (Y := Y) (R := scopedRest (pin pcs a p).spec c)
      (I := idleSems0 (pin pcs a) phinj p ho c) (Entails.of_eq hsb) hin' hout' (k := k) (Q := Q)) $$ [Harr HO Hw Hinit Ht HX Hidle Hsc]
  · isplitl [Harr HO Hw Hinit Ht]
    · unfold EntryPre PerCore.EntryPre
      isplitl [Harr]; · iexact Harr
      isplitl [HO]; · iexact HO
      isplitl [Hw]; · iexact Hw
      isplitl [Hinit] <;> iassumption
    isplitr; · rw [prefHeld_of_none _ hK]; iempintro
    isplitl [HX]; · iexact HX
    isplitl [Hidle]; · iexact Hidle
    iexact Hsc
  iintro ⟨Hpost, HY, Hss2, Hsc2⟩
  iapply Hk
  isplitl [Hsc2 Hss2 Hidl]
  · unfold boundary
    isplitl [Hsc2]; · iexact Hsc2
    isplitl [Hss2]; · iexact Hss2
    iexact Hidl
  isplitl [Hpost] <;> iassumption

end Cert.GlobalLaunch

end
-- ==== Proof.Run.lean ====
/-
# The run of a program whose first kernel exchanges data

`run_wired` puts the launch that sees the whole machine (`Cert.GlobalLaunch`) and the wiring of the copies (`Cert.Wiring`)
together.  A program supplies how its buffers and the rights to credit are dealt out (`hdeal`), its kernel's body (`hbody`), what a
device holds after it (`done`), and what it does after the kernel (`htail`).
-/
module

public import proofs.«01_k».proof.Proof.GlobalLaunch
public import proofs.«01_k».proof.Proof.Wiring

@[expose] public section

set_option Elab.async false

noncomputable section

namespace Cert.Run

open Idealize.ShloMosaic
open Idealize.ShloMosaic.Pipeline
open Idealize.SL.RA.PCS
open TcCoe
open Idealize.SL Idealize.SL.RA
open Idealize.SL.BI (sProp bigSep bigSep_sep' bigSep_mono bigSep_congr bigSep_univ_prod bigSep_univ_eq_bigSepL)
open scoped Idealize.SL.BI
open Idealize.SL.BI.BIBase Idealize.SL.BI.Laws Idealize.SL.ProofMode Idealize.SL.Sem
open Idealize.ShloMosaic.Rounds
open Cert.Wiring

variable {nD : Nat} {τ : Topo} {sig : RefSig} {Val : EltTy → Type} {U : Type} [URA U] {Λ₀ : Labels} {P : Type} [Fintype P]

local notation "𝕄" => MT nD τ sig Unit Val ℕ U ℕ

variable (pl : Plan nD sig) (ER : Emb (URounds (GSem nD τ sig) Unit) (MT nD τ sig Unit Val ℕ U ℕ))
  (pay : Dev nD → Slot → sProp (MT nD τ sig Unit Val ℕ U ℕ)) (lev : SemLoc sig → ℕ)

/-- The levels of the semaphores. -/
abbrev levels : GSem nD τ sig → Unit → ℕ := fun g _ => lev g.2

/-- What a device starts its exchange from: what its copies take (`hold`), the credit to wait for the arrivals, the right to wait
    on its semaphores, and the levels of the semaphores. -/
def ready (hold : Dev nD → sProp 𝕄) (c : Dev nD) : sProp 𝕄 :=
  iprop(invs pl ER pay ∗ hold c ∗ (bigSep Finset.univ fun k => cred (tallyAt (pl.cell c (rcv k)) () pl.N))
    ∗ (bigSep Finset.univ fun s => fresh pl ER c s) ∗ levAts Lt (levels lev))

/-- The rights to credit that device `c` uses. -/
def rights (c : Dev nD) : sProp 𝕄 :=
  iprop((bigSep Finset.univ fun k => tok pl ER c (snd k)) ∗ (bigSep Finset.univ fun k => tok pl ER (pl.peer k c) (rcv k)) ∗ tok pl ER c home)

variable (pcs : P → PCfg sig Λ₀ Val) (a : (p : P) → (pcs p).Adm)
  (pdats : (p : P) → (c : Dev nD) → Dat τ Val Unit ℕ U ℕ (pin pcs a p) c)
  (phinj : Function.Injective (cellOf (nD := nD) (pin pcs a)))
  (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- The ghost state of one pipeline on one device. -/
def ghost (p : P) (c : Dev nD) : sProp 𝕄 := iprop(cellsGhost (pin pcs a) EP p c ∗ toksInit (pin pcs a) EP p c)

/-- A device between the launch and its first kernel. -/
def before (hold : Dev nD → sProp 𝕄) (order : List (Fin 7)) (p : P) {osem : Slot → SemLoc sig} (ho : OwnSemFacts (pcs p).spec osem) (c : Dev nD) : sProp 𝕄 :=
  iprop(ready pl ER pay lev hold c
    ∗ (scopedBufs (c.tc : Thread nD τ) ∗ cellsSems0 (pin pcs a) p c ∗ idleSems0 (pin pcs a) phinj p ho c ∗ opIdle (c.tc : Thread nD τ))
    ∗ owes (c.tc : Thread nD τ) (dues pl c order) ∅ ∗ bigSep Finset.univ fun p' => ghost pcs a EP p' c)

include phinj in
theorem run_wired [DecidableEq P] [∀ e, Nonempty (Val e)] [EP.LandsIn (upEmb : UEmb _ 𝕄)] [ER.LandsIn (upEmb : UEmb _ 𝕄)]
    (hst : Stores pay) (order : List (Fin 7)) (horder : Finset.univ = order.toFinset) (hnodup : order.Nodup)
    (m : (ℓ : Loc nD τ sig) → Buf Val ℓ) (g : Dev nD → PrngReg)
    (main : Dev nD → Prog (TpuEff nD τ sig Val (Sig Λ₀ P fun p => (pcs p).Adm) .tc) PUnit)
    (p : P) (k : Dev nD → PUnit → Prog (TpuEff nD τ sig Val (Sig Λ₀ P fun p => (pcs p).Adm) .tc) PUnit)
    (hmain : ∀ c, main c = .op (.customCall (entry p) ()) (k c))
    (hw : WinFacts₀ (pcs p).spec) (ho : OwnSemFacts (pcs p).spec pl.sem) (hK : (pcs p).pre.K = 0)
    (hW : IsEmpty (Fin (pin pcs a p).W)) (hscoped : ∀ c : Dev nD, (scopedRest (pin pcs a p).spec c : sProp 𝕄) = BI.emp)
    (hbody : ∀ c, BodyObligationLoose (pdats p c) defs₀ 𝒱₀ () Set.univ)
    (u₀ : U) (hu₀ : (ownU u₀ : sProp 𝕄) ⊢ |={Set.univ}=> iprop(BI.own (EP (initOf (Pipeline.cells (pin pcs a) phinj) (launchToks (pin pcs a) phinj)))
      ∗ BI.own (ER (initOf (Wiring.cells pl) (toks pl)))))
    (hold : Dev nD → sProp 𝕄)
    (hdeal : iprop((bigSep Finset.univ fun c : Dev nD => unscopedBufs c (fun b => m ((c.tc : Thread nD τ).loc b)))
        ∗ bigSep Finset.univ fun c : Dev nD => rights pl ER c) ⊢ bigSep Finset.univ hold)
    (howed₀ : ∀ c, (pdats p c).owed 0 = dues pl c order) (howedN : ∀ c, (pdats p c).owed (Fin.last _) = 0)
    (hbound : ∀ c, (∅ : Set (SemLoc sig × Unit)) ⊆ (pdats p c).bound () 0 := by exact fun _ => Set.empty_subset _)
    (hΦ₀ : ∀ c, (pdats p c).Φ 0 = ready pl ER pay lev hold c)
    (done : Dev nD → sProp 𝕄)
    (hΦN : ∀ c, (pdats p c).Φ (Fin.last _) ⊢ iprop(done c ∗ ownSems0 pl.sem c))
    (Tₙ : Dev nD → sProp 𝕄)
    (htail : ∀ c, iprop(done c ∗ boundary (c.tc : Thread nD τ) ∗ (∃ W, owes (c.tc : Thread nD τ) (0 : CellTallies nD τ sig Unit) W)
        ∗ levAts Lt (levels lev) ∗ bigSep (Finset.univ.erase p) fun p' => ghost pcs a EP p' c)
      ⊢ wp frame (wpE 𝔻 𝕍 (c.tc : Thread nD τ) none) Set.univ (k c ⟨⟩)
          (fun _ => iprop((Tₙ c ∗ boundary (c.tc : Thread nD τ)) ∗ ∃ W, owes (c.tc : Thread nD τ) (0 : CellTallies nD τ sig Unit) W)))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine GlobalLaunch.run_from_all pcs a phinj EP defs₀ 𝒱₀ Lt (levels lev) m g main (fun c => dues pl c order) Lt_of_ne
    (BI.own (ER (initOf (Wiring.cells pl) (toks pl)))) u₀ hu₀ (before pl ER pay lev pcs a phinj EP hold order p ho) Tₙ ?_ ?_ QY hfin hQ
  · -- the launch
    have hone : ∀ c : Dev nD, GlobalLaunch.dealt (Val := Val) (Name := ℕ) (U := U) (Lvl := ℕ) m g (fun c => dues pl c order) c
        ⊢ iprop(unscopedBufs c (fun b => m ((c.tc : Thread nD τ).loc b)) ∗ ownSems0 pl.sem c
          ∗ (bigSep Finset.univ fun k => cred (tallyAt (pl.cell c (rcv k)) () pl.N))
          ∗ (scopedBufs (c.tc : Thread nD τ) ∗ cellsSems0 (pin pcs a) p c ∗ idleSems0 (pin pcs a) phinj p ho c ∗ opIdle (c.tc : Thread nD τ))
          ∗ owes (c.tc : Thread nD τ) (dues pl c order) ∅) := fun c => by
      unfold GlobalLaunch.dealt boundary
      rw [scopedSems0_split (pin pcs a) phinj p hw ho c, bigSep_univ_eq_bigSepL order horder hnodup]
      iintro ⟨⟨Hsb, ⟨⟨Hcs, Hos⟩, Hid⟩, Hop⟩, Hub, -, HO, Hcr, -⟩
      isplitl [Hub]; · iexact Hub
      isplitl [Hos]; · iexact Hos
      isplitl [Hcr]; · iapply (launch_credit pl c order); iexact Hcr
      isplitr [HO]
      · isplitl [Hsb]; · iexact Hsb
        isplitl [Hcs]; · iexact Hcs
        isplitl [Hid] <;> iassumption
      iexact HO
    have hall := bigSep_mono (s := Finset.univ) fun c (_ : c ∈ Finset.univ) => hone c
    rw [bigSep_sep', bigSep_sep', bigSep_sep', bigSep_sep'] at hall
    iintro ⟨Hd, Hgh, #Hla, Hr⟩
    ihave H := (show (_ : sProp 𝕄) ⊢ iprop(_ ∗ _ ∗ _ ∗ _ ∗ _) from hall) $$ Hd
    icases H with ⟨Hub, Hos, Hcr, Hrest, HO⟩
    imod (fund pl ER pay hst) $$ [Hos Hr] with ⟨#HI, Ht, Hf⟩
    · isplitl [Hos]; · iexact Hos
      iexact Hr
    ihave Ht := (Entails.of_eq (tok_deal pl ER)) $$ Ht
    ihave Hh := hdeal $$ [Hub Ht]
    · isplitl [Hub]; · iexact Hub
      iexact Ht
    imodintro
    have hjoin : ∀ c : Dev nD, iprop(iprop(invs pl ER pay ∗ levAts Lt (levels lev)) ∗ hold c
          ∗ (bigSep Finset.univ fun k => cred (tallyAt (pl.cell c (rcv k)) () pl.N)) ∗ (bigSep Finset.univ fun s => fresh pl ER c s)
          ∗ (scopedBufs (c.tc : Thread nD τ) ∗ cellsSems0 (pin pcs a) p c ∗ idleSems0 (pin pcs a) phinj p ho c ∗ opIdle (c.tc : Thread nD τ))
          ∗ owes (c.tc : Thread nD τ) (dues pl c order) ∅
          ∗ iprop((bigSep Finset.univ fun p => cellsGhost (pin pcs a) EP p c) ∗ bigSep Finset.univ fun p => toksInit (pin pcs a) EP p c))
        ⊢ before pl ER pay lev pcs a phinj EP hold order p ho c := fun c => by
      unfold before ready ghost
      rw [bigSep_sep']
      iintro ⟨⟨HI, Hla⟩, Hh, Hcr, Hf, Hrest, HO, Hg⟩
      isplitl [HI Hla Hh Hcr Hf]
      · isplitl [HI]; · iexact HI
        isplitl [Hh]; · iexact Hh
        isplitl [Hcr]; · iexact Hcr
        isplitl [Hf] <;> iassumption
      isplitl [Hrest]; · iexact Hrest
      isplitl [HO] <;> iassumption
    iapply (BI.bigSep_with_persistent (S := Finset.univ) (fun c _ => hjoin c))
    isplitr
    · isplitr; · iexact HI
      iexact Hla
    have hsix : ∀ A B C D E G : Dev nD → sProp 𝕄, (bigSep Finset.univ fun c => iprop(A c ∗ B c ∗ C c ∗ D c ∗ E c ∗ G c))
        = iprop(bigSep Finset.univ A ∗ bigSep Finset.univ B ∗ bigSep Finset.univ C ∗ bigSep Finset.univ D ∗ bigSep Finset.univ E ∗ bigSep Finset.univ G) :=
      fun A B C D E G => by rw [bigSep_sep', bigSep_sep', bigSep_sep', bigSep_sep', bigSep_sep']
    iapply (Entails.of_eq (hsix _ _ _ _ _ _).symm)
    isplitl [Hh]; · iexact Hh
    isplitl [Hcr]; · iexact Hcr
    isplitl [Hf]; · iexact Hf
    isplitl [Hrest]; · iexact Hrest
    isplitl [HO] <;> iassumption
  · -- a device's run
    intro c
    have harr : ∀ G, ((pdats p c).arrays G : sProp 𝕄) = BI.emp := fun G => by
      unfold Dat.arrays; rw [Finset.univ_eq_empty, BI.bigSep_empty]
    rw [hmain c]
    unfold before
    have hgh : (bigSep Finset.univ fun p' => ghost pcs a EP p' c) = iprop(ghost pcs a EP p c ∗ bigSep (Finset.univ.erase p) fun p' => ghost pcs a EP p' c) :=
      BI.bigSep_erase (Finset.mem_univ p)
    rw [hgh]
    iintro ⟨Hready, Hrest, HO, Hg, Hothers⟩
    ihave Hg := (Entails.of_eq (show ghost pcs a EP p c = iprop(cellsGhost (pin pcs a) EP p c ∗ toksInit (pin pcs a) EP p c) from rfl)) $$ Hg
    icases Hg with ⟨Hg, Ht⟩
    ihave Hready := (Entails.of_eq (show ready pl ER pay lev hold c = iprop(invs pl ER pay ∗ hold c ∗ (bigSep Finset.univ fun k => cred (tallyAt (pl.cell c (rcv k)) () pl.N))
        ∗ (bigSep Finset.univ fun s => fresh pl ER c s) ∗ levAts Lt (levels lev)) from rfl)) $$ Hready
    icases Hready with ⟨HI, Hh, Hcr, Hf, #Hla⟩
    iapply (GlobalLaunch.wp_region_open pcs a pdats () phinj EP defs₀ 𝒱₀ Lt (levels lev) p hw ho hK (fun w => (hW.false w).elim) (fun w => (hW.false w).elim) c (hbody c)
      (cellsWaits_intro (pin pcs a) pdats () p c fun w => (hW.false w).elim) (ready pl ER pay lev hold c) (done c)
      (by rw [hΦ₀, hscoped]; iintro ⟨H, -⟩; iexact H)
      (by
        rw [hscoped]
        iintro H
        ihave H := (hΦN c) $$ H
        icases H with ⟨Hd, Hs⟩
        isplitl [Hd]; · iexact Hd
        isplitl [Hs]; · iexact Hs
        iempintro) (k c) _)
    isplitl [Hothers]
    · iintro ⟨Hb, Hpost, Hd⟩
      ihave Hpost := (Entails.of_eq (show PerCore.EntryPost (fun _ : Dev nD => pin pcs a) pdats () p c
        = iprop((pdats p c).arrays ((pdats p c).arrAt · (pin pcs a p).N) ∗ (pdats p c).owesAt () (Fin.last _)) from rfl)) $$ Hpost
      icases Hpost with ⟨-, ⟨%W, %hW, HO⟩⟩
      rw [howedN c]
      iapply (htail c)
      isplitl [Hd]; · iexact Hd
      isplitl [Hb]; · iexact Hb
      isplitl [HO]; · iexists W; iexact HO
      isplitr; · iexact Hla
      iexact Hothers
    isplitl [Hrest]; · iexact Hrest
    isplitr; · rw [harr]; iempintro
    isplitl [HO]
    · iexists ∅
      isplitr; · ipureintro; rw [Finset.coe_empty]; exact hbound c
      rw [howed₀ c]
      iexact HO
    isplitl [HI Hh Hcr Hf]
    · unfold ready
      isplitl [HI]; · iexact HI
      isplitl [Hh]; · iexact Hh
      isplitl [Hcr]; · iexact Hcr
      isplitl [Hf]; · iexact Hf
      iexact Hla
    isplitr; · iexact Hla
    isplitl [Hg] <;> iassumption

end Cert.Run

end
-- ==== Proof.ExchangeBody.lean ====
/-
# The exchange of the gradients: a device's run

A device starts from `Φ₀`: what its eight copies take, the credit to wait for the seven arrivals, and the right to wait on its
fifteen semaphores.  It ends at `Φ₁`: its parts as they were, its results as wanted, its semaphores at zero.
-/
module

public import proofs.«01_k».proof.Proof.ExchangePlan
public import proofs.«01_k».proof.Proof.Run
public import proofs.«01_k».proof.Proof.Gen.KernelIdeal.Points
public import Idealize.ShloMosaic.Lib.Tactic

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows

variable {F : FTy → Type} [FloatOps F]

local notation "𝕄" => MT nD τ sig Unit (Elt F) ℕ UU ℕ

variable (m : (ℓ : Loc nD τ sig) → Buf (Elt F) ℓ)

/-! ## The addresses that the kernel computes -/

theorem own_row : ∀ c : Dev nD, k0_off1 c = ![(c : ℕ), 0, 0] := by decide +kernel
theorem row0 : ∀ c : Dev nD, k0_off2 c = ![(peer 0 c : ℕ), 0, 0] := by decide +kernel
theorem row1 : ∀ c : Dev nD, k0_off3 c = ![(peer 1 c : ℕ), 0, 0] := by decide +kernel
theorem row2 : ∀ c : Dev nD, k0_off4 c = ![(peer 2 c : ℕ), 0, 0] := by decide +kernel
theorem row3 : ∀ c : Dev nD, k0_off5 c = ![(peer 3 c : ℕ), 0, 0] := by decide +kernel
theorem row4 : ∀ c : Dev nD, k0_off6 c = ![(peer 4 c : ℕ), 0, 0] := by decide +kernel
theorem row5 : ∀ c : Dev nD, k0_off7 c = ![(peer 5 c : ℕ), 0, 0] := by decide +kernel
theorem row6 : ∀ c : Dev nD, k0_off8 c = ![(peer 6 c : ℕ), 0, 0] := by decide +kernel
theorem dev0 : ∀ c : Dev nD, (⟨k0_dev1 c, k0_dev1_lt c⟩ : Dev nD) = peer 0 c := by decide +kernel
theorem dev1 : ∀ c : Dev nD, (⟨k0_dev2 c, k0_dev2_lt c⟩ : Dev nD) = peer 1 c := by decide +kernel
theorem dev2 : ∀ c : Dev nD, (⟨k0_dev3 c, k0_dev3_lt c⟩ : Dev nD) = peer 2 c := by decide +kernel
theorem dev3 : ∀ c : Dev nD, (⟨k0_dev4 c, k0_dev4_lt c⟩ : Dev nD) = peer 3 c := by decide +kernel
theorem dev4 : ∀ c : Dev nD, (⟨k0_dev5 c, k0_dev5_lt c⟩ : Dev nD) = peer 4 c := by decide +kernel
theorem dev5 : ∀ c : Dev nD, (⟨k0_dev6 c, k0_dev6_lt c⟩ : Dev nD) = peer 5 c := by decide +kernel
theorem dev6 : ∀ c : Dev nD, (⟨k0_dev7 c, k0_dev7_lt c⟩ : Dev nD) = peer 6 c := by decide +kernel

/-! ## The start and the end of a device's run -/

theorem each7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Something for every semaphore: the sends', the receives', the one at home. -/
theorem each_slot (Φ : Slot → sProp 𝕄) : bigSep Finset.univ Φ
    = iprop((bigSep Finset.univ fun k => Φ (snd k)) ∗ (bigSep Finset.univ fun k => Φ (rcv k)) ∗ Φ home) := by
  rw [bigSep_univ_sum, bigSep_univ_sum, bigSep_univ_of_subsingleton ()]
  rfl

/-- The order of the copies. -/
abbrev order : List (Fin 7) := [0, 1, 2, 3, 4, 5, 6]
/-- What a device owes at the launch: one arrival to each peer. -/
def O₀ (c : Dev nD) : CellTallies nD τ sig Unit := dues plan c order

/-- What a device's eight copies take. -/
def hold (c : Dev nD) : sProp 𝕄 := iprop((bigSep Finset.univ fun k => kit m c k) ∗ homeKit m c)

/-- No wait comes before a copy, so all semaphores have one level. -/
abbrev lev : SemLoc sig → ℕ := fun _ => 0

def Φ₀ (c : Dev nD) : sProp 𝕄 := Cert.Run.ready plan ER (pay m) lev (hold m) c

/-- The device's parts, and its results in the end. -/
def parts (c : Dev nD) : sProp 𝕄 := xM.view.loc (c.tc : Thread nD τ) ↦{fullShare} m (xM.view.loc (c.tc : Thread nD τ))
def results (c : Dev nD) : sProp 𝕄 := oM.view.loc (c.tc : Thread nD τ) ↦{fullShare} want m c

def Φ₁ (c : Dev nD) : sProp 𝕄 := iprop(parts m c ∗ results m c ∗ bigSep Finset.univ fun s => semVal (plan.cell c s) 0)

/-- A stack held row by row: the peers' rows and the device's own. -/
theorem parts_rows (c : Dev nD) : parts m c = iprop((bigSep Finset.univ fun k => part m c (peer k c)) ∗ part m c c) := by
  unfold parts
  rw [stack_rows xM (Memref.isWhole_whole _) c fullShare _ (who c) (who_bijective c), bigSep_univ_sum, bigSep_univ_of_subsingleton (I := Unit) ()]
  rfl
theorem results_rows (c : Dev nD) : results m c = iprop((bigSep Finset.univ fun k => got m c (peer k c)) ∗ got m c c) := by
  unfold results
  rw [stack_rows oM (Memref.isWhole_whole _) c fullShare _ (who c) (who_bijective c), bigSep_univ_sum, bigSep_univ_of_subsingleton (I := Unit) ()]
  rfl

/-- After all the waits. -/
theorem finish (c : Dev nD) : iprop(invs plan ER (pay m) ∗ (bigSep Finset.univ fun k => iprop(pay m c (snd k) ∗ spent plan ER c (snd k)))
      ∗ (bigSep Finset.univ fun k => iprop(pay m c (rcv k) ∗ spent plan ER c (rcv k))) ∗ iprop(pay m c home ∗ spent plan ER c home))
    ⊢ |={Set.univ}=> Φ₁ m c := by
  rw [bigSep_sep', bigSep_sep']
  iintro ⟨HI, ⟨HpS, HsS⟩, ⟨HpR, HsR⟩, HpH, HsH⟩
  imod (close_all plan ER (pay m) c) $$ [HI HsS HsR HsH] with Hz
  · isplitl [HI]; · iexact HI
    rw [each_slot]
    isplitl [HsS]; · iexact HsS
    isplitl [HsR]; · iexact HsR
    iexact HsH
  imodintro
  unfold Φ₁
  rw [parts_rows, results_rows]
  ihave HpH := (Entails.of_eq (show pay m c home = iprop(got m c c ∗ part m c c) from rfl)) $$ HpH
  icases HpH with ⟨Ho, Hx⟩
  isplitl [HpS Hx]
  · isplitl [HpS]; · iexact HpS
    iexact Hx
  isplitl [HpR Ho]
  · isplitl [HpR]; · iexact HpR
    iexact Ho
  iexact Hz

def dats (_ : Fin 1) (c : Dev nD) : Dat τ (Elt F) Unit ℕ UU ℕ cfg0 c where
  A w := Fin.elim0 w
  after w _ := Fin.elim0 w
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-! ## The run -/

set_option maxHeartbeats 3200000 in
/-- The kernel, step by step in its own order: the copy at home starts, the seven copies go out, then the arrivals, the sends and
    the copy at home are waited for. -/
theorem sound_body (c : Dev nD) (Kt : PUnit → sProp 𝕄) :
    iprop((Φ₀ m c ∗ (dats m 0 c).owesAt () t0_0.castSucc) ∗ (iprop(Φ₁ m c ∗ (dats m 0 c).owesAt () t0_0.succ) -∗ Kt ⟨⟩))
      ⊢ wp frame (wpE (defs₀ (F := F)) 𝒱₀ (c.tc : Thread nD τ) none) Set.univ (bodyAt0 t0_0) Kt := by
  unfold bodyAt0
  simp only [cc0_exchange_grads_eq_skeleton]; unfold cc0_exchange_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  unfold Φ₀ Cert.Run.ready hold
  rw [each7, each7, each_slot, each7, each7]
  iintro ⟨⟨⟨#HI, ⟨⟨K0, K1, K2, K3, K4, K5, K6⟩, Kh⟩, ⟨C0, C1, C2, C3, C4, C5, C6⟩, ⟨⟨S0, S1, S2, S3, S4, S5, S6⟩, ⟨R0, R1, R2, R3, R4, R5, R6⟩, Fh⟩, -⟩, Ho⟩, Hk⟩
  unfold Dat.owesAt Pipeline.owesWithin
  icases Ho with ⟨%W, %hW, HO⟩
  rw [show (dats m 0 c).owed t0_0.castSucc = dues plan c [0, 1, 2, 3, 4, 5, 6] from rfl]
  -- the copy at home
  iapply (keep m 𝒱₀ c (own_row c) (own_row c) rfl) $$ [Kh]
  · isplitr; · iexact HI
    iexact Kh
  iintro Ch
  -- copy 0
  iapply (send m 𝒱₀ c _ 0 (dev0 c) [1, 2, 3, 4, 5, 6] (row0 c) (own_row c) rfl rfl) $$ [K0 HO]
  · isplitr; · iexact HI
    isplitl [K0]; · iexact K0
    iexact HO
  iintro ⟨D0, HO⟩
  -- copy 1
  iapply (send m 𝒱₀ c _ 1 (dev1 c) [2, 3, 4, 5, 6] (row1 c) (own_row c) rfl rfl) $$ [K1 HO]
  · isplitr; · iexact HI
    isplitl [K1]; · iexact K1
    iexact HO
  iintro ⟨D1, HO⟩
  -- copy 2
  iapply (send m 𝒱₀ c _ 2 (dev2 c) [3, 4, 5, 6] (row2 c) (own_row c) rfl rfl) $$ [K2 HO]
  · isplitr; · iexact HI
    isplitl [K2]; · iexact K2
    iexact HO
  iintro ⟨D2, HO⟩
  -- copy 3
  iapply (send m 𝒱₀ c _ 3 (dev3 c) [4, 5, 6] (row3 c) (own_row c) rfl rfl) $$ [K3 HO]
  · isplitr; · iexact HI
    isplitl [K3]; · iexact K3
    iexact HO
  iintro ⟨D3, HO⟩
  -- copy 4
  iapply (send m 𝒱₀ c _ 4 (dev4 c) [5, 6] (row4 c) (own_row c) rfl rfl) $$ [K4 HO]
  · isplitr; · iexact HI
    isplitl [K4]; · iexact K4
    iexact HO
  iintro ⟨D4, HO⟩
  -- copy 5
  iapply (send m 𝒱₀ c _ 5 (dev5 c) [6] (row5 c) (own_row c) rfl rfl) $$ [K5 HO]
  · isplitr; · iexact HI
    isplitl [K5]; · iexact K5
    iexact HO
  iintro ⟨D5, HO⟩
  -- copy 6
  iapply (send m 𝒱₀ c _ 6 (dev6 c) [] (row6 c) (own_row c) rfl rfl) $$ [K6 HO]
  · isplitr; · iexact HI
    isplitl [K6]; · iexact K6
    iexact HO
  iintro ⟨D6, HO⟩
  rw [show dues plan c ([] : List (Fin 7)) = (0 : CellTallies nD τ sig Unit) from rfl]
  iapply (take_result m 𝒱₀ c (rcv 0) rfl) $$ [C0 R0 HO]
  · isplitr; · iexact HI
    isplitl [C0]; · iexact C0
    isplitl [R0]; · iexact R0
    iexact HO
  iintro ⟨PR0, ZR0, HO⟩
  iapply (take_result m 𝒱₀ c (rcv 1) rfl) $$ [C1 R1 HO]
  · isplitr; · iexact HI
    isplitl [C1]; · iexact C1
    isplitl [R1]; · iexact R1
    iexact HO
  iintro ⟨PR1, ZR1, HO⟩
  iapply (take_result m 𝒱₀ c (rcv 2) rfl) $$ [C2 R2 HO]
  · isplitr; · iexact HI
    isplitl [C2]; · iexact C2
    isplitl [R2]; · iexact R2
    iexact HO
  iintro ⟨PR2, ZR2, HO⟩
  iapply (take_result m 𝒱₀ c (rcv 3) rfl) $$ [C3 R3 HO]
  · isplitr; · iexact HI
    isplitl [C3]; · iexact C3
    isplitl [R3]; · iexact R3
    iexact HO
  iintro ⟨PR3, ZR3, HO⟩
  iapply (take_result m 𝒱₀ c (rcv 4) rfl) $$ [C4 R4 HO]
  · isplitr; · iexact HI
    isplitl [C4]; · iexact C4
    isplitl [R4]; · iexact R4
    iexact HO
  iintro ⟨PR4, ZR4, HO⟩
  iapply (take_result m 𝒱₀ c (rcv 5) rfl) $$ [C5 R5 HO]
  · isplitr; · iexact HI
    isplitl [C5]; · iexact C5
    isplitl [R5]; · iexact R5
    iexact HO
  iintro ⟨PR5, ZR5, HO⟩
  iapply (take_result m 𝒱₀ c (rcv 6) rfl) $$ [C6 R6 HO]
  · isplitr; · iexact HI
    isplitl [C6]; · iexact C6
    isplitl [R6]; · iexact R6
    iexact HO
  iintro ⟨PR6, ZR6, HO⟩
  iapply (take_part m 𝒱₀ c (snd 0) rfl) $$ [D0 S0 HO]
  · isplitr; · iexact HI
    isplitl [D0]; · iexact D0
    isplitl [S0]; · iexact S0
    iexact HO
  iintro ⟨PS0, ZS0, HO⟩
  iapply (take_part m 𝒱₀ c (snd 1) rfl) $$ [D1 S1 HO]
  · isplitr; · iexact HI
    isplitl [D1]; · iexact D1
    isplitl [S1]; · iexact S1
    iexact HO
  iintro ⟨PS1, ZS1, HO⟩
  iapply (take_part m 𝒱₀ c (snd 2) rfl) $$ [D2 S2 HO]
  · isplitr; · iexact HI
    isplitl [D2]; · iexact D2
    isplitl [S2]; · iexact S2
    iexact HO
  iintro ⟨PS2, ZS2, HO⟩
  iapply (take_part m 𝒱₀ c (snd 3) rfl) $$ [D3 S3 HO]
  · isplitr; · iexact HI
    isplitl [D3]; · iexact D3
    isplitl [S3]; · iexact S3
    iexact HO
  iintro ⟨PS3, ZS3, HO⟩
  iapply (take_part m 𝒱₀ c (snd 4) rfl) $$ [D4 S4 HO]
  · isplitr; · iexact HI
    isplitl [D4]; · iexact D4
    isplitl [S4]; · iexact S4
    iexact HO
  iintro ⟨PS4, ZS4, HO⟩
  iapply (take_part m 𝒱₀ c (snd 5) rfl) $$ [D5 S5 HO]
  · isplitr; · iexact HI
    isplitl [D5]; · iexact D5
    isplitl [S5]; · iexact S5
    iexact HO
  iintro ⟨PS5, ZS5, HO⟩
  iapply (take_part m 𝒱₀ c (snd 6) rfl) $$ [D6 S6 HO]
  · isplitr; · iexact HI
    isplitl [D6]; · iexact D6
    isplitl [S6]; · iexact S6
    iexact HO
  iintro ⟨PS6, ZS6, HO⟩
  iapply (take_result m 𝒱₀ c home rfl) $$ [Ch Fh HO]
  · isplitr; · iexact HI
    isplitl [Ch]; · iexact Ch
    isplitl [Fh]; · iexact Fh
    iexact HO
  iintro ⟨Ph, Zh, HO⟩
  rw [wp_ret]
  imod (finish m c) $$ [PS0 ZS0 PS1 ZS1 PS2 ZS2 PS3 ZS3 PS4 ZS4 PS5 ZS5 PS6 ZS6 PR0 ZR0 PR1 ZR1 PR2 ZR2 PR3 ZR3 PR4 ZR4 PR5 ZR5 PR6 ZR6 Ph Zh] with HΦ
  · rw [each7, each7]
    isplitr; · iexact HI
    isplitl [PS0 ZS0 PS1 ZS1 PS2 ZS2 PS3 ZS3 PS4 ZS4 PS5 ZS5 PS6 ZS6]
    · isplitl [PS0 ZS0]; · (isplitl [PS0] <;> iassumption)
      isplitl [PS1 ZS1]; · (isplitl [PS1] <;> iassumption)
      isplitl [PS2 ZS2]; · (isplitl [PS2] <;> iassumption)
      isplitl [PS3 ZS3]; · (isplitl [PS3] <;> iassumption)
      isplitl [PS4 ZS4]; · (isplitl [PS4] <;> iassumption)
      isplitl [PS5 ZS5]; · (isplitl [PS5] <;> iassumption)
      isplitl [PS6] <;> iassumption
    isplitl [PR0 ZR0 PR1 ZR1 PR2 ZR2 PR3 ZR3 PR4 ZR4 PR5 ZR5 PR6 ZR6]
    · isplitl [PR0 ZR0]; · (isplitl [PR0] <;> iassumption)
      isplitl [PR1 ZR1]; · (isplitl [PR1] <;> iassumption)
      isplitl [PR2 ZR2]; · (isplitl [PR2] <;> iassumption)
      isplitl [PR3 ZR3]; · (isplitl [PR3] <;> iassumption)
      isplitl [PR4 ZR4]; · (isplitl [PR4] <;> iassumption)
      isplitl [PR5 ZR5]; · (isplitl [PR5] <;> iassumption)
      isplitl [PR6] <;> iassumption
    isplitl [Ph] <;> iassumption
  imodintro
  iapply Hk
  isplitl [HΦ]; · iexact HΦ
  iexists _
  isplitr
  swap; · iexact HO
  ipureintro; exact fun _ _ => Or.inl trivial

theorem body_obligation (c : Dev nD) : BodyObligation (dats (F := F) m 0 c) (defs₀ (F := F)) 𝒱₀ () Set.univ := fun t => by
  rw [fin_N0 t]
  show iprop(Φ₀ m c ∗ (dats m 0 c).owesAt () t0_0.castSucc ∗ _) ⊢ wp frame (wpE (defs₀ (F := F)) 𝒱₀ (c.tc : Thread nD τ) none) Set.univ (bodyAt0 t0_0)
    (fun _ => iprop(Φ₁ m c ∗ (dats m 0 c).owesAt () t0_0.succ ∗ _))
  iintro ⟨HΦ, HO, Hw⟩
  iapply (sound_body m c _)
  isplitl [HΦ HO]
  · isplitl [HΦ] <;> iassumption
  iintro ⟨HΦ, HO⟩
  isplitl [HΦ]; · iexact HΦ
  isplitl [HO]; · iexact HO
  iexact Hw

end Cert.Exchange

end
-- ==== Proof.ExchangeRun.lean ====
/-
# The exchange of the gradients: the run of the program

From any memory: every run of `main` ends, and then every device's parts are as they were, its results are as wanted (row `j` of
device `d` is row `d` of device `j`'s parts), and every semaphore is at zero.
-/
module

public import proofs.«01_k».proof.Proof.ExchangeBody

@[expose] public section

set_option Elab.async false

noncomputable section

namespace Cert.Exchange

open Cert.KernelIdeal Cert.KernelIdeal.Gen
open Idealize.ShloMosaic
open Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows

variable {F : FTy → Type} [FloatOps F]

local notation "𝕄" => MT nD τ sig Unit (Elt F) ℕ UU ℕ

variable (m : (ℓ : Loc nD τ sig) → Buf (Elt F) ℓ)

/-! ## The deal at the launch -/

/-- A device's results as it finds them. -/
def blanks (c : Dev nD) : sProp 𝕄 := oM.view.loc (c.tc : Thread nD τ) ↦{fullShare} m (oM.view.loc (c.tc : Thread nD τ))

theorem blanks_rows (c : Dev nD) : blanks m c = iprop((bigSep Finset.univ fun k => blank m c (peer k c)) ∗ blank m c c) := by
  unfold blanks
  rw [stack_rows oM (Memref.isWhole_whole _) c fullShare _ (who c) (who_bijective c), bigSep_univ_sum, bigSep_univ_of_subsingleton (I := Unit) ()]
  rfl

/-- A device's buffers are its parts and its results. -/
theorem buffers (c : Dev nD) : (unscopedBufs c (fun b => m ((c.tc : Thread nD τ).loc b)) : sProp 𝕄) = iprop(parts m c ∗ blanks m c) := by
  unfold unscopedBufs
  exact bigSep_eq_bigSepL_of_eq [main_arg0, main_v1] (by decide) (by decide) _

/-- For each device and each of its peers: the device's row of results for the peer, or the peer's for the device, is all the same. -/
theorem swap_blanks : (bigSep Finset.univ fun c : Dev nD => bigSep Finset.univ fun k => (blank m c (peer k c) : sProp 𝕄))
    = bigSep Finset.univ fun c : Dev nD => bigSep Finset.univ fun k => blank m (peer k c) c := by
  rw [bigSep_univ_comm, bigSep_univ_comm (fun (c : Dev nD) k => blank m (peer k c) c)]
  refine bigSep_congr fun k _ => ?_
  let e : Dev nD ≃ Dev nD := ⟨peer k, peer k, peer_peer k, peer_peer k⟩
  rw [bigSep_univ_equiv e]
  refine bigSep_congr fun c _ => ?_
  show blank m (peer k c) (peer k (peer k c)) = _
  rw [peer_peer]

theorem deal : iprop((bigSep Finset.univ fun c : Dev nD => unscopedBufs c (fun b => m ((c.tc : Thread nD τ).loc b)))
    ∗ bigSep Finset.univ fun c : Dev nD => Cert.Run.rights plan ER c) ⊢ (bigSep Finset.univ (hold m) : sProp 𝕄) := by
  have hb : (bigSep Finset.univ fun c : Dev nD => (unscopedBufs c (fun b => m ((c.tc : Thread nD τ).loc b)) : sProp 𝕄))
      = iprop(((bigSep Finset.univ fun c : Dev nD => bigSep Finset.univ fun k => part m c (peer k c)) ∗ bigSep Finset.univ fun c : Dev nD => part m c c)
        ∗ ((bigSep Finset.univ fun c : Dev nD => bigSep Finset.univ fun k => blank m (peer k c) c) ∗ bigSep Finset.univ fun c : Dev nD => blank m c c)) := by
    rw [← swap_blanks, ← bigSep_sep', ← bigSep_sep', ← bigSep_sep']
    exact bigSep_congr fun c _ => by rw [buffers, parts_rows, blanks_rows]
  have hr : (bigSep Finset.univ fun c : Dev nD => (Cert.Run.rights plan ER c : sProp 𝕄))
      = iprop((bigSep Finset.univ fun c : Dev nD => bigSep Finset.univ fun k => tok plan ER c (snd k))
        ∗ (bigSep Finset.univ fun c : Dev nD => bigSep Finset.univ fun k => tok plan ER (peer k c) (rcv k)) ∗ bigSep Finset.univ fun c : Dev nD => tok plan ER c home) := by
    rw [← bigSep_sep', ← bigSep_sep']
    rfl
  have hh : (bigSep Finset.univ (hold m) : sProp 𝕄)
      = iprop(((bigSep Finset.univ fun c : Dev nD => bigSep Finset.univ fun k => part m c (peer k c))
          ∗ (bigSep Finset.univ fun c : Dev nD => bigSep Finset.univ fun k => blank m (peer k c) c)
          ∗ (bigSep Finset.univ fun c : Dev nD => bigSep Finset.univ fun k => tok plan ER c (snd k))
          ∗ bigSep Finset.univ fun c : Dev nD => bigSep Finset.univ fun k => tok plan ER (peer k c) (rcv k))
        ∗ ((bigSep Finset.univ fun c : Dev nD => part m c c) ∗ (bigSep Finset.univ fun c : Dev nD => blank m c c)
          ∗ bigSep Finset.univ fun c : Dev nD => tok plan ER c home)) := by
    simp only [← bigSep_sep']
    rfl
  rw [hb, hr, hh]
  iintro ⟨⟨⟨Hp, Hp'⟩, Hb, Hb'⟩, Hs, Hr, Hh⟩
  isplitl [Hp Hb Hs Hr]
  · isplitl [Hp]; · iexact Hp
    isplitl [Hb]; · iexact Hb
    isplitl [Hs] <;> iassumption
  isplitl [Hp']; · iexact Hp'
  isplitl [Hb'] <;> iassumption

/-! ## The run -/

/-- The copies' semaphores are the kernel's own. -/
theorem own_sems : Pipeline.OwnSemFacts cfg0.spec sem := by decide

def u₀ : UU := (initOf (Pipeline.cells cfgs cellOf_inj) (Pipeline.launchToks cfgs cellOf_inj), initOf (Wiring.cells plan) (toks plan))

/-- The end of a run: the parts as they were, the results as wanted, the semaphores at zero. -/
def Post (r : PUnit × MemSt nD τ sig (Elt F)) : Prop :=
  (∀ c : Dev nD, r.2.mem (c.tc.loc main_arg0) = m (c.tc.loc main_arg0) ∧ r.2.mem (c.tc.loc main_v1) = want m c) ∧ r.2.sem = fun _ => 0

theorem run_main (ρ : Dev nD → PrngReg) : θ_run defs (onTc (τ := τ) (main (F := F))) ⟨m, fun _ => 0, ρ⟩ (Post m) :=
  Cert.Run.run_wired plan ER (pay m) lev (fun p => (cfgs p).toPCfg) (fun p => (cfgs p).toPCfg_adm) (dats m) cellOf_inj EP defs₀ 𝒱₀
    (pay_stores m) order (by decide) (by decide) m ρ main 0 (fun _ _ => .ret ⟨⟩) (fun c => (main_chain c).trans rfl)
    winFacts0.to₀ own_sems rfl ⟨fun w => w.elim0⟩ (fun c => scopedRest0_eq c) (fun c => (body_obligation m c).loose)
    u₀ (by
      unfold u₀
      iintro Hu
      ihave H := (ownU_pair _ _) $$ Hu
      icases H with ⟨HP, HX⟩
      imodintro
      isplitl [HP] <;> iassumption)
    (hold m) (deal m) (fun _ => rfl) (fun _ => rfl) (hΦ₀ := fun _ => rfl)
    (done := fun c => iprop(parts m c ∗ results m c))
    (hΦN := fun c => by
      show Φ₁ m c ⊢ _
      unfold Φ₁
      iintro ⟨Hp, Hr, Hz⟩
      isplitl [Hp Hr]
      · isplitl [Hp] <;> iassumption
      unfold Pipeline.ownSems0; iexact Hz)
    (Tₙ := fun c => iprop(parts m c ∗ results m c))
    (htail := fun c => by
      iintro ⟨Hd, Hb, HO, -, -⟩
      rw [wp_ret]
      imodintro
      isplitr [HO]
      · isplitl [Hd] <;> iassumption
      iexact HO)
    (QY := fun c s => s.mem (c.tc.loc main_arg0) = m (c.tc.loc main_arg0) ∧ s.mem (c.tc.loc main_v1) = want m c)
    (hfin := fun c s' => by
      unfold parts results
      iintro ⟨⟨Hp, Hr⟩, HSI⟩
      icombine HSI Hp gives %hp
      icombine HSI Hr gives %hr
      imodintro
      isplitr
      · ipureintro
        exact ⟨Buf.eq_of_forall_mem_univ hp, Buf.eq_of_forall_mem_univ hr⟩
      iexact HSI)
    (hQ := fun _ h hs => ⟨h, sem_eq_zero_of_scoped (by decide) hs⟩)

end Cert.Exchange

end
-- ==== Proof.ExchangeValue.lean ====
/-
# The exchange of the gradients: the mathematics

Eight stacks of eight rows, laid one after the other, are an array of 64 rows.  Seen as an eight by eight array of rows it is
transposed.  So row `j` of stack `d` of the result is row `d` of stack `j` of the argument.
-/
module

public import proofs.«01_k».proof.Proof.Rows
public import Idealize.ShloMosaic.Lib.ValueLayout
public import Idealize.ShloMosaic.Lib.Layout

@[expose] public section

namespace Cert.Exchange

open Idealize.ShloMosaic
open Cert.Rows

variable {α : Type} {a b : ℕ}

theorem transposed_rows (V : (Stack 64 a b).Idx → α) (h₁ : (Stack 64 a b).ShapeCasts ⟨4, ![8, 8, a, b]⟩)
    (h₂ : (⟨4, ![8, 8, a, b]⟩ : Shape).Transposes [1, 0, 2, 3] ⟨4, ![8, 8, a, b]⟩) (h₃ : (⟨4, ![8, 8, a, b]⟩ : Shape).ShapeCasts (Stack 64 a b))
    (h : Layout.Tiles (Stack 8 a b) (Stack 64 a b) 0 8) (c : Fin 8) (i : (Stack 8 a b).Idx) :
    shapeCast (Stack 64 a b) (transpose ⟨4, ![8, 8, a, b]⟩ [1, 0, 2, 3] (shapeCast ⟨4, ![8, 8, a, b]⟩ V h₁) h₂) h₃ (h.idx c i)
      = V (h.idx (i 0 : Fin 8) (Function.update i 0 (c : Fin 8) : (Stack 8 a b).Idx)) := by
  rw [shapeCast_apply _ h₃ _ (ValueIdx.ix4 (c : Fin 8) (i 0 : Fin 8) (i 1 : Fin a) (i 2 : Fin b)) ?_,
    transpose_apply _ _ h₂ _ (ValueIdx.ix4 (i 0 : Fin 8) (c : Fin 8) (i 1 : Fin a) (i 2 : Fin b)) ?_, shapeCast_apply _ h₁ _ _ ?_]
  · rw [Shape.rowMajor_val_four, Shape.rowMajor_val_three]
    show (((i 0).val * 8 + c.val) * a + (i 1).val) * b + (i 2).val = _
    rfl
  · intro x
    fin_cases x <;> rfl
  · rw [Shape.rowMajor_val_four, Shape.rowMajor_val_three]
    show ((c.val * 8 + (i 0).val) * a + (i 1).val) * b + (i 2).val = _
    rfl

end Cert.Exchange
-- ==== Proof.Gather.lean ====
/-
# A gather: who copies what

Every device holds one matrix; in the end every device holds the stack of all eight, row `r` being device `r`'s.  Device `c`
copies its matrix to its sibling (the device that differs in the last coordinate), to the three devices of the other chips with the
same last coordinate, and at home.  As soon as the row of one of these three has arrived, it passes it on to its sibling.

Copy `k` of device `c` goes to `peer k c` and fills row `rowOf k c` there.  Copies 0 to 3 read the device's matrix, of which each
holds a share; copies 4 to 6 read a row of the device's own results, the one that copy 1 to 3 of the peer has brought.

This file states the gather for any machine of eight devices, any shape and any kind of elements: the plan of the copies for
`Cert.Wiring`, the payload of every semaphore, and what it takes for the text of a kernel to be such a gather (`Follows`).
`Cert.GatherRun` runs it.
-/
module

public import proofs.«01_k».proof.Proof.Run
public import proofs.«01_k».proof.Proof.Rows
public import Idealize.ShloMosaic.Lib.Transfers

@[expose] public section

set_option Elab.async false

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Wiring Cert.Rows

/-! ## The plan -/

/-- Copies 0, 4, 5, 6 go to the sibling, copies 1, 2, 3 to the same place on another chip. -/
def peer (k : Fin 7) (c : Dev 8) : Dev 8 := (c : Fin 8) ^^^ (![1, 4, 2, 6, 1, 1, 1] : Fin 7 → Fin 8) k

theorem peer_peer (k : Fin 7) (c : Dev 8) : peer k (peer k c) = c := by revert k c; decide

/-- The row that copy `k` fills: the device's own, or the row of the device of another chip that it passes on. -/
def rowOf (k : Fin 7) (c : Dev 8) : Dev 8 := (![c, c, c, c, peer 1 c, peer 2 c, peer 3 c] : Fin 7 → Dev 8) k

/-- The rows that arrive and the device's own are all the rows. -/
def who (c : Dev 8) : Fin 7 ⊕ Unit → Fin 8
  | .inl k => rowOf k (peer k c)
  | .inr _ => c
theorem who_bijective (c : Dev 8) : Function.Bijective (who c) := by revert c; decide

/-- Where a gather takes place: the matrix, the results, the semaphores, the units that a copy credits. -/
structure Site (τ : Topo) (sig : RefSig) where
  R : ℕ
  C : ℕ
  e : EltTy
  x : Memref sig .tc .hbm (Slab R C) e
  o : Memref sig .tc .hbm (Stack 8 R C) e
  x_whole : x.IsWhole
  o_whole : o.IsWhole
  sem : Slot → SemLoc sig
  sem_inj : Function.Injective sem
  N : ℕ
  N_pos : 0 < N
  routes : ∀ c d : Dev 8, τ.routes (c.tc : Thread 8 τ) (d.tc : Thread 8 τ) = true

variable {τ : Topo} {sig : RefSig} {Val : EltTy → Type}

def Site.plan (S : Site τ sig) : Plan 8 sig where
  sem := S.sem
  sem_inj := S.sem_inj
  peer := peer
  peer_peer := peer_peer
  N := S.N
  N_pos := S.N_pos

/-- Every device's matrix, its results before and after. -/
structure Arrays (S : Site τ sig) (Val : EltTy → Type) where
  fx : (c : Dev 8) → Buf Val (S.x.view.loc (c.tc : Thread 8 τ))
  fo : (c : Dev 8) → Buf Val (S.o.view.loc (c.tc : Thread 8 τ))
  want : (c : Dev 8) → Buf Val (S.o.view.loc (c.tc : Thread 8 τ))
  /-- Row `r` of the results of every device is device `r`'s matrix. -/
  want_eq : ∀ (d r : Dev 8) (i : (Stack 8 S.R S.C).Idx) (j : (Slab S.R S.C).Idx), (i 0 : ℕ) = (r : ℕ) → (i 1 : ℕ) = j 0 → (i 2 : ℕ) = j 1 →
    S.o.view.read Val (want d) i = S.x.view.read Val (fx r) j

variable {Name : Type} [DecidableEq Name] {U : Type} [URA U]

local notation "𝕄" => MT 8 τ sig Unit Val Name U ℕ

variable {S : Site τ sig} (A : Arrays S Val) (ER : Emb (URounds (GSem 8 τ sig) Unit) (MT 8 τ sig Unit Val Name U ℕ))

/-- The results of two devices agree. -/
theorem Arrays.same (c d : Dev 8) (i j : (Stack 8 S.R S.C).Idx) (h0 : (i 0 : ℕ) = (j 0 : ℕ)) (h1 : (i 1 : ℕ) = j 1) (h2 : (i 2 : ℕ) = j 2) :
    S.o.view.read Val (A.want d) i = S.o.view.read Val (A.want c) j := by
  let y : (Slab S.R S.C).Idx := fun a => match a with
    | ⟨0, _⟩ => (i 1 : Fin S.R)
    | ⟨1, _⟩ => (i 2 : Fin S.C)
  rw [A.want_eq d (i 0) i y rfl rfl rfl, A.want_eq c (i 0) j y h0.symm h1.symm h2.symm]

/-! ## The payloads -/

/-- A share of device `c`'s matrix; row `r` of its results before and after its rewriting. -/
def xAt (q : PosShare TreeShare) (c : Dev 8) : sProp 𝕄 := S.x.view.loc (c.tc : Thread 8 τ) ↦[S.x.view.set]{q} A.fx c
def blank (c r : Dev 8) : sProp 𝕄 := S.o.view.loc (c.tc : Thread 8 τ) ↦[rowSet S.o (r : ℕ)]{fullShare} A.fo c
def got (c r : Dev 8) : sProp 𝕄 := S.o.view.loc (c.tc : Thread 8 τ) ↦[rowSet S.o (r : ℕ)]{fullShare} A.want c

/-- The share of its matrix that a device keeps for the copy at home, and the share of copy `i`. -/
abbrev homeShare : PosShare TreeShare := Transfers.shareDrop fullShare 4
abbrev share (i : Fin 4) : PosShare TreeShare := Transfers.shareTok fullShare 4 i

/-- What copy `k` reads. -/
def source (c : Dev 8) (k : Fin 7) : sProp 𝕄 :=
  (![xAt A (share 0) c, xAt A (share 1) c, xAt A (share 2) c, xAt A (share 3) c, got A c (peer 1 c), got A c (peer 2 c), got A c (peer 3 c)] : Fin 7 → sProp 𝕄) k

/-- What a semaphore's credit hands over: what has been read, the row that has arrived, or both at home. -/
def pay (c : Dev 8) : Slot → sProp 𝕄
  | .inl k => source A c k
  | .inr (.inl k) => got A c (rowOf k (peer k c))
  | .inr (.inr _) => iprop(got A c c ∗ xAt A homeShare c)

instance xAt_storable (q : PosShare TreeShare) (c : Dev 8) : BI.Storable (upEmb : UEmb _ 𝕄) (xAt A q c) := by unfold xAt; infer_instance
instance got_storable (c r : Dev 8) : BI.Storable (upEmb : UEmb _ 𝕄) (got A c r) := by unfold got; infer_instance

theorem pay_stores : Stores (pay A : Dev 8 → Slot → sProp 𝕄) := fun c s => by
  rcases s with k | k | u
  · match k with
    | 0 | 1 | 2 | 3 => exact xAt_storable A _ c
    | 4 | 5 | 6 => exact got_storable A c _
  · exact got_storable A c _
  · show BI.Storable _ iprop(got A c c ∗ xAt A homeShare c); infer_instance

/-- The passed rows are waited for before the copies that pass them on, so the semaphores of the passed rows' arrivals come last. -/
def slotLevel : Slot → ℕ
  | .inr (.inl k) => if 4 ≤ k.val then 1 else 0
  | _ => 0

open Classical in
/-- The level of a semaphore. -/
def level (S : Site τ sig) (sm : SemLoc sig) : ℕ := if h : ∃ s, S.sem s = sm then slotLevel h.choose else 0

theorem level_sem (s : Slot) : level S (S.sem s) = slotLevel s := by
  have h : ∃ s', S.sem s' = S.sem s := ⟨s, rfl⟩
  unfold level
  rw [dif_pos h, S.sem_inj h.choose_spec]

/-! ## The steps -/

/-- What copy `k` of device `c` takes besides its source: the row to write, and the rights to credit. -/
def kit (c : Dev 8) (k : Fin 7) : sProp 𝕄 :=
  iprop(blank A (peer k c) (rowOf k c) ∗ tok S.plan ER c (snd k) ∗ tok S.plan ER (peer k c) (rcv k))
/-- What the copy at home takes besides its source. -/
def homeKit (c : Dev 8) : sProp 𝕄 := iprop(blank A c c ∗ tok S.plan ER c home)

/-- The steps of a kernel. -/
inductive Step
  | keep
  | out (k : Fin 7)
  | pass (k : Fin 7)
  | wait (s : Slot)

/-- A kernel's text takes these steps on device `c`: the copy at home; copies of the matrix; copies of a row of the results; waits. -/
inductive Follows (S : Site τ sig) {Λ : Labels} (c : Dev 8) : List Step → Prog (TpuEff 8 τ sig Val Λ .tc) PUnit → Prop
  | done : Follows S c [] (.ret ⟨⟩)
  | keep {l : List Step} {off : Fin 3 → ℕ} {inb : ∀ a, off a + (Stack 1 S.R S.C).size a ≤ (Stack 8 S.R S.C).size a}
      {hq : (Stack 1 S.R S.C).Squeezes (Slab S.R S.C)} {q : DmaSem sig} {hsrc : S.x.view.WordExact} {hdst : (rowRef S.o off inb hq).view.WordExact}
      {hsem : DmaTarget.Typed (nD := 8) (p := (Proc.tc : Proc τ)) .hbm (.dma q) (.here (rowRef S.o off inb hq))}
      {kk : PUnit → Prog (TpuEff 8 τ sig Val Λ .tc) PUnit}
      (ho : off = ![(c : ℕ), 0, 0]) (hS : SemLoc.dma q = S.sem home) (hN : (rowRef S.o off inb hq).view.dmaCredit = S.N)
      {P : Prog (TpuEff 8 τ sig Val Λ .tc) PUnit} (hP : kk ⟨⟩ = P) (next : Follows S c l P) :
      Follows S c (.keep :: l) (.op (.enqueueDma S.x (.here (rowRef S.o off inb hq)) (.dma q) hsrc hdst hsem) kk)
  | out {k : Fin 7} {l : List Step} {p : Dev 8} {off : Fin 3 → ℕ} {inb : ∀ a, off a + (Stack 1 S.R S.C).size a ≤ (Stack 8 S.R S.C).size a}
      {hq : (Stack 1 S.R S.C).Squeezes (Slab S.R S.C)} {qS qR : DmaSem sig} {hsrc : S.x.view.WordExact} {hdst : (rowRef S.o off inb hq).view.WordExact}
      {hsc : ((rowRef S.o off inb hq : Memref sig (Dev.tc p : Thread 8 τ).2.kind .hbm (Slab S.R S.C) S.e)).view.ref.isScScratch = false}
      {hsem : DmaTarget.Typed .hbm (.dma qR) (.remote (Dev.tc p : Thread 8 τ) (rowRef S.o off inb hq) (.dma qS) hsc)}
      {kk : PUnit → Prog (TpuEff 8 τ sig Val Λ .tc) PUnit}
      (hp : p = peer k c) (ho : off = ![(rowOf k c : ℕ), 0, 0]) (hS : SemLoc.dma qS = S.sem (snd k)) (hR : SemLoc.dma qR = S.sem (rcv k))
      (hN : (rowRef S.o off inb hq).view.dmaCredit = S.N) {P : Prog (TpuEff 8 τ sig Val Λ .tc) PUnit} (hP : kk ⟨⟩ = P) (next : Follows S c l P) :
      Follows S c (.out k :: l) (.op (.enqueueDma S.x (.remote (Dev.tc p : Thread 8 τ) (rowRef S.o off inb hq) (.dma qS) hsc) (.dma qR) hsrc hdst hsem) kk)
  | pass {k : Fin 7} {l : List Step} {p : Dev 8} {offs off : Fin 3 → ℕ} {inbs : ∀ a, offs a + (Stack 1 S.R S.C).size a ≤ (Stack 8 S.R S.C).size a}
      {inb : ∀ a, off a + (Stack 1 S.R S.C).size a ≤ (Stack 8 S.R S.C).size a} {hqs hq : (Stack 1 S.R S.C).Squeezes (Slab S.R S.C)}
      {qS qR : DmaSem sig} {hsrc : (rowRef S.o offs inbs hqs).view.WordExact} {hdst : (rowRef S.o off inb hq).view.WordExact}
      {hsc : ((rowRef S.o off inb hq : Memref sig (Dev.tc p : Thread 8 τ).2.kind .hbm (Slab S.R S.C) S.e)).view.ref.isScScratch = false}
      {hsem : DmaTarget.Typed .hbm (.dma qR) (.remote (Dev.tc p : Thread 8 τ) (rowRef S.o off inb hq) (.dma qS) hsc)}
      {kk : PUnit → Prog (TpuEff 8 τ sig Val Λ .tc) PUnit}
      (hp : p = peer k c) (hs : offs = ![(rowOf k c : ℕ), 0, 0]) (ho : off = ![(rowOf k c : ℕ), 0, 0]) (hS : SemLoc.dma qS = S.sem (snd k))
      (hR : SemLoc.dma qR = S.sem (rcv k)) (hN : (rowRef S.o off inb hq).view.dmaCredit = S.N) {P : Prog (TpuEff 8 τ sig Val Λ .tc) PUnit} (hP : kk ⟨⟩ = P) (next : Follows S c l P) :
      Follows S c (.pass k :: l)
        (.op (.enqueueDma (rowRef S.o offs inbs hqs) (.remote (Dev.tc p : Thread 8 τ) (rowRef S.o off inb hq) (.dma qS) hsc) (.dma qR) hsrc hdst hsem) kk)
  | wait {s : Slot} {l : List Step} {q : DmaSem sig} {src dst : Memref sig .tc .hbm (Slab S.R S.C) S.e} {hsrc : src.view.WordExact} {hdst : dst.view.WordExact}
      {kk : PUnit → Prog (TpuEff 8 τ sig Val Λ .tc) PUnit}
      (hq : SemLoc.dma q = S.sem s) (hN : dst.view.dmaCredit = S.N) {P : Prog (TpuEff 8 τ sig Val Λ .tc) PUnit} (hP : kk ⟨⟩ = P) (next : Follows S c l P) :
      Follows S c (.wait s :: l) (.op (.waitDma2 q src dst hsrc hdst) kk)

section Rules

variable {Λ : Labels} {defs : Defs 8 τ sig Val Λ} (𝒱 : Variants) {α : Type} {Q : α → sProp (MT 8 τ sig Unit Val Name U ℕ)}
variable {kk : PUnit → Prog (TpuEff 8 τ sig Val Λ .tc) α}

/-- A row that has been filled from the matrix of the row's device, -/
theorem got_of_matrix (c d : Dev 8) {off : Fin 3 → ℕ} (ho : off = ![(c : ℕ), 0, 0]) {inb : ∀ a, off a + (Stack 1 S.R S.C).size a ≤ (Stack 8 S.R S.C).size a}
    {hq : (Stack 1 S.R S.C).Squeezes (Slab S.R S.C)} (fd : Buf Val (S.o.view.loc (d.tc : Thread 8 τ))) :
    (((rowRef S.o off inb hq).view.loc (d.tc : Thread 8 τ) ↦[(rowRef S.o off inb hq).view.set]{fullShare}
        ((rowRef S.o off inb hq).view.write Val fd (S.x.view.read Val (A.fx c)) Finset.univ)) : sProp 𝕄) ⊢ got A d c := by
  refine Entails.of_eq ((pointsTo_congr (g := A.want d) (slab_copied S.x S.o ho inb hq fd (A.want d) (A.fx c) fun i j hi h1 h2 => ?_)).trans ?_)
  · exact A.want_eq d c i j hi h1 h2
  exact congrArg (fun I => (pointsTo (S.o.view.loc (d.tc : Thread 8 τ)) I fullShare (A.want d) : sProp 𝕄)) (set_rowRef S.o ho inb hq)

/-- or from the same row of another device. -/
theorem got_of_row (c d r : Dev 8) {offs off : Fin 3 → ℕ} (hs : offs = ![(r : ℕ), 0, 0]) (ho : off = ![(r : ℕ), 0, 0])
    {inbs : ∀ a, offs a + (Stack 1 S.R S.C).size a ≤ (Stack 8 S.R S.C).size a} {inb : ∀ a, off a + (Stack 1 S.R S.C).size a ≤ (Stack 8 S.R S.C).size a}
    {hqs hq : (Stack 1 S.R S.C).Squeezes (Slab S.R S.C)} (fd : Buf Val (S.o.view.loc (d.tc : Thread 8 τ))) :
    (((rowRef S.o off inb hq).view.loc (d.tc : Thread 8 τ) ↦[(rowRef S.o off inb hq).view.set]{fullShare}
        ((rowRef S.o off inb hq).view.write Val fd ((rowRef S.o offs inbs hqs).view.read Val (A.want c)) Finset.univ)) : sProp 𝕄) ⊢ got A d r := by
  refine Entails.of_eq ((pointsTo_congr (g := A.want d) (row_copied S.o S.o hs ho inbs inb hq hqs fd (A.want d) (A.want c) fun i j hi hj h1 h2 => ?_)).trans ?_)
  · exact A.same c d i j (hi.trans hj.symm) h1 h2
  exact congrArg (fun I => (pointsTo (S.o.view.loc (d.tc : Thread 8 τ)) I fullShare (A.want d) : sProp 𝕄)) (set_rowRef S.o ho inb hq)

theorem got_eq (c r : Dev 8) {off : Fin 3 → ℕ} (h : off = ![(r : ℕ), 0, 0]) {inb : ∀ a, off a + (Stack 1 S.R S.C).size a ≤ (Stack 8 S.R S.C).size a}
    {hq : (Stack 1 S.R S.C).Squeezes (Slab S.R S.C)} :
    (((rowRef S.o off inb hq).view.loc (c.tc : Thread 8 τ) ↦[(rowRef S.o off inb hq).view.set]{fullShare} A.want c) : sProp 𝕄) = got A c r :=
  congrArg (fun I => (pointsTo (S.o.view.loc (c.tc : Thread 8 τ)) I fullShare (A.want c) : sProp 𝕄)) (set_rowRef S.o h inb hq)

theorem blank_eq (c r : Dev 8) {off : Fin 3 → ℕ} (h : off = ![(r : ℕ), 0, 0]) {inb : ∀ a, off a + (Stack 1 S.R S.C).size a ≤ (Stack 8 S.R S.C).size a}
    {hq : (Stack 1 S.R S.C).Squeezes (Slab S.R S.C)} :
    (((rowRef S.o off inb hq).view.loc (c.tc : Thread 8 τ) ↦[(rowRef S.o off inb hq).view.set]{fullShare} A.fo c) : sProp 𝕄) = blank A c r :=
  congrArg (fun I => (pointsTo (S.o.view.loc (c.tc : Thread 8 τ)) I fullShare (A.fo c) : sProp 𝕄)) (set_rowRef S.o h inb hq)

/-- What copy `k` of device `c` brings its peer. -/
theorem arrival (c : Dev 8) (k : Fin 7) : (got A (peer k c) (rowOf k c) : sProp 𝕄) = pay A (peer k c) (rcv k) := by
  show _ = got A (peer k c) (rowOf k (peer k (peer k c)))
  rw [peer_peer]

/-- A copy of the matrix goes out. -/
theorem wp_out (c p : Dev 8) (k : Fin 7) (hp : p = peer k c) (l : List (Fin 7)) {q : PosShare TreeShare} (hsrcq : source A c k = (xAt A q c : sProp 𝕄)) (hrow : rowOf k c = c)
    {off : Fin 3 → ℕ} (ho : off = ![(rowOf k c : ℕ), 0, 0]) {inb : ∀ a, off a + (Stack 1 S.R S.C).size a ≤ (Stack 8 S.R S.C).size a}
    {hq : (Stack 1 S.R S.C).Squeezes (Slab S.R S.C)} {qS qR : DmaSem sig} (hS : SemLoc.dma qS = S.sem (snd k)) (hR : SemLoc.dma qR = S.sem (rcv k))
    (hN : (rowRef S.o off inb hq).view.dmaCredit = S.N)
    {hsc : ((rowRef S.o off inb hq : Memref sig (Dev.tc p : Thread 8 τ).2.kind .hbm (Slab S.R S.C) S.e)).view.ref.isScScratch = false}
    {hsrc : S.x.view.WordExact} {hdst : (rowRef S.o off inb hq).view.WordExact}
    {hsem : DmaTarget.Typed .hbm (.dma qR) (.remote (Dev.tc p : Thread 8 τ) (rowRef S.o off inb hq) (.dma qS) hsc)} {W : Waits sig Unit} :
    iprop(invs S.plan ER (pay A) ∗ xAt A q c ∗ kit A ER c k ∗ owes (c.tc : Thread 8 τ) (dues S.plan c (k :: l)) W)
      ⊢ iprop(((cred (tallyAt (S.plan.cell c (snd k)) () S.plan.N) ∗ owes (c.tc : Thread 8 τ) (dues S.plan c l) W)
            -∗ wp frame (wpE defs 𝒱 (c.tc : Thread 8 τ) none) Set.univ (kk ⟨⟩) Q)
          -∗ wp frame (wpE defs 𝒱 (c.tc : Thread 8 τ) none) Set.univ
            (.op (.enqueueDma S.x (.remote (Dev.tc p : Thread 8 τ) (rowRef S.o off inb hq) (.dma qS) hsc) (.dma qR) hsrc hdst hsem) kk) Q) := by
  unfold kit
  iintro ⟨#HI, Hx, ⟨Ho, Hs, Hr⟩, HO⟩
  iapply (Cert.Wiring.wp_send S.plan ER (pay A) 𝒱 c p k hp l (src := S.x) (dst := rowRef S.o off inb hq) hS hR (q := q)
    (fs := A.fx c) (fd := A.fo (peer k c)) hN (Entails.of_eq hsrcq.symm)
    ((got_of_matrix A c (peer k c) (by rw [ho, hrow]) _).trans (Entails.of_eq ((congrArg (got A (peer k c)) hrow.symm).trans (arrival A c k)))) (S.routes c (peer k c)))
  isplitr; · iexact HI
  isplitl [Hx]; · unfold xAt; iexact Hx
  isplitl [Ho]; · iapply (Entails.of_eq (blank_eq A (peer k c) (rowOf k c) ho).symm); iexact Ho
  isplitl [Hs]; · iexact Hs
  isplitl [Hr]; · iexact Hr
  iexact HO

/-- A row is passed on. -/
theorem wp_pass (c p : Dev 8) (k : Fin 7) (hp : p = peer k c) (l : List (Fin 7)) (hsrcq : source A c k = (got A c (rowOf k c) : sProp 𝕄))
    {offs off : Fin 3 → ℕ} (hs : offs = ![(rowOf k c : ℕ), 0, 0]) (ho : off = ![(rowOf k c : ℕ), 0, 0])
    {inbs : ∀ a, offs a + (Stack 1 S.R S.C).size a ≤ (Stack 8 S.R S.C).size a} {inb : ∀ a, off a + (Stack 1 S.R S.C).size a ≤ (Stack 8 S.R S.C).size a}
    {hqs hq : (Stack 1 S.R S.C).Squeezes (Slab S.R S.C)} {qS qR : DmaSem sig} (hS : SemLoc.dma qS = S.sem (snd k)) (hR : SemLoc.dma qR = S.sem (rcv k))
    (hN : (rowRef S.o off inb hq).view.dmaCredit = S.N)
    {hsc : ((rowRef S.o off inb hq : Memref sig (Dev.tc p : Thread 8 τ).2.kind .hbm (Slab S.R S.C) S.e)).view.ref.isScScratch = false}
    {hsrc : (rowRef S.o offs inbs hqs).view.WordExact} {hdst : (rowRef S.o off inb hq).view.WordExact}
    {hsem : DmaTarget.Typed .hbm (.dma qR) (.remote (Dev.tc p : Thread 8 τ) (rowRef S.o off inb hq) (.dma qS) hsc)} {W : Waits sig Unit} :
    iprop(invs S.plan ER (pay A) ∗ got A c (rowOf k c) ∗ kit A ER c k ∗ owes (c.tc : Thread 8 τ) (dues S.plan c (k :: l)) W)
      ⊢ iprop(((cred (tallyAt (S.plan.cell c (snd k)) () S.plan.N) ∗ owes (c.tc : Thread 8 τ) (dues S.plan c l) W)
            -∗ wp frame (wpE defs 𝒱 (c.tc : Thread 8 τ) none) Set.univ (kk ⟨⟩) Q)
          -∗ wp frame (wpE defs 𝒱 (c.tc : Thread 8 τ) none) Set.univ
            (.op (.enqueueDma (rowRef S.o offs inbs hqs) (.remote (Dev.tc p : Thread 8 τ) (rowRef S.o off inb hq) (.dma qS) hsc) (.dma qR) hsrc hdst hsem) kk) Q) := by
  unfold kit
  iintro ⟨#HI, Hx, ⟨Ho, Hs, Hr⟩, HO⟩
  iapply (Cert.Wiring.wp_send S.plan ER (pay A) 𝒱 c p k hp l (src := rowRef S.o offs inbs hqs) (dst := rowRef S.o off inb hq) hS hR (q := fullShare)
    (fs := A.want c) (fd := A.fo (peer k c)) hN (Entails.of_eq ((got_eq A c (rowOf k c) hs).trans hsrcq.symm))
    ((got_of_row A c (peer k c) (rowOf k c) hs ho _).trans (Entails.of_eq (arrival A c k))) (S.routes c (peer k c)))
  isplitr; · iexact HI
  isplitl [Hx]; · iapply (Entails.of_eq (got_eq A c (rowOf k c) hs).symm); iexact Hx
  isplitl [Ho]; · iapply (Entails.of_eq (blank_eq A (peer k c) (rowOf k c) ho).symm); iexact Ho
  isplitl [Hs]; · iexact Hs
  isplitl [Hr]; · iexact Hr
  iexact HO

/-- The copy at home starts. -/
theorem wp_keep (c : Dev 8) {off : Fin 3 → ℕ} (ho : off = ![(c : ℕ), 0, 0]) {inb : ∀ a, off a + (Stack 1 S.R S.C).size a ≤ (Stack 8 S.R S.C).size a}
    {hq : (Stack 1 S.R S.C).Squeezes (Slab S.R S.C)} {q : DmaSem sig} (hS : SemLoc.dma q = S.sem home) (hN : (rowRef S.o off inb hq).view.dmaCredit = S.N)
    {hsrc : S.x.view.WordExact} {hdst : (rowRef S.o off inb hq).view.WordExact}
    {hsem : DmaTarget.Typed (nD := 8) (p := (Proc.tc : Proc τ)) .hbm (.dma q) (.here (rowRef S.o off inb hq))} :
    iprop(invs S.plan ER (pay A) ∗ xAt A homeShare c ∗ homeKit A ER c)
      ⊢ iprop((cred (tallyAt (S.plan.cell c home) () S.plan.N) -∗ wp frame (wpE defs 𝒱 (c.tc : Thread 8 τ) none) Set.univ (kk ⟨⟩) Q)
          -∗ wp frame (wpE defs 𝒱 (c.tc : Thread 8 τ) none) Set.univ
            (.op (.enqueueDma S.x (.here (rowRef S.o off inb hq)) (.dma q) hsrc hdst hsem) kk) Q) := by
  unfold homeKit
  iintro ⟨#HI, Hx, Ho, Ht⟩
  iapply (wp_home S.plan ER (pay A) 𝒱 c (src := S.x) (dst := rowRef S.o off inb hq) hS (q := homeShare)
    (fs := A.fx c) (fd := A.fo c) hN (BI.sep_mono (got_of_matrix A c c ho _) (Entails.of_eq (show _ = xAt A homeShare c from rfl))))
  isplitr; · iexact HI
  isplitl [Hx]; · unfold xAt; iexact Hx
  isplitl [Ho]; · iapply (Entails.of_eq (blank_eq A c c ho).symm); iexact Ho
  iexact Ht

/-- A wait while the copies `l` are still due, whose arrivals come later. -/
theorem wp_wait (c : Dev 8) (s : Slot) (l : List (Fin 7)) (hl : ∀ k ∈ l, slotLevel s < slotLevel (rcv k)) {q : DmaSem sig} (hq : SemLoc.dma q = S.sem s) {W : Waits sig Unit}
    {src dst : Memref sig .tc .hbm (Slab S.R S.C) S.e} {hsrc : src.view.WordExact} {hdst : dst.view.WordExact} (hN : dst.view.dmaCredit = S.N) :
    iprop(invs S.plan ER (pay A) ∗ levAts Lt (Cert.Run.levels (level S)) ∗ cred (tallyAt (S.plan.cell c s) () S.plan.N) ∗ fresh S.plan ER c s
        ∗ owes (c.tc : Thread 8 τ) (dues S.plan c l) W)
      ⊢ iprop(((pay A c s ∗ spent S.plan ER c s ∗ owes (c.tc : Thread 8 τ) (dues S.plan c l) (insert (S.sem s, ()) W))
            -∗ wp frame (wpE defs 𝒱 (c.tc : Thread 8 τ) none) Set.univ (kk ⟨⟩) Q)
          -∗ wp frame (wpE defs 𝒱 (c.tc : Thread 8 τ) none) Set.univ (.op (.waitDma2 q src dst hsrc hdst) kk) Q) := by
  iintro ⟨#HI, #Hl, Hc, Hf, HO⟩
  iapply (wp_take S.plan ER (pay A) 𝒱 c s hq hN)
  isplitr; · iexact HI
  isplitl [Hc]; · iexact Hc
  isplitl [Hf]; · iexact Hf
  isplitr
  · iapply (mayWait_dues S.plan (level S) c (S.sem s) l fun k hk => by
      show level S (S.sem s) < level S (S.sem (rcv k))
      rw [level_sem, level_sem]; exact hl k hk)
    iexact Hl
  iexact HO

end Rules

end Cert.Gather

end
-- ==== Proof.GatherRun.lean ====
/-
# A gather: a device's run

A device starts from `start`: its matrix, what its eight copies take, the credit to wait for the seven arrivals, and the right to
wait on its fifteen semaphores.  Whatever text follows the steps of a gather (`order`) ends at `finished`: the matrix as it was, the
results as wanted, the semaphores at zero (`wp_gather`).  `deal` makes the start of every device from the launch's buffers.
-/
module

public import proofs.«01_k».proof.Proof.Gather

@[expose] public section

set_option Elab.async false

noncomputable section

namespace Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Wiring Cert.Rows

variable {τ : Topo} {sig : RefSig} {Val : EltTy → Type} {U : Type} [URA U]

local notation "𝕄" => MT 8 τ sig Unit Val ℕ U ℕ

variable {S : Site τ sig} (A : Arrays S Val) (ER : Emb (URounds (GSem 8 τ sig) Unit) (MT 8 τ sig Unit Val ℕ U ℕ))

theorem each7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem each4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something for every semaphore: the sends', the receives', the one at home. -/
theorem each_slot (Φ : Slot → sProp 𝕄) : bigSep Finset.univ Φ
    = iprop((bigSep Finset.univ fun k => Φ (snd k)) ∗ (bigSep Finset.univ fun k => Φ (rcv k)) ∗ Φ home) := by
  rw [bigSep_univ_sum, bigSep_univ_sum, bigSep_univ_of_subsingleton ()]
  rfl

/-! ## The start and the end of a device's run -/

/-- The order of the copies. -/
abbrev copies : List (Fin 7) := [0, 1, 2, 3, 4, 5, 6]

/-- The steps of a gather: the copy at home and the four of the matrix; each row of another chip, once it has arrived, is passed on;
    then all other arrivals, the sends and the copy at home are waited for. -/
abbrev order : List Step :=
  [.keep, .out 0, .out 1, .out 2, .out 3, .wait (rcv 1), .pass 4, .wait (rcv 2), .pass 5, .wait (rcv 3), .pass 6,
    .wait (rcv 0), .wait (rcv 4), .wait (rcv 5), .wait (rcv 6),
    .wait (snd 0), .wait (snd 1), .wait (snd 2), .wait (snd 3), .wait (snd 4), .wait (snd 5), .wait (snd 6), .wait home]

/-- The device's results before and after. -/
def blanks (c : Dev 8) : sProp 𝕄 := S.o.view.loc (c.tc : Thread 8 τ) ↦{fullShare} A.fo c
def results (c : Dev 8) : sProp 𝕄 := S.o.view.loc (c.tc : Thread 8 τ) ↦{fullShare} A.want c

/-- A device's matrix, and what its eight copies take besides. -/
def hold (c : Dev 8) : sProp 𝕄 := iprop(xAt A fullShare c ∗ homeKit A ER c ∗ bigSep Finset.univ fun k => kit A ER c k)

def start (c : Dev 8) : sProp 𝕄 := Cert.Run.ready S.plan ER (pay A) (level S) (hold A ER) c

def finished (c : Dev 8) : sProp 𝕄 := iprop(xAt A fullShare c ∗ results A c ∗ bigSep Finset.univ fun s => semVal (S.plan.cell c s) 0)

/-- The matrix, dealt into five shares, -/
theorem x_split (c : Dev 8) : xAt A fullShare c ⊢ (iprop(xAt A homeShare c ∗ xAt A (share 0) c ∗ xAt A (share 1) c ∗ xAt A (share 2) c ∗ xAt A (share 3) c) : sProp 𝕄) := by
  have h := Transfers.pointsTo_toks_split (ℓ := S.x.view.loc (c.tc : Thread 8 τ)) (S := S.x.view.set) (f := A.fx c) (Ix := Unit) (Name := ℕ) (U := U) (Lvl := ℕ) fullShare 4
  rw [each4] at h
  exact h

/-- and put together again. -/
theorem x_join (c : Dev 8) : (iprop(xAt A homeShare c ∗ xAt A (share 0) c ∗ xAt A (share 1) c ∗ xAt A (share 2) c ∗ xAt A (share 3) c) : sProp 𝕄) ⊢ xAt A fullShare c := by
  have h := Transfers.pointsTo_toks_join (ℓ := S.x.view.loc (c.tc : Thread 8 τ)) (S := S.x.view.set) (f := A.fx c) (Ix := Unit) (Name := ℕ) (U := U) (Lvl := ℕ) fullShare 4
  rw [each4] at h
  exact h

/-- The results held row by row: the rows that arrive and the device's own. -/
theorem results_rows (c : Dev 8) : (results A c : sProp 𝕄) = iprop((bigSep Finset.univ fun k => got A c (rowOf k (peer k c))) ∗ got A c c) := by
  unfold results
  rw [stack_rows S.o S.o_whole c fullShare _ (who c) (who_bijective c), bigSep_univ_sum, bigSep_univ_of_subsingleton (I := Unit) ()]
  rfl
theorem blanks_rows (c : Dev 8) : (blanks A c : sProp 𝕄) = iprop((bigSep Finset.univ fun k => blank A c (rowOf k (peer k c))) ∗ blank A c c) := by
  unfold blanks
  rw [stack_rows S.o S.o_whole c fullShare _ (who c) (who_bijective c), bigSep_univ_sum, bigSep_univ_of_subsingleton (I := Unit) ()]
  rfl

/-- After all the waits: the matrix is whole again, and every row of the results is there, those passed on from the copies that have
    read them. -/
theorem finish (c : Dev 8) : iprop(invs S.plan ER (pay A) ∗ (bigSep Finset.univ fun k => pay A c (snd k))
      ∗ (pay A c (rcv 0) ∗ pay A c (rcv 4) ∗ pay A c (rcv 5) ∗ pay A c (rcv 6))
      ∗ pay A c home ∗ bigSep Finset.univ fun s => spent S.plan ER c s)
    ⊢ |={Set.univ}=> finished A c := by
  have hs : (bigSep Finset.univ fun k => pay A c (snd k) : sProp 𝕄) = iprop(xAt A (share 0) c ∗ xAt A (share 1) c ∗ xAt A (share 2) c ∗ xAt A (share 3) c
      ∗ got A c (rowOf 1 (peer 1 c)) ∗ got A c (rowOf 2 (peer 2 c)) ∗ got A c (rowOf 3 (peer 3 c))) := each7 _
  have hr : (iprop(pay A c (rcv 0) ∗ pay A c (rcv 4) ∗ pay A c (rcv 5) ∗ pay A c (rcv 6)) : sProp 𝕄)
      = iprop(got A c (rowOf 0 (peer 0 c)) ∗ got A c (rowOf 4 (peer 4 c)) ∗ got A c (rowOf 5 (peer 5 c)) ∗ got A c (rowOf 6 (peer 6 c))) := rfl
  rw [hs, hr]
  iintro ⟨HI, ⟨X0, X1, X2, X3, G1, G2, G3⟩, ⟨G0, G4, G5, G6⟩, Hh, Hs⟩
  imod (close_all S.plan ER (pay A) c) $$ [HI Hs] with Hz
  · isplitl [HI]; · iexact HI
    iexact Hs
  imodintro
  unfold finished
  rw [results_rows, each7]
  ihave Hh := (Entails.of_eq (show pay A c home = iprop(got A c c ∗ xAt A homeShare c) from rfl)) $$ Hh
  icases Hh with ⟨Go, Xh⟩
  isplitl [X0 X1 X2 X3 Xh]
  · iapply (x_join A c)
    isplitl [Xh]; · iexact Xh
    isplitl [X0]; · iexact X0
    isplitl [X1]; · iexact X1
    isplitl [X2]; · iexact X2
    iexact X3
  isplitr [Hz]
  · isplitr [Go]
    · isplitl [G0]; · iexact G0
      isplitl [G1]; · iexact G1
      isplitl [G2]; · iexact G2
      isplitl [G3]; · iexact G3
      isplitl [G4]; · iexact G4
      isplitl [G5]; · iexact G5
      iexact G6
    iexact Go
  iexact Hz

/-! ## The run -/

set_option maxHeartbeats 3200000 in
/-- A text that follows the steps of a gather performs it. -/
theorem wp_gather {Λ : Labels} {defs : Defs 8 τ sig Val Λ} (𝒱 : Variants) (c : Dev 8) {P : Prog (TpuEff 8 τ sig Val Λ .tc) PUnit} (h : Follows S c order P)
    (Kt : PUnit → sProp 𝕄) (W : Waits sig Unit) :
    iprop(start A ER c ∗ owes (c.tc : Thread 8 τ) (dues S.plan c copies) W
        ∗ (iprop(finished A c ∗ ∃ W', owes (c.tc : Thread 8 τ) (0 : CellTallies 8 τ sig Unit) W') -∗ Kt ⟨⟩))
      ⊢ wp frame (wpE defs 𝒱 (c.tc : Thread 8 τ) none) Set.univ P Kt := by
  unfold start Cert.Run.ready hold
  rw [each7, each7, each_slot, each7, each7]
  iintro ⟨⟨#HI, ⟨Hx, Kh, K0, K1, K2, K3, K4, K5, K6⟩, ⟨C0, C1, C2, C3, C4, C5, C6⟩, ⟨⟨S0, S1, S2, S3, S4, S5, S6⟩, ⟨R0, R1, R2, R3, R4, R5, R6⟩, Fh⟩, #HL⟩, HO, Hk⟩
  ihave Hx := (x_split A c) $$ Hx
  icases Hx with ⟨Xh, X0, X1, X2, X3⟩
  obtain _ | ⟨ho, hS, hN, hP, h⟩ := h
  iapply (wp_keep A ER 𝒱 c ho hS hN) $$ [Xh Kh]
  · isplitr; · iexact HI
    isplitl [Xh]; · iexact Xh
    iexact Kh
  iintro Ch
  rw [hP]; clear hP
  -- copy 0
  obtain _ | _ | ⟨hp, ho, hS, hR, hN, hP, h⟩ := h
  iapply (wp_out A ER 𝒱 c _ 0 hp [1, 2, 3, 4, 5, 6] rfl rfl ho hS hR hN) $$ [X0 K0 HO]
  · isplitr; · iexact HI
    isplitl [X0]; · iexact X0
    isplitl [K0]; · iexact K0
    iexact HO
  iintro ⟨D0, HO⟩
  rw [hP]; clear hP
  -- copy 1
  obtain _ | _ | ⟨hp, ho, hS, hR, hN, hP, h⟩ := h
  iapply (wp_out A ER 𝒱 c _ 1 hp [2, 3, 4, 5, 6] rfl rfl ho hS hR hN) $$ [X1 K1 HO]
  · isplitr; · iexact HI
    isplitl [X1]; · iexact X1
    isplitl [K1]; · iexact K1
    iexact HO
  iintro ⟨D1, HO⟩
  rw [hP]; clear hP
  -- copy 2
  obtain _ | _ | ⟨hp, ho, hS, hR, hN, hP, h⟩ := h
  iapply (wp_out A ER 𝒱 c _ 2 hp [3, 4, 5, 6] rfl rfl ho hS hR hN) $$ [X2 K2 HO]
  · isplitr; · iexact HI
    isplitl [X2]; · iexact X2
    isplitl [K2]; · iexact K2
    iexact HO
  iintro ⟨D2, HO⟩
  rw [hP]; clear hP
  -- copy 3
  obtain _ | _ | ⟨hp, ho, hS, hR, hN, hP, h⟩ := h
  iapply (wp_out A ER 𝒱 c _ 3 hp [4, 5, 6] rfl rfl ho hS hR hN) $$ [X3 K3 HO]
  · isplitr; · iexact HI
    isplitl [X3]; · iexact X3
    isplitl [K3]; · iexact K3
    iexact HO
  iintro ⟨D3, HO⟩
  rw [hP]; clear hP
  -- the row of chip 0 arrives and is passed on
  obtain _ | _ | _ | _ | ⟨hq, hN, hP, h⟩ := h
  iapply (wp_wait A ER 𝒱 c (rcv 1) [4, 5, 6] (by decide) hq hN) $$ [C1 R1 HO]
  · isplitr; · iexact HI
    isplitr; · iexact HL
    isplitl [C1]; · iexact C1
    isplitl [R1]; · iexact R1
    iexact HO
  iintro ⟨G1, ZR1, HO⟩
  rw [hP]; clear hP
  ihave G1 := (Entails.of_eq (show pay A c (rcv 1) = got A c (rowOf 4 c) from rfl)) $$ G1
  obtain _ | _ | _ | ⟨hp, hs, ho, hS, hR, hN, hP, h⟩ := h
  iapply (wp_pass A ER 𝒱 c _ 4 hp [5, 6] rfl hs ho hS hR hN) $$ [G1 K4 HO]
  · isplitr; · iexact HI
    isplitl [G1]; · iexact G1
    isplitl [K4]; · iexact K4
    iexact HO
  iintro ⟨D4, HO⟩
  rw [hP]; clear hP
  -- the row of chip 1 arrives and is passed on
  obtain _ | _ | _ | _ | ⟨hq, hN, hP, h⟩ := h
  iapply (wp_wait A ER 𝒱 c (rcv 2) [5, 6] (by decide) hq hN) $$ [C2 R2 HO]
  · isplitr; · iexact HI
    isplitr; · iexact HL
    isplitl [C2]; · iexact C2
    isplitl [R2]; · iexact R2
    iexact HO
  iintro ⟨G2, ZR2, HO⟩
  rw [hP]; clear hP
  ihave G2 := (Entails.of_eq (show pay A c (rcv 2) = got A c (rowOf 5 c) from rfl)) $$ G2
  obtain _ | _ | _ | ⟨hp, hs, ho, hS, hR, hN, hP, h⟩ := h
  iapply (wp_pass A ER 𝒱 c _ 5 hp [6] rfl hs ho hS hR hN) $$ [G2 K5 HO]
  · isplitr; · iexact HI
    isplitl [G2]; · iexact G2
    isplitl [K5]; · iexact K5
    iexact HO
  iintro ⟨D5, HO⟩
  rw [hP]; clear hP
  -- the row of chip 2 arrives and is passed on
  obtain _ | _ | _ | _ | ⟨hq, hN, hP, h⟩ := h
  iapply (wp_wait A ER 𝒱 c (rcv 3) [6] (by decide) hq hN) $$ [C3 R3 HO]
  · isplitr; · iexact HI
    isplitr; · iexact HL
    isplitl [C3]; · iexact C3
    isplitl [R3]; · iexact R3
    iexact HO
  iintro ⟨G3, ZR3, HO⟩
  rw [hP]; clear hP
  ihave G3 := (Entails.of_eq (show pay A c (rcv 3) = got A c (rowOf 6 c) from rfl)) $$ G3
  obtain _ | _ | _ | ⟨hp, hs, ho, hS, hR, hN, hP, h⟩ := h
  iapply (wp_pass A ER 𝒱 c _ 6 hp [] rfl hs ho hS hR hN) $$ [G3 K6 HO]
  · isplitr; · iexact HI
    isplitl [G3]; · iexact G3
    isplitl [K6]; · iexact K6
    iexact HO
  iintro ⟨D6, HO⟩
  rw [hP]; clear hP
  -- the other arrivals
  obtain _ | _ | _ | _ | ⟨hq, hN, hP, h⟩ := h
  iapply (wp_wait A ER 𝒱 c (rcv 0) [] (by decide) hq hN) $$ [C0 R0 HO]
  · isplitr; · iexact HI
    isplitr; · iexact HL
    isplitl [C0]; · iexact C0
    isplitl [R0]; · iexact R0
    iexact HO
  iintro ⟨P0, ZR0, HO⟩
  rw [hP]; clear hP
  obtain _ | _ | _ | _ | ⟨hq, hN, hP, h⟩ := h
  iapply (wp_wait A ER 𝒱 c (rcv 4) [] (by decide) hq hN) $$ [C4 R4 HO]
  · isplitr; · iexact HI
    isplitr; · iexact HL
    isplitl [C4]; · iexact C4
    isplitl [R4]; · iexact R4
    iexact HO
  iintro ⟨P4, ZR4, HO⟩
  rw [hP]; clear hP
  obtain _ | _ | _ | _ | ⟨hq, hN, hP, h⟩ := h
  iapply (wp_wait A ER 𝒱 c (rcv 5) [] (by decide) hq hN) $$ [C5 R5 HO]
  · isplitr; · iexact HI
    isplitr; · iexact HL
    isplitl [C5]; · iexact C5
    isplitl [R5]; · iexact R5
    iexact HO
  iintro ⟨P5, ZR5, HO⟩
  rw [hP]; clear hP
  obtain _ | _ | _ | _ | ⟨hq, hN, hP, h⟩ := h
  iapply (wp_wait A ER 𝒱 c (rcv 6) [] (by decide) hq hN) $$ [C6 R6 HO]
  · isplitr; · iexact HI
    isplitr; · iexact HL
    isplitl [C6]; · iexact C6
    isplitl [R6]; · iexact R6
    iexact HO
  iintro ⟨P6, ZR6, HO⟩
  rw [hP]; clear hP
  -- the sends
  obtain _ | _ | _ | _ | ⟨hq, hN, hP, h⟩ := h
  iapply (wp_wait A ER 𝒱 c (snd 0) [] (by decide) hq hN) $$ [D0 S0 HO]
  · isplitr; · iexact HI
    isplitr; · iexact HL
    isplitl [D0]; · iexact D0
    isplitl [S0]; · iexact S0
    iexact HO
  iintro ⟨Q0, ZS0, HO⟩
  rw [hP]; clear hP
  obtain _ | _ | _ | _ | ⟨hq, hN, hP, h⟩ := h
  iapply (wp_wait A ER 𝒱 c (snd 1) [] (by decide) hq hN) $$ [D1 S1 HO]
  · isplitr; · iexact HI
    isplitr; · iexact HL
    isplitl [D1]; · iexact D1
    isplitl [S1]; · iexact S1
    iexact HO
  iintro ⟨Q1, ZS1, HO⟩
  rw [hP]; clear hP
  obtain _ | _ | _ | _ | ⟨hq, hN, hP, h⟩ := h
  iapply (wp_wait A ER 𝒱 c (snd 2) [] (by decide) hq hN) $$ [D2 S2 HO]
  · isplitr; · iexact HI
    isplitr; · iexact HL
    isplitl [D2]; · iexact D2
    isplitl [S2]; · iexact S2
    iexact HO
  iintro ⟨Q2, ZS2, HO⟩
  rw [hP]; clear hP
  obtain _ | _ | _ | _ | ⟨hq, hN, hP, h⟩ := h
  iapply (wp_wait A ER 𝒱 c (snd 3) [] (by decide) hq hN) $$ [D3 S3 HO]
  · isplitr; · iexact HI
    isplitr; · iexact HL
    isplitl [D3]; · iexact D3
    isplitl [S3]; · iexact S3
    iexact HO
  iintro ⟨Q3, ZS3, HO⟩
  rw [hP]; clear hP
  obtain _ | _ | _ | _ | ⟨hq, hN, hP, h⟩ := h
  iapply (wp_wait A ER 𝒱 c (snd 4) [] (by decide) hq hN) $$ [D4 S4 HO]
  · isplitr; · iexact HI
    isplitr; · iexact HL
    isplitl [D4]; · iexact D4
    isplitl [S4]; · iexact S4
    iexact HO
  iintro ⟨Q4, ZS4, HO⟩
  rw [hP]; clear hP
  obtain _ | _ | _ | _ | ⟨hq, hN, hP, h⟩ := h
  iapply (wp_wait A ER 𝒱 c (snd 5) [] (by decide) hq hN) $$ [D5 S5 HO]
  · isplitr; · iexact HI
    isplitr; · iexact HL
    isplitl [D5]; · iexact D5
    isplitl [S5]; · iexact S5
    iexact HO
  iintro ⟨Q5, ZS5, HO⟩
  rw [hP]; clear hP
  obtain _ | _ | _ | _ | ⟨hq, hN, hP, h⟩ := h
  iapply (wp_wait A ER 𝒱 c (snd 6) [] (by decide) hq hN) $$ [D6 S6 HO]
  · isplitr; · iexact HI
    isplitr; · iexact HL
    isplitl [D6]; · iexact D6
    isplitl [S6]; · iexact S6
    iexact HO
  iintro ⟨Q6, ZS6, HO⟩
  rw [hP]; clear hP
  obtain _ | _ | _ | _ | ⟨hq, hN, hP, h⟩ := h
  iapply (wp_wait A ER 𝒱 c home [] (by decide) hq hN) $$ [Ch Fh HO]
  · isplitr; · iexact HI
    isplitr; · iexact HL
    isplitl [Ch]; · iexact Ch
    isplitl [Fh]; · iexact Fh
    iexact HO
  iintro ⟨Ph, Zh, HO⟩
  rw [hP]; clear hP
  obtain _ | _ := h
  rw [wp_ret]
  imod (finish A ER c) $$ [Q0 Q1 Q2 Q3 Q4 Q5 Q6 P0 P4 P5 P6 Ph ZS0 ZS1 ZS2 ZS3 ZS4 ZS5 ZS6 ZR0 ZR1 ZR2 ZR3 ZR4 ZR5 ZR6 Zh] with HΦ
  · rw [each7, each_slot, each7, each7]
    isplitr; · iexact HI
    isplitl [Q0 Q1 Q2 Q3 Q4 Q5 Q6]
    · isplitl [Q0]; · iexact Q0
      isplitl [Q1]; · iexact Q1
      isplitl [Q2]; · iexact Q2
      isplitl [Q3]; · iexact Q3
      isplitl [Q4]; · iexact Q4
      isplitl [Q5]; · iexact Q5
      iexact Q6
    isplitl [P0 P4 P5 P6]
    · isplitl [P0]; · iexact P0
      isplitl [P4]; · iexact P4
      isplitl [P5]; · iexact P5
      iexact P6
    isplitl [Ph]; · iexact Ph
    isplitl [ZS0 ZS1 ZS2 ZS3 ZS4 ZS5 ZS6]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      iexact ZS6
    isplitl [ZR0 ZR1 ZR2 ZR3 ZR4 ZR5 ZR6]
    · isplitl [ZR0]; · iexact ZR0
      isplitl [ZR1]; · iexact ZR1
      isplitl [ZR2]; · iexact ZR2
      isplitl [ZR3]; · iexact ZR3
      isplitl [ZR4]; · iexact ZR4
      isplitl [ZR5]; · iexact ZR5
      iexact ZR6
    iexact Zh
  imodintro
  iapply Hk
  isplitl [HΦ]; · iexact HΦ
  iexists _
  iexact HO

/-! ## The deal at the launch -/

/-- For each device and each of its copies: the row that arrives, or the peer's row that goes out, is all the same. -/
theorem swap_blanks : (bigSep Finset.univ fun c : Dev 8 => bigSep Finset.univ fun k => (blank A c (rowOf k (peer k c)) : sProp 𝕄))
    = bigSep Finset.univ fun c : Dev 8 => bigSep Finset.univ fun k => blank A (peer k c) (rowOf k c) := by
  rw [bigSep_univ_comm, bigSep_univ_comm (fun (c : Dev 8) k => blank A (peer k c) (rowOf k c))]
  refine bigSep_congr fun k _ => ?_
  let e : Dev 8 ≃ Dev 8 := ⟨peer k, peer k, peer_peer k, peer_peer k⟩
  rw [bigSep_univ_equiv e]
  refine bigSep_congr fun c _ => ?_
  show blank A (peer k c) (rowOf k (peer k (peer k c))) = _
  rw [peer_peer]

/-- Every device's matrix and results, and the rights to credit, are what all devices hold at the start. -/
theorem deal : iprop((bigSep Finset.univ fun c : Dev 8 => iprop(xAt A fullShare c ∗ blanks A c)) ∗ bigSep Finset.univ fun c : Dev 8 => Cert.Run.rights S.plan ER c)
    ⊢ (bigSep Finset.univ (hold A ER) : sProp 𝕄) := by
  have hb : (bigSep Finset.univ fun c : Dev 8 => (iprop(xAt A fullShare c ∗ blanks A c) : sProp 𝕄))
      = iprop((bigSep Finset.univ fun c : Dev 8 => xAt A fullShare c)
        ∗ ((bigSep Finset.univ fun c : Dev 8 => bigSep Finset.univ fun k => blank A (peer k c) (rowOf k c)) ∗ bigSep Finset.univ fun c : Dev 8 => blank A c c)) := by
    rw [← swap_blanks, ← bigSep_sep', ← bigSep_sep']
    exact bigSep_congr fun c _ => by rw [blanks_rows]
  have hr : (bigSep Finset.univ fun c : Dev 8 => (Cert.Run.rights S.plan ER c : sProp 𝕄))
      = iprop((bigSep Finset.univ fun c : Dev 8 => bigSep Finset.univ fun k => tok S.plan ER c (snd k))
        ∗ (bigSep Finset.univ fun c : Dev 8 => bigSep Finset.univ fun k => tok S.plan ER (peer k c) (rcv k)) ∗ bigSep Finset.univ fun c : Dev 8 => tok S.plan ER c home) := by
    rw [← bigSep_sep', ← bigSep_sep']
    rfl
  have hh : (bigSep Finset.univ (hold A ER) : sProp 𝕄)
      = iprop((bigSep Finset.univ fun c : Dev 8 => xAt A fullShare c)
        ∗ ((bigSep Finset.univ fun c : Dev 8 => blank A c c) ∗ bigSep Finset.univ fun c : Dev 8 => tok S.plan ER c home)
        ∗ ((bigSep Finset.univ fun c : Dev 8 => bigSep Finset.univ fun k => blank A (peer k c) (rowOf k c))
          ∗ (bigSep Finset.univ fun c : Dev 8 => bigSep Finset.univ fun k => tok S.plan ER c (snd k))
          ∗ bigSep Finset.univ fun c : Dev 8 => bigSep Finset.univ fun k => tok S.plan ER (peer k c) (rcv k))) := by
    simp only [← bigSep_sep']
    rfl
  rw [hb, hr, hh]
  iintro ⟨⟨Hx, Hb, Hb'⟩, Hs, Hr, Hh⟩
  isplitl [Hx]; · iexact Hx
  isplitl [Hb' Hh]
  · isplitl [Hb'] <;> iassumption
  isplitl [Hb]; · iexact Hb
  isplitl [Hs] <;> iassumption

end Cert.Gather

end
-- ==== Proof.GatherValue.lean ====
/-
# A gather: the mathematics

Eight matrices laid one below the other are one tall matrix.  Cut into eight it is a stack of eight matrices: row `r` of the stack
is the `r`-th of them.
-/
module

public import proofs.«01_k».proof.Proof.Rows
public import Idealize.ShloMosaic.Lib.ValueLayout
public import Idealize.ShloMosaic.Lib.Layout

@[expose] public section

namespace Cert.Gather

open Idealize.ShloMosaic
open Cert.Rows

variable {α : Type} {n a b : ℕ}

theorem stacked_rows (V : (Slab n b).Idx → α) (h₁ : (Slab n b).ShapeCasts (Stack 8 a b)) (h : Layout.Tiles (Slab a b) (Slab n b) 0 8)
    (i : (Stack 8 a b).Idx) : shapeCast (Stack 8 a b) V h₁ i = V (h.idx (i 0 : Fin 8) (ValueIdx.ix2 (i 1) (i 2))) := by
  rw [shapeCast_apply _ h₁ _ _ ?_]
  rw [Shape.rowMajor_val_two, Shape.rowMajor_val_three]
  show ((i 0).val * a + (i 1).val) * b + (i 2).val = _
  rfl

end Cert.Gather
-- ==== Proof.WeightsGathered.lean ====
/-
# The gather of the weights: the run of the program

The kernel's text follows the steps of a gather (`follows`), so from any memory every run of `main` ends, and then every device's
matrix is as it was, its results are the stack of all devices' matrices, and every semaphore is at zero (`run_main`).
-/
module

public import proofs.«01_k».proof.Proof.GatherRun
public import proofs.«01_k».proof.Proof.GatherValue
public import proofs.«01_k».proof.Proof.Gen.GatherWeightsIdeal
public import proofs.«01_k».proof.Proof.Gen.GatherWeightsIdeal.Skeleton
public import proofs.«01_k».proof.Proof.Gen.GatherWeightsIdeal.Launch
public import proofs.«01_k».proof.Proof.Gen.GatherWeightsIdeal.Points
public import Idealize.ShloMosaic.Lib.Tactic
public import Idealize.ShloMosaic.Lib.ValueIdxCore

@[expose] public section

set_option Elab.async false

noncomputable section

namespace Cert.WeightsGathered

open Cert.GatherWeightsIdeal Cert.GatherWeightsIdeal.Gen
open Idealize.ShloMosaic
open Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows Cert.Gather

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The site and the arrays -/

/-- The kernel's semaphores. -/
def sem : Slot → SemLoc sig
  | .inl k => .dma (⟨k.val, Nat.lt_of_lt_of_le k.isLt (by decide)⟩ : Fin 15)
  | .inr (.inl k) => .dma (⟨7 + k.val, Nat.lt_of_lt_of_le (Nat.add_lt_add_left k.isLt 7) (by decide)⟩ : Fin 15)
  | .inr (.inr _) => .dma (14 : Fin 15)

theorem sem_injective : Function.Injective sem := by decide

def site : Site τ sig where
  R := 2576
  C := 1024
  e := .bf16
  x := Memref.whole main_arg0
  o := Memref.whole main_v1
  x_whole := Memref.isWhole_whole _
  o_whole := Memref.isWhole_whole _
  sem := sem
  sem_inj := sem_injective
  N := (rowRef (Memref.whole main_v1 : Memref sig .tc .hbm (Stack 8 2576 1024) .bf16) ![0, 0, 0] (by decide) squeezes_S1x2576x1024_S2576x1024).view.dmaCredit
  N_pos := View.dmaCredit_pos _ (by decide)
  routes := by decide

/-- What the results hold in the end, on every device the same: row `r` is device `r`'s matrix. -/
def want : (Stack 8 2576 1024).Idx → Elt F .bf16 := fun i => m ((Dev.tc (i 0 : Fin 8) : Thread nD τ).loc main_arg0) (ValueIdx.ix2 (i 1) (i 2))

def arrays : Arrays site (Elt F) where
  fx c := m ((c.tc : Thread nD τ).loc main_arg0)
  fo c := m ((c.tc : Thread nD τ).loc main_v1)
  want _ := want m
  want_eq _ r i j h0 h1 h2 := by
    have hr : (i 0 : Dev nD) = r := Fin.ext h0
    have hij : (ValueIdx.ix2 (i 1) (i 2) : (Slab 2576 1024).Idx) = j := by
      funext a
      match a with
      | ⟨0, _⟩ => exact Fin.ext h1
      | ⟨1, _⟩ => exact Fin.ext h2
    subst hr
    exact congrArg (m ((Dev.tc (i 0 : Dev nD) : Thread nD τ).loc main_arg0)) hij

/-! ## The text follows the steps -/

theorem own_row : ∀ c : Dev nD, k0_off1 c = ![(c : ℕ), 0, 0] := by decide +kernel
theorem row4 : ∀ c : Dev nD, k0_off2 c = ![(rowOf 4 c : ℕ), 0, 0] := by decide +kernel
theorem row5 : ∀ c : Dev nD, k0_off3 c = ![(rowOf 5 c : ℕ), 0, 0] := by decide +kernel
theorem row6 : ∀ c : Dev nD, k0_off4 c = ![(rowOf 6 c : ℕ), 0, 0] := by decide +kernel
theorem dev0 : ∀ c : Dev nD, (⟨k0_dev1 c, k0_dev1_lt c⟩ : Dev nD) = peer 0 c := by decide +kernel
theorem dev1 : ∀ c : Dev nD, (⟨k0_dev2 c, k0_dev2_lt c⟩ : Dev nD) = peer 1 c := by decide +kernel
theorem dev2 : ∀ c : Dev nD, (⟨k0_dev3 c, k0_dev3_lt c⟩ : Dev nD) = peer 2 c := by decide +kernel
theorem dev3 : ∀ c : Dev nD, (⟨k0_dev4 c, k0_dev4_lt c⟩ : Dev nD) = peer 3 c := by decide +kernel
theorem dev4 : ∀ c : Dev nD, (⟨k0_dev5 c, k0_dev5_lt c⟩ : Dev nD) = peer 4 c := by decide +kernel
theorem dev5 : ∀ c : Dev nD, (⟨k0_dev6 c, k0_dev6_lt c⟩ : Dev nD) = peer 5 c := by decide +kernel
theorem dev6 : ∀ c : Dev nD, (⟨k0_dev7 c, k0_dev7_lt c⟩ : Dev nD) = peer 6 c := by decide +kernel

def dats (_ : Fin 1) (c : Dev nD) : Dat τ (Elt F) Unit ℕ UU ℕ cfg0 c where
  A w := Fin.elim0 w
  after w _ := Fin.elim0 w
  Φ t := match t with
    | ⟨0, _⟩ => start (arrays m) ER c
    | ⟨_ + 1, _⟩ => finished (arrays m) c
  q _ := fullShare
  owed t := match t with
    | ⟨0, _⟩ => dues site.plan c copies
    | ⟨_ + 1, _⟩ => 0

abbrev 𝒱₀ : Variants := Variants.none

set_option maxHeartbeats 3200000 in
theorem sound_body (c : Dev nD) (Kt : PUnit → sProp 𝕄) :
    iprop((start (arrays m) ER c ∗ (dats m 0 c).owesAt () t0_0.castSucc) ∗ (iprop(finished (arrays m) c ∗ (dats m 0 c).owesAt () t0_0.succ) -∗ Kt ⟨⟩))
      ⊢ wp frame (wpE (defs₀ (F := F)) 𝒱₀ (c.tc : Thread nD τ) none) Set.univ (bodyAt0 t0_0) Kt := by
  have key : ∀ P : Prog (TpuEff nD τ sig (Elt F) Λ₀ .tc) PUnit, Follows site c order P →
      (iprop((start (arrays m) ER c ∗ (dats m 0 c).owesAt () t0_0.castSucc) ∗ (iprop(finished (arrays m) c ∗ (dats m 0 c).owesAt () t0_0.succ) -∗ Kt ⟨⟩))
        ⊢ wp frame (wpE (defs₀ (F := F)) 𝒱₀ (c.tc : Thread nD τ) none) Set.univ P Kt) := fun P h => by
    unfold Dat.owesAt Pipeline.owesWithin
    iintro ⟨⟨Hs, ⟨%W, %hW, HO⟩⟩, Hk⟩
    rw [show (dats m 0 c).owed t0_0.castSucc = dues site.plan c copies from rfl]
    iapply (wp_gather (arrays m) ER 𝒱₀ c h Kt W)
    isplitl [Hs]; · iexact Hs
    isplitl [HO]; · iexact HO
    iintro ⟨Hf, ⟨%W', HO⟩⟩
    iapply Hk
    isplitl [Hf]; · iexact Hf
    iexists W'
    isplitr; · ipureintro; exact fun _ _ => Or.inl trivial
    iexact HO
  unfold bodyAt0
  simp only [cc0_gather_weights_eq_skeleton]; unfold cc0_gather_weights_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  refine key _ ?_
  refine .keep (own_row c) rfl rfl rfl ?_
  refine .out (dev0 c) (own_row c) rfl rfl rfl rfl ?_
  refine .out (dev1 c) (own_row c) rfl rfl rfl rfl ?_
  refine .out (dev2 c) (own_row c) rfl rfl rfl rfl ?_
  refine .out (dev3 c) (own_row c) rfl rfl rfl rfl ?_
  refine .wait rfl rfl rfl ?_
  refine .pass (dev4 c) (row4 c) (row4 c) rfl rfl rfl rfl ?_
  refine .wait rfl rfl rfl ?_
  refine .pass (dev5 c) (row5 c) (row5 c) rfl rfl rfl rfl ?_
  refine .wait rfl rfl rfl ?_
  refine .pass (dev6 c) (row6 c) (row6 c) rfl rfl rfl rfl ?_
  iterate 12 refine .wait rfl rfl rfl ?_
  exact .done

theorem body_obligation (c : Dev nD) : BodyObligation (dats (F := F) m 0 c) (defs₀ (F := F)) 𝒱₀ () Set.univ := fun t => by
  rw [fin_N0 t]
  show iprop(start (arrays m) ER c ∗ (dats m 0 c).owesAt () t0_0.castSucc ∗ _) ⊢ wp frame (wpE (defs₀ (F := F)) 𝒱₀ (c.tc : Thread nD τ) none) Set.univ (bodyAt0 t0_0)
    (fun _ => iprop(finished (arrays m) c ∗ (dats m 0 c).owesAt () t0_0.succ ∗ _))
  iintro ⟨HΦ, HO, Hw⟩
  iapply (sound_body m c _)
  isplitl [HΦ HO]
  · isplitl [HΦ] <;> iassumption
  iintro ⟨HΦ, HO⟩
  isplitl [HΦ]; · iexact HΦ
  isplitl [HO]; · iexact HO
  iexact Hw

/-! ## The run -/

/-- A device's buffers are its matrix and its results. -/
theorem buffers (c : Dev nD) : (unscopedBufs c (fun b => m ((c.tc : Thread nD τ).loc b)) : sProp 𝕄) = iprop(xAt (arrays m) fullShare c ∗ blanks (arrays m) c) := by
  unfold unscopedBufs xAt blanks
  rw [site.x_whole.set_eq_univ]
  exact bigSep_eq_bigSepL_of_eq [main_arg0, main_v1] (by decide) (by decide) _

/-- The copies' semaphores are the kernel's own. -/
theorem own_sems : Pipeline.OwnSemFacts cfg0.spec sem := by decide

def u₀ : UU := (initOf (Pipeline.cells cfgs cellOf_inj) (Pipeline.launchToks cfgs cellOf_inj), initOf (Wiring.cells site.plan) (toks site.plan))

/-- The end of a run: the matrices as they were, the results as wanted, the semaphores at zero. -/
def Post (r : PUnit × MemSt nD τ sig (Elt F)) : Prop :=
  (∀ c : Dev nD, r.2.mem (c.tc.loc main_arg0) = m (c.tc.loc main_arg0) ∧ r.2.mem (c.tc.loc main_v1) = want m) ∧ r.2.sem = fun _ => 0

theorem run_main (ρ : Dev nD → PrngReg) : θ_run defs (onTc (τ := τ) (main (F := F))) ⟨m, fun _ => 0, ρ⟩ (Post m) :=
  Cert.Run.run_wired site.plan ER (pay (arrays m)) (level site) (fun p => (cfgs p).toPCfg) (fun p => (cfgs p).toPCfg_adm) (dats m) cellOf_inj EP defs₀ 𝒱₀
    (pay_stores (arrays m)) copies (by decide) (by decide) m ρ main 0 (fun _ _ => .ret ⟨⟩) (fun c => (main_chain c).trans rfl)
    winFacts0.to₀ own_sems rfl ⟨fun w => w.elim0⟩ (fun c => scopedRest0_eq c) (fun c => (body_obligation m c).loose)
    u₀ (by
      unfold u₀
      iintro Hu
      ihave H := (ownU_pair _ _) $$ Hu
      icases H with ⟨HP, HX⟩
      imodintro
      isplitl [HP] <;> iassumption)
    (hold (arrays m) ER) (by
      rw [show (bigSep Finset.univ fun c : Dev nD => (unscopedBufs c (fun b => m ((c.tc : Thread nD τ).loc b)) : sProp 𝕄))
        = bigSep Finset.univ fun c : Dev nD => iprop(xAt (arrays m) fullShare c ∗ blanks (arrays m) c) from bigSep_congr fun c _ => buffers m c]
      exact deal (arrays m) ER) (fun _ => rfl) (fun _ => rfl) (hΦ₀ := fun _ => rfl)
    (done := fun c => iprop(xAt (arrays m) fullShare c ∗ results (arrays m) c))
    (hΦN := fun c => by
      show finished (arrays m) c ⊢ _
      unfold finished
      iintro ⟨Hp, Hr, Hz⟩
      isplitl [Hp Hr]
      · isplitl [Hp] <;> iassumption
      unfold Pipeline.ownSems0; iexact Hz)
    (Tₙ := fun c => iprop(xAt (arrays m) fullShare c ∗ results (arrays m) c))
    (htail := fun c => by
      iintro ⟨Hd, Hb, HO, -, -⟩
      rw [wp_ret]
      imodintro
      isplitr [HO]
      · isplitl [Hd] <;> iassumption
      iexact HO)
    (QY := fun c s => s.mem (c.tc.loc main_arg0) = m (c.tc.loc main_arg0) ∧ s.mem (c.tc.loc main_v1) = want m)
    (hfin := fun c s' => by
      unfold xAt results
      rw [site.x_whole.set_eq_univ]
      iintro ⟨⟨Hp, Hr⟩, HSI⟩
      icombine HSI Hp gives %hp
      icombine HSI Hr gives %hr
      imodintro
      isplitr
      · ipureintro
        exact ⟨Buf.eq_of_forall_mem_univ hp, Buf.eq_of_forall_mem_univ hr⟩
      iexact HSI)
    (hQ := fun _ h hs => ⟨h, sem_eq_zero_of_scoped (by decide) hs⟩)

/-- Where the devices' matrices are the eight parts of a tall one, the results are that one, cut into eight. -/
theorem want_eq (V : (Slab 20608 1024).Idx → Elt F .bf16) (h : Layout.Tiles (Slab 2576 1024) (Slab 20608 1024) 0 8)
    (hm : ∀ c : Dev nD, m (c.tc.loc main_arg0) = Layout.block (Slab 2576 1024) (Slab 20608 1024) 0 8 c V h)
    (h₁ : (Slab 20608 1024).ShapeCasts (Stack 8 2576 1024)) : want m = shapeCast (Stack 8 2576 1024) V h₁ :=
  funext fun i => (congrFun (hm (i 0)) _).trans (stacked_rows V h₁ h i).symm

end Cert.WeightsGathered

end
-- ==== Proof.SmallGathered.lean ====
/-
# The gather of the small inputs: the run of the program

The kernel's text follows the steps of a gather (`follows`), so from any memory every run of `main` ends, and then every device's
matrix is as it was, its results are the stack of all devices' matrices, and every semaphore is at zero (`run_main`).
-/
module

public import proofs.«01_k».proof.Proof.GatherRun
public import proofs.«01_k».proof.Proof.GatherValue
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import Idealize.ShloMosaic.Lib.Tactic
public import Idealize.ShloMosaic.Lib.ValueIdxCore

@[expose] public section

set_option Elab.async false

noncomputable section

namespace Cert.SmallGathered

open Cert.GatherSmallIdeal Cert.GatherSmallIdeal.Gen
open Idealize.ShloMosaic
open Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows Cert.Gather

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The site and the arrays -/

/-- The kernel's semaphores. -/
def sem : Slot → SemLoc sig
  | .inl k => .dma (⟨k.val, Nat.lt_of_lt_of_le k.isLt (by decide)⟩ : Fin 15)
  | .inr (.inl k) => .dma (⟨7 + k.val, Nat.lt_of_lt_of_le (Nat.add_lt_add_left k.isLt 7) (by decide)⟩ : Fin 15)
  | .inr (.inr _) => .dma (14 : Fin 15)

theorem sem_injective : Function.Injective sem := by decide

def site : Site τ sig where
  R := 16
  C := 1024
  e := .f32
  x := Memref.whole main_arg0
  o := Memref.whole main_v1
  x_whole := Memref.isWhole_whole _
  o_whole := Memref.isWhole_whole _
  sem := sem
  sem_inj := sem_injective
  N := (rowRef (Memref.whole main_v1 : Memref sig .tc .hbm (Stack 8 16 1024) .f32) ![0, 0, 0] (by decide) squeezes_S1x16x1024_S16x1024).view.dmaCredit
  N_pos := View.dmaCredit_pos _ (by decide)
  routes := by decide

/-- What the results hold in the end, on every device the same: row `r` is device `r`'s matrix. -/
def want : (Stack 8 16 1024).Idx → Elt F .f32 := fun i => m ((Dev.tc (i 0 : Fin 8) : Thread nD τ).loc main_arg0) (ValueIdx.ix2 (i 1) (i 2))

def arrays : Arrays site (Elt F) where
  fx c := m ((c.tc : Thread nD τ).loc main_arg0)
  fo c := m ((c.tc : Thread nD τ).loc main_v1)
  want _ := want m
  want_eq _ r i j h0 h1 h2 := by
    have hr : (i 0 : Dev nD) = r := Fin.ext h0
    have hij : (ValueIdx.ix2 (i 1) (i 2) : (Slab 16 1024).Idx) = j := by
      funext a
      match a with
      | ⟨0, _⟩ => exact Fin.ext h1
      | ⟨1, _⟩ => exact Fin.ext h2
    subst hr
    exact congrArg (m ((Dev.tc (i 0 : Dev nD) : Thread nD τ).loc main_arg0)) hij

/-! ## The text follows the steps -/

theorem own_row : ∀ c : Dev nD, k0_off1 c = ![(c : ℕ), 0, 0] := by decide +kernel
theorem row4 : ∀ c : Dev nD, k0_off2 c = ![(rowOf 4 c : ℕ), 0, 0] := by decide +kernel
theorem row5 : ∀ c : Dev nD, k0_off3 c = ![(rowOf 5 c : ℕ), 0, 0] := by decide +kernel
theorem row6 : ∀ c : Dev nD, k0_off4 c = ![(rowOf 6 c : ℕ), 0, 0] := by decide +kernel
theorem dev0 : ∀ c : Dev nD, (⟨k0_dev1 c, k0_dev1_lt c⟩ : Dev nD) = peer 0 c := by decide +kernel
theorem dev1 : ∀ c : Dev nD, (⟨k0_dev2 c, k0_dev2_lt c⟩ : Dev nD) = peer 1 c := by decide +kernel
theorem dev2 : ∀ c : Dev nD, (⟨k0_dev3 c, k0_dev3_lt c⟩ : Dev nD) = peer 2 c := by decide +kernel
theorem dev3 : ∀ c : Dev nD, (⟨k0_dev4 c, k0_dev4_lt c⟩ : Dev nD) = peer 3 c := by decide +kernel
theorem dev4 : ∀ c : Dev nD, (⟨k0_dev5 c, k0_dev5_lt c⟩ : Dev nD) = peer 4 c := by decide +kernel
theorem dev5 : ∀ c : Dev nD, (⟨k0_dev6 c, k0_dev6_lt c⟩ : Dev nD) = peer 5 c := by decide +kernel
theorem dev6 : ∀ c : Dev nD, (⟨k0_dev7 c, k0_dev7_lt c⟩ : Dev nD) = peer 6 c := by decide +kernel

def dats (_ : Fin 1) (c : Dev nD) : Dat τ (Elt F) Unit ℕ UU ℕ cfg0 c where
  A w := Fin.elim0 w
  after w _ := Fin.elim0 w
  Φ t := match t with
    | ⟨0, _⟩ => start (arrays m) ER c
    | ⟨_ + 1, _⟩ => finished (arrays m) c
  q _ := fullShare
  owed t := match t with
    | ⟨0, _⟩ => dues site.plan c copies
    | ⟨_ + 1, _⟩ => 0

abbrev 𝒱₀ : Variants := Variants.none

set_option maxHeartbeats 3200000 in
theorem sound_body (c : Dev nD) (Kt : PUnit → sProp 𝕄) :
    iprop((start (arrays m) ER c ∗ (dats m 0 c).owesAt () t0_0.castSucc) ∗ (iprop(finished (arrays m) c ∗ (dats m 0 c).owesAt () t0_0.succ) -∗ Kt ⟨⟩))
      ⊢ wp frame (wpE (defs₀ (F := F)) 𝒱₀ (c.tc : Thread nD τ) none) Set.univ (bodyAt0 t0_0) Kt := by
  have key : ∀ P : Prog (TpuEff nD τ sig (Elt F) Λ₀ .tc) PUnit, Follows site c order P →
      (iprop((start (arrays m) ER c ∗ (dats m 0 c).owesAt () t0_0.castSucc) ∗ (iprop(finished (arrays m) c ∗ (dats m 0 c).owesAt () t0_0.succ) -∗ Kt ⟨⟩))
        ⊢ wp frame (wpE (defs₀ (F := F)) 𝒱₀ (c.tc : Thread nD τ) none) Set.univ P Kt) := fun P h => by
    unfold Dat.owesAt Pipeline.owesWithin
    iintro ⟨⟨Hs, ⟨%W, %hW, HO⟩⟩, Hk⟩
    rw [show (dats m 0 c).owed t0_0.castSucc = dues site.plan c copies from rfl]
    iapply (wp_gather (arrays m) ER 𝒱₀ c h Kt W)
    isplitl [Hs]; · iexact Hs
    isplitl [HO]; · iexact HO
    iintro ⟨Hf, ⟨%W', HO⟩⟩
    iapply Hk
    isplitl [Hf]; · iexact Hf
    iexists W'
    isplitr; · ipureintro; exact fun _ _ => Or.inl trivial
    iexact HO
  unfold bodyAt0
  simp only [cc0_gather_small_eq_skeleton]; unfold cc0_gather_small_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  refine key _ ?_
  refine .keep (own_row c) rfl rfl rfl ?_
  refine .out (dev0 c) (own_row c) rfl rfl rfl rfl ?_
  refine .out (dev1 c) (own_row c) rfl rfl rfl rfl ?_
  refine .out (dev2 c) (own_row c) rfl rfl rfl rfl ?_
  refine .out (dev3 c) (own_row c) rfl rfl rfl rfl ?_
  refine .wait rfl rfl rfl ?_
  refine .pass (dev4 c) (row4 c) (row4 c) rfl rfl rfl rfl ?_
  refine .wait rfl rfl rfl ?_
  refine .pass (dev5 c) (row5 c) (row5 c) rfl rfl rfl rfl ?_
  refine .wait rfl rfl rfl ?_
  refine .pass (dev6 c) (row6 c) (row6 c) rfl rfl rfl rfl ?_
  iterate 12 refine .wait rfl rfl rfl ?_
  exact .done

theorem body_obligation (c : Dev nD) : BodyObligation (dats (F := F) m 0 c) (defs₀ (F := F)) 𝒱₀ () Set.univ := fun t => by
  rw [fin_N0 t]
  show iprop(start (arrays m) ER c ∗ (dats m 0 c).owesAt () t0_0.castSucc ∗ _) ⊢ wp frame (wpE (defs₀ (F := F)) 𝒱₀ (c.tc : Thread nD τ) none) Set.univ (bodyAt0 t0_0)
    (fun _ => iprop(finished (arrays m) c ∗ (dats m 0 c).owesAt () t0_0.succ ∗ _))
  iintro ⟨HΦ, HO, Hw⟩
  iapply (sound_body m c _)
  isplitl [HΦ HO]
  · isplitl [HΦ] <;> iassumption
  iintro ⟨HΦ, HO⟩
  isplitl [HΦ]; · iexact HΦ
  isplitl [HO]; · iexact HO
  iexact Hw

/-! ## The run -/

/-- A device's buffers are its matrix and its results. -/
theorem buffers (c : Dev nD) : (unscopedBufs c (fun b => m ((c.tc : Thread nD τ).loc b)) : sProp 𝕄) = iprop(xAt (arrays m) fullShare c ∗ blanks (arrays m) c) := by
  unfold unscopedBufs xAt blanks
  rw [site.x_whole.set_eq_univ]
  exact bigSep_eq_bigSepL_of_eq [main_arg0, main_v1] (by decide) (by decide) _

/-- The copies' semaphores are the kernel's own. -/
theorem own_sems : Pipeline.OwnSemFacts cfg0.spec sem := by decide

def u₀ : UU := (initOf (Pipeline.cells cfgs cellOf_inj) (Pipeline.launchToks cfgs cellOf_inj), initOf (Wiring.cells site.plan) (toks site.plan))

/-- The end of a run: the matrices as they were, the results as wanted, the semaphores at zero. -/
def Post (r : PUnit × MemSt nD τ sig (Elt F)) : Prop :=
  (∀ c : Dev nD, r.2.mem (c.tc.loc main_arg0) = m (c.tc.loc main_arg0) ∧ r.2.mem (c.tc.loc main_v1) = want m) ∧ r.2.sem = fun _ => 0

theorem run_main (ρ : Dev nD → PrngReg) : θ_run defs (onTc (τ := τ) (main (F := F))) ⟨m, fun _ => 0, ρ⟩ (Post m) :=
  Cert.Run.run_wired site.plan ER (pay (arrays m)) (level site) (fun p => (cfgs p).toPCfg) (fun p => (cfgs p).toPCfg_adm) (dats m) cellOf_inj EP defs₀ 𝒱₀
    (pay_stores (arrays m)) copies (by decide) (by decide) m ρ main 0 (fun _ _ => .ret ⟨⟩) (fun c => (main_chain c).trans rfl)
    winFacts0.to₀ own_sems rfl ⟨fun w => w.elim0⟩ (fun c => scopedRest0_eq c) (fun c => (body_obligation m c).loose)
    u₀ (by
      unfold u₀
      iintro Hu
      ihave H := (ownU_pair _ _) $$ Hu
      icases H with ⟨HP, HX⟩
      imodintro
      isplitl [HP] <;> iassumption)
    (hold (arrays m) ER) (by
      rw [show (bigSep Finset.univ fun c : Dev nD => (unscopedBufs c (fun b => m ((c.tc : Thread nD τ).loc b)) : sProp 𝕄))
        = bigSep Finset.univ fun c : Dev nD => iprop(xAt (arrays m) fullShare c ∗ blanks (arrays m) c) from bigSep_congr fun c _ => buffers m c]
      exact deal (arrays m) ER) (fun _ => rfl) (fun _ => rfl) (hΦ₀ := fun _ => rfl)
    (done := fun c => iprop(xAt (arrays m) fullShare c ∗ results (arrays m) c))
    (hΦN := fun c => by
      show finished (arrays m) c ⊢ _
      unfold finished
      iintro ⟨Hp, Hr, Hz⟩
      isplitl [Hp Hr]
      · isplitl [Hp] <;> iassumption
      unfold Pipeline.ownSems0; iexact Hz)
    (Tₙ := fun c => iprop(xAt (arrays m) fullShare c ∗ results (arrays m) c))
    (htail := fun c => by
      iintro ⟨Hd, Hb, HO, -, -⟩
      rw [wp_ret]
      imodintro
      isplitr [HO]
      · isplitl [Hd] <;> iassumption
      iexact HO)
    (QY := fun c s => s.mem (c.tc.loc main_arg0) = m (c.tc.loc main_arg0) ∧ s.mem (c.tc.loc main_v1) = want m)
    (hfin := fun c s' => by
      unfold xAt results
      rw [site.x_whole.set_eq_univ]
      iintro ⟨⟨Hp, Hr⟩, HSI⟩
      icombine HSI Hp gives %hp
      icombine HSI Hr gives %hr
      imodintro
      isplitr
      · ipureintro
        exact ⟨Buf.eq_of_forall_mem_univ hp, Buf.eq_of_forall_mem_univ hr⟩
      iexact HSI)
    (hQ := fun _ h hs => ⟨h, sem_eq_zero_of_scoped (by decide) hs⟩)

/-- Where the devices' matrices are the eight parts of a tall one, the results are that one, cut into eight. -/
theorem want_eq (V : (Slab 128 1024).Idx → Elt F .f32) (h : Layout.Tiles (Slab 16 1024) (Slab 128 1024) 0 8)
    (hm : ∀ c : Dev nD, m (c.tc.loc main_arg0) = Layout.block (Slab 16 1024) (Slab 128 1024) 0 8 c V h)
    (h₁ : (Slab 128 1024).ShapeCasts (Stack 8 16 1024)) : want m = shapeCast (Stack 8 16 1024) V h₁ :=
  funext fun i => (congrFun (hm (i 0)) _).trans (stacked_rows V h₁ h i).symm

end Cert.SmallGathered

end
-- ==== Proof.ModGathered.lean ====
/-
# The gather of the modulation: the run of the program

The kernel's text follows the steps of a gather (`follows`), so from any memory every run of `main` ends, and then every device's
matrix is as it was, its results are the stack of all devices' matrices, and every semaphore is at zero (`run_main`).
-/
module

public import proofs.«01_k».proof.Proof.GatherRun
public import proofs.«01_k».proof.Proof.GatherValue
public import proofs.«01_k».proof.Proof.Gen.GatherModIdeal
public import proofs.«01_k».proof.Proof.Gen.GatherModIdeal.Skeleton
public import proofs.«01_k».proof.Proof.Gen.GatherModIdeal.Launch
public import proofs.«01_k».proof.Proof.Gen.GatherModIdeal.Points
public import Idealize.ShloMosaic.Lib.Tactic
public import Idealize.ShloMosaic.Lib.ValueIdxCore

@[expose] public section

set_option Elab.async false

noncomputable section

namespace Cert.ModGathered

open Cert.GatherModIdeal Cert.GatherModIdeal.Gen
open Idealize.ShloMosaic
open Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows Cert.Gather

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The site and the arrays -/

/-- The kernel's semaphores. -/
def sem : Slot → SemLoc sig
  | .inl k => .dma (⟨k.val, Nat.lt_of_lt_of_le k.isLt (by decide)⟩ : Fin 15)
  | .inr (.inl k) => .dma (⟨7 + k.val, Nat.lt_of_lt_of_le (Nat.add_lt_add_left k.isLt 7) (by decide)⟩ : Fin 15)
  | .inr (.inr _) => .dma (14 : Fin 15)

theorem sem_injective : Function.Injective sem := by decide

def site : Site τ sig where
  R := 8
  C := 1152
  e := .f32
  x := Memref.whole main_arg0
  o := Memref.whole main_v1
  x_whole := Memref.isWhole_whole _
  o_whole := Memref.isWhole_whole _
  sem := sem
  sem_inj := sem_injective
  N := (rowRef (Memref.whole main_v1 : Memref sig .tc .hbm (Stack 8 8 1152) .f32) ![0, 0, 0] (by decide) squeezes_S1x8x1152_S8x1152).view.dmaCredit
  N_pos := View.dmaCredit_pos _ (by decide)
  routes := by decide

/-- What the results hold in the end, on every device the same: row `r` is device `r`'s matrix. -/
def want : (Stack 8 8 1152).Idx → Elt F .f32 := fun i => m ((Dev.tc (i 0 : Fin 8) : Thread nD τ).loc main_arg0) (ValueIdx.ix2 (i 1) (i 2))

def arrays : Arrays site (Elt F) where
  fx c := m ((c.tc : Thread nD τ).loc main_arg0)
  fo c := m ((c.tc : Thread nD τ).loc main_v1)
  want _ := want m
  want_eq _ r i j h0 h1 h2 := by
    have hr : (i 0 : Dev nD) = r := Fin.ext h0
    have hij : (ValueIdx.ix2 (i 1) (i 2) : (Slab 8 1152).Idx) = j := by
      funext a
      match a with
      | ⟨0, _⟩ => exact Fin.ext h1
      | ⟨1, _⟩ => exact Fin.ext h2
    subst hr
    exact congrArg (m ((Dev.tc (i 0 : Dev nD) : Thread nD τ).loc main_arg0)) hij

/-! ## The text follows the steps -/

theorem own_row : ∀ c : Dev nD, k0_off1 c = ![(c : ℕ), 0, 0] := by decide +kernel
theorem row4 : ∀ c : Dev nD, k0_off2 c = ![(rowOf 4 c : ℕ), 0, 0] := by decide +kernel
theorem row5 : ∀ c : Dev nD, k0_off3 c = ![(rowOf 5 c : ℕ), 0, 0] := by decide +kernel
theorem row6 : ∀ c : Dev nD, k0_off4 c = ![(rowOf 6 c : ℕ), 0, 0] := by decide +kernel
theorem dev0 : ∀ c : Dev nD, (⟨k0_dev1 c, k0_dev1_lt c⟩ : Dev nD) = peer 0 c := by decide +kernel
theorem dev1 : ∀ c : Dev nD, (⟨k0_dev2 c, k0_dev2_lt c⟩ : Dev nD) = peer 1 c := by decide +kernel
theorem dev2 : ∀ c : Dev nD, (⟨k0_dev3 c, k0_dev3_lt c⟩ : Dev nD) = peer 2 c := by decide +kernel
theorem dev3 : ∀ c : Dev nD, (⟨k0_dev4 c, k0_dev4_lt c⟩ : Dev nD) = peer 3 c := by decide +kernel
theorem dev4 : ∀ c : Dev nD, (⟨k0_dev5 c, k0_dev5_lt c⟩ : Dev nD) = peer 4 c := by decide +kernel
theorem dev5 : ∀ c : Dev nD, (⟨k0_dev6 c, k0_dev6_lt c⟩ : Dev nD) = peer 5 c := by decide +kernel
theorem dev6 : ∀ c : Dev nD, (⟨k0_dev7 c, k0_dev7_lt c⟩ : Dev nD) = peer 6 c := by decide +kernel

def dats (_ : Fin 1) (c : Dev nD) : Dat τ (Elt F) Unit ℕ UU ℕ cfg0 c where
  A w := Fin.elim0 w
  after w _ := Fin.elim0 w
  Φ t := match t with
    | ⟨0, _⟩ => start (arrays m) ER c
    | ⟨_ + 1, _⟩ => finished (arrays m) c
  q _ := fullShare
  owed t := match t with
    | ⟨0, _⟩ => dues site.plan c copies
    | ⟨_ + 1, _⟩ => 0

abbrev 𝒱₀ : Variants := Variants.none

set_option maxHeartbeats 3200000 in
theorem sound_body (c : Dev nD) (Kt : PUnit → sProp 𝕄) :
    iprop((start (arrays m) ER c ∗ (dats m 0 c).owesAt () t0_0.castSucc) ∗ (iprop(finished (arrays m) c ∗ (dats m 0 c).owesAt () t0_0.succ) -∗ Kt ⟨⟩))
      ⊢ wp frame (wpE (defs₀ (F := F)) 𝒱₀ (c.tc : Thread nD τ) none) Set.univ (bodyAt0 t0_0) Kt := by
  have key : ∀ P : Prog (TpuEff nD τ sig (Elt F) Λ₀ .tc) PUnit, Follows site c order P →
      (iprop((start (arrays m) ER c ∗ (dats m 0 c).owesAt () t0_0.castSucc) ∗ (iprop(finished (arrays m) c ∗ (dats m 0 c).owesAt () t0_0.succ) -∗ Kt ⟨⟩))
        ⊢ wp frame (wpE (defs₀ (F := F)) 𝒱₀ (c.tc : Thread nD τ) none) Set.univ P Kt) := fun P h => by
    unfold Dat.owesAt Pipeline.owesWithin
    iintro ⟨⟨Hs, ⟨%W, %hW, HO⟩⟩, Hk⟩
    rw [show (dats m 0 c).owed t0_0.castSucc = dues site.plan c copies from rfl]
    iapply (wp_gather (arrays m) ER 𝒱₀ c h Kt W)
    isplitl [Hs]; · iexact Hs
    isplitl [HO]; · iexact HO
    iintro ⟨Hf, ⟨%W', HO⟩⟩
    iapply Hk
    isplitl [Hf]; · iexact Hf
    iexists W'
    isplitr; · ipureintro; exact fun _ _ => Or.inl trivial
    iexact HO
  unfold bodyAt0
  simp only [cc0_gather_mod_eq_skeleton]; unfold cc0_gather_mod_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  refine key _ ?_
  refine .keep (own_row c) rfl rfl rfl ?_
  refine .out (dev0 c) (own_row c) rfl rfl rfl rfl ?_
  refine .out (dev1 c) (own_row c) rfl rfl rfl rfl ?_
  refine .out (dev2 c) (own_row c) rfl rfl rfl rfl ?_
  refine .out (dev3 c) (own_row c) rfl rfl rfl rfl ?_
  refine .wait rfl rfl rfl ?_
  refine .pass (dev4 c) (row4 c) (row4 c) rfl rfl rfl rfl ?_
  refine .wait rfl rfl rfl ?_
  refine .pass (dev5 c) (row5 c) (row5 c) rfl rfl rfl rfl ?_
  refine .wait rfl rfl rfl ?_
  refine .pass (dev6 c) (row6 c) (row6 c) rfl rfl rfl rfl ?_
  iterate 12 refine .wait rfl rfl rfl ?_
  exact .done

theorem body_obligation (c : Dev nD) : BodyObligation (dats (F := F) m 0 c) (defs₀ (F := F)) 𝒱₀ () Set.univ := fun t => by
  rw [fin_N0 t]
  show iprop(start (arrays m) ER c ∗ (dats m 0 c).owesAt () t0_0.castSucc ∗ _) ⊢ wp frame (wpE (defs₀ (F := F)) 𝒱₀ (c.tc : Thread nD τ) none) Set.univ (bodyAt0 t0_0)
    (fun _ => iprop(finished (arrays m) c ∗ (dats m 0 c).owesAt () t0_0.succ ∗ _))
  iintro ⟨HΦ, HO, Hw⟩
  iapply (sound_body m c _)
  isplitl [HΦ HO]
  · isplitl [HΦ] <;> iassumption
  iintro ⟨HΦ, HO⟩
  isplitl [HΦ]; · iexact HΦ
  isplitl [HO]; · iexact HO
  iexact Hw

/-! ## The run -/

/-- A device's buffers are its matrix and its results. -/
theorem buffers (c : Dev nD) : (unscopedBufs c (fun b => m ((c.tc : Thread nD τ).loc b)) : sProp 𝕄) = iprop(xAt (arrays m) fullShare c ∗ blanks (arrays m) c) := by
  unfold unscopedBufs xAt blanks
  rw [site.x_whole.set_eq_univ]
  exact bigSep_eq_bigSepL_of_eq [main_arg0, main_v1] (by decide) (by decide) _

/-- The copies' semaphores are the kernel's own. -/
theorem own_sems : Pipeline.OwnSemFacts cfg0.spec sem := by decide

def u₀ : UU := (initOf (Pipeline.cells cfgs cellOf_inj) (Pipeline.launchToks cfgs cellOf_inj), initOf (Wiring.cells site.plan) (toks site.plan))

/-- The end of a run: the matrices as they were, the results as wanted, the semaphores at zero. -/
def Post (r : PUnit × MemSt nD τ sig (Elt F)) : Prop :=
  (∀ c : Dev nD, r.2.mem (c.tc.loc main_arg0) = m (c.tc.loc main_arg0) ∧ r.2.mem (c.tc.loc main_v1) = want m) ∧ r.2.sem = fun _ => 0

theorem run_main (ρ : Dev nD → PrngReg) : θ_run defs (onTc (τ := τ) (main (F := F))) ⟨m, fun _ => 0, ρ⟩ (Post m) :=
  Cert.Run.run_wired site.plan ER (pay (arrays m)) (level site) (fun p => (cfgs p).toPCfg) (fun p => (cfgs p).toPCfg_adm) (dats m) cellOf_inj EP defs₀ 𝒱₀
    (pay_stores (arrays m)) copies (by decide) (by decide) m ρ main 0 (fun _ _ => .ret ⟨⟩) (fun c => (main_chain c).trans rfl)
    winFacts0.to₀ own_sems rfl ⟨fun w => w.elim0⟩ (fun c => scopedRest0_eq c) (fun c => (body_obligation m c).loose)
    u₀ (by
      unfold u₀
      iintro Hu
      ihave H := (ownU_pair _ _) $$ Hu
      icases H with ⟨HP, HX⟩
      imodintro
      isplitl [HP] <;> iassumption)
    (hold (arrays m) ER) (by
      rw [show (bigSep Finset.univ fun c : Dev nD => (unscopedBufs c (fun b => m ((c.tc : Thread nD τ).loc b)) : sProp 𝕄))
        = bigSep Finset.univ fun c : Dev nD => iprop(xAt (arrays m) fullShare c ∗ blanks (arrays m) c) from bigSep_congr fun c _ => buffers m c]
      exact deal (arrays m) ER) (fun _ => rfl) (fun _ => rfl) (hΦ₀ := fun _ => rfl)
    (done := fun c => iprop(xAt (arrays m) fullShare c ∗ results (arrays m) c))
    (hΦN := fun c => by
      show finished (arrays m) c ⊢ _
      unfold finished
      iintro ⟨Hp, Hr, Hz⟩
      isplitl [Hp Hr]
      · isplitl [Hp] <;> iassumption
      unfold Pipeline.ownSems0; iexact Hz)
    (Tₙ := fun c => iprop(xAt (arrays m) fullShare c ∗ results (arrays m) c))
    (htail := fun c => by
      iintro ⟨Hd, Hb, HO, -, -⟩
      rw [wp_ret]
      imodintro
      isplitr [HO]
      · isplitl [Hd] <;> iassumption
      iexact HO)
    (QY := fun c s => s.mem (c.tc.loc main_arg0) = m (c.tc.loc main_arg0) ∧ s.mem (c.tc.loc main_v1) = want m)
    (hfin := fun c s' => by
      unfold xAt results
      rw [site.x_whole.set_eq_univ]
      iintro ⟨⟨Hp, Hr⟩, HSI⟩
      icombine HSI Hp gives %hp
      icombine HSI Hr gives %hr
      imodintro
      isplitr
      · ipureintro
        exact ⟨Buf.eq_of_forall_mem_univ hp, Buf.eq_of_forall_mem_univ hr⟩
      iexact HSI)
    (hQ := fun _ h hs => ⟨h, sem_eq_zero_of_scoped (by decide) hs⟩)

/-- Where the devices' matrices are the eight parts of a tall one, the results are that one, cut into eight. -/
theorem want_eq (V : (Slab 64 1152).Idx → Elt F .f32) (h : Layout.Tiles (Slab 8 1152) (Slab 64 1152) 0 8)
    (hm : ∀ c : Dev nD, m (c.tc.loc main_arg0) = Layout.block (Slab 8 1152) (Slab 64 1152) 0 8 c V h)
    (h₁ : (Slab 64 1152).ShapeCasts (Stack 8 8 1152)) : want m = shapeCast (Stack 8 8 1152) V h₁ :=
  funext fun i => (congrFun (hm (i 0)) _).trans (stacked_rows V h₁ h i).symm

end Cert.ModGathered

end
-- ==== Proof.SmallGradsGathered.lean ====
/-
# The gather of the small gradients: the run of the program

The kernel's text follows the steps of a gather (`follows`), so from any memory every run of `main` ends, and then every device's
matrix is as it was, its results are the stack of all devices' matrices, and every semaphore is at zero (`run_main`).
-/
module

public import proofs.«01_k».proof.Proof.GatherRun
public import proofs.«01_k».proof.Proof.GatherValue
public import proofs.«01_k».proof.Proof.Gen.GatherSmallGradsIdeal
public import proofs.«01_k».proof.Proof.Gen.GatherSmallGradsIdeal.Skeleton
public import proofs.«01_k».proof.Proof.Gen.GatherSmallGradsIdeal.Launch
public import proofs.«01_k».proof.Proof.Gen.GatherSmallGradsIdeal.Points
public import Idealize.ShloMosaic.Lib.Tactic
public import Idealize.ShloMosaic.Lib.ValueIdxCore

@[expose] public section

set_option Elab.async false

noncomputable section

namespace Cert.SmallGradsGathered

open Cert.GatherSmallGradsIdeal Cert.GatherSmallGradsIdeal.Gen
open Idealize.ShloMosaic
open Idealize.ShloMosaic.TcCoe
open Idealize.SL Idealize.SL.RA Idealize.SL.BI
open Idealize.SL.RA.PCS
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Wiring Cert.Rows Cert.Gather

variable {F : FTy → Type} [FloatOps F]

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The site and the arrays -/

/-- The kernel's semaphores. -/
def sem : Slot → SemLoc sig
  | .inl k => .dma (⟨k.val, Nat.lt_of_lt_of_le k.isLt (by decide)⟩ : Fin 15)
  | .inr (.inl k) => .dma (⟨7 + k.val, Nat.lt_of_lt_of_le (Nat.add_lt_add_left k.isLt 7) (by decide)⟩ : Fin 15)
  | .inr (.inr _) => .dma (14 : Fin 15)

theorem sem_injective : Function.Injective sem := by decide

def site : Site τ sig where
  R := 88
  C := 1024
  e := .f32
  x := Memref.whole main_arg0
  o := Memref.whole main_v1
  x_whole := Memref.isWhole_whole _
  o_whole := Memref.isWhole_whole _
  sem := sem
  sem_inj := sem_injective
  N := (rowRef (Memref.whole main_v1 : Memref sig .tc .hbm (Stack 8 88 1024) .f32) ![0, 0, 0] (by decide) squeezes_S1x88x1024_S88x1024).view.dmaCredit
  N_pos := View.dmaCredit_pos _ (by decide)
  routes := by decide

/-- What the results hold in the end, on every device the same: row `r` is device `r`'s matrix. -/
def want : (Stack 8 88 1024).Idx → Elt F .f32 := fun i => m ((Dev.tc (i 0 : Fin 8) : Thread nD τ).loc main_arg0) (ValueIdx.ix2 (i 1) (i 2))

def arrays : Arrays site (Elt F) where
  fx c := m ((c.tc : Thread nD τ).loc main_arg0)
  fo c := m ((c.tc : Thread nD τ).loc main_v1)
  want _ := want m
  want_eq _ r i j h0 h1 h2 := by
    have hr : (i 0 : Dev nD) = r := Fin.ext h0
    have hij : (ValueIdx.ix2 (i 1) (i 2) : (Slab 88 1024).Idx) = j := by
      funext a
      match a with
      | ⟨0, _⟩ => exact Fin.ext h1
      | ⟨1, _⟩ => exact Fin.ext h2
    subst hr
    exact congrArg (m ((Dev.tc (i 0 : Dev nD) : Thread nD τ).loc main_arg0)) hij

/-! ## The text follows the steps -/

theorem own_row : ∀ c : Dev nD, k0_off1 c = ![(c : ℕ), 0, 0] := by decide +kernel
theorem row4 : ∀ c : Dev nD, k0_off2 c = ![(rowOf 4 c : ℕ), 0, 0] := by decide +kernel
theorem row5 : ∀ c : Dev nD, k0_off3 c = ![(rowOf 5 c : ℕ), 0, 0] := by decide +kernel
theorem row6 : ∀ c : Dev nD, k0_off4 c = ![(rowOf 6 c : ℕ), 0, 0] := by decide +kernel
theorem dev0 : ∀ c : Dev nD, (⟨k0_dev1 c, k0_dev1_lt c⟩ : Dev nD) = peer 0 c := by decide +kernel
theorem dev1 : ∀ c : Dev nD, (⟨k0_dev2 c, k0_dev2_lt c⟩ : Dev nD) = peer 1 c := by decide +kernel
theorem dev2 : ∀ c : Dev nD, (⟨k0_dev3 c, k0_dev3_lt c⟩ : Dev nD) = peer 2 c := by decide +kernel
theorem dev3 : ∀ c : Dev nD, (⟨k0_dev4 c, k0_dev4_lt c⟩ : Dev nD) = peer 3 c := by decide +kernel
theorem dev4 : ∀ c : Dev nD, (⟨k0_dev5 c, k0_dev5_lt c⟩ : Dev nD) = peer 4 c := by decide +kernel
theorem dev5 : ∀ c : Dev nD, (⟨k0_dev6 c, k0_dev6_lt c⟩ : Dev nD) = peer 5 c := by decide +kernel
theorem dev6 : ∀ c : Dev nD, (⟨k0_dev7 c, k0_dev7_lt c⟩ : Dev nD) = peer 6 c := by decide +kernel

def dats (_ : Fin 1) (c : Dev nD) : Dat τ (Elt F) Unit ℕ UU ℕ cfg0 c where
  A w := Fin.elim0 w
  after w _ := Fin.elim0 w
  Φ t := match t with
    | ⟨0, _⟩ => start (arrays m) ER c
    | ⟨_ + 1, _⟩ => finished (arrays m) c
  q _ := fullShare
  owed t := match t with
    | ⟨0, _⟩ => dues site.plan c copies
    | ⟨_ + 1, _⟩ => 0

abbrev 𝒱₀ : Variants := Variants.none

set_option maxHeartbeats 3200000 in
theorem sound_body (c : Dev nD) (Kt : PUnit → sProp 𝕄) :
    iprop((start (arrays m) ER c ∗ (dats m 0 c).owesAt () t0_0.castSucc) ∗ (iprop(finished (arrays m) c ∗ (dats m 0 c).owesAt () t0_0.succ) -∗ Kt ⟨⟩))
      ⊢ wp frame (wpE (defs₀ (F := F)) 𝒱₀ (c.tc : Thread nD τ) none) Set.univ (bodyAt0 t0_0) Kt := by
  have key : ∀ P : Prog (TpuEff nD τ sig (Elt F) Λ₀ .tc) PUnit, Follows site c order P →
      (iprop((start (arrays m) ER c ∗ (dats m 0 c).owesAt () t0_0.castSucc) ∗ (iprop(finished (arrays m) c ∗ (dats m 0 c).owesAt () t0_0.succ) -∗ Kt ⟨⟩))
        ⊢ wp frame (wpE (defs₀ (F := F)) 𝒱₀ (c.tc : Thread nD τ) none) Set.univ P Kt) := fun P h => by
    unfold Dat.owesAt Pipeline.owesWithin
    iintro ⟨⟨Hs, ⟨%W, %hW, HO⟩⟩, Hk⟩
    rw [show (dats m 0 c).owed t0_0.castSucc = dues site.plan c copies from rfl]
    iapply (wp_gather (arrays m) ER 𝒱₀ c h Kt W)
    isplitl [Hs]; · iexact Hs
    isplitl [HO]; · iexact HO
    iintro ⟨Hf, ⟨%W', HO⟩⟩
    iapply Hk
    isplitl [Hf]; · iexact Hf
    iexists W'
    isplitr; · ipureintro; exact fun _ _ => Or.inl trivial
    iexact HO
  unfold bodyAt0
  simp only [cc0_gather_small_grads_eq_skeleton]; unfold cc0_gather_small_grads_skel
  simp only [k0_part10_eq_skeleton]; unfold k0_part10_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, Prog.bind_assoc, wp_deviceId]
  refine key _ ?_
  refine .keep (own_row c) rfl rfl rfl ?_
  refine .out (dev0 c) (own_row c) rfl rfl rfl rfl ?_
  refine .out (dev1 c) (own_row c) rfl rfl rfl rfl ?_
  refine .out (dev2 c) (own_row c) rfl rfl rfl rfl ?_
  refine .out (dev3 c) (own_row c) rfl rfl rfl rfl ?_
  refine .wait rfl rfl rfl ?_
  refine .pass (dev4 c) (row4 c) (row4 c) rfl rfl rfl rfl ?_
  refine .wait rfl rfl rfl ?_
  refine .pass (dev5 c) (row5 c) (row5 c) rfl rfl rfl rfl ?_
  refine .wait rfl rfl rfl ?_
  refine .pass (dev6 c) (row6 c) (row6 c) rfl rfl rfl rfl ?_
  iterate 12 refine .wait rfl rfl rfl ?_
  exact .done

theorem body_obligation (c : Dev nD) : BodyObligation (dats (F := F) m 0 c) (defs₀ (F := F)) 𝒱₀ () Set.univ := fun t => by
  rw [fin_N0 t]
  show iprop(start (arrays m) ER c ∗ (dats m 0 c).owesAt () t0_0.castSucc ∗ _) ⊢ wp frame (wpE (defs₀ (F := F)) 𝒱₀ (c.tc : Thread nD τ) none) Set.univ (bodyAt0 t0_0)
    (fun _ => iprop(finished (arrays m) c ∗ (dats m 0 c).owesAt () t0_0.succ ∗ _))
  iintro ⟨HΦ, HO, Hw⟩
  iapply (sound_body m c _)
  isplitl [HΦ HO]
  · isplitl [HΦ] <;> iassumption
  iintro ⟨HΦ, HO⟩
  isplitl [HΦ]; · iexact HΦ
  isplitl [HO]; · iexact HO
  iexact Hw

/-! ## The run -/

/-- A device's buffers are its matrix and its results. -/
theorem buffers (c : Dev nD) : (unscopedBufs c (fun b => m ((c.tc : Thread nD τ).loc b)) : sProp 𝕄) = iprop(xAt (arrays m) fullShare c ∗ blanks (arrays m) c) := by
  unfold unscopedBufs xAt blanks
  rw [site.x_whole.set_eq_univ]
  exact bigSep_eq_bigSepL_of_eq [main_arg0, main_v1] (by decide) (by decide) _

/-- The copies' semaphores are the kernel's own. -/
theorem own_sems : Pipeline.OwnSemFacts cfg0.spec sem := by decide

def u₀ : UU := (initOf (Pipeline.cells cfgs cellOf_inj) (Pipeline.launchToks cfgs cellOf_inj), initOf (Wiring.cells site.plan) (toks site.plan))

/-- The end of a run: the matrices as they were, the results as wanted, the semaphores at zero. -/
def Post (r : PUnit × MemSt nD τ sig (Elt F)) : Prop :=
  (∀ c : Dev nD, r.2.mem (c.tc.loc main_arg0) = m (c.tc.loc main_arg0) ∧ r.2.mem (c.tc.loc main_v1) = want m) ∧ r.2.sem = fun _ => 0

theorem run_main (ρ : Dev nD → PrngReg) : θ_run defs (onTc (τ := τ) (main (F := F))) ⟨m, fun _ => 0, ρ⟩ (Post m) :=
  Cert.Run.run_wired site.plan ER (pay (arrays m)) (level site) (fun p => (cfgs p).toPCfg) (fun p => (cfgs p).toPCfg_adm) (dats m) cellOf_inj EP defs₀ 𝒱₀
    (pay_stores (arrays m)) copies (by decide) (by decide) m ρ main 0 (fun _ _ => .ret ⟨⟩) (fun c => (main_chain c).trans rfl)
    winFacts0.to₀ own_sems rfl ⟨fun w => w.elim0⟩ (fun c => scopedRest0_eq c) (fun c => (body_obligation m c).loose)
    u₀ (by
      unfold u₀
      iintro Hu
      ihave H := (ownU_pair _ _) $$ Hu
      icases H with ⟨HP, HX⟩
      imodintro
      isplitl [HP] <;> iassumption)
    (hold (arrays m) ER) (by
      rw [show (bigSep Finset.univ fun c : Dev nD => (unscopedBufs c (fun b => m ((c.tc : Thread nD τ).loc b)) : sProp 𝕄))
        = bigSep Finset.univ fun c : Dev nD => iprop(xAt (arrays m) fullShare c ∗ blanks (arrays m) c) from bigSep_congr fun c _ => buffers m c]
      exact deal (arrays m) ER) (fun _ => rfl) (fun _ => rfl) (hΦ₀ := fun _ => rfl)
    (done := fun c => iprop(xAt (arrays m) fullShare c ∗ results (arrays m) c))
    (hΦN := fun c => by
      show finished (arrays m) c ⊢ _
      unfold finished
      iintro ⟨Hp, Hr, Hz⟩
      isplitl [Hp Hr]
      · isplitl [Hp] <;> iassumption
      unfold Pipeline.ownSems0; iexact Hz)
    (Tₙ := fun c => iprop(xAt (arrays m) fullShare c ∗ results (arrays m) c))
    (htail := fun c => by
      iintro ⟨Hd, Hb, HO, -, -⟩
      rw [wp_ret]
      imodintro
      isplitr [HO]
      · isplitl [Hd] <;> iassumption
      iexact HO)
    (QY := fun c s => s.mem (c.tc.loc main_arg0) = m (c.tc.loc main_arg0) ∧ s.mem (c.tc.loc main_v1) = want m)
    (hfin := fun c s' => by
      unfold xAt results
      rw [site.x_whole.set_eq_univ]
      iintro ⟨⟨Hp, Hr⟩, HSI⟩
      icombine HSI Hp gives %hp
      icombine HSI Hr gives %hr
      imodintro
      isplitr
      · ipureintro
        exact ⟨Buf.eq_of_forall_mem_univ hp, Buf.eq_of_forall_mem_univ hr⟩
      iexact HSI)
    (hQ := fun _ h hs => ⟨h, sem_eq_zero_of_scoped (by decide) hs⟩)

/-- Where the devices' matrices are the eight parts of a tall one, the results are that one, cut into eight. -/
theorem want_eq (V : (Slab 704 1024).Idx → Elt F .f32) (h : Layout.Tiles (Slab 88 1024) (Slab 704 1024) 0 8)
    (hm : ∀ c : Dev nD, m (c.tc.loc main_arg0) = Layout.block (Slab 88 1024) (Slab 704 1024) 0 8 c V h)
    (h₁ : (Slab 704 1024).ShapeCasts (Stack 8 88 1024)) : want m = shapeCast (Stack 8 88 1024) V h₁ :=
  funext fun i => (congrFun (hm (i 0)) _).trans (stacked_rows V h₁ h i).symm

end Cert.SmallGradsGathered

end
-- ==== Proof.Adamw.lean ====
/-
# The AdamW steps

The call of a shape and the reference's lines are the same function of the weight, the gradient and the two moments, entry by entry;
at the extended reals the host's quotient and root are the kernel's. So the two generated runs have one and the same post.
-/
module

public import proofs.«01_k».proof.Defs
public import proofs.«01_k».proof.Proof.Gen.AdamwWAda
public import proofs.«01_k».proof.Proof.Gen.AdamwWAda.Frame
public import proofs.«01_k».proof.Proof.Gen.AdamwWAdaIdeal
public import proofs.«01_k».proof.Proof.Gen.AdamwWAdaIdeal.Frame
public import proofs.«01_k».proof.Proof.Gen.AdamwWAdaIdeal.Value
public import proofs.«01_k».proof.Proof.Gen.AdamwWAdaReferenceIdeal
public import proofs.«01_k».proof.Proof.Gen.AdamwWAdaReferenceIdeal.Run
public import proofs.«01_k».proof.Proof.Gen.AdamwFfn1Gate
public import proofs.«01_k».proof.Proof.Gen.AdamwFfn1Gate.Frame
public import proofs.«01_k».proof.Proof.Gen.AdamwFfn1GateIdeal
public import proofs.«01_k».proof.Proof.Gen.AdamwFfn1GateIdeal.Frame
public import proofs.«01_k».proof.Proof.Gen.AdamwFfn1GateIdeal.Value
public import proofs.«01_k».proof.Proof.Gen.AdamwFfn1GateReferenceIdeal
public import proofs.«01_k».proof.Proof.Gen.AdamwFfn1GateReferenceIdeal.Run
public import proofs.«01_k».proof.Proof.Gen.AdamwFfn1Down
public import proofs.«01_k».proof.Proof.Gen.AdamwFfn1Down.Frame
public import proofs.«01_k».proof.Proof.Gen.AdamwFfn1DownIdeal
public import proofs.«01_k».proof.Proof.Gen.AdamwFfn1DownIdeal.Frame
public import proofs.«01_k».proof.Proof.Gen.AdamwFfn1DownIdeal.Value
public import proofs.«01_k».proof.Proof.Gen.AdamwFfn1DownReferenceIdeal
public import proofs.«01_k».proof.Proof.Gen.AdamwFfn1DownReferenceIdeal.Run
public import proofs.«01_k».proof.Proof.Gen.AdamwWIn
public import proofs.«01_k».proof.Proof.Gen.AdamwWIn.Frame
public import proofs.«01_k».proof.Proof.Gen.AdamwWInIdeal
public import proofs.«01_k».proof.Proof.Gen.AdamwWInIdeal.Frame
public import proofs.«01_k».proof.Proof.Gen.AdamwWInIdeal.Value
public import proofs.«01_k».proof.Proof.Gen.AdamwWInReferenceIdeal
public import proofs.«01_k».proof.Proof.Gen.AdamwWInReferenceIdeal.Run
public import proofs.«01_k».proof.Proof.Gen.AdamwWOut
public import proofs.«01_k».proof.Proof.Gen.AdamwWOut.Frame
public import proofs.«01_k».proof.Proof.Gen.AdamwWOutIdeal
public import proofs.«01_k».proof.Proof.Gen.AdamwWOutIdeal.Frame
public import proofs.«01_k».proof.Proof.Gen.AdamwWOutIdeal.Value
public import proofs.«01_k».proof.Proof.Gen.AdamwWOutReferenceIdeal
public import proofs.«01_k».proof.Proof.Gen.AdamwWOutReferenceIdeal.Run
public import proofs.«01_k».proof.Proof.Gen.AdamwSmall
public import proofs.«01_k».proof.Proof.Gen.AdamwSmall.Frame
public import proofs.«01_k».proof.Proof.Gen.AdamwSmallIdeal
public import proofs.«01_k».proof.Proof.Gen.AdamwSmallIdeal.Frame
public import proofs.«01_k».proof.Proof.Gen.AdamwSmallIdeal.Value
public import proofs.«01_k».proof.Proof.Gen.AdamwSmallReferenceIdeal
public import proofs.«01_k».proof.Proof.Gen.AdamwSmallReferenceIdeal.Run

@[expose] public section

namespace Cert.Adamw

open Idealize.ShloMosaic Idealize.ShloMosaic.TcCoe Idealize.SL.Sem

/-! ## `adamw` of WAda -/

theorem frame_wAda : Cert.quiescent_AdamwWAda := fun m ρ _ => Cert.AdamwWAda.Gen.frame m ρ

theorem frame_wAdaIdeal : Cert.quiescent_AdamwWAdaIdeal := fun m ρ _ => Cert.AdamwWAdaIdeal.Gen.frame m ρ

theorem frame_wAdaReferenceIdeal : Cert.quiescent_AdamwWAdaReferenceIdeal := fun m ρ _ =>
  (θ_run Cert.AdamwWAdaReferenceIdeal.defs _ _).mono (fun r h => ⟨fun c => (h c).2.2.2, sem_eq_zero_of_no_sems rfl r.2⟩)
    (Cert.AdamwWAdaReferenceIdeal.Value.run (F := Ideal) m ρ)

theorem algebraic_wAda : Cert.algebraic_AdamwWAdaIdeal_AdamwWAdaReferenceIdeal := fun m g m' g' _ hagree => by
  refine ⟨_, _, _, Cert.AdamwWAdaIdeal.Value.run (F := Ideal) m g,
    (θ_run Cert.AdamwWAdaReferenceIdeal.defs _ _).mono (fun r h c => ?_) (Cert.AdamwWAdaReferenceIdeal.Value.run (F := Ideal) m' g')⟩
  obtain ⟨h0, h1, h2, h3⟩ := hagree c
  rw [← h0, ← h1, ← h2, ← h3]
  exact h c

/-! ## `adamw` of Ffn1Gate -/

theorem frame_gate : Cert.quiescent_AdamwFfn1Gate := fun m ρ _ => Cert.AdamwFfn1Gate.Gen.frame m ρ

theorem frame_gateIdeal : Cert.quiescent_AdamwFfn1GateIdeal := fun m ρ _ => Cert.AdamwFfn1GateIdeal.Gen.frame m ρ

theorem frame_gateReferenceIdeal : Cert.quiescent_AdamwFfn1GateReferenceIdeal := fun m ρ _ =>
  (θ_run Cert.AdamwFfn1GateReferenceIdeal.defs _ _).mono (fun r h => ⟨fun c => (h c).2.2.2, sem_eq_zero_of_no_sems rfl r.2⟩)
    (Cert.AdamwFfn1GateReferenceIdeal.Value.run (F := Ideal) m ρ)

theorem algebraic_gate : Cert.algebraic_AdamwFfn1GateIdeal_AdamwFfn1GateReferenceIdeal := fun m g m' g' _ hagree => by
  refine ⟨_, _, _, Cert.AdamwFfn1GateIdeal.Value.run (F := Ideal) m g,
    (θ_run Cert.AdamwFfn1GateReferenceIdeal.defs _ _).mono (fun r h c => ?_) (Cert.AdamwFfn1GateReferenceIdeal.Value.run (F := Ideal) m' g')⟩
  obtain ⟨h0, h1, h2, h3⟩ := hagree c
  rw [← h0, ← h1, ← h2, ← h3]
  exact h c

/-! ## `adamw` of Ffn1Down -/

theorem frame_down : Cert.quiescent_AdamwFfn1Down := fun m ρ _ => Cert.AdamwFfn1Down.Gen.frame m ρ

theorem frame_downIdeal : Cert.quiescent_AdamwFfn1DownIdeal := fun m ρ _ => Cert.AdamwFfn1DownIdeal.Gen.frame m ρ

theorem frame_downReferenceIdeal : Cert.quiescent_AdamwFfn1DownReferenceIdeal := fun m ρ _ =>
  (θ_run Cert.AdamwFfn1DownReferenceIdeal.defs _ _).mono (fun r h => ⟨fun c => (h c).2.2.2, sem_eq_zero_of_no_sems rfl r.2⟩)
    (Cert.AdamwFfn1DownReferenceIdeal.Value.run (F := Ideal) m ρ)

theorem algebraic_down : Cert.algebraic_AdamwFfn1DownIdeal_AdamwFfn1DownReferenceIdeal := fun m g m' g' _ hagree => by
  refine ⟨_, _, _, Cert.AdamwFfn1DownIdeal.Value.run (F := Ideal) m g,
    (θ_run Cert.AdamwFfn1DownReferenceIdeal.defs _ _).mono (fun r h c => ?_) (Cert.AdamwFfn1DownReferenceIdeal.Value.run (F := Ideal) m' g')⟩
  obtain ⟨h0, h1, h2, h3⟩ := hagree c
  rw [← h0, ← h1, ← h2, ← h3]
  exact h c

/-! ## `adamw` of WIn -/

theorem frame_wIn : Cert.quiescent_AdamwWIn := fun m ρ _ => Cert.AdamwWIn.Gen.frame m ρ

theorem frame_wInIdeal : Cert.quiescent_AdamwWInIdeal := fun m ρ _ => Cert.AdamwWInIdeal.Gen.frame m ρ

theorem frame_wInReferenceIdeal : Cert.quiescent_AdamwWInReferenceIdeal := fun m ρ _ =>
  (θ_run Cert.AdamwWInReferenceIdeal.defs _ _).mono (fun r h => ⟨fun c => (h c).2.2.2, sem_eq_zero_of_no_sems rfl r.2⟩)
    (Cert.AdamwWInReferenceIdeal.Value.run (F := Ideal) m ρ)

theorem algebraic_wIn : Cert.algebraic_AdamwWInIdeal_AdamwWInReferenceIdeal := fun m g m' g' _ hagree => by
  refine ⟨_, _, _, Cert.AdamwWInIdeal.Value.run (F := Ideal) m g,
    (θ_run Cert.AdamwWInReferenceIdeal.defs _ _).mono (fun r h c => ?_) (Cert.AdamwWInReferenceIdeal.Value.run (F := Ideal) m' g')⟩
  obtain ⟨h0, h1, h2, h3⟩ := hagree c
  rw [← h0, ← h1, ← h2, ← h3]
  exact h c

/-! ## `adamw` of WOut -/

theorem frame_wOut : Cert.quiescent_AdamwWOut := fun m ρ _ => Cert.AdamwWOut.Gen.frame m ρ

theorem frame_wOutIdeal : Cert.quiescent_AdamwWOutIdeal := fun m ρ _ => Cert.AdamwWOutIdeal.Gen.frame m ρ

theorem frame_wOutReferenceIdeal : Cert.quiescent_AdamwWOutReferenceIdeal := fun m ρ _ =>
  (θ_run Cert.AdamwWOutReferenceIdeal.defs _ _).mono (fun r h => ⟨fun c => (h c).2.2.2, sem_eq_zero_of_no_sems rfl r.2⟩)
    (Cert.AdamwWOutReferenceIdeal.Value.run (F := Ideal) m ρ)

theorem algebraic_wOut : Cert.algebraic_AdamwWOutIdeal_AdamwWOutReferenceIdeal := fun m g m' g' _ hagree => by
  refine ⟨_, _, _, Cert.AdamwWOutIdeal.Value.run (F := Ideal) m g,
    (θ_run Cert.AdamwWOutReferenceIdeal.defs _ _).mono (fun r h c => ?_) (Cert.AdamwWOutReferenceIdeal.Value.run (F := Ideal) m' g')⟩
  obtain ⟨h0, h1, h2, h3⟩ := hagree c
  rw [← h0, ← h1, ← h2, ← h3]
  exact h c

/-! ## `adamw` of Small -/

theorem frame_small : Cert.quiescent_AdamwSmall := fun m ρ _ => Cert.AdamwSmall.Gen.frame m ρ

theorem frame_smallIdeal : Cert.quiescent_AdamwSmallIdeal := fun m ρ _ => Cert.AdamwSmallIdeal.Gen.frame m ρ

theorem frame_smallReferenceIdeal : Cert.quiescent_AdamwSmallReferenceIdeal := fun m ρ _ =>
  (θ_run Cert.AdamwSmallReferenceIdeal.defs _ _).mono (fun r h => ⟨fun c => (h c).2.2.2, sem_eq_zero_of_no_sems rfl r.2⟩)
    (Cert.AdamwSmallReferenceIdeal.Value.run (F := Ideal) m ρ)

theorem algebraic_small : Cert.algebraic_AdamwSmallIdeal_AdamwSmallReferenceIdeal := fun m g m' g' _ hagree => by
  refine ⟨_, _, _, Cert.AdamwSmallIdeal.Value.run (F := Ideal) m g,
    (θ_run Cert.AdamwSmallReferenceIdeal.defs _ _).mono (fun r h c => ?_) (Cert.AdamwSmallReferenceIdeal.Value.run (F := Ideal) m' g')⟩
  obtain ⟨h0, h1, h2, h3⟩ := hagree c
  rw [← h0, ← h1, ← h2, ← h3]
  exact h c

end Cert.Adamw
-- ==== Proof.AdaGrad.lean ====
/-
# The gradient of the modulation weight

The kernel multiplies `c · (1 / (1 + exp (0 - c)))`, contracted over its rows, by its share of the modulation's gradient; the reference
transposes `silu c` and multiplies. Both are, at an index, the sum over the eight rows of the products.
-/
module

public import proofs.«01_k».proof.Defs
public import proofs.«01_k».proof.Proof.Gen.WAdaGrad
public import proofs.«01_k».proof.Proof.Gen.WAdaGrad.Frame
public import proofs.«01_k».proof.Proof.Gen.WAdaGradIdeal
public import proofs.«01_k».proof.Proof.Gen.WAdaGradIdeal.Frame
public import proofs.«01_k».proof.Proof.Gen.WAdaGradIdeal.Value
public import proofs.«01_k».proof.Proof.Gen.WAdaGradReferenceIdeal
public import proofs.«01_k».proof.Proof.Gen.WAdaGradReferenceIdeal.Run
import Idealize.ShloMosaic.Lib.Pointwise

@[expose] public section

set_option maxRecDepth 16384

namespace Cert.AdaGrad

open Idealize.ShloMosaic Idealize.ShloMosaic.TcCoe Idealize.SL.Sem

theorem frame : Cert.quiescent_WAdaGrad := fun m ρ _ => Cert.WAdaGrad.Gen.frame m ρ

theorem frameIdeal : Cert.quiescent_WAdaGradIdeal := fun m ρ _ => Cert.WAdaGradIdeal.Gen.frame m ρ

theorem frameReferenceIdeal : Cert.quiescent_WAdaGradReferenceIdeal := fun m ρ _ =>
  (θ_run Cert.WAdaGradReferenceIdeal.defs _ _).mono (fun r h => ⟨fun c => (h c).2, sem_eq_zero_of_no_sems rfl r.2⟩)
    (Cert.WAdaGradReferenceIdeal.Value.run (F := Ideal) m ρ)

open Cert.WAdaGradReferenceIdeal Cert.WAdaGradReferenceIdeal.Facts₀ in
/-- The kernel's product is the reference's. -/
theorem product_eq (a : FVec Ideal S8x1024 .f32) (d : FVec Ideal S8x1152 .f32) :
    Host.dotGeneral dot_S1024x8_S8x1152_S1024x1152_1_0_0_1_n_n none
      (transpose S1024x8 [1, 0] (mulf a (Host.divf (broadcastInDim S8x1024 ![] bcast_S_S8x1024 (constant S_ .f32 0x3F800000#32))
        (addf (broadcastInDim S8x1024 ![] bcast_S_S8x1024 (constant S_ .f32 0x3F800000#32)) (Host.exp (Host.negf a))))) transposes_S8x1024_S1024x8_1_0) d
      = Cert.WAdaGradIdeal.Value.G2 (F := Ideal) a d := by
  funext j
  idx_vars j
  unfold Cert.WAdaGradIdeal.Value.G2
  pointwise [Cert.WAdaGradIdeal.Gen.k0_pay1]
  simp only [zero_sub]
  done

theorem algebraic : Cert.algebraic_WAdaGradIdeal_WAdaGradReferenceIdeal := fun m g m' g' _ hagree => by
  refine ⟨_, Cert.WAdaGradIdeal.Value.run (F := Ideal) m g,
    (θ_run Cert.WAdaGradReferenceIdeal.defs _ _).mono (fun r h c => ?_) (Cert.WAdaGradReferenceIdeal.Value.run (F := Ideal) m' g')⟩
  obtain ⟨h0, h1⟩ := hagree c
  rw [← h0, ← h1] at *
  exact ⟨(h c).1.trans (product_eq _ _), (h c).2⟩

end Cert.AdaGrad
-- ==== Proof.Sums.lean ====
/-
# The sums of the eight parts

The kernel adds the eight matrices of a block in turn; the reference reduces the stack over its first axis. The array the kernel leaves
is read block by block (`flushed_eq`: what a point writes back is its block of the sums, `mem_block`/`covered`: the blocks fill the
array), and at the extended reals the reduction is the sum in turn.
-/
module

public import proofs.«01_k».proof.Defs
public import proofs.«01_k».proof.Proof.Gen.SumGrads
public import proofs.«01_k».proof.Proof.Gen.SumGrads.Frame
public import proofs.«01_k».proof.Proof.Gen.SumGradsIdeal
public import proofs.«01_k».proof.Proof.Gen.SumGradsIdeal.Frame
public import proofs.«01_k».proof.Proof.Gen.SumGradsIdeal.Value
public import proofs.«01_k».proof.Proof.Gen.SumGradsReferenceIdeal
public import proofs.«01_k».proof.Proof.Gen.SumGradsReferenceIdeal.Run
public import proofs.«01_k».proof.Proof.Gen.SumSmallGrads
public import proofs.«01_k».proof.Proof.Gen.SumSmallGrads.Frame
public import proofs.«01_k».proof.Proof.Gen.SumSmallGradsIdeal
public import proofs.«01_k».proof.Proof.Gen.SumSmallGradsIdeal.Frame
public import proofs.«01_k».proof.Proof.Gen.SumSmallGradsIdeal.Value
public import proofs.«01_k».proof.Proof.Gen.SumSmallGradsReferenceIdeal
public import proofs.«01_k».proof.Proof.Gen.SumSmallGradsReferenceIdeal.Run
public import Idealize.ShloMosaic.Lib.Pointwise

@[expose] public section

set_option maxRecDepth 16384

namespace Cert.Sums

open Idealize.ShloMosaic Idealize.ShloMosaic.TcCoe Idealize.SL.Sem

/-- Entry `(r, l)` of the eight matrices, added in turn. -/
def total {F : FTy → Type} [FloatOps F] {R C : Nat} (x : (⟨3, ![8, R, C]⟩ : Shape).Idx → F .f32) (i : (⟨2, ![R, C]⟩ : Shape).Idx) : F .f32 :=
  FloatOps.addf (FloatOps.addf (FloatOps.addf (FloatOps.addf (FloatOps.addf (FloatOps.addf (FloatOps.addf
    (x (ix3 0 (i 0) (i 1))) (x (ix3 1 (i 0) (i 1)))) (x (ix3 2 (i 0) (i 1)))) (x (ix3 3 (i 0) (i 1)))) (x (ix3 4 (i 0) (i 1))))
    (x (ix3 5 (i 0) (i 1)))) (x (ix3 6 (i 0) (i 1)))) (x (ix3 7 (i 0) (i 1)))

/-! ## The sum of 2576 rows -/

theorem frame : Cert.quiescent_SumGrads := fun m ρ _ => Cert.SumGrads.Gen.frame m ρ

theorem frameIdeal : Cert.quiescent_SumGradsIdeal := fun m ρ _ => Cert.SumGradsIdeal.Gen.frame m ρ

theorem frameReferenceIdeal : Cert.quiescent_SumGradsReferenceIdeal := fun m ρ _ =>
  (θ_run Cert.SumGradsReferenceIdeal.defs _ _).mono (fun r h => ⟨fun c => (h c).2, sem_eq_zero_of_no_sems rfl r.2⟩)
    (Cert.SumGradsReferenceIdeal.Value.run (F := Ideal) m ρ)

namespace Rows

open Cert.SumGradsIdeal Cert.SumGradsIdeal.Gen Cert.SumGradsIdeal.Value

variable {F : FTy → Type} [FloatOps F] (m : (ℓ : Loc nD τ sig) → Buf (Elt F) ℓ)

/-- The block of the operand and the block of the result move together, a block of rows at each point. -/
theorem idx_facts : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 ∧ win0_1.index t (0 : Fin 2) < 161 :=
  (by decide +kernel : ∀ t : Fin grid0.N, _)

/-- Every block of rows is some point's. -/
theorem idx_onto : ∀ q : Fin 161, ∃ t : Fin cfg0.N, win0_1.index t = ![q.val, 0] :=
  (by decide +kernel : ∀ q : Fin 161, ∃ t : Fin grid0.N, win0_1.index t = ![q.val, 0])

/-- What a point writes back is its block of the sums. -/
theorem flushed_eq (c : Dev nD) (t : Fin cfg0.N) :
    (dats m 0 c).flushed 1 t = ((cfg0.win 1).blk t).view.read (Elt F) (total (F := F) (R := 2576) (C := 1024) (fun k => FloatOps.extf .f32 bitsLt_bf16_f32 (V m c main_arg0 k))) := by
  rw [flushed1]
  obtain ⟨e0, e1, e2, e3, e4⟩ := idx_facts t
  funext j
  have hj0 : (j 0).val < 16 := (j 0).isLt
  have hj1 : (j 1).val < 1024 := (j 1).isLt
  have hsrc : ∀ (s : Nat) (hs : s < 8) (y : S8x16x1024.Idx), (y 0).val = s → (y 1).val = (j 0).val → (y 2).val = (j 1).val →
      ((cfg0.win 0).blk t).view.emb y = ix3 ⟨s, hs⟩ ((((cfg0.win 1).blk t).view.emb j) 0) ((((cfg0.win 1).blk t).view.emb j) 1) := by
    intro s hs y h0 h1 h2
    funext a; apply Fin.ext
    match a with
    | ⟨0, _⟩ => show win0_0.index t (0 : Fin 3) * 8 + 1 * (y 0).val = s; omega
    | ⟨1, _⟩ => show win0_0.index t (1 : Fin 3) * 16 + 1 * (y 1).val = win0_1.index t (0 : Fin 2) * 16 + 1 * (j 0).val; omega
    | ⟨2, _⟩ => show win0_0.index t (2 : Fin 3) * 1024 + 1 * (y 2).val = win0_1.index t (1 : Fin 2) * 1024 + 1 * (j 1).val; omega
  show out0_1 (iblk m c 0 t) j = _
  unfold out0_1
  rw [canon1_eq]
  have hread : ∀ (s : Nat) (hs : s < 8) (inb) (y : S1x16x1024.Idx), (y 1).val = (j 0).val → (y 2).val = (j 1).val →
      View.ld (iblk m c 0 t) (Rect.unit (s := S8x16x1024) ![s, 0, 0] S1x16x1024.size inb) y
        = V m c main_arg0 (ix3 ⟨s, hs⟩ ((((cfg0.win 1).blk t).view.emb j) 0) ((((cfg0.win 1).blk t).view.emb j) 1)) := by
    intro s hs inb y h1 h2
    have hy : (y 0).val < 1 := (y 0).isLt
    refine congrArg (V m c main_arg0) (hsrc s hs _ ?_ ?_ ?_)
    · show s + 1 * (y 0).val = s; omega
    · show 0 + 1 * (y 1).val = (j 0).val; omega
    · show 0 + 1 * (y 2).val = (j 1).val; omega
  show E1 _ _ _ _ _ _ _ _ j = total (F := F) (fun k => FloatOps.extf .f32 bitsLt_bf16_f32 (V m c main_arg0 k)) (((cfg0.win 1).blk t).view.emb j)
  unfold E1 total
  rw [hread 0 (by omega) _ (ix1_0 j) rfl rfl, hread 1 (by omega) _ (ix1_1 j) rfl rfl, hread 2 (by omega) _ (ix1_2 j) rfl rfl,
    hread 3 (by omega) _ (ix1_3 j) rfl rfl, hread 4 (by omega) _ (ix1_4 j) rfl rfl, hread 5 (by omega) _ (ix1_5 j) rfl rfl,
    hread 6 (by omega) _ (ix1_6 j) rfl rfl, hread 7 (by omega) _ (ix1_7 j) rfl rfl]
  rfl

/-- An index is in a point's block iff each coordinate is in the block's range. -/
theorem mem_block (t : Fin cfg0.N) (i : S2576x1024.Idx) :
    i ∈ ((cfg0.win 1).blk t).view.set ↔ ∀ a : Fin 2, win0_1.index t a * S16x1024.size a ≤ (i a).val ∧ (i a).val < win0_1.index t a * S16x1024.size a + S16x1024.size a := by
  show i ∈ ((View.whole main_v0).slice (win0_1.rect t)).set ↔ _
  rw [View.set_slice_whole, Rect.mem_set_unit]
  exact Iff.rfl

/-- The blocks fill the array. -/
theorem covered (i : S2576x1024.Idx) : ∃ t : Fin cfg0.N, (cfg0.win 1).flush t = true ∧ i ∈ ((cfg0.win 1).blk t).view.set := by
  have hi0 : (i 0).val < 2576 := (i 0).isLt
  have hi1 : (i 1).val < 1024 := (i 1).isLt
  obtain ⟨t, ht⟩ := idx_onto ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 1024 ≤ (i 1).val ∧ (i 1).val < win0_1.index t (1 : Fin 2) * 1024 + 1024; omega

/-- The array after the run holds the sums. -/
theorem final (c : Dev nD) : (dats m 0 c).arrAt 1 cfg0.N = total (F := F) (R := 2576) (C := 1024) (fun k => FloatOps.extf .f32 bitsLt_bf16_f32 (m ((c : Thread nD τ).loc main_arg0) k)) :=
  ((dats m 0 c).arrAt_eq_of_cover 1 (total (F := F) (R := 2576) (C := 1024) (fun k => FloatOps.extf .f32 bitsLt_bf16_f32 (V m c main_arg0 k))) (fun t _ => flushed_eq m c t) covered).trans
    (by rw [V_main_arg0])

/-- The reduction over the first axis is the sum in turn. -/
theorem reduced (A : (⟨3, ![8, 2576, 1024]⟩ : Shape).Idx → Elt Ideal .bf16) (h : Shape.ReducesTo ⟨3, ![8, 2576, 1024]⟩ [0] ⟨2, ![2576, 1024]⟩) (hu) :
    Host.reduceAdd (F := Ideal) (φ := .f32) (extf .f32 A bitsLt_bf16_f32) (constant ⟨0, ![]⟩ .f32 0x00000000#32) h hu = total (F := Ideal) (R := 2576) (C := 1024) (fun k => FloatOps.extf .f32 bitsLt_bf16_f32 (A k)) := by
  funext i
  idx_vars i
  pointwise [total]
  rw [Fin.sum_univ_eight]

end Rows

theorem algebraic : Cert.algebraic_SumGradsIdeal_SumGradsReferenceIdeal := fun m g m' g' _ hagree => by
  refine ⟨_, (θ_run Cert.SumGradsIdeal.defs _ _).mono (fun r h c => ⟨(h c).1.trans (Rows.final m c), (h c).2⟩) (Cert.SumGradsIdeal.Value.run_blocks (F := Ideal) m g),
    (θ_run Cert.SumGradsReferenceIdeal.defs _ _).mono (fun r h c => ?_) (Cert.SumGradsReferenceIdeal.Value.run (F := Ideal) m' g')⟩
  have h0 := hagree c
  rw [← h0]
  exact ⟨(h c).1.trans (Rows.reduced _ _ _), (h c).2⟩

/-! ## The sum of 88 rows -/

theorem frameSmall : Cert.quiescent_SumSmallGrads := fun m ρ _ => Cert.SumSmallGrads.Gen.frame m ρ

theorem frameSmallIdeal : Cert.quiescent_SumSmallGradsIdeal := fun m ρ _ => Cert.SumSmallGradsIdeal.Gen.frame m ρ

theorem frameSmallReferenceIdeal : Cert.quiescent_SumSmallGradsReferenceIdeal := fun m ρ _ =>
  (θ_run Cert.SumSmallGradsReferenceIdeal.defs _ _).mono (fun r h => ⟨fun c => (h c).2, sem_eq_zero_of_no_sems rfl r.2⟩)
    (Cert.SumSmallGradsReferenceIdeal.Value.run (F := Ideal) m ρ)

namespace Small

open Cert.SumSmallGradsIdeal Cert.SumSmallGradsIdeal.Gen Cert.SumSmallGradsIdeal.Value

variable {F : FTy → Type} [FloatOps F] (m : (ℓ : Loc nD τ sig) → Buf (Elt F) ℓ)

/-- The block of the operand and the block of the result move together, a block of rows at each point. -/
theorem idx_facts : ∀ t : Fin cfg0.N, win0_0.index t (0 : Fin 3) = 0 ∧ win0_0.index t (1 : Fin 3) = win0_1.index t (0 : Fin 2)
    ∧ win0_0.index t (2 : Fin 3) = 0 ∧ win0_1.index t (1 : Fin 2) = 0 ∧ win0_1.index t (0 : Fin 2) < 1 :=
  (by decide +kernel : ∀ t : Fin grid0.N, _)

/-- Every block of rows is some point's. -/
theorem idx_onto : ∀ q : Fin 1, ∃ t : Fin cfg0.N, win0_1.index t = ![q.val, 0] :=
  (by decide +kernel : ∀ q : Fin 1, ∃ t : Fin grid0.N, win0_1.index t = ![q.val, 0])

/-- What a point writes back is its block of the sums. -/
theorem flushed_eq (c : Dev nD) (t : Fin cfg0.N) :
    (dats m 0 c).flushed 1 t = ((cfg0.win 1).blk t).view.read (Elt F) (total (F := F) (R := 88) (C := 1024) (V m c main_arg0)) := by
  rw [flushed1]
  obtain ⟨e0, e1, e2, e3, e4⟩ := idx_facts t
  funext j
  have hj0 : (j 0).val < 88 := (j 0).isLt
  have hj1 : (j 1).val < 1024 := (j 1).isLt
  have hsrc : ∀ (s : Nat) (hs : s < 8) (y : S8x88x1024.Idx), (y 0).val = s → (y 1).val = (j 0).val → (y 2).val = (j 1).val →
      ((cfg0.win 0).blk t).view.emb y = ix3 ⟨s, hs⟩ ((((cfg0.win 1).blk t).view.emb j) 0) ((((cfg0.win 1).blk t).view.emb j) 1) := by
    intro s hs y h0 h1 h2
    funext a; apply Fin.ext
    match a with
    | ⟨0, _⟩ => show win0_0.index t (0 : Fin 3) * 8 + 1 * (y 0).val = s; omega
    | ⟨1, _⟩ => show win0_0.index t (1 : Fin 3) * 88 + 1 * (y 1).val = win0_1.index t (0 : Fin 2) * 88 + 1 * (j 0).val; omega
    | ⟨2, _⟩ => show win0_0.index t (2 : Fin 3) * 1024 + 1 * (y 2).val = win0_1.index t (1 : Fin 2) * 1024 + 1 * (j 1).val; omega
  show out0_1 (iblk m c 0 t) j = _
  unfold out0_1
  rw [canon1_eq]
  have hread : ∀ (s : Nat) (hs : s < 8) (inb) (y : S1x88x1024.Idx), (y 1).val = (j 0).val → (y 2).val = (j 1).val →
      View.ld (iblk m c 0 t) (Rect.unit (s := S8x88x1024) ![s, 0, 0] S1x88x1024.size inb) y
        = V m c main_arg0 (ix3 ⟨s, hs⟩ ((((cfg0.win 1).blk t).view.emb j) 0) ((((cfg0.win 1).blk t).view.emb j) 1)) := by
    intro s hs inb y h1 h2
    have hy : (y 0).val < 1 := (y 0).isLt
    refine congrArg (V m c main_arg0) (hsrc s hs _ ?_ ?_ ?_)
    · show s + 1 * (y 0).val = s; omega
    · show 0 + 1 * (y 1).val = (j 0).val; omega
    · show 0 + 1 * (y 2).val = (j 1).val; omega
  show E1 _ _ _ _ _ _ _ _ j = total (F := F) (V m c main_arg0) (((cfg0.win 1).blk t).view.emb j)
  unfold E1 total
  rw [hread 0 (by omega) _ (ix1_0 j) rfl rfl, hread 1 (by omega) _ (ix1_1 j) rfl rfl, hread 2 (by omega) _ (ix1_2 j) rfl rfl,
    hread 3 (by omega) _ (ix1_3 j) rfl rfl, hread 4 (by omega) _ (ix1_4 j) rfl rfl, hread 5 (by omega) _ (ix1_5 j) rfl rfl,
    hread 6 (by omega) _ (ix1_6 j) rfl rfl, hread 7 (by omega) _ (ix1_7 j) rfl rfl]
  rfl

/-- An index is in a point's block iff each coordinate is in the block's range. -/
theorem mem_block (t : Fin cfg0.N) (i : S88x1024.Idx) :
    i ∈ ((cfg0.win 1).blk t).view.set ↔ ∀ a : Fin 2, win0_1.index t a * S88x1024.size a ≤ (i a).val ∧ (i a).val < win0_1.index t a * S88x1024.size a + S88x1024.size a := by
  show i ∈ ((View.whole main_v0).slice (win0_1.rect t)).set ↔ _
  rw [View.set_slice_whole, Rect.mem_set_unit]
  exact Iff.rfl

/-- The blocks fill the array. -/
theorem covered (i : S88x1024.Idx) : ∃ t : Fin cfg0.N, (cfg0.win 1).flush t = true ∧ i ∈ ((cfg0.win 1).blk t).view.set := by
  have hi0 : (i 0).val < 88 := (i 0).isLt
  have hi1 : (i 1).val < 1024 := (i 1).isLt
  obtain ⟨t, ht⟩ := idx_onto ⟨(i 0).val / 88, by omega⟩
  have q0 : win0_1.index t (0 : Fin 2) = (i 0).val / 88 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 88 ≤ (i 0).val ∧ (i 0).val < win0_1.index t (0 : Fin 2) * 88 + 88; omega
  | ⟨1, _⟩ => show win0_1.index t (1 : Fin 2) * 1024 ≤ (i 1).val ∧ (i 1).val < win0_1.index t (1 : Fin 2) * 1024 + 1024; omega

/-- The array after the run holds the sums. -/
theorem final (c : Dev nD) : (dats m 0 c).arrAt 1 cfg0.N = total (F := F) (R := 88) (C := 1024) (m ((c : Thread nD τ).loc main_arg0)) :=
  ((dats m 0 c).arrAt_eq_of_cover 1 (total (F := F) (R := 88) (C := 1024) (V m c main_arg0)) (fun t _ => flushed_eq m c t) covered).trans
    (by rw [V_main_arg0])

/-- The reduction over the first axis is the sum in turn. -/
theorem reduced (A : (⟨3, ![8, 88, 1024]⟩ : Shape).Idx → Elt Ideal .f32) (h : Shape.ReducesTo ⟨3, ![8, 88, 1024]⟩ [0] ⟨2, ![88, 1024]⟩) (hu) :
    Host.reduceAdd (F := Ideal) (φ := .f32) A (constant ⟨0, ![]⟩ .f32 0x00000000#32) h hu = total (F := Ideal) (R := 88) (C := 1024) A := by
  funext i
  idx_vars i
  pointwise [total]
  rw [Fin.sum_univ_eight]

end Small

theorem algebraicSmall : Cert.algebraic_SumSmallGradsIdeal_SumSmallGradsReferenceIdeal := fun m g m' g' _ hagree => by
  refine ⟨_, (θ_run Cert.SumSmallGradsIdeal.defs _ _).mono (fun r h c => ⟨(h c).1.trans (Small.final m c), (h c).2⟩) (Cert.SumSmallGradsIdeal.Value.run_blocks (F := Ideal) m g),
    (θ_run Cert.SumSmallGradsReferenceIdeal.defs _ _).mono (fun r h c => ?_) (Cert.SumSmallGradsReferenceIdeal.Value.run (F := Ideal) m' g')⟩
  have h0 := hagree c
  rw [← h0]
  exact ⟨(h c).1.trans (Small.reduced _ _ _), (h c).2⟩

end Cert.Sums
-- ==== Proof.ModulationPart.lean ====
/-
# A device's part of the modulation

The kernel multiplies `c · (1 / (1 + exp (0 - c)))` by its columns of the weight and adds the bias; the reference is `silu c` times these
columns and the bias. They are, at an index, the same sum over the 1024 features and the same bias.
-/
module

public import proofs.«01_k».proof.Defs
public import proofs.«01_k».proof.Proof.Gen.ModPart
public import proofs.«01_k».proof.Proof.Gen.ModPart.Frame
public import proofs.«01_k».proof.Proof.Gen.ModPartIdeal
public import proofs.«01_k».proof.Proof.Gen.ModPartIdeal.Frame
public import proofs.«01_k».proof.Proof.Gen.ModPartIdeal.Value
public import proofs.«01_k».proof.Proof.Gen.ModPartReferenceIdeal
public import proofs.«01_k».proof.Proof.Gen.ModPartReferenceIdeal.Run
public import Idealize.ShloMosaic.Lib.Pointwise
import Idealize.ShloMosaic.Lib.Pipeline.ValueKit

@[expose] public section

set_option maxRecDepth 16384

namespace Cert.ModulationPart

open Idealize.ShloMosaic Idealize.ShloMosaic.TcCoe Idealize.SL.Sem

theorem frame : Cert.quiescent_ModPart := fun m ρ _ => Cert.ModPart.Gen.frame m ρ

theorem frameIdeal : Cert.quiescent_ModPartIdeal := fun m ρ _ => Cert.ModPartIdeal.Gen.frame m ρ

theorem frameReferenceIdeal : Cert.quiescent_ModPartReferenceIdeal := fun m ρ _ =>
  (θ_run Cert.ModPartReferenceIdeal.defs _ _).mono (fun r h => ⟨fun c => (h c).2, sem_eq_zero_of_no_sems rfl r.2⟩)
    (Cert.ModPartReferenceIdeal.Value.run (F := Ideal) m ρ)

open Cert.ModPartReferenceIdeal Cert.ModPartReferenceIdeal.Facts₀ in
/-- The kernel's product is the reference's. -/
theorem product_eq (a : FVec Ideal S8x1024 .f32) (w : FVec Ideal S1024x1152 .f32) (b : FVec Ideal S1x1152 .f32) :
    addf (Host.dotGeneral dot_S8x1024_S1024x1152_S8x1152_1_0_0_1_n_n none
      (mulf a (Host.divf (broadcastInDim S8x1024 ![] bcast_S_S8x1024 (constant S_ .f32 0x3F800000#32))
        (addf (broadcastInDim S8x1024 ![] bcast_S_S8x1024 (constant S_ .f32 0x3F800000#32)) (Host.exp (Host.negf a))))) w)
      (broadcastInDim S8x1152 ![0, 1] bcast_S1x1152_S8x1152_0_1 b)
      = Cert.ModPartIdeal.Value.G3 (F := Ideal) a w b := by
  funext j
  idx_vars j
  unfold Cert.ModPartIdeal.Value.G3
  pointwise [Cert.ModPartIdeal.Gen.k0_pay1]
  simp only [zero_sub]

theorem algebraic : Cert.algebraic_ModPartIdeal_ModPartReferenceIdeal := fun m g m' g' _ hagree => by
  refine ⟨_, Cert.ModPartIdeal.Value.run (F := Ideal) m g,
    (θ_run Cert.ModPartReferenceIdeal.defs _ _).mono (fun r h c => ?_) (Cert.ModPartReferenceIdeal.Value.run (F := Ideal) m' g')⟩
  obtain ⟨h0, h1, h2⟩ := hagree c
  rw [← h0, ← h1, ← h2] at *
  exact ⟨(h c).1.trans (product_eq _ _ _), (h c).2⟩

end Cert.ModulationPart
-- ==== Proof.RmsGrad.lean ====
/-
# The gradient of the RMS norm of a row

Of a row `x` with `v = Σ x² / 1024 + ε` and `r = v^(-1/2)`, and of the gradient `e` of `x · r`, the chain rule gives
`e · r + x · K + K · x` with `K = (Σ x e) · (-1/2 · r / v) / 1024`; this is `r · (e - x r · (Σ e (x r)) / 1024)`, since `r³ = r / v`.
It holds on all extended reals: where the sum of the squares is infinite, both are zero.
-/
module

public import Idealize.ShloMosaic.PureOps.Ideal

@[expose] public section

namespace Cert.RmsGrad

open Idealize.ShloMosaic

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The norm's `ε` is a positive real. -/
theorem ofBits_eps : ∃ ε : ℝ, 0 < ε ∧ Ideal.ofBits .f32 0x358637BD#32 = ((ε : ℝ) : EReal) := by
  refine ⟨8796093 / 2 ^ 43, by positivity, ?_⟩
  simp [Ideal.ofBits, Ideal.ieee, -EReal.coe_mul]; norm_num

theorem mul_self_nonneg (x : EReal) : 0 ≤ x * x := by
  induction x with
  | bot => simp
  | top => simp
  | coe r => rw [← EReal.coe_mul]; exact_mod_cast _root_.mul_self_nonneg r

/-- A nonnegative real moves out of a sum. -/
theorem sum_mul_real {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, mul_comm (_ + _), EReal.left_distrib_of_nonneg_of_ne_top (by exact_mod_cast hr) (EReal.coe_ne_top r),
      mul_comm (r : EReal), mul_comm (r : EReal)]

/-- Twice half a product. -/
theorem half_add_half (p : EReal) (a : ℝ) : p * ((a / 2 : ℝ) : EReal) + p * ((a / 2 : ℝ) : EReal) = p * (a : EReal) := by
  have key : ∀ q : EReal, q * ((1 / 2 : ℝ) : EReal) + q * ((1 / 2 : ℝ) : EReal) = q := by
    intro q
    induction q with
    | bot => rw [EReal.bot_mul_coe_of_pos (by norm_num)]; rfl
    | top => rw [EReal.top_mul_coe_of_pos (by norm_num)]; rfl
    | coe r => rw [← EReal.coe_mul, ← EReal.coe_add]; congr 1; ring
  have h : p * ((a / 2 : ℝ) : EReal) = p * (a : EReal) * ((1 / 2 : ℝ) : EReal) := by
    rw [mul_assoc, ← EReal.coe_mul]; congr 2; ring
  rw [h, key]

/-- The mean square of a row, and `ε`. -/
noncomputable def meanSq (x : Fin 1024 → EReal) : EReal :=
  Ideal.div (∑ k, x k * x k) (Ideal.ofBits .f32 0x44800000#32) + Ideal.ofBits .f32 0x358637BD#32

theorem meanSq_cases (x : Fin 1024 → EReal) : meanSq x = ⊤ ∨ ∃ v : ℝ, 0 < v ∧ meanSq x = (v : EReal) := by
  obtain ⟨ε, hε, he⟩ := ofBits_eps
  have hq : 0 ≤ ∑ k, x k * x k := Finset.sum_nonneg fun k _ => mul_self_nonneg (x k)
  unfold meanSq
  rw [he, ofBits_1024, Ideal.div_coe (by norm_num)]
  generalize ∑ k, x k * x k = q at hq
  induction q with
  | bot => simp at hq
  | top => left; rw [EReal.top_mul_coe_of_pos (by norm_num)]; rfl
  | coe q =>
    right
    refine ⟨q * (1 / 1024) + ε, ?_, by push_cast; rfl⟩
    have : 0 ≤ q := by exact_mod_cast hq
    positivity

/-- The gradient of the RMS norm of a row `x`, of the gradient `e` of the normalised row, in the form that the kernel computes. -/
noncomputable def rowGrad (e x : Fin 1024 → EReal) (j : Fin 1024) : EReal :=
  Ideal.rsqrt (meanSq x) * (e j - x j * Ideal.rsqrt (meanSq x) * Ideal.div (∑ k, e k * (x k * Ideal.rsqrt (meanSq x))) (Ideal.ofBits .f32 0x44800000#32))

/-- The same gradient in the form that the chain rule gives. -/
noncomputable def chainGrad (e x : Fin 1024 → EReal) (j : Fin 1024) : EReal :=
  e j * Ideal.rsqrt (meanSq x)
    + x j * Ideal.div ((∑ k, x k * e k) * (Ideal.ofBits .f32 0xBF000000#32 * Ideal.div (Ideal.rsqrt (meanSq x)) (meanSq x))) (Ideal.ofBits .f32 0x44800000#32)
    + Ideal.div ((∑ k, x k * e k) * (Ideal.ofBits .f32 0xBF000000#32 * Ideal.div (Ideal.rsqrt (meanSq x)) (meanSq x))) (Ideal.ofBits .f32 0x44800000#32) * x j

/-- The two forms agree on every row of extended reals. -/
theorem rowGrad_eq (e x : Fin 1024 → EReal) (j : Fin 1024) : rowGrad e x j = chainGrad e x j := by
  rw [rowGrad, chainGrad, ofBits_1024, ofBits_neg_half, Ideal.div_coe (by norm_num), Ideal.div_coe (by norm_num)]
  rcases meanSq_cases x with h | ⟨v, hv, h⟩
  · rw [h]
    have h0 : Ideal.div (0 : EReal) ⊤ = 0 := by simp [Ideal.div]
    simp [h0]
  · rw [h]
    have hr : Ideal.rsqrt (v : EReal) = (((Real.sqrt v)⁻¹ : ℝ) : EReal) := by
      rw [Ideal.rsqrt_coe, if_neg (by linarith), if_neg (by linarith)]
    have hr0 : 0 ≤ (Real.sqrt v)⁻¹ := by positivity
    have hrr : (Real.sqrt v)⁻¹ * (Real.sqrt v)⁻¹ = 1 / v := by
      rw [← mul_inv, Real.mul_self_sqrt hv.le, one_div]
    rw [hr, Ideal.div_coe (by linarith)]
    generalize (Real.sqrt v)⁻¹ = r at *
    have hs : ∑ k, e k * (x k * (r : EReal)) = (∑ k, x k * e k) * (r : EReal) := by
      rw [← sum_mul_real _ _ _ hr0]
      exact Finset.sum_congr rfl fun k _ => by rw [← mul_assoc, mul_comm (e k)]
    rw [hs]
    generalize ∑ k, x k * e k = s
    have hk : s * (((-(1 / 2) : ℝ) : EReal) * ((r : EReal) * ((1 / v : ℝ) : EReal))) * ((1 / 1024 : ℝ) : EReal)
        = s * ((-(r * r * r * (1 / 1024)) / 2 : ℝ) : EReal) := by
      rw [mul_assoc, ← EReal.coe_mul, ← EReal.coe_mul, ← EReal.coe_mul, ← hrr]; congr 2; ring
    rw [hk, mul_comm _ (x j), add_assoc, ← mul_assoc (x j) s, half_add_half, sub_eq_add_neg,
      EReal.left_distrib_of_nonneg_of_ne_top (by exact_mod_cast hr0) (EReal.coe_ne_top r), mul_comm (r : EReal) (e j), mul_neg]
    congr 1
    rw [EReal.coe_neg, mul_neg]
    congr 1
    rw [EReal.coe_mul, EReal.coe_mul, EReal.coe_mul]
    ac_rfl

end Cert.RmsGrad
-- ==== Proof.NormForward.lean ====
/-
# The modulated RMS norm, forwards

Each kernel treats a block of 512 rows at each point, and a row's norm is of that row alone: the arrays after the run are, entry by entry,
`normed` of the rows, and so are the references'.
-/
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.ResidNorm
public import proofs.«01_k».proof.Proof.Gen.ResidNorm.Frame
public import proofs.«01_k».proof.Proof.Gen.ResidNormIdeal
public import proofs.«01_k».proof.Proof.Gen.ResidNormIdeal.Frame
public import proofs.«01_k».proof.Proof.Gen.ResidNormIdeal.Value
public import proofs.«01_k».proof.Proof.Gen.ResidNormReferenceIdeal
public import proofs.«01_k».proof.Proof.Gen.ResidNormReferenceIdeal.Run
public import proofs.«01_k».proof.Proof.Gen.ResidNorm3
public import proofs.«01_k».proof.Proof.Gen.ResidNorm3.Frame
public import proofs.«01_k».proof.Proof.Gen.ResidNorm3Ideal
public import proofs.«01_k».proof.Proof.Gen.ResidNorm3Ideal.Frame
public import proofs.«01_k».proof.Proof.Gen.ResidNorm3Ideal.Value
public import proofs.«01_k».proof.Proof.Gen.ResidNorm3ReferenceIdeal
public import proofs.«01_k».proof.Proof.Gen.ResidNorm3ReferenceIdeal.Run
public import proofs.«01_k».proof.Proof.RmsGrad
public import Idealize.ShloMosaic.Lib.Pointwise
import Idealize.ShloMosaic.Lib.Pipeline.ValueKit

@[expose] public section

set_option maxRecDepth 16384

/-- Entry `q` of a row `x`, normalised, scaled by `n` and modulated. -/
noncomputable def Cert.NormForward.normed (x n sc sh : Fin 1024 → EReal) (q : Fin 1024) : EReal :=
  x q * Idealize.ShloMosaic.Ideal.rsqrt (Cert.RmsGrad.meanSq x) * n q * (1 + sc q) + sh q

namespace Cert.NormForward.Plain

open Idealize.ShloMosaic Idealize.ShloMosaic.TcCoe Idealize.SL.Sem
open Cert.NormIdeal Cert.NormIdeal.Gen

theorem frame : Cert.quiescent_Norm := fun m ρ _ => Cert.Norm.Gen.frame m ρ

theorem frameIdeal : Cert.quiescent_NormIdeal := fun m ρ _ => Cert.NormIdeal.Gen.frame m ρ

theorem frameReferenceIdeal : Cert.quiescent_NormReferenceIdeal := fun m ρ _ =>
  (θ_run Cert.NormReferenceIdeal.defs _ _).mono (fun r h => ⟨fun c => (h c).2, sem_eq_zero_of_no_sems rfl r.2⟩)
    (Cert.NormReferenceIdeal.Value.run (F := Ideal) m ρ)

/-- The rows and the result move together, a block of rows at each point; the single rows stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- The result. -/
noncomputable def result (x : FVec Ideal S8192x1024 .f32) (n sc sh : FVec Ideal S1x1024 .f32) : FVec Ideal S8192x1024 .bf16 :=
  fun i => normed (fun k => x (ix2 (i 0 : Fin 8192) k)) (fun k => n (ix2 0 k)) (fun k => sc (ix2 0 k)) (fun k => sh (ix2 0 k)) (i 1)

/-- The array after the run. -/
theorem final (m : (ℓ : Loc nD τ sig) → Buf (Elt Ideal) ℓ) (c : Dev nD) : (dats m 0 c).arrAt 4 cfg0.N = result (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, result, normed, RmsGrad.meanSq]
  blk_point [iblk, V, idx t]

theorem algebraic : Cert.algebraic_NormIdeal_NormReferenceIdeal := fun m g m' g' _ hagree => by
  refine ⟨_, (θ_run Cert.NormIdeal.defs _ _).mono (fun r h c => ⟨(h c).1.trans (final m c), (h c).2⟩) (Cert.NormIdeal.Value.run_blocks (F := Ideal) m g),
    (θ_run Cert.NormReferenceIdeal.defs _ _).mono (fun r h c => ?_) (Cert.NormReferenceIdeal.Value.run (F := Ideal) m' g')⟩
  obtain ⟨h0, h1, h2, h3⟩ := hagree c
  refine ⟨(h c).1.trans ?_, (h c).2⟩
  rw [← h0, ← h1, ← h2, ← h3]
  funext y
  idx_vars y
  pointwise [result, normed, RmsGrad.meanSq]

end Cert.NormForward.Plain

namespace Cert.NormForward.Resid

open Idealize.ShloMosaic Idealize.ShloMosaic.TcCoe Idealize.SL.Sem
open Cert.ResidNormIdeal Cert.ResidNormIdeal.Gen

theorem frame : Cert.quiescent_ResidNorm := fun m ρ _ => Cert.ResidNorm.Gen.frame m ρ

theorem frameIdeal : Cert.quiescent_ResidNormIdeal := fun m ρ _ => Cert.ResidNormIdeal.Gen.frame m ρ

theorem frameReferenceIdeal : Cert.quiescent_ResidNormReferenceIdeal := fun m ρ _ =>
  (θ_run Cert.ResidNormReferenceIdeal.defs _ _).mono (fun r h => ⟨fun c => (h c).2.2, sem_eq_zero_of_no_sems rfl r.2⟩)
    (Cert.ResidNormReferenceIdeal.Value.run (F := Ideal) m ρ)

/-- The operands and results of 8192 rows move together, a block of rows at each point; the single rows stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The residual sum. -/
noncomputable def summed (x y : FVec Ideal S8192x1024 .f32) (g : FVec Ideal S1x1024 .f32) : FVec Ideal S8192x1024 .f32 :=
  fun i => x (ix2 (i 0 : Fin 8192) (i 1 : Fin 1024)) + Ideal.ofBits .f32 0x3F000000#32 * g (ix2 0 (i 1 : Fin 1024)) * y (ix2 (i 0 : Fin 8192) (i 1 : Fin 1024))

/-- Its norm. -/
noncomputable def result (x y : FVec Ideal S8192x1024 .f32) (g n sc sh : FVec Ideal S1x1024 .f32) : FVec Ideal S8192x1024 .bf16 :=
  fun i => normed (fun k => summed x y g (ix2 (i 0 : Fin 8192) k)) (fun k => n (ix2 0 k)) (fun k => sc (ix2 0 k)) (fun k => sh (ix2 0 k)) (i 1)

variable (m : (ℓ : Loc nD τ sig) → Buf (Elt Ideal) ℓ)

/-- The residual sum after the run. -/
theorem final_summed (c : Dev nD) : (dats m 0 c).arrAt 6 cfg0.N = summed (m ((c : Thread nD τ).loc main_arg0))
    (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, summed]
  blk_point [iblk, V, idx t]

/-- The norm after the run. -/
theorem final_result (c : Dev nD) : (dats m 0 c).arrAt 7 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 7 _ (by decide +kernel) fun t _ y => ?_
  blk_simp
  rw [after0_7]
  frame_out
  pointwise [k0_pay1, k0_pay2, result, summed, normed, RmsGrad.meanSq]
  blk_point [iblk, V, idx t]

theorem algebraic : Cert.algebraic_ResidNormIdeal_ResidNormReferenceIdeal := fun m g m' g' _ hagree => by
  refine ⟨_, _, (θ_run Cert.ResidNormIdeal.defs _ _).mono (fun r h c => ⟨(h c).1.trans (final_summed m c), (h c).2.1.trans (final_result m c), (h c).2.2⟩)
      (Cert.ResidNormIdeal.Value.run_blocks (F := Ideal) m g),
    (θ_run Cert.ResidNormReferenceIdeal.defs _ _).mono (fun r h c => ?_) (Cert.ResidNormReferenceIdeal.Value.run (F := Ideal) m' g')⟩
  obtain ⟨h0, h1, h2, h3, h4, h5⟩ := hagree c
  refine ⟨(h c).1.trans ?_, (h c).2.1.trans ?_, (h c).2.2⟩
  · rw [← h0, ← h1, ← h2]
    funext y
    idx_vars y
    pointwise [summed]
  · rw [← h0, ← h1, ← h2, ← h3, ← h4, ← h5]
    funext y
    idx_vars y
    pointwise [result, summed, normed, RmsGrad.meanSq]

end Cert.NormForward.Resid

namespace Cert.NormForward.Third

open Idealize.ShloMosaic Idealize.ShloMosaic.TcCoe Idealize.SL.Sem
open Cert.ResidNorm3Ideal Cert.ResidNorm3Ideal.Gen

theorem frame : Cert.quiescent_ResidNorm3 := fun m ρ _ => Cert.ResidNorm3.Gen.frame m ρ

theorem frameIdeal : Cert.quiescent_ResidNorm3Ideal := fun m ρ _ => Cert.ResidNorm3Ideal.Gen.frame m ρ

theorem frameReferenceIdeal : Cert.quiescent_ResidNorm3ReferenceIdeal := fun m ρ _ =>
  (θ_run Cert.ResidNorm3ReferenceIdeal.defs _ _).mono (fun r h => ⟨fun c => (h c).2.2, sem_eq_zero_of_no_sems rfl r.2⟩)
    (Cert.ResidNorm3ReferenceIdeal.Value.run (F := Ideal) m ρ)

/-- The operands and results of 8192 rows move together, a block of rows at each point; the single rows stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] ∧ win0_7.index t = ![t.val, 0] :=
  (by decide +kernel : ∀ t : Fin grid0.N, _)

/-- The residual sum. -/
noncomputable def summed (x y : FVec Ideal S8192x1024 .f32) (g : FVec Ideal S1x1024 .f32) : FVec Ideal S8192x1024 .f32 :=
  fun i => x (ix2 (i 0 : Fin 8192) (i 1 : Fin 1024)) + g (ix2 0 (i 1 : Fin 1024)) * y (ix2 (i 0 : Fin 8192) (i 1 : Fin 1024))

/-- Its norm. -/
noncomputable def result (x y : FVec Ideal S8192x1024 .f32) (g n sc sh : FVec Ideal S1x1024 .f32) : FVec Ideal S8192x1024 .bf16 :=
  fun i => normed (fun k => summed x y g (ix2 (i 0 : Fin 8192) k)) (fun k => n (ix2 0 k)) (fun k => sc (ix2 0 k)) (fun k => sh (ix2 0 k)) (i 1)

variable (m : (ℓ : Loc nD τ sig) → Buf (Elt Ideal) ℓ)

/-- The residual sum after the run. -/
theorem final_summed (c : Dev nD) : (dats m 0 c).arrAt 6 cfg0.N = summed (m ((c : Thread nD τ).loc main_arg0))
    (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, summed]
  blk_point [iblk, V, idx t]

/-- The norm after the run. -/
theorem final_result (c : Dev nD) : (dats m 0 c).arrAt 7 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 7 _ (by decide +kernel) fun t _ y => ?_
  blk_simp
  rw [after0_7]
  frame_out
  pointwise [k0_pay1, k0_pay2, result, summed, normed, RmsGrad.meanSq]
  blk_point [iblk, V, idx t]

theorem algebraic : Cert.algebraic_ResidNorm3Ideal_ResidNorm3ReferenceIdeal := fun m g m' g' _ hagree => by
  refine ⟨_, _, (θ_run Cert.ResidNorm3Ideal.defs _ _).mono (fun r h c => ⟨(h c).1.trans (final_summed m c), (h c).2.1.trans (final_result m c), (h c).2.2⟩)
      (Cert.ResidNorm3Ideal.Value.run_blocks (F := Ideal) m g),
    (θ_run Cert.ResidNorm3ReferenceIdeal.defs _ _).mono (fun r h c => ?_) (Cert.ResidNorm3ReferenceIdeal.Value.run (F := Ideal) m' g')⟩
  obtain ⟨h0, h1, h2, h3, h4, h5⟩ := hagree c
  refine ⟨(h c).1.trans ?_, (h c).2.1.trans ?_, (h c).2.2⟩
  · rw [← h0, ← h1, ← h2]
    funext y
    idx_vars y
    pointwise [summed]
  · rw [← h0, ← h1, ← h2, ← h3, ← h4, ← h5]
    funext y
    idx_vars y
    pointwise [result, summed, normed, RmsGrad.meanSq]

end Cert.NormForward.Third
-- ==== Proof.InputGrad.lean ====
/-
# The gradient of the input

The kernel leaves a block of 512 rows at each point (`after_eq`); entry by entry it is the form of the RMS norm's gradient that the
kernel computes, the reference's is the chain rule's, and `Cert.RmsGrad.rowGrad_eq` says that these are the same.
-/
module

public import proofs.«01_k».proof.Defs
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.GradXReferenceIdeal
public import proofs.«01_k».proof.Proof.Gen.GradXReferenceIdeal.Run
public import proofs.«01_k».proof.Proof.RmsGrad
public import Idealize.ShloMosaic.Lib.Pointwise
import Idealize.ShloMosaic.Lib.Pipeline.ValueKit

@[expose] public section

set_option maxRecDepth 16384

namespace Cert.InputGrad

open Idealize.ShloMosaic Idealize.ShloMosaic.TcCoe Idealize.SL.Sem
open Cert.GradXIdeal Cert.GradXIdeal.Gen

variable (m : (ℓ : Loc nD τ sig) → Buf (Elt Ideal) ℓ)

theorem frame : Cert.quiescent_GradX := fun m ρ _ => Cert.GradX.Gen.frame m ρ

theorem frameIdeal : Cert.quiescent_GradXIdeal := fun m ρ _ => Cert.GradXIdeal.Gen.frame m ρ

theorem frameReferenceIdeal : Cert.quiescent_GradXReferenceIdeal := fun m ρ _ =>
  (θ_run Cert.GradXReferenceIdeal.defs _ _).mono (fun r h => ⟨fun c => (h c).2, sem_eq_zero_of_no_sems rfl r.2⟩)
    (Cert.GradXReferenceIdeal.Value.run (F := Ideal) m ρ)

/-- The operands of 8192 rows move with the result, a block of rows at each point; the single rows stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- What a point leaves in the result's block. -/
theorem after_eq (c : Dev nD) (t : Fin cfg0.N) : ((dats m 0 c).after 5 t : FVec Ideal S512x1024 .f32)
    = k0_pay2 (F := Ideal) (iblk m c 0 t) (k0_pay6 (iblk m c 1 t)) (k0_pay7 (iblk m c 1 t)) (k0_pay8 (iblk m c 3 t)) (iblk m c 2 t) (iblk m c 4 t) := by
  rw [after0_5]
  by_cases h0 : t.val % 16 = 0
  · rw [outsAt0_A m c t h0]; frame_out
  · rw [outsAt0_B m c t h0]; frame_out

/-- Entry `(p, q)` of the result, of the entries of row `p`. -/
noncomputable def entry (d x dr : FVec Ideal S8192x1024 .f32) (n sc : FVec Ideal S1x1024 .f32) (p : Fin 8192) (q : Fin 1024) : EReal :=
  dr (ix2 p q) + RmsGrad.rowGrad (fun k => d (ix2 p k) * (n (ix2 0 k) * (1 + sc (ix2 0 k)))) (fun k => x (ix2 p k)) q

/-- The result. -/
noncomputable def result (d x dr : FVec Ideal S8192x1024 .f32) (n sc : FVec Ideal S1x1024 .f32) : FVec Ideal S8192x1024 .f32 :=
  fun i => entry d x dr n sc (i 0) (i 1)

/-- The same entry, with the row's gradient in the form that the chain rule gives. -/
theorem result_apply (d x dr : FVec Ideal S8192x1024 .f32) (n sc : FVec Ideal S1x1024 .f32) (p : Fin 8192) (q : Fin 1024) :
    result d x dr n sc (ix2 p q)
      = dr (ix2 p q) + RmsGrad.chainGrad (fun k => d (ix2 p k) * (n (ix2 0 k) * (1 + sc (ix2 0 k)))) (fun k => x (ix2 p k)) q := by
  rw [← RmsGrad.rowGrad_eq]; rfl

/-- The array after the run. -/
theorem final (c : Dev nD) : (dats m 0 c).arrAt 5 cfg0.N = result (m ((c : Thread nD τ).loc main_arg0)) (m ((c : Thread nD τ).loc main_arg1))
    (m ((c : Thread nD τ).loc main_arg4)) (m ((c : Thread nD τ).loc main_arg2)) (m ((c : Thread nD τ).loc main_arg3)) := by
  refine (dats m 0 c).arrAt_eq_of_covers 5 _ (by decide +kernel) fun t _ y => ?_
  blk_simp
  rw [after_eq]
  pointwise [k0_pay2, k0_pay6, k0_pay7, k0_pay8, result, entry, RmsGrad.rowGrad, RmsGrad.meanSq]
  blk_point [iblk, V, idx t]

/-- The reference's entries are these. -/
theorem reference_eq (m : (ℓ : Loc Cert.GradXReferenceIdeal.nD Cert.GradXReferenceIdeal.τ Cert.GradXReferenceIdeal.sig) → Buf (Elt Ideal) ℓ) (c : Dev 1) :
    Cert.GradXReferenceIdeal.Value.res_out0 m c = result (m ((c.tc : Thread 1 Cert.GradXReferenceIdeal.τ).loc Cert.GradXReferenceIdeal.main_arg0))
      (m ((c.tc : Thread 1 Cert.GradXReferenceIdeal.τ).loc Cert.GradXReferenceIdeal.main_arg1)) (m ((c.tc : Thread 1 Cert.GradXReferenceIdeal.τ).loc Cert.GradXReferenceIdeal.main_arg4))
      (m ((c.tc : Thread 1 Cert.GradXReferenceIdeal.τ).loc Cert.GradXReferenceIdeal.main_arg2)) (m ((c.tc : Thread 1 Cert.GradXReferenceIdeal.τ).loc Cert.GradXReferenceIdeal.main_arg3)) := by
  unfold Cert.GradXReferenceIdeal.Value.res_out0 Cert.GradXReferenceIdeal.Value.res_main_v39
  funext y
  idx_vars y
  refine Eq.trans ?_ (result_apply _ _ _ _ _ y0 y1).symm
  pointwise [RmsGrad.chainGrad, RmsGrad.meanSq]
  simp only [RmsGrad.meanSq, Finset.univ_unique, Finset.sum_singleton]
  ac_rfl

theorem algebraic : Cert.algebraic_GradXIdeal_GradXReferenceIdeal := fun m g m' g' _ hagree => by
  refine ⟨_, (θ_run Cert.GradXIdeal.defs _ _).mono (fun r h c => ⟨(h c).1.trans (final m c), (h c).2.2.2.2⟩) (Cert.GradXIdeal.Value.run_blocks (F := Ideal) m g),
    (θ_run Cert.GradXReferenceIdeal.defs _ _).mono (fun r h c => ?_) (Cert.GradXReferenceIdeal.Value.run (F := Ideal) m' g')⟩
  obtain ⟨h0, h1, h2, h3, h4⟩ := hagree c
  refine ⟨(h c).1.trans ((reference_eq m' c).trans ?_), (h c).2⟩
  rw [h0, h1, h2, h3, h4]

end Cert.InputGrad
-- ==== Proof.GateGrad.lean ====
/-
# The gradient behind the gate

A point writes its block of 512 rows of the gradient of the gated operand, and adds half of its rows' products to the gradient of the
gate; the reference halves the sum over all 8192 rows. Halving distributes over the sum, as one half is a real that is not negative.
-/
module

public import proofs.«01_k».proof.Defs
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdIdeal.Value
public import proofs.«01_k».proof.Proof.Gen.GateBwdReferenceIdeal
public import proofs.«01_k».proof.Proof.Gen.GateBwdReferenceIdeal.Run
public import proofs.«01_k».proof.Proof.RmsGrad
public import Idealize.ShloMosaic.Lib.Pointwise
import Idealize.ShloMosaic.Lib.Pipeline.ValueKit

@[expose] public section

set_option maxRecDepth 16384

namespace Cert.GateGrad

open Idealize.ShloMosaic Idealize.ShloMosaic.TcCoe Idealize.SL.Sem
open Cert.GateBwdIdeal Cert.GateBwdIdeal.Gen

theorem frame : Cert.quiescent_GateBwd := fun m ρ _ => Cert.GateBwd.Gen.frame m ρ

theorem frameIdeal : Cert.quiescent_GateBwdIdeal := fun m ρ _ => Cert.GateBwdIdeal.Gen.frame m ρ

theorem frameReferenceIdeal : Cert.quiescent_GateBwdReferenceIdeal := fun m ρ _ =>
  (θ_run Cert.GateBwdReferenceIdeal.defs _ _).mono (fun r h => ⟨fun c => (h c).2.2, sem_eq_zero_of_no_sems rfl r.2⟩)
    (Cert.GateBwdReferenceIdeal.Value.run (F := Ideal) m ρ)

/-- The operands and the result of 8192 rows move together, a block of rows at each point; the single rows stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem ofBits_half : Ideal.ofBits .f32 0x3F000000#32 = ((1 / 2 : ℝ) : EReal) := by
  simp [Ideal.ofBits, Ideal.ieee, -EReal.coe_mul]; norm_num

theorem hzero (j) : k0_pay1 (F := Ideal) j = 0 := by pointwise [k0_pay1]

theorem hpay (acc : FVec Ideal S1x1024 .f32) (a b : FVec Ideal S512x1024 .f32) (j : S1x1024.Idx) :
    k0_pay3 (F := Ideal) a acc b j
      = acc j + Ideal.ofBits .f32 0x3F000000#32 * ∑ k : Fin 512, a (ix2 k (j 1 : Fin 1024)) * b (ix2 k (j 1 : Fin 1024)) := by
  idx_vars j
  pointwise [k0_pay3]

variable (m : (ℓ : Loc nD τ sig) → Buf (Elt Ideal) ℓ)

/-- What a point adds to an entry of the gate's gradient. -/
noncomputable def part (c : Dev nD) (t : Fin cfg0.N) (j : S1x1024.Idx) : EReal :=
  Ideal.ofBits .f32 0x3F000000#32 * ∑ k : Fin 512, (show FVec Ideal S512x1024 .f32 from iblk m c 0 t) (ix2 k (j 1 : Fin 1024))
    * (show FVec Ideal S512x1024 .f32 from iblk m c 1 t) (ix2 k (j 1 : Fin 1024))

/-- The gradient of the gated operand. -/
noncomputable def gated (d : FVec Ideal S8192x1024 .f32) (g : FVec Ideal S1x1024 .f32) : FVec Ideal S8192x1024 .bf16 :=
  fun i => (Ideal.ofBits .f32 0x3F000000#32 * g (ix2 0 (i 1 : Fin 1024)) * d (ix2 (i 0 : Fin 8192) (i 1 : Fin 1024)) : EReal)

/-- The gradient of the gate. -/
noncomputable def gate (d y : FVec Ideal S8192x1024 .f32) : FVec Ideal S1x1024 .f32 :=
  fun i => Ideal.ofBits .f32 0x3F000000#32 * ∑ k : Fin 8192, d (ix2 k (i 1 : Fin 1024)) * y (ix2 k (i 1 : Fin 1024))

/-- The gradient of the gated operand after the run. -/
theorem final_gated (c : Dev nD) : (dats m 0 c).arrAt 3 cfg0.N = gated (m ((c : Thread nD τ).loc main_arg0)) (m ((c : Thread nD τ).loc main_arg2)) := by
  refine (dats m 0 c).arrAt_eq_of_covers 3 _ (by decide +kernel) fun t _ y => ?_
  blk_simp
  rw [after0_3]
  have e : (outsAt0 m c t.val t.isLt).1 = k0_pay2 (F := Ideal) (iblk m c 0 t) (iblk m c 2 t) := by
    by_cases h0 : t.val % 16 = 0
    · rw [outsAt0_A m c t h0]; frame_out
    · rw [outsAt0_B m c t h0]; frame_out
  rw [e]
  pointwise [k0_pay2, gated]
  blk_point [iblk, V, idx t]

/-- The gradient of the gate after the run. -/
theorem final_gate (c : Dev nD) : (dats m 0 c).arrAt 4 cfg0.N = gate (m ((c : Thread nD τ).loc main_arg0)) (m ((c : Thread nD τ).loc main_arg1)) := by
  refine (dats m 0 c).arrAt_eq_of_covers 4 _ (by decide +kernel) fun t hf y => ?_
  have hl := (flush0_4 t).mp hf
  blk_simp
  rw [after0_4, Pipeline.eq_sum_fin_of_reset_step_apply_of_flush (fun n h => (outsAt0 m c n h).2) 16 (fun _ => 0) (part m c)
    (fun t h j => by rw [outsAt0_A m c t h]; frame_out; rw [hpay, hzero]; rfl)
    (fun t h j => by rw [outsAt0_B m c t h]; frame_out; rw [hpay]; rfl)
    t hl _, zero_add]
  unfold part gate
  rw [ofBits_half]
  simp only [mul_comm (((1 / 2 : ℝ) : EReal))]
  rw [RmsGrad.sum_mul_real _ _ _ (by norm_num)]
  congr 1
  refine Fin.sum_mul_add_congr fun s k hk => ?_
  blk_point [iblk, V, idx t, idx ⟨_, Pipeline.run_point_lt_of_flush t hl s⟩]

theorem algebraic : Cert.algebraic_GateBwdIdeal_GateBwdReferenceIdeal := fun m g m' g' _ hagree => by
  refine ⟨_, _, (θ_run Cert.GateBwdIdeal.defs _ _).mono (fun r h c => ⟨(h c).1.trans (final_gated m c), (h c).2.1.trans (final_gate m c), (h c).2.2⟩)
      (Cert.GateBwdIdeal.Value.run_blocks (F := Ideal) m g),
    (θ_run Cert.GateBwdReferenceIdeal.defs _ _).mono (fun r h c => ?_) (Cert.GateBwdReferenceIdeal.Value.run (F := Ideal) m' g')⟩
  obtain ⟨h0, h1, h2⟩ := hagree c
  refine ⟨(h c).1.trans ?_, (h c).2.1.trans ?_, (h c).2.2⟩
  · rw [← h0, ← h2]
    funext y
    idx_vars y
    pointwise [gated]
  · rw [← h0, ← h1]
    funext y
    idx_vars y
    pointwise [gate]

end Cert.GateGrad
-- ==== Proof.FeedForward.lean ====
/-
# A feed-forward network, forwards

A point takes 1024 rows and 256 hidden units. It writes the gate's product, the up product and the activation of these, each an entry of
which is one sum over the 1024 features, and multiplies the activation into an accumulator, which is cleared at the first point of each
run of eleven and written out at the last: an entry of the network's result is the one sum over the 2816 hidden units that the
reference takes.
-/
module

public import proofs.«01_k».proof.Defs
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdReferenceIdeal
public import proofs.«01_k».proof.Proof.Gen.FfnFwdReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.FeedForward

open Idealize.ShloMosaic Idealize.ShloMosaic.TcCoe Idealize.SL.Sem
open Cert.FfnFwdIdeal Cert.FfnFwdIdeal.Gen

theorem frame : Cert.quiescent_FfnFwd := fun m ρ _ => Cert.FfnFwd.Gen.frame m ρ

theorem frameIdeal : Cert.quiescent_FfnFwdIdeal := fun m ρ _ => Cert.FfnFwdIdeal.Gen.frame m ρ

theorem frameReferenceIdeal : Cert.quiescent_FfnFwdReferenceIdeal := fun m ρ _ =>
  (θ_run Cert.FfnFwdReferenceIdeal.defs _ _).mono (fun r h => ⟨fun c => (h c).2.2.2.2, sem_eq_zero_of_no_sems rfl r.2⟩)
    (Cert.FfnFwdReferenceIdeal.Value.run (F := Ideal) m ρ)

/-- The rows move with the point's quotient by eleven, the hidden units with its remainder. -/
theorem idx : ∀ t : Fin cfg0.N, win0_0.index t = ![t.val / 11, 0] ∧ win0_1.index t = ![t.val % 11, 0] ∧ win0_2.index t = ![t.val % 11, 0]
    ∧ win0_3.index t = ![t.val % 11, 0] ∧ win0_4.index t = ![t.val / 11, 0] ∧ win0_5.index t = ![t.val / 11, t.val % 11]
    ∧ win0_6.index t = ![t.val / 11, t.val % 11] ∧ win0_7.index t = ![t.val / 11, t.val % 11] :=
  (by decide +kernel : ∀ t : Fin grid0.N, _)

/-- The product with a weight whose rows are the hidden units. -/
noncomputable def product (h : FVec Ideal S8192x1024 .bf16) (w : FVec Ideal S2816x1024 .bf16) : FVec Ideal S8192x2816 .f32 :=
  fun i => ∑ k : Fin 1024, (h (ix2 (i 0 : Fin 8192) k) : EReal) * w (ix2 (i 1 : Fin 2816) k)

/-- `silu g · u`, as both texts spell it but for the negation. -/
noncomputable def act (g u : EReal) : EReal :=
  g * Ideal.div (Ideal.ofBits .f32 0x3F800000#32) (Ideal.ofBits .f32 0x3F800000#32 + Ideal.exp (-g)) * u

/-- The activation. -/
noncomputable def activation (h : FVec Ideal S8192x1024 .bf16) (wg wu : FVec Ideal S2816x1024 .bf16) : FVec Ideal S8192x2816 .bf16 :=
  fun i => act (product h wg i) (product h wu i)

/-- The result. -/
noncomputable def result (h : FVec Ideal S8192x1024 .bf16) (wg wu wd : FVec Ideal S2816x1024 .bf16) : FVec Ideal S8192x1024 .f32 :=
  fun i => ∑ l : Fin 2816, (activation h wg wu (ix2 (i 0 : Fin 8192) l) : EReal) * wd (ix2 l (i 1 : Fin 1024))

theorem hzero (j) : k0_pay1 (F := Ideal) j = 0 := by pointwise [k0_pay1]

theorem hpay (x : FVec Ideal S1024x1024 .bf16) (wg wu wd : FVec Ideal S256x1024 .bf16) (acc : FVec Ideal S1024x1024 .f32) (j : S1024x1024.Idx) :
    k0_pay5 (F := Ideal) x wg wu acc wd j
      = acc j + ∑ k : Fin 256, (k0_pay4 (F := Ideal) x wg wu (ix2 (j 0 : Fin 1024) k) : EReal) * wd (ix2 k (j 1 : Fin 1024)) := by
  pointwise [k0_pay5]

variable (m : (ℓ : Loc nD τ sig) → Buf (Elt Ideal) ℓ)

/-- What a point adds to an entry of the accumulator. -/
noncomputable def part (c : Dev nD) (t : Fin cfg0.N) (j : S1024x1024.Idx) : EReal :=
  ∑ k : Fin 256, (k0_pay4 (F := Ideal) (iblk m c 0 t) (iblk m c 1 t) (iblk m c 2 t) (ix2 (j 0 : Fin 1024) k) : EReal)
    * (show FVec Ideal S256x1024 .bf16 from iblk m c 3 t) (ix2 k (j 1 : Fin 1024))

/-- The last point of a run writes the accumulator out. -/
theorem out_eq (c : Dev nD) (t : Fin cfg0.N) (h : t.val % 11 = 10) : (outsAt0 m c t.val t.isLt).1 = (outsAt0 m c t.val t.isLt).2.2.2.2 := by
  rw [outsAt0_C m c t (by omega) h]; frame_out

/-- The result after the run. -/
theorem final_result (c : Dev nD) : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have hl := (flush0_4 t).mp hf
  blk_simp
  rw [after0_4, out_eq m c t hl, Pipeline.eq_sum_fin_of_reset_step_apply_of_flush (fun n h => (outsAt0 m c n h).2.2.2.2) 11 (fun _ => 0) (part m c)
    (fun t h j => by rw [outsAt0_A m c t h (by omega)]; frame_out; rw [hpay, hzero]; rfl)
    (fun t h j => by
      by_cases h1 : t.val % 11 = 10
      · rw [outsAt0_C m c t h h1]; frame_out; rw [hpay, read_unread_whole]; rfl
      · rw [outsAt0_B m c t h h1]; frame_out; rw [hpay, read_unread_whole]; rfl)
    t hl _, zero_add]
  unfold part result
  refine Fin.sum_mul_add_congr fun s k hk => ?_
  pointwise [k0_pay4, k0_pay2, k0_pay3, activation, act, product]
  simp only [zero_sub]
  blk_point [iblk, V, idx t, idx ⟨_, Pipeline.run_point_lt_of_flush t hl s⟩]

/-- The gate's product after the run. -/
theorem final_gate (c : Dev nD) : (dats m 0 c).arrAt 5 cfg0.N = product (m ((c : Thread nD τ).loc main_arg0)) (m ((c : Thread nD τ).loc main_arg1)) := by
  refine (dats m 0 c).arrAt_eq_of_covers 5 _ (by decide +kernel) fun t _ y => ?_
  blk_simp
  rw [after0_5]
  have e : (outsAt0 m c t.val t.isLt).2.1 = k0_pay2 (F := Ideal) (iblk m c 0 t) (iblk m c 1 t) := by
    by_cases h0 : t.val % 11 = 0
    · rw [outsAt0_A m c t h0 (by omega)]; frame_out
    · by_cases h1 : t.val % 11 = 10
      · rw [outsAt0_C m c t h0 h1]; frame_out
      · rw [outsAt0_B m c t h0 h1]; frame_out
  rw [e]
  pointwise [k0_pay2, product]
  blk_point [iblk, V, idx t]

/-- The up product after the run. -/
theorem final_up (c : Dev nD) : (dats m 0 c).arrAt 6 cfg0.N = product (m ((c : Thread nD τ).loc main_arg0)) (m ((c : Thread nD τ).loc main_arg2)) := by
  refine (dats m 0 c).arrAt_eq_of_covers 6 _ (by decide +kernel) fun t _ y => ?_
  blk_simp
  rw [after0_6]
  have e : (outsAt0 m c t.val t.isLt).2.2.1 = k0_pay3 (F := Ideal) (iblk m c 0 t) (iblk m c 2 t) := by
    by_cases h0 : t.val % 11 = 0
    · rw [outsAt0_A m c t h0 (by omega)]; frame_out
    · by_cases h1 : t.val % 11 = 10
      · rw [outsAt0_C m c t h0 h1]; frame_out
      · rw [outsAt0_B m c t h0 h1]; frame_out
  rw [e]
  pointwise [k0_pay3, product]
  blk_point [iblk, V, idx t]

/-- The activation after the run. -/
theorem final_activation (c : Dev nD) : (dats m 0 c).arrAt 7 cfg0.N = activation (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  have e : (outsAt0 m c t.val t.isLt).2.2.2.1 = k0_pay4 (F := Ideal) (iblk m c 0 t) (iblk m c 1 t) (iblk m c 2 t) := by
    by_cases h0 : t.val % 11 = 0
    · rw [outsAt0_A m c t h0 (by omega)]; frame_out
    · by_cases h1 : t.val % 11 = 10
      · rw [outsAt0_C m c t h0 h1]; frame_out
      · rw [outsAt0_B m c t h0 h1]; frame_out
  rw [e]
  pointwise [k0_pay4, k0_pay2, k0_pay3, activation, act, product]
  simp only [zero_sub]
  blk_point [iblk, V, idx t]

theorem algebraic : Cert.algebraic_FfnFwdIdeal_FfnFwdReferenceIdeal := fun m g m' g' _ hagree => by
  refine ⟨_, _, _, _, (θ_run Cert.FfnFwdIdeal.defs _ _).mono (fun r h c => ⟨(h c).1.trans (final_result m c), (h c).2.1.trans (final_gate m c),
      (h c).2.2.1.trans (final_up m c), (h c).2.2.2.1.trans (final_activation m c), (h c).2.2.2.2⟩) (Cert.FfnFwdIdeal.Value.run_blocks (F := Ideal) m g),
    (θ_run Cert.FfnFwdReferenceIdeal.defs _ _).mono (fun r h c => ?_) (Cert.FfnFwdReferenceIdeal.Value.run (F := Ideal) m' g')⟩
  obtain ⟨h0, h1, h2, h3⟩ := hagree c
  refine ⟨(h c).1.trans ?_, (h c).2.1.trans ?_, (h c).2.2.1.trans ?_, (h c).2.2.2.1.trans ?_, (h c).2.2.2.2⟩
  · rw [← h0, ← h1, ← h2, ← h3]
    funext y
    idx_vars y
    pointwise [result, activation, act, product]
  · rw [← h0, ← h1]
    funext y
    idx_vars y
    pointwise [product]
  · rw [← h0, ← h2]
    funext y
    idx_vars y
    pointwise [product]
  · rw [← h0, ← h1, ← h2]
    funext y
    idx_vars y
    pointwise [activation, act, product]

end Cert.FeedForward
-- ==== Proof.InputProjection.lean ====
/-
# The input projection

A point multiplies 512 rows by 896 rows of the weight over all 1024 features, so that an entry of the array after the run is the one sum
over the features that the reference takes.
-/
module

public import proofs.«01_k».proof.Defs
public import proofs.«01_k».proof.Proof.Gen.ProjIn
public import proofs.«01_k».proof.Proof.Gen.ProjIn.Frame
public import proofs.«01_k».proof.Proof.Gen.ProjInIdeal
public import proofs.«01_k».proof.Proof.Gen.ProjInIdeal.Frame
public import proofs.«01_k».proof.Proof.Gen.ProjInIdeal.Value
public import proofs.«01_k».proof.Proof.Gen.ProjInReferenceIdeal
public import proofs.«01_k».proof.Proof.Gen.ProjInReferenceIdeal.Run
public import Idealize.ShloMosaic.Lib.Pointwise
import Idealize.ShloMosaic.Lib.Pipeline.ValueKit

@[expose] public section

set_option maxRecDepth 16384

namespace Cert.InputProjection

open Idealize.ShloMosaic Idealize.ShloMosaic.TcCoe Idealize.SL.Sem
open Cert.ProjInIdeal Cert.ProjInIdeal.Gen

theorem frame : Cert.quiescent_ProjIn := fun m ρ _ => Cert.ProjIn.Gen.frame m ρ

theorem frameIdeal : Cert.quiescent_ProjInIdeal := fun m ρ _ => Cert.ProjInIdeal.Gen.frame m ρ

theorem frameReferenceIdeal : Cert.quiescent_ProjInReferenceIdeal := fun m ρ _ =>
  (θ_run Cert.ProjInReferenceIdeal.defs _ _).mono (fun r h => ⟨fun c => (h c).2, sem_eq_zero_of_no_sems rfl r.2⟩)
    (Cert.ProjInReferenceIdeal.Value.run (F := Ideal) m ρ)

/-- The block of rows moves with the point's quotient by three, the block of the weight with its remainder. -/
theorem idx : ∀ t : Fin cfg0.N, win0_0.index t = ![t.val / 3, 0] ∧ win0_1.index t = ![t.val % 3, 0] ∧ win0_2.index t = ![t.val / 3, t.val % 3] :=
  (by decide +kernel : ∀ t : Fin grid0.N, _)

/-- The result. -/
noncomputable def result (h : FVec Ideal S8192x1024 .bf16) (w : FVec Ideal S2688x1024 .bf16) : FVec Ideal S8192x2688 .f32 :=
  fun i => ∑ k : Fin 1024, (h (ix2 (i 0 : Fin 8192) k) : EReal) * w (ix2 (i 1 : Fin 2688) k)

/-- The array after the run. -/
theorem final (m : (ℓ : Loc nD τ sig) → Buf (Elt Ideal) ℓ) (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t _ y => ?_
  blk_simp
  rw [after0_2]
  unfold outsAt0 out0_A_2
  frame_out
  pointwise [k0_pay1, k0_pay2, result]
  blk_point [iblk, V, idx t]

theorem algebraic : Cert.algebraic_ProjInIdeal_ProjInReferenceIdeal := fun m g m' g' _ hagree => by
  refine ⟨_, (θ_run Cert.ProjInIdeal.defs _ _).mono (fun r h c => ⟨(h c).1.trans (final m c), (h c).2⟩) (Cert.ProjInIdeal.Value.run_blocks (F := Ideal) m g),
    (θ_run Cert.ProjInReferenceIdeal.defs _ _).mono (fun r h c => ?_) (Cert.ProjInReferenceIdeal.Value.run (F := Ideal) m' g')⟩
  obtain ⟨h0, h1⟩ := hagree c
  refine ⟨(h c).1.trans ?_, (h c).2⟩
  rw [← h0, ← h1]
  funext y
  idx_vars y
  pointwise [result]

end Cert.InputProjection
-- ==== Proof.WeightGradient.lean ====
/-
# A weight's gradient

A point multiplies 512 rows of the two operands into an accumulator, which is cleared at the first point of each run of 16 and written
out at the last: an entry of the array after the run is the one sum over the 8192 rows that the reference takes.
-/
module

public import proofs.«01_k».proof.Defs
public import proofs.«01_k».proof.Proof.Gen.WeightGrad
public import proofs.«01_k».proof.Proof.Gen.WeightGrad.Frame
public import proofs.«01_k».proof.Proof.Gen.WeightGradIdeal
public import proofs.«01_k».proof.Proof.Gen.WeightGradIdeal.Frame
public import proofs.«01_k».proof.Proof.Gen.WeightGradIdeal.Value
public import proofs.«01_k».proof.Proof.Gen.WeightGradReferenceIdeal
public import proofs.«01_k».proof.Proof.Gen.WeightGradReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.WeightGradient

open Idealize.ShloMosaic Idealize.ShloMosaic.TcCoe Idealize.SL.Sem
open Cert.WeightGradIdeal Cert.WeightGradIdeal.Gen

theorem frame : Cert.quiescent_WeightGrad := fun m ρ _ => Cert.WeightGrad.Gen.frame m ρ

theorem frameIdeal : Cert.quiescent_WeightGradIdeal := fun m ρ _ => Cert.WeightGradIdeal.Gen.frame m ρ

theorem frameReferenceIdeal : Cert.quiescent_WeightGradReferenceIdeal := fun m ρ _ =>
  (θ_run Cert.WeightGradReferenceIdeal.defs _ _).mono (fun r h => ⟨fun c => (h c).2, sem_eq_zero_of_no_sems rfl r.2⟩)
    (Cert.WeightGradReferenceIdeal.Value.run (F := Ideal) m ρ)

/-- Both operands' rows move with the point's remainder by 16, the first's columns and the result's rows with its quotient. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hzero (j) : k0_pay1 (F := Ideal) j = 0 := by pointwise [k0_pay1]

theorem hpay (acc : FVec Ideal S1408x1024 .f32) (a : FVec Ideal S512x1408 .bf16) (b : FVec Ideal S512x1024 .bf16) (j : S1408x1024.Idx) :
    k0_pay2 (F := Ideal) acc a b j = acc j + ∑ k : Fin 512, (a (ix2 k (j 0 : Fin 1408)) : EReal) * b (ix2 k (j 1 : Fin 1024)) := by
  pointwise [k0_pay2]

variable (m : (ℓ : Loc nD τ sig) → Buf (Elt Ideal) ℓ)

/-- What a point adds to an entry of the accumulator. -/
noncomputable def part (c : Dev nD) (t : Fin cfg0.N) (j : S1408x1024.Idx) : EReal :=
  ∑ k : Fin 512, ((show FVec Ideal S512x1408 .bf16 from iblk m c 0 t) (ix2 k (j 0 : Fin 1408)) : EReal)
    * (show FVec Ideal S512x1024 .bf16 from iblk m c 1 t) (ix2 k (j 1 : Fin 1024))

/-- The last point of a run writes the accumulator out. -/
theorem out_eq (c : Dev nD) (t : Fin cfg0.N) (h : t.val % 16 = 15) : (outsAt0 m c t.val t.isLt).1 = (outsAt0 m c t.val t.isLt).2 := by
  rw [outsAt0_C m c t (by omega) h]; frame_out

/-- The result. -/
noncomputable def result (a : FVec Ideal S8192x2816 .bf16) (b : FVec Ideal S8192x1024 .bf16) : FVec Ideal S2816x1024 .f32 :=
  fun i => ∑ k : Fin 8192, (a (ix2 k (i 0 : Fin 2816)) : EReal) * b (ix2 k (i 1 : Fin 1024))

/-- The array after the run. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, Pipeline.eq_sum_fin_of_reset_step_apply_of_flush (fun n h => (outsAt0 m c n h).2) 16 (fun _ => 0) (part m c)
    (fun t h j => by rw [outsAt0_A m c t h (by omega)]; frame_out; rw [hpay, hzero]; rfl)
    (fun t h j => by
      by_cases h1 : t.val % 16 = 15
      · rw [outsAt0_C m c t h h1]; frame_out; rw [hpay, read_unread_whole]; rfl
      · rw [outsAt0_B m c t h h1]; frame_out; rw [hpay, read_unread_whole]; rfl)
    t hl _, zero_add]
  unfold part result
  refine Fin.sum_mul_add_congr fun s k hk => ?_
  blk_point [iblk, V, idx t, idx ⟨_, Pipeline.run_point_lt_of_flush t hl s⟩]

theorem algebraic : Cert.algebraic_WeightGradIdeal_WeightGradReferenceIdeal := fun m g m' g' _ hagree => by
  refine ⟨_, (θ_run Cert.WeightGradIdeal.defs _ _).mono (fun r h c => ⟨(h c).1.trans (final m c), (h c).2⟩) (Cert.WeightGradIdeal.Value.run_blocks (F := Ideal) m g),
    (θ_run Cert.WeightGradReferenceIdeal.defs _ _).mono (fun r h c => ?_) (Cert.WeightGradReferenceIdeal.Value.run (F := Ideal) m' g')⟩
  obtain ⟨h0, h1⟩ := hagree c
  refine ⟨(h c).1.trans ?_, (h c).2⟩
  rw [← h0, ← h1]
  funext y
  idx_vars y
  pointwise [result]

end Cert.WeightGradient
-- ==== Proof.LossGrad.lean ====
/-
# The loss and its gradients

The loss is half the sum over the rows of the mean squared error of the normalised rows, scaled by the gain. A point treats a block of
512 rows: it adds the block's part to the loss and to the gradient of the gain, and writes the gradient of the rows. The reference
takes the factor `1/2 · 1/1024 · 2` where the kernel takes `1/1024`, and the gradient of the norm as the chain rule gives it.
-/
module

public import proofs.«01_k».proof.Defs
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.FinalLossIdeal.Value
public import proofs.«01_k».proof.Proof.Gen.FinalLossReferenceIdeal
public import proofs.«01_k».proof.Proof.Gen.FinalLossReferenceIdeal.Run
public import proofs.«01_k».proof.Proof.RmsGrad
public import Idealize.ShloMosaic.Lib.Pointwise
import Idealize.ShloMosaic.Lib.Pipeline.ValueKit
import Idealize.ShloMosaic.Lib.Pipeline.ReadBack

@[expose] public section

set_option maxRecDepth 16384

namespace Cert.LossGrad

open Idealize.ShloMosaic Idealize.ShloMosaic.TcCoe Idealize.SL.Sem
open Cert.FinalLossIdeal Cert.FinalLossIdeal.Gen

theorem frame : Cert.quiescent_FinalLoss := fun m ρ _ => Cert.FinalLoss.Gen.frame m ρ

theorem frameIdeal : Cert.quiescent_FinalLossIdeal := fun m ρ _ => Cert.FinalLossIdeal.Gen.frame m ρ

theorem frameReferenceIdeal : Cert.quiescent_FinalLossReferenceIdeal := fun m ρ _ =>
  (θ_run Cert.FinalLossReferenceIdeal.defs _ _).mono (fun r h => ⟨fun c => (h c).2.2.2, sem_eq_zero_of_no_sems rfl r.2⟩)
    (Cert.FinalLossReferenceIdeal.Value.run (F := Ideal) m ρ)

/-- The operands and the result of 8192 rows move together, a block of rows at each point; the single rows stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] ∧ win0_7.index t = ![0, 0] :=
  (by decide +kernel : ∀ t : Fin grid0.N, _)

/-! ## A row -/

/-- The residual sum of a row. -/
noncomputable def row (x y g : Fin 1024 → EReal) (q : Fin 1024) : EReal := x q + Ideal.ofBits .f32 0x3F000000#32 * g q * y q

/-- The row normalised. -/
noncomputable def hat (r : Fin 1024 → EReal) (q : Fin 1024) : EReal := r q * Ideal.rsqrt (RmsGrad.meanSq r)

/-- Its error against the target. -/
noncomputable def err (r n t : Fin 1024 → EReal) (q : Fin 1024) : EReal := hat r q * n q - t q

/-- Its mean squared error. -/
noncomputable def rowLoss (r n t : Fin 1024 → EReal) : EReal :=
  Ideal.div (∑ q, err r n t q * err r n t q) (Ideal.ofBits .f32 0x44800000#32)

/-- The gradient of the scaled row. -/
noncomputable def cot (r n t : Fin 1024 → EReal) (q : Fin 1024) : EReal := err r n t q * Ideal.ofBits .f32 0x3A800000#32

theorem ofBits_half : Ideal.ofBits .f32 0x3F000000#32 = ((1 / 2 : ℝ) : EReal) := by
  simp [Ideal.ofBits, Ideal.ieee, -EReal.coe_mul]; norm_num

theorem ofBits_recip : Ideal.ofBits .f32 0x3A800000#32 = ((1 / 1024 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The factor that the reference takes in two steps. -/
theorem factor_eq (e : EReal) : Ideal.div (Ideal.ofBits .f32 0x3F800000#32 * Ideal.ofBits .f32 0x3F000000#32) (Ideal.ofBits .f32 0x44800000#32)
    * (Ideal.ofBits .f32 0x40000000#32 * e) = e * Ideal.ofBits .f32 0x3A800000#32 := by
  rw [ofBits_one, ofBits_half, ofBits_recip, ofBits_two, RmsGrad.ofBits_1024, Ideal.div_coe (by norm_num), ← mul_assoc, mul_comm e]
  congr 1
  rw [← EReal.coe_mul, ← EReal.coe_mul, ← EReal.coe_mul]
  norm_num

/-! ## The results -/

/-- Row `p` of the residual sum. -/
noncomputable def rowOf {s : ℕ} (x y : FVec Ideal ⟨2, ![s, 1024]⟩ .f32) (g : FVec Ideal S1x1024 .f32) (p : Fin s) : Fin 1024 → EReal :=
  row (fun q => x (ix2 p q)) (fun q => y (ix2 p q)) (fun q => g (ix2 0 q))

/-- The loss, in every lane. -/
noncomputable def loss (x y : FVec Ideal S8192x1024 .f32) (g n : FVec Ideal S1x1024 .f32) (t : FVec Ideal S8192x1024 .f32) : FVec Ideal S1x128 .f32 :=
  fun _ => Ideal.ofBits .f32 0x3F000000#32 * ∑ p : Fin 8192, rowLoss (rowOf x y g p) (fun q => n (ix2 0 q)) (fun q => t (ix2 p q))

/-- The gradient of the residual sum. -/
noncomputable def gradRow (x y : FVec Ideal S8192x1024 .f32) (g n : FVec Ideal S1x1024 .f32) (t : FVec Ideal S8192x1024 .f32) : FVec Ideal S8192x1024 .f32 :=
  fun i => RmsGrad.rowGrad (fun q => cot (rowOf x y g (i 0 : Fin 8192)) (fun q => n (ix2 0 q)) (fun q => t (ix2 (i 0 : Fin 8192) q)) q * n (ix2 0 q))
    (rowOf x y g (i 0 : Fin 8192)) (i 1 : Fin 1024)

/-- The gradient of the gain. -/
noncomputable def gradGain (x y : FVec Ideal S8192x1024 .f32) (g n : FVec Ideal S1x1024 .f32) (t : FVec Ideal S8192x1024 .f32) : FVec Ideal S1x1024 .f32 :=
  fun i => ∑ p : Fin 8192, cot (rowOf x y g p) (fun q => n (ix2 0 q)) (fun q => t (ix2 p q)) (i 1 : Fin 1024) * hat (rowOf x y g p) (i 1 : Fin 1024)

/-! ## What a point adds -/

theorem hzero (j) : k0_pay5 (F := Ideal) j = 0 := by pointwise [k0_pay5]

theorem hzero' (j) : k0_pay6 (F := Ideal) j = 0 := by pointwise [k0_pay6]

theorem hpay (acc : FVec Ideal S1x128 .f32) (x : FVec Ideal S512x1024 .f32) (g : FVec Ideal S1x1024 .f32) (y : FVec Ideal S512x1024 .f32)
    (n : FVec Ideal S1x1024 .f32) (t : FVec Ideal S512x1024 .f32) (j : S1x128.Idx) :
    k0_pay1 (F := Ideal) (k0_pay11 acc) (k0_pay12 x g y n t) k0_pay13 j = acc j
      + Ideal.ofBits .f32 0x3F000000#32 * ∑ p : Fin 512, rowLoss (rowOf x y g p) (fun q => n (ix2 0 q)) (fun q => t (ix2 p q)) := by
  idx_vars j
  pointwise [k0_pay1, k0_pay11, k0_pay12, k0_pay13, k0_pay10, k0_pay9, k0_pay8, k0_pay7, rowLoss, err, hat, rowOf, row, RmsGrad.meanSq]

theorem hpay' (acc : FVec Ideal S1x1024 .f32) (x : FVec Ideal S512x1024 .f32) (g : FVec Ideal S1x1024 .f32) (y : FVec Ideal S512x1024 .f32)
    (n : FVec Ideal S1x1024 .f32) (t : FVec Ideal S512x1024 .f32) (j : S1x1024.Idx) :
    k0_pay3 (F := Ideal) (k0_pay9 x g y) (k0_pay10 x g y n t) acc j = acc j
      + ∑ p : Fin 512, cot (rowOf x y g p) (fun q => n (ix2 0 q)) (fun q => t (ix2 p q)) (j 1 : Fin 1024) * hat (rowOf x y g p) (j 1 : Fin 1024) := by
  idx_vars j
  pointwise [k0_pay3, k0_pay2, k0_pay10, k0_pay9, k0_pay8, k0_pay7, cot, err, hat, rowOf, row, RmsGrad.meanSq]

variable (m : (ℓ : Loc nD τ sig) → Buf (Elt Ideal) ℓ)

/-- What a point adds to the loss, -/
noncomputable def part (c : Dev nD) (t : Fin cfg0.N) (_ : S1x128.Idx) : EReal :=
  Ideal.ofBits .f32 0x3F000000#32 * ∑ p : Fin 512, rowLoss
    (rowOf (show FVec Ideal S512x1024 .f32 from iblk m c 0 t) (show FVec Ideal S512x1024 .f32 from iblk m c 1 t) (show FVec Ideal S1x1024 .f32 from iblk m c 2 t) p)
    (fun q => (show FVec Ideal S1x1024 .f32 from iblk m c 3 t) (ix2 0 q)) (fun q => (show FVec Ideal S512x1024 .f32 from iblk m c 4 t) (ix2 p q))

/-- and to an entry of the gain's gradient. -/
noncomputable def part' (c : Dev nD) (t : Fin cfg0.N) (j : S1x1024.Idx) : EReal :=
  ∑ p : Fin 512, cot
    (rowOf (show FVec Ideal S512x1024 .f32 from iblk m c 0 t) (show FVec Ideal S512x1024 .f32 from iblk m c 1 t) (show FVec Ideal S1x1024 .f32 from iblk m c 2 t) p)
    (fun q => (show FVec Ideal S1x1024 .f32 from iblk m c 3 t) (ix2 0 q)) (fun q => (show FVec Ideal S512x1024 .f32 from iblk m c 4 t) (ix2 p q)) (j 1 : Fin 1024)
    * hat (rowOf (show FVec Ideal S512x1024 .f32 from iblk m c 0 t) (show FVec Ideal S512x1024 .f32 from iblk m c 1 t) (show FVec Ideal S1x1024 .f32 from iblk m c 2 t) p)
      (j 1 : Fin 1024)

/-! ## The arrays after the run -/

/-- The loss after the run. -/
theorem final_loss (c : Dev nD) : (dats m 0 c).arrAt 5 cfg0.N = loss (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have hl := (flush0_5 t).mp hf
  blk_simp
  rw [after0_5, Pipeline.eq_sum_fin_of_reset_step_apply_of_flush (fun n h => (outsAt0 m c n h).1) 16 (fun _ => 0) (part m c)
    (fun t h j => by rw [outsAt0_A m c t h]; frame_out; rw [hpay, hzero]; rfl)
    (fun t h j => by rw [outsAt0_B m c t h]; frame_out; rw [hpay]; rfl)
    t hl _, zero_add]
  unfold part loss
  rw [ofBits_half]
  simp only [mul_comm (((1 / 2 : ℝ) : EReal))]
  rw [RmsGrad.sum_mul_real _ _ _ (by norm_num)]
  congr 1
  refine Fin.sum_mul_add_congr fun s k hk => ?_
  simp only [rowLoss, err, hat, rowOf, row, RmsGrad.meanSq]
  blk_point [iblk, V, idx ⟨_, Pipeline.run_point_lt_of_flush t hl s⟩]

/-- The gain's gradient after the run. -/
theorem final_gain (c : Dev nD) : (dats m 0 c).arrAt 7 cfg0.N = gradGain (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  have hl := (flush0_7 t).mp hf
  blk_simp
  rw [after0_7, Pipeline.eq_sum_fin_of_reset_step_apply_of_flush (fun n h => (outsAt0 m c n h).2.2) 16 (fun _ => 0) (part' m c)
    (fun t h j => by rw [outsAt0_A m c t h]; frame_out; rw [hpay', hzero']; rfl)
    (fun t h j => by rw [outsAt0_B m c t h]; frame_out; rw [hpay']; rfl)
    t hl _, zero_add]
  unfold part' gradGain
  refine Fin.sum_mul_add_congr fun s k hk => ?_
  simp only [cot, err, hat, rowOf, row, RmsGrad.meanSq]
  blk_point [iblk, V, idx t, idx ⟨_, Pipeline.run_point_lt_of_flush t hl s⟩]

/-- What a point leaves in the block of the rows' gradient. -/
theorem after_eq (c : Dev nD) (t : Fin cfg0.N) : ((dats m 0 c).after 6 t : FVec Ideal S512x1024 .f32)
    = k0_pay4 (F := Ideal) (k0_pay8 (iblk m c 0 t) (iblk m c 2 t) (iblk m c 1 t)) (k0_pay9 (iblk m c 0 t) (iblk m c 2 t) (iblk m c 1 t))
      (k0_pay10 (iblk m c 0 t) (iblk m c 2 t) (iblk m c 1 t) (iblk m c 3 t) (iblk m c 4 t)) (iblk m c 3 t) := by
  rw [after0_6]
  by_cases h0 : t.val % 16 = 0
  · rw [outsAt0_A m c t h0]; frame_out
  · rw [outsAt0_B m c t h0]; frame_out

/-- The rows' gradient after the run. -/
theorem final_row (c : Dev nD) : (dats m 0 c).arrAt 6 cfg0.N = gradRow (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after_eq]
  pointwise [k0_pay4, k0_pay2, k0_pay10, k0_pay9, k0_pay8, k0_pay7, gradRow, RmsGrad.rowGrad, cot, err, hat, rowOf, row, RmsGrad.meanSq]
  blk_point [iblk, V, idx t]

/-! ## The reference -/

/-- The rows' gradient, with the factor and the norm's gradient as the reference has them. -/
theorem gradRow_apply (x y : FVec Ideal S8192x1024 .f32) (g n : FVec Ideal S1x1024 .f32) (t : FVec Ideal S8192x1024 .f32) (p : Fin 8192) (q : Fin 1024) :
    gradRow x y g n t (ix2 p q) = RmsGrad.chainGrad
      (fun k => Ideal.div (Ideal.ofBits .f32 0x3F800000#32 * Ideal.ofBits .f32 0x3F000000#32) (Ideal.ofBits .f32 0x44800000#32)
        * (Ideal.ofBits .f32 0x40000000#32 * err (rowOf x y g p) (fun q => n (ix2 0 q)) (fun q => t (ix2 p q)) k) * n (ix2 0 k)) (rowOf x y g p) q := by
  simp only [factor_eq]
  rw [← RmsGrad.rowGrad_eq]
  rfl

/-- The gain's gradient, with the factor as the reference has it. -/
theorem gradGain_apply (x y : FVec Ideal S8192x1024 .f32) (g n : FVec Ideal S1x1024 .f32) (t : FVec Ideal S8192x1024 .f32) (p : Fin 1) (q : Fin 1024) :
    gradGain x y g n t (ix2 p q) = ∑ p : Fin 8192, hat (rowOf x y g p) q
      * (Ideal.div (Ideal.ofBits .f32 0x3F800000#32 * Ideal.ofBits .f32 0x3F000000#32) (Ideal.ofBits .f32 0x44800000#32)
        * (Ideal.ofBits .f32 0x40000000#32 * err (rowOf x y g p) (fun q => n (ix2 0 q)) (fun q => t (ix2 p q)) q)) := by
  simp only [factor_eq]
  exact Finset.sum_congr rfl fun p _ => mul_comm _ _

/-- The reference's gradient of the rows. -/
theorem reference_row (m : (ℓ : Loc Cert.FinalLossReferenceIdeal.nD Cert.FinalLossReferenceIdeal.τ Cert.FinalLossReferenceIdeal.sig) → Buf (Elt Ideal) ℓ) (c : Dev 1) :
    Cert.FinalLossReferenceIdeal.Value.res_out1 m c = gradRow (m ((c.tc : Thread 1 Cert.FinalLossReferenceIdeal.τ).loc Cert.FinalLossReferenceIdeal.main_arg0))
      (m ((c.tc : Thread 1 Cert.FinalLossReferenceIdeal.τ).loc Cert.FinalLossReferenceIdeal.main_arg1)) (m ((c.tc : Thread 1 Cert.FinalLossReferenceIdeal.τ).loc Cert.FinalLossReferenceIdeal.main_arg2))
      (m ((c.tc : Thread 1 Cert.FinalLossReferenceIdeal.τ).loc Cert.FinalLossReferenceIdeal.main_arg3)) (m ((c.tc : Thread 1 Cert.FinalLossReferenceIdeal.τ).loc Cert.FinalLossReferenceIdeal.main_arg4)) := by
  unfold Cert.FinalLossReferenceIdeal.Value.res_out1 Cert.FinalLossReferenceIdeal.Value.res_main_v53
  funext y
  idx_vars y
  refine Eq.trans ?_ (gradRow_apply _ _ _ _ _ y0 y1).symm
  pointwise [RmsGrad.chainGrad, RmsGrad.meanSq, err, hat, rowOf, row]
  simp only [RmsGrad.meanSq, Finset.univ_unique, Finset.sum_singleton, err, hat, rowOf, row]

theorem algebraic : Cert.algebraic_FinalLossIdeal_FinalLossReferenceIdeal := fun m g m' g' _ hagree => by
  refine ⟨_, _, _, (θ_run Cert.FinalLossIdeal.defs _ _).mono
      (fun r h c => ⟨(h c).1.trans (final_loss m c), (h c).2.1.trans (final_row m c), (h c).2.2.1.trans (final_gain m c), (h c).2.2.2⟩)
      (Cert.FinalLossIdeal.Value.run_blocks (F := Ideal) m g),
    (θ_run Cert.FinalLossReferenceIdeal.defs _ _).mono (fun r h c => ?_) (Cert.FinalLossReferenceIdeal.Value.run (F := Ideal) m' g')⟩
  obtain ⟨h0, h1, h2, h3, h4⟩ := hagree c
  refine ⟨(h c).1.trans ?_, (h c).2.1.trans ((reference_row m' c).trans ?_), (h c).2.2.1.trans ?_, (h c).2.2.2⟩
  · rw [← h0, ← h1, ← h2, ← h3, ← h4]
    funext y
    idx_vars y
    pointwise [loss, rowLoss, err, hat, rowOf, row, RmsGrad.meanSq]
  · rw [h0, h1, h2, h3, h4]
  · rw [← h0, ← h1, ← h2, ← h3, ← h4]
    funext y
    idx_vars y
    refine Eq.trans ?_ (gradGain_apply _ _ _ _ _ y0 y1).symm
    pointwise [err, hat, rowOf, row, RmsGrad.meanSq]

end Cert.LossGrad
-- ==== Proof.FeedForwardGrad.lean ====
/-
# The gradient of a feed-forward block's input

It is the sum of two products, of the gradients of the gate's and of the up projection's results. A point multiplies 1408 columns of
each pair into an accumulator, which is cleared at the first of two points and written out at the second.
-/
module

public import proofs.«01_k».proof.Defs
public import proofs.«01_k».proof.Proof.Gen.FfnDh
public import proofs.«01_k».proof.Proof.Gen.FfnDh.Frame
public import proofs.«01_k».proof.Proof.Gen.FfnDhIdeal
public import proofs.«01_k».proof.Proof.Gen.FfnDhIdeal.Frame
public import proofs.«01_k».proof.Proof.Gen.FfnDhIdeal.Value
public import proofs.«01_k».proof.Proof.Gen.FfnDhReferenceIdeal
public import proofs.«01_k».proof.Proof.Gen.FfnDhReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.FeedForwardGrad

open Idealize.ShloMosaic Idealize.ShloMosaic.TcCoe Idealize.SL.Sem
open Cert.FfnDhIdeal Cert.FfnDhIdeal.Gen

theorem frame : Cert.quiescent_FfnDh := fun m ρ _ => Cert.FfnDh.Gen.frame m ρ

theorem frameIdeal : Cert.quiescent_FfnDhIdeal := fun m ρ _ => Cert.FfnDhIdeal.Gen.frame m ρ

theorem frameReferenceIdeal : Cert.quiescent_FfnDhReferenceIdeal := fun m ρ _ =>
  (θ_run Cert.FfnDhReferenceIdeal.defs _ _).mono (fun r h => ⟨fun c => (h c).2, sem_eq_zero_of_no_sems rfl r.2⟩)
    (Cert.FfnDhReferenceIdeal.Value.run (F := Ideal) m ρ)

/-- The gradients' rows and the result's move with the point's quotient by two, the gradients' columns and the weights' rows with its
    remainder. -/
theorem idx : ∀ t : Fin cfg0.N, win0_0.index t = ![t.val / 2, t.val % 2] ∧ win0_1.index t = ![t.val % 2, 0]
    ∧ win0_2.index t = ![t.val / 2, t.val % 2] ∧ win0_3.index t = ![t.val % 2, 0] ∧ win0_4.index t = ![t.val / 2, 0] :=
  (by decide +kernel : ∀ t : Fin grid0.N, _)

theorem hzero (j) : k0_pay1 (F := Ideal) j = 0 := by pointwise [k0_pay1]

theorem hpay (acc : FVec Ideal S512x1024 .f32) (a a' : FVec Ideal S512x1408 .bf16) (b b' : FVec Ideal S1408x1024 .bf16) (j : S512x1024.Idx) :
    k0_pay2 (F := Ideal) acc a b a' b' j = acc j + ((∑ k : Fin 1408, (a (ix2 (j 0 : Fin 512) k) : EReal) * b (ix2 k (j 1 : Fin 1024)))
      + ∑ k : Fin 1408, (a' (ix2 (j 0 : Fin 512) k) : EReal) * b' (ix2 k (j 1 : Fin 1024))) := by
  rw [← add_assoc]
  pointwise [k0_pay2]

variable (m : (ℓ : Loc nD τ sig) → Buf (Elt Ideal) ℓ)

/-- What a point adds to an entry of the accumulator for the gate, -/
noncomputable def part (c : Dev nD) (t : Fin cfg0.N) (j : S512x1024.Idx) : EReal :=
  ∑ k : Fin 1408, ((show FVec Ideal S512x1408 .bf16 from iblk m c 0 t) (ix2 (j 0 : Fin 512) k) : EReal)
    * (show FVec Ideal S1408x1024 .bf16 from iblk m c 1 t) (ix2 k (j 1 : Fin 1024))

/-- and for the up projection. -/
noncomputable def part' (c : Dev nD) (t : Fin cfg0.N) (j : S512x1024.Idx) : EReal :=
  ∑ k : Fin 1408, ((show FVec Ideal S512x1408 .bf16 from iblk m c 2 t) (ix2 (j 0 : Fin 512) k) : EReal)
    * (show FVec Ideal S1408x1024 .bf16 from iblk m c 3 t) (ix2 k (j 1 : Fin 1024))

/-- The last point of a run writes the accumulator out. -/
theorem out_eq (c : Dev nD) (t : Fin cfg0.N) (h : t.val % 2 = 1) : (outsAt0 m c t.val t.isLt).1 = (outsAt0 m c t.val t.isLt).2 := by
  rw [outsAt0_B m c t (by omega) h]; frame_out

/-- The result. -/
noncomputable def result (a : FVec Ideal S8192x2816 .bf16) (b : FVec Ideal S2816x1024 .bf16) (a' : FVec Ideal S8192x2816 .bf16)
    (b' : FVec Ideal S2816x1024 .bf16) : FVec Ideal S8192x1024 .f32 :=
  fun i => (∑ k : Fin 2816, (a (ix2 (i 0 : Fin 8192) k) : EReal) * b (ix2 k (i 1 : Fin 1024)))
    + ∑ k : Fin 2816, (a' (ix2 (i 0 : Fin 8192) k) : EReal) * b' (ix2 k (i 1 : Fin 1024))

/-- The array after the run. -/
theorem final (c : Dev nD) : (dats m 0 c).arrAt 4 cfg0.N = result (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have hl := (flush0_4 t).mp hf
  blk_simp
  rw [after0_4, out_eq m c t hl, Pipeline.eq_sum_fin_of_reset_step_apply_of_flush (fun n h => (outsAt0 m c n h).2) 2 (fun _ => 0)
    (fun t j => part m c t j + part' m c t j)
    (fun t h j => by rw [outsAt0_A m c t h (by omega)]; frame_out; rw [hpay, hzero]; rfl)
    (fun t h j => by rw [outsAt0_B m c t h (by omega)]; frame_out; rw [hpay, read_unread_whole]; rfl)
    t hl _, zero_add, Finset.sum_add_distrib]
  unfold part part' result
  congr 1 <;>
  · refine Fin.sum_mul_add_congr fun s k hk => ?_
    blk_point [iblk, V, idx t, idx ⟨_, Pipeline.run_point_lt_of_flush t hl s⟩]

theorem algebraic : Cert.algebraic_FfnDhIdeal_FfnDhReferenceIdeal := fun m g m' g' _ hagree => by
  refine ⟨_, (θ_run Cert.FfnDhIdeal.defs _ _).mono (fun r h c => ⟨(h c).1.trans (final m c), (h c).2⟩) (Cert.FfnDhIdeal.Value.run_blocks (F := Ideal) m g),
    (θ_run Cert.FfnDhReferenceIdeal.defs _ _).mono (fun r h c => ?_) (Cert.FfnDhReferenceIdeal.Value.run (F := Ideal) m' g')⟩
  obtain ⟨h0, h1, h2, h3⟩ := hagree c
  refine ⟨(h c).1.trans ?_, (h c).2⟩
  rw [← h0, ← h1, ← h2, ← h3]
  funext y
  idx_vars y
  pointwise [result]

end Cert.FeedForwardGrad
-- ==== Proof.MixGateGrad.lean ====
/-
# The gradient behind the mixer's gate

A point writes its block of 512 rows of the gradient of the gated operand, and adds its rows' products to the gradient of the gate.
-/
module

public import proofs.«01_k».proof.Defs
public import proofs.«01_k».proof.Proof.Gen.MixGateBwd
public import proofs.«01_k».proof.Proof.Gen.MixGateBwd.Frame
public import proofs.«01_k».proof.Proof.Gen.MixGateBwdIdeal
public import proofs.«01_k».proof.Proof.Gen.MixGateBwdIdeal.Frame
public import proofs.«01_k».proof.Proof.Gen.MixGateBwdIdeal.Value
public import proofs.«01_k».proof.Proof.Gen.MixGateBwdReferenceIdeal
public import proofs.«01_k».proof.Proof.Gen.MixGateBwdReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.MixGateGrad

open Idealize.ShloMosaic Idealize.ShloMosaic.TcCoe Idealize.SL.Sem
open Cert.MixGateBwdIdeal Cert.MixGateBwdIdeal.Gen

theorem frame : Cert.quiescent_MixGateBwd := fun m ρ _ => Cert.MixGateBwd.Gen.frame m ρ

theorem frameIdeal : Cert.quiescent_MixGateBwdIdeal := fun m ρ _ => Cert.MixGateBwdIdeal.Gen.frame m ρ

theorem frameReferenceIdeal : Cert.quiescent_MixGateBwdReferenceIdeal := fun m ρ _ =>
  (θ_run Cert.MixGateBwdReferenceIdeal.defs _ _).mono (fun r h => ⟨fun c => (h c).2.2, sem_eq_zero_of_no_sems rfl r.2⟩)
    (Cert.MixGateBwdReferenceIdeal.Value.run (F := Ideal) m ρ)

/-- The operands and the result of 8192 rows move together, a block of rows at each point; the single rows stay. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem hzero (j) : k0_pay1 (F := Ideal) j = 0 := by pointwise [k0_pay1]

theorem hpay (acc : FVec Ideal S1x1024 .f32) (a b : FVec Ideal S512x1024 .f32) (j : S1x1024.Idx) :
    k0_pay3 (F := Ideal) a acc b j
      = acc j + ∑ k : Fin 512, a (ix2 k (j 1 : Fin 1024)) * b (ix2 k (j 1 : Fin 1024)) := by
  idx_vars j
  pointwise [k0_pay3]

variable (m : (ℓ : Loc nD τ sig) → Buf (Elt Ideal) ℓ)

/-- What a point adds to an entry of the gate's gradient. -/
noncomputable def part (c : Dev nD) (t : Fin cfg0.N) (j : S1x1024.Idx) : EReal :=
  ∑ k : Fin 512, (show FVec Ideal S512x1024 .f32 from iblk m c 0 t) (ix2 k (j 1 : Fin 1024))
    * (show FVec Ideal S512x1024 .f32 from iblk m c 1 t) (ix2 k (j 1 : Fin 1024))

/-- The gradient of the gated operand. -/
noncomputable def gated (d : FVec Ideal S8192x1024 .f32) (g : FVec Ideal S1x1024 .f32) : FVec Ideal S8192x1024 .bf16 :=
  fun i => (g (ix2 0 (i 1 : Fin 1024)) * d (ix2 (i 0 : Fin 8192) (i 1 : Fin 1024)) : EReal)

/-- The gradient of the gate. -/
noncomputable def gate (d y : FVec Ideal S8192x1024 .f32) : FVec Ideal S1x1024 .f32 :=
  fun i => ∑ k : Fin 8192, d (ix2 k (i 1 : Fin 1024)) * y (ix2 k (i 1 : Fin 1024))

/-- The gradient of the gated operand after the run. -/
theorem final_gated (c : Dev nD) : (dats m 0 c).arrAt 3 cfg0.N = gated (m ((c : Thread nD τ).loc main_arg0)) (m ((c : Thread nD τ).loc main_arg2)) := by
  refine (dats m 0 c).arrAt_eq_of_covers 3 _ (by decide +kernel) fun t _ y => ?_
  blk_simp
  rw [after0_3]
  have e : (outsAt0 m c t.val t.isLt).1 = k0_pay2 (F := Ideal) (iblk m c 0 t) (iblk m c 2 t) := by
    by_cases h0 : t.val % 16 = 0
    · rw [outsAt0_A m c t h0]; frame_out
    · rw [outsAt0_B m c t h0]; frame_out
  rw [e]
  pointwise [k0_pay2, gated]
  blk_point [iblk, V, idx t]

/-- The gradient of the gate after the run. -/
theorem final_gate (c : Dev nD) : (dats m 0 c).arrAt 4 cfg0.N = gate (m ((c : Thread nD τ).loc main_arg0)) (m ((c : Thread nD τ).loc main_arg1)) := by
  refine (dats m 0 c).arrAt_eq_of_covers 4 _ (by decide +kernel) fun t hf y => ?_
  have hl := (flush0_4 t).mp hf
  blk_simp
  rw [after0_4, Pipeline.eq_sum_fin_of_reset_step_apply_of_flush (fun n h => (outsAt0 m c n h).2) 16 (fun _ => 0) (part m c)
    (fun t h j => by rw [outsAt0_A m c t h]; frame_out; rw [hpay, hzero]; rfl)
    (fun t h j => by rw [outsAt0_B m c t h]; frame_out; rw [hpay]; rfl)
    t hl _, zero_add]
  unfold part gate
  refine Fin.sum_mul_add_congr fun s k hk => ?_
  blk_point [iblk, V, idx t, idx ⟨_, Pipeline.run_point_lt_of_flush t hl s⟩]

theorem algebraic : Cert.algebraic_MixGateBwdIdeal_MixGateBwdReferenceIdeal := fun m g m' g' _ hagree => by
  refine ⟨_, _, (θ_run Cert.MixGateBwdIdeal.defs _ _).mono (fun r h c => ⟨(h c).1.trans (final_gated m c), (h c).2.1.trans (final_gate m c), (h c).2.2⟩)
      (Cert.MixGateBwdIdeal.Value.run_blocks (F := Ideal) m g),
    (θ_run Cert.MixGateBwdReferenceIdeal.defs _ _).mono (fun r h c => ?_) (Cert.MixGateBwdReferenceIdeal.Value.run (F := Ideal) m' g')⟩
  obtain ⟨h0, h1, h2⟩ := hagree c
  refine ⟨(h c).1.trans ?_, (h c).2.1.trans ?_, (h c).2.2⟩
  · rw [← h0, ← h2]
    funext y
    idx_vars y
    pointwise [gated]
  · rw [← h0, ← h1]
    funext y
    idx_vars y
    pointwise [gate]

end Cert.MixGateGrad
-- ==== Proof.MixProducts.lean ====
/-
# The products of the mixer's output projection

Forwards and back to its operand a point multiplies 512 rows by the whole weight, so that an entry of the array after the run is the one
sum that the reference takes. For the weight's gradient a point multiplies 512 rows of the two operands into an accumulator, which is
cleared at the first point of each run of 16 and written out at the last.
-/
module

public import proofs.«01_k».proof.Defs
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutBwd
public import proofs.«01_k».proof.Proof.Gen.MixOutBwd.Frame
public import proofs.«01_k».proof.Proof.Gen.MixOutBwdIdeal
public import proofs.«01_k».proof.Proof.Gen.MixOutBwdIdeal.Frame
public import proofs.«01_k».proof.Proof.Gen.MixOutBwdIdeal.Value
public import proofs.«01_k».proof.Proof.Gen.MixOutBwdReferenceIdeal
public import proofs.«01_k».proof.Proof.Gen.MixOutBwdReferenceIdeal.Run
public import proofs.«01_k».proof.Proof.Gen.MixDwo
public import proofs.«01_k».proof.Proof.Gen.MixDwo.Frame
public import proofs.«01_k».proof.Proof.Gen.MixDwoIdeal
public import proofs.«01_k».proof.Proof.Gen.MixDwoIdeal.Frame
public import proofs.«01_k».proof.Proof.Gen.MixDwoIdeal.Value
public import proofs.«01_k».proof.Proof.Gen.MixDwoReferenceIdeal
public import proofs.«01_k».proof.Proof.Gen.MixDwoReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.MixProducts.Forward

open Idealize.ShloMosaic Idealize.ShloMosaic.TcCoe Idealize.SL.Sem
open Cert.MixOutIdeal Cert.MixOutIdeal.Gen

theorem frame : Cert.quiescent_MixOut := fun m ρ _ => Cert.MixOut.Gen.frame m ρ

theorem frameIdeal : Cert.quiescent_MixOutIdeal := fun m ρ _ => Cert.MixOutIdeal.Gen.frame m ρ

theorem frameReferenceIdeal : Cert.quiescent_MixOutReferenceIdeal := fun m ρ _ =>
  (θ_run Cert.MixOutReferenceIdeal.defs _ _).mono (fun r h => ⟨fun c => (h c).2, sem_eq_zero_of_no_sems rfl r.2⟩)
    (Cert.MixOutReferenceIdeal.Value.run (F := Ideal) m ρ)

/-- The block of rows moves with the point, the weight stays. -/
theorem idx : ∀ t : Fin cfg0.N, win0_0.index t = ![t.val, 0] ∧ win0_1.index t = ![0, 0] ∧ win0_2.index t = ![t.val, 0] :=
  (by decide +kernel : ∀ t : Fin grid0.N, _)

/-- The result. -/
noncomputable def result (h : FVec Ideal S8192x1024 .bf16) (w : FVec Ideal S1024x1024 .bf16) : FVec Ideal S8192x1024 .f32 :=
  fun i => ∑ k : Fin 1024, (h (ix2 (i 0 : Fin 8192) k) : EReal) * w (ix2 k (i 1 : Fin 1024))

/-- The array after the run. -/
theorem final (m : (ℓ : Loc nD τ sig) → Buf (Elt Ideal) ℓ) (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t _ y => ?_
  blk_simp
  rw [after0_2]
  unfold outsAt0 out0_A_2
  frame_out
  pointwise [k0_pay1, k0_pay2, result]
  blk_point [iblk, V, idx t]

theorem algebraic : Cert.algebraic_MixOutIdeal_MixOutReferenceIdeal := fun m g m' g' _ hagree => by
  refine ⟨_, (θ_run Cert.MixOutIdeal.defs _ _).mono (fun r h c => ⟨(h c).1.trans (final m c), (h c).2⟩) (Cert.MixOutIdeal.Value.run_blocks (F := Ideal) m g),
    (θ_run Cert.MixOutReferenceIdeal.defs _ _).mono (fun r h c => ?_) (Cert.MixOutReferenceIdeal.Value.run (F := Ideal) m' g')⟩
  obtain ⟨h0, h1⟩ := hagree c
  refine ⟨(h c).1.trans ?_, (h c).2⟩
  rw [← h0, ← h1]
  funext y
  idx_vars y
  pointwise [result]

end Cert.MixProducts.Forward

namespace Cert.MixProducts.Backward

open Idealize.ShloMosaic Idealize.ShloMosaic.TcCoe Idealize.SL.Sem
open Cert.MixOutBwdIdeal Cert.MixOutBwdIdeal.Gen

theorem frame : Cert.quiescent_MixOutBwd := fun m ρ _ => Cert.MixOutBwd.Gen.frame m ρ

theorem frameIdeal : Cert.quiescent_MixOutBwdIdeal := fun m ρ _ => Cert.MixOutBwdIdeal.Gen.frame m ρ

theorem frameReferenceIdeal : Cert.quiescent_MixOutBwdReferenceIdeal := fun m ρ _ =>
  (θ_run Cert.MixOutBwdReferenceIdeal.defs _ _).mono (fun r h => ⟨fun c => (h c).2, sem_eq_zero_of_no_sems rfl r.2⟩)
    (Cert.MixOutBwdReferenceIdeal.Value.run (F := Ideal) m ρ)

/-- The block of rows moves with the point, the weight stays. -/
theorem idx : ∀ t : Fin cfg0.N, win0_0.index t = ![t.val, 0] ∧ win0_1.index t = ![0, 0] ∧ win0_2.index t = ![t.val, 0] :=
  (by decide +kernel : ∀ t : Fin grid0.N, _)

/-- The result. -/
noncomputable def result (h : FVec Ideal S8192x1024 .bf16) (w : FVec Ideal S1024x1024 .bf16) : FVec Ideal S8192x1024 .f32 :=
  fun i => ∑ k : Fin 1024, (h (ix2 (i 0 : Fin 8192) k) : EReal) * w (ix2 (i 1 : Fin 1024) k)

/-- The array after the run. -/
theorem final (m : (ℓ : Loc nD τ sig) → Buf (Elt Ideal) ℓ) (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t _ y => ?_
  blk_simp
  rw [after0_2]
  unfold outsAt0 out0_A_2
  frame_out
  pointwise [k0_pay1, k0_pay2, result]
  blk_point [iblk, V, idx t]

theorem algebraic : Cert.algebraic_MixOutBwdIdeal_MixOutBwdReferenceIdeal := fun m g m' g' _ hagree => by
  refine ⟨_, (θ_run Cert.MixOutBwdIdeal.defs _ _).mono (fun r h c => ⟨(h c).1.trans (final m c), (h c).2⟩) (Cert.MixOutBwdIdeal.Value.run_blocks (F := Ideal) m g),
    (θ_run Cert.MixOutBwdReferenceIdeal.defs _ _).mono (fun r h c => ?_) (Cert.MixOutBwdReferenceIdeal.Value.run (F := Ideal) m' g')⟩
  obtain ⟨h0, h1⟩ := hagree c
  refine ⟨(h c).1.trans ?_, (h c).2⟩
  rw [← h0, ← h1]
  funext y
  idx_vars y
  pointwise [result]

end Cert.MixProducts.Backward

namespace Cert.MixProducts.Weight

open Idealize.ShloMosaic Idealize.ShloMosaic.TcCoe Idealize.SL.Sem
open Cert.MixDwoIdeal Cert.MixDwoIdeal.Gen

theorem frame : Cert.quiescent_MixDwo := fun m ρ _ => Cert.MixDwo.Gen.frame m ρ

theorem frameIdeal : Cert.quiescent_MixDwoIdeal := fun m ρ _ => Cert.MixDwoIdeal.Gen.frame m ρ

theorem frameReferenceIdeal : Cert.quiescent_MixDwoReferenceIdeal := fun m ρ _ =>
  (θ_run Cert.MixDwoReferenceIdeal.defs _ _).mono (fun r h => ⟨fun c => (h c).2, sem_eq_zero_of_no_sems rfl r.2⟩)
    (Cert.MixDwoReferenceIdeal.Value.run (F := Ideal) m ρ)

/-- Both operands' rows move with the point's remainder by 16, the first's columns and the result's rows with its quotient. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hzero (j) : k0_pay1 (F := Ideal) j = 0 := by pointwise [k0_pay1]

theorem hpay (acc : FVec Ideal S512x1024 .f32) (a : FVec Ideal S512x512 .bf16) (b : FVec Ideal S512x1024 .bf16) (j : S512x1024.Idx) :
    k0_pay2 (F := Ideal) acc a b j = acc j + ∑ k : Fin 512, (a (ix2 k (j 0 : Fin 512)) : EReal) * b (ix2 k (j 1 : Fin 1024)) := by
  pointwise [k0_pay2]

variable (m : (ℓ : Loc nD τ sig) → Buf (Elt Ideal) ℓ)

/-- What a point adds to an entry of the accumulator. -/
noncomputable def part (c : Dev nD) (t : Fin cfg0.N) (j : S512x1024.Idx) : EReal :=
  ∑ k : Fin 512, ((show FVec Ideal S512x512 .bf16 from iblk m c 0 t) (ix2 k (j 0 : Fin 512)) : EReal)
    * (show FVec Ideal S512x1024 .bf16 from iblk m c 1 t) (ix2 k (j 1 : Fin 1024))

/-- The last point of a run writes the accumulator out. -/
theorem out_eq (c : Dev nD) (t : Fin cfg0.N) (h : t.val % 16 = 15) : (outsAt0 m c t.val t.isLt).1 = (outsAt0 m c t.val t.isLt).2 := by
  rw [outsAt0_C m c t (by omega) h]; frame_out

/-- The result. -/
noncomputable def result (a : FVec Ideal S8192x1024 .bf16) (b : FVec Ideal S8192x1024 .bf16) : FVec Ideal S1024x1024 .f32 :=
  fun i => ∑ k : Fin 8192, (a (ix2 k (i 0 : Fin 1024)) : EReal) * b (ix2 k (i 1 : Fin 1024))

/-- The array after the run. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, Pipeline.eq_sum_fin_of_reset_step_apply_of_flush (fun n h => (outsAt0 m c n h).2) 16 (fun _ => 0) (part m c)
    (fun t h j => by rw [outsAt0_A m c t h (by omega)]; frame_out; rw [hpay, hzero]; rfl)
    (fun t h j => by
      by_cases h1 : t.val % 16 = 15
      · rw [outsAt0_C m c t h h1]; frame_out; rw [hpay, read_unread_whole]; rfl
      · rw [outsAt0_B m c t h h1]; frame_out; rw [hpay, read_unread_whole]; rfl)
    t hl _, zero_add]
  unfold part result
  refine Fin.sum_mul_add_congr fun s k hk => ?_
  blk_point [iblk, V, idx t, idx ⟨_, Pipeline.run_point_lt_of_flush t hl s⟩]

theorem algebraic : Cert.algebraic_MixDwoIdeal_MixDwoReferenceIdeal := fun m g m' g' _ hagree => by
  refine ⟨_, (θ_run Cert.MixDwoIdeal.defs _ _).mono (fun r h c => ⟨(h c).1.trans (final m c), (h c).2⟩) (Cert.MixDwoIdeal.Value.run_blocks (F := Ideal) m g),
    (θ_run Cert.MixDwoReferenceIdeal.defs _ _).mono (fun r h c => ?_) (Cert.MixDwoReferenceIdeal.Value.run (F := Ideal) m' g')⟩
  obtain ⟨h0, h1⟩ := hagree c
  refine ⟨(h c).1.trans ?_, (h c).2⟩
  rw [← h0, ← h1]
  funext y
  idx_vars y
  pointwise [result]

end Cert.MixProducts.Weight
-- ==== Proof.ProjectionGrad.lean ====
/-
# The input projection's gradients

A point multiplies 896 columns of the projection's gradient by as many rows of the weight, or 512 rows of the gradient by as many of the
operand, into an accumulator, which is cleared at the first point of each run of three, or of 16, and written out at the last: an entry
of the array after the run is the one sum that the reference takes.
-/
module

public import proofs.«01_k».proof.Defs
public import proofs.«01_k».proof.Proof.Gen.ProjInBwd
public import proofs.«01_k».proof.Proof.Gen.ProjInBwd.Frame
public import proofs.«01_k».proof.Proof.Gen.ProjInBwdIdeal
public import proofs.«01_k».proof.Proof.Gen.ProjInBwdIdeal.Frame
public import proofs.«01_k».proof.Proof.Gen.ProjInBwdIdeal.Value
public import proofs.«01_k».proof.Proof.Gen.ProjInBwdReferenceIdeal
public import proofs.«01_k».proof.Proof.Gen.ProjInBwdReferenceIdeal.Run
public import proofs.«01_k».proof.Proof.Gen.ProjInDw
public import proofs.«01_k».proof.Proof.Gen.ProjInDw.Frame
public import proofs.«01_k».proof.Proof.Gen.ProjInDwIdeal
public import proofs.«01_k».proof.Proof.Gen.ProjInDwIdeal.Frame
public import proofs.«01_k».proof.Proof.Gen.ProjInDwIdeal.Value
public import proofs.«01_k».proof.Proof.Gen.ProjInDwReferenceIdeal
public import proofs.«01_k».proof.Proof.Gen.ProjInDwReferenceIdeal.Run
public import Idealize.ShloMosaic.Lib.Pointwise
import Idealize.ShloMosaic.Lib.Pipeline.ValueKit
import Idealize.ShloMosaic.Lib.Pipeline.ReadBack

@[expose] public section

set_option maxRecDepth 16384

namespace Cert.ProjectionGrad.Input

open Idealize.ShloMosaic Idealize.ShloMosaic.TcCoe Idealize.SL.Sem
open Cert.ProjInBwdIdeal Cert.ProjInBwdIdeal.Gen

theorem frame : Cert.quiescent_ProjInBwd := fun m ρ _ => Cert.ProjInBwd.Gen.frame m ρ

theorem frameIdeal : Cert.quiescent_ProjInBwdIdeal := fun m ρ _ => Cert.ProjInBwdIdeal.Gen.frame m ρ

theorem frameReferenceIdeal : Cert.quiescent_ProjInBwdReferenceIdeal := fun m ρ _ =>
  (θ_run Cert.ProjInBwdReferenceIdeal.defs _ _).mono (fun r h => ⟨fun c => (h c).2, sem_eq_zero_of_no_sems rfl r.2⟩)
    (Cert.ProjInBwdReferenceIdeal.Value.run (F := Ideal) m ρ)

/-- The gradients' rows and the result's move with the point's quotient by three, the gradients' columns and the weight's rows with its
    remainder. -/
theorem idx : ∀ t : Fin cfg0.N, win0_0.index t = ![t.val / 3, t.val % 3] ∧ win0_1.index t = ![t.val % 3, 0] ∧ win0_2.index t = ![t.val / 3, 0] :=
  (by decide +kernel : ∀ t : Fin grid0.N, _)

theorem hzero (j) : k0_pay1 (F := Ideal) j = 0 := by pointwise [k0_pay1]

theorem hpay (acc : FVec Ideal S512x1024 .f32) (a : FVec Ideal S512x896 .bf16) (b : FVec Ideal S896x1024 .bf16) (j : S512x1024.Idx) :
    k0_pay2 (F := Ideal) acc a b j = acc j + ∑ k : Fin 896, (a (ix2 (j 0 : Fin 512) k) : EReal) * b (ix2 k (j 1 : Fin 1024)) := by
  pointwise [k0_pay2]

variable (m : (ℓ : Loc nD τ sig) → Buf (Elt Ideal) ℓ)

/-- What a point adds to an entry of the accumulator. -/
noncomputable def part (c : Dev nD) (t : Fin cfg0.N) (j : S512x1024.Idx) : EReal :=
  ∑ k : Fin 896, ((show FVec Ideal S512x896 .bf16 from iblk m c 0 t) (ix2 (j 0 : Fin 512) k) : EReal)
    * (show FVec Ideal S896x1024 .bf16 from iblk m c 1 t) (ix2 k (j 1 : Fin 1024))

/-- The last point of a run writes the accumulator out. -/
theorem out_eq (c : Dev nD) (t : Fin cfg0.N) (h : t.val % 3 = 2) : (outsAt0 m c t.val t.isLt).1 = (outsAt0 m c t.val t.isLt).2 := by
  rw [outsAt0_C m c t (by omega) h]; frame_out

/-- The result. -/
noncomputable def result (a : FVec Ideal S8192x2688 .bf16) (b : FVec Ideal S2688x1024 .bf16) : FVec Ideal S8192x1024 .f32 :=
  fun i => ∑ k : Fin 2688, (a (ix2 (i 0 : Fin 8192) k) : EReal) * b (ix2 k (i 1 : Fin 1024))

/-- The array after the run. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, Pipeline.eq_sum_fin_of_reset_step_apply_of_flush (fun n h => (outsAt0 m c n h).2) 3 (fun _ => 0) (part m c)
    (fun t h j => by rw [outsAt0_A m c t h (by omega)]; frame_out; rw [hpay, hzero]; rfl)
    (fun t h j => by
      by_cases h1 : t.val % 3 = 2
      · rw [outsAt0_C m c t h h1]; frame_out; rw [hpay, read_unread_whole]; rfl
      · rw [outsAt0_B m c t h h1]; frame_out; rw [hpay, read_unread_whole]; rfl)
    t hl _, zero_add]
  unfold part result
  refine Fin.sum_mul_add_congr fun s k hk => ?_
  blk_point [iblk, V, idx t, idx ⟨_, Pipeline.run_point_lt_of_flush t hl s⟩]

theorem algebraic : Cert.algebraic_ProjInBwdIdeal_ProjInBwdReferenceIdeal := fun m g m' g' _ hagree => by
  refine ⟨_, (θ_run Cert.ProjInBwdIdeal.defs _ _).mono (fun r h c => ⟨(h c).1.trans (final m c), (h c).2⟩) (Cert.ProjInBwdIdeal.Value.run_blocks (F := Ideal) m g),
    (θ_run Cert.ProjInBwdReferenceIdeal.defs _ _).mono (fun r h c => ?_) (Cert.ProjInBwdReferenceIdeal.Value.run (F := Ideal) m' g')⟩
  obtain ⟨h0, h1⟩ := hagree c
  refine ⟨(h c).1.trans ?_, (h c).2⟩
  rw [← h0, ← h1]
  funext y
  idx_vars y
  pointwise [result]

end Cert.ProjectionGrad.Input

namespace Cert.ProjectionGrad.Weight

open Idealize.ShloMosaic Idealize.ShloMosaic.TcCoe Idealize.SL.Sem
open Cert.ProjInDwIdeal Cert.ProjInDwIdeal.Gen

theorem frame : Cert.quiescent_ProjInDw := fun m ρ _ => Cert.ProjInDw.Gen.frame m ρ

theorem frameIdeal : Cert.quiescent_ProjInDwIdeal := fun m ρ _ => Cert.ProjInDwIdeal.Gen.frame m ρ

theorem frameReferenceIdeal : Cert.quiescent_ProjInDwReferenceIdeal := fun m ρ _ =>
  (θ_run Cert.ProjInDwReferenceIdeal.defs _ _).mono (fun r h => ⟨fun c => (h c).2, sem_eq_zero_of_no_sems rfl r.2⟩)
    (Cert.ProjInDwReferenceIdeal.Value.run (F := Ideal) m ρ)

/-- Both operands' rows move with the point's remainder by 16, the first's columns and the result's rows with its quotient. -/
theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hzero (j) : k0_pay1 (F := Ideal) j = 0 := by pointwise [k0_pay1]

theorem hpay (acc : FVec Ideal S896x1024 .f32) (a : FVec Ideal S512x896 .bf16) (b : FVec Ideal S512x1024 .bf16) (j : S896x1024.Idx) :
    k0_pay2 (F := Ideal) acc a b j = acc j + ∑ k : Fin 512, (a (ix2 k (j 0 : Fin 896)) : EReal) * b (ix2 k (j 1 : Fin 1024)) := by
  pointwise [k0_pay2]

variable (m : (ℓ : Loc nD τ sig) → Buf (Elt Ideal) ℓ)

/-- What a point adds to an entry of the accumulator. -/
noncomputable def part (c : Dev nD) (t : Fin cfg0.N) (j : S896x1024.Idx) : EReal :=
  ∑ k : Fin 512, ((show FVec Ideal S512x896 .bf16 from iblk m c 0 t) (ix2 k (j 0 : Fin 896)) : EReal)
    * (show FVec Ideal S512x1024 .bf16 from iblk m c 1 t) (ix2 k (j 1 : Fin 1024))

/-- The last point of a run writes the accumulator out. -/
theorem out_eq (c : Dev nD) (t : Fin cfg0.N) (h : t.val % 16 = 15) : (outsAt0 m c t.val t.isLt).1 = (outsAt0 m c t.val t.isLt).2 := by
  rw [outsAt0_C m c t (by omega) h]; frame_out

/-- The result. -/
noncomputable def result (a : FVec Ideal S8192x2688 .bf16) (b : FVec Ideal S8192x1024 .bf16) : FVec Ideal S2688x1024 .f32 :=
  fun i => ∑ k : Fin 8192, (a (ix2 k (i 0 : Fin 2688)) : EReal) * b (ix2 k (i 1 : Fin 1024))

/-- The array after the run. -/
theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have hl := (flush0_2 t).mp hf
  blk_simp
  rw [after0_2, out_eq m c t hl, Pipeline.eq_sum_fin_of_reset_step_apply_of_flush (fun n h => (outsAt0 m c n h).2) 16 (fun _ => 0) (part m c)
    (fun t h j => by rw [outsAt0_A m c t h (by omega)]; frame_out; rw [hpay, hzero]; rfl)
    (fun t h j => by
      by_cases h1 : t.val % 16 = 15
      · rw [outsAt0_C m c t h h1]; frame_out; rw [hpay, read_unread_whole]; rfl
      · rw [outsAt0_B m c t h h1]; frame_out; rw [hpay, read_unread_whole]; rfl)
    t hl _, zero_add]
  unfold part result
  refine Fin.sum_mul_add_congr fun s k hk => ?_
  blk_point [iblk, V, idx t, idx ⟨_, Pipeline.run_point_lt_of_flush t hl s⟩]

theorem algebraic : Cert.algebraic_ProjInDwIdeal_ProjInDwReferenceIdeal := fun m g m' g' _ hagree => by
  refine ⟨_, (θ_run Cert.ProjInDwIdeal.defs _ _).mono (fun r h c => ⟨(h c).1.trans (final m c), (h c).2⟩) (Cert.ProjInDwIdeal.Value.run_blocks (F := Ideal) m g),
    (θ_run Cert.ProjInDwReferenceIdeal.defs _ _).mono (fun r h c => ?_) (Cert.ProjInDwReferenceIdeal.Value.run (F := Ideal) m' g')⟩
  obtain ⟨h0, h1⟩ := hagree c
  refine ⟨(h c).1.trans ?_, (h c).2⟩
  rw [← h0, ← h1]
  funext y
  idx_vars y
  pointwise [result]

end Cert.ProjectionGrad.Weight
-- ==== Proof.lean ====
/-
# The calls that exchange data, what is made of it, and calls of the forward and backward pass

The exchange of the gradients: the kernel run, on floats of any kind, leaves every device with the rows that all devices hold for it
(`Cert.Exchange.run_main`); the reference run transposes an eight by eight array of rows (`Cert.ReferenceIdeal.Value.run`,
`Cert.Reference.Value.run`); and these are the same (`Cert.Exchange.transposed_rows`).

The four gathers: the kernel run leaves every device with the stack of all devices' matrices (`run_main` of `Cert.WeightsGathered`,
`Cert.SmallGathered`, `Cert.ModGathered` and `Cert.SmallGradsGathered`); the reference run cuts the whole matrix into eight; and
these are the same (`Cert.Gather.stacked_rows`).

The calls on one device, each against the reference's lines for it: the AdamW steps (`Cert.Adamw`), the gradient of the modulation
weight (`Cert.AdaGrad`) and the sums of the eight parts (`Cert.Sums`).  Of the forward pass: a device's part of the modulation
(`Cert.ModulationPart`), the normed and modulated rows (`Cert.NormForward`), the feed-forward block (`Cert.FeedForward`) and the
projections into the mixer (`Cert.InputProjection`) and out of it (`Cert.MixProducts`).  The loss with its gradients
(`Cert.LossGrad`).  Of the backward pass: the gradient of the input (`Cert.InputGrad`), the gradients through a gated residual
(`Cert.GateGrad`, `Cert.MixGateGrad`), of a feed-forward block's input (`Cert.FeedForwardGrad`) and weight (`Cert.WeightGradient`), and
through the two projections (`Cert.ProjectionGrad`, `Cert.MixProducts`).
-/
module

public import proofs.«01_k».proof.Defs
public import proofs.«01_k».proof.Proof.ExchangeRun
public import proofs.«01_k».proof.Proof.ExchangeValue
public import proofs.«01_k».proof.Proof.WeightsGathered
public import proofs.«01_k».proof.Proof.Gen.GatherWeights
public import proofs.«01_k».proof.Proof.Gen.GatherWeightsReference.Run
public import proofs.«01_k».proof.Proof.Gen.GatherWeightsReferenceIdeal.Run
public import proofs.«01_k».proof.Proof.Gen.GatherWeightsReference
public import proofs.«01_k».proof.Proof.Gen.GatherWeightsReferenceIdeal
public import proofs.«01_k».proof.Proof.SmallGathered
public import proofs.«01_k».proof.Proof.Gen.GatherSmall
public import proofs.«01_k».proof.Proof.Gen.GatherSmallReference.Run
public import proofs.«01_k».proof.Proof.Gen.GatherSmallReferenceIdeal.Run
public import proofs.«01_k».proof.Proof.Gen.GatherSmallReference
public import proofs.«01_k».proof.Proof.Gen.GatherSmallReferenceIdeal
public import proofs.«01_k».proof.Proof.ModGathered
public import proofs.«01_k».proof.Proof.Gen.GatherMod
public import proofs.«01_k».proof.Proof.Gen.GatherModReference.Run
public import proofs.«01_k».proof.Proof.Gen.GatherModReferenceIdeal.Run
public import proofs.«01_k».proof.Proof.Gen.GatherModReference
public import proofs.«01_k».proof.Proof.Gen.GatherModReferenceIdeal
public import proofs.«01_k».proof.Proof.SmallGradsGathered
public import proofs.«01_k».proof.Proof.Gen.GatherSmallGrads
public import proofs.«01_k».proof.Proof.Gen.GatherSmallGradsReference.Run
public import proofs.«01_k».proof.Proof.Gen.GatherSmallGradsReferenceIdeal.Run
public import proofs.«01_k».proof.Proof.Gen.GatherSmallGradsReference
public import proofs.«01_k».proof.Proof.Gen.GatherSmallGradsReferenceIdeal
public import proofs.«01_k».proof.Proof.Adamw
public import proofs.«01_k».proof.Proof.AdaGrad
public import proofs.«01_k».proof.Proof.Sums
public import proofs.«01_k».proof.Proof.ModulationPart
public import proofs.«01_k».proof.Proof.NormForward
public import proofs.«01_k».proof.Proof.InputGrad
public import proofs.«01_k».proof.Proof.GateGrad
public import proofs.«01_k».proof.Proof.FeedForward
public import proofs.«01_k».proof.Proof.InputProjection
public import proofs.«01_k».proof.Proof.WeightGradient
public import proofs.«01_k».proof.Proof.LossGrad
public import proofs.«01_k».proof.Proof.FeedForwardGrad
public import proofs.«01_k».proof.Proof.MixGateGrad
public import proofs.«01_k».proof.Proof.MixProducts
public import proofs.«01_k».proof.Proof.ProjectionGrad
public import proofs.«01_k».proof.Proof.Gen.Kernel
public import proofs.«01_k».proof.Proof.Gen.ReferenceIdeal
public import proofs.«01_k».proof.Proof.Gen.Reference
public import proofs.«01_k».proof.Proof.Gen.ReferenceIdeal.Run
public import proofs.«01_k».proof.Proof.Gen.Reference.Run

@[expose] public section

namespace Cert.Proof

open Idealize.ShloMosaic Idealize.ShloMosaic.TcCoe Idealize.SL.Sem

/-! ## The runs end, change no argument, and leave every semaphore at zero -/

theorem frame_kernel : Cert.quiescent_Kernel := fun m ρ _ =>
  (θ_run Cert.KernelIdeal.defs _ _).mono (fun _ h => ⟨fun c => (h.1 c).1, h.2⟩) (Cert.Exchange.run_main (F := Bits) m ρ)

theorem frame_kernelIdeal : Cert.quiescent_KernelIdeal := fun m ρ _ =>
  (θ_run Cert.KernelIdeal.defs _ _).mono (fun _ h => ⟨fun c => (h.1 c).1, h.2⟩) (Cert.Exchange.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems rfl r.2⟩)
    (Cert.Reference.Value.run (F := Bits) m ρ)

/-! ## The results -/

/-- What the kernel leaves on device `c` is block `c` of the transposed rows. -/
theorem want_eq_block {F : FTy → Type} [FloatOps F] (m : (ℓ : Loc Cert.KernelIdeal.nD Cert.KernelIdeal.τ Cert.KernelIdeal.sig) → Buf (Elt F) ℓ)
    (V : (⟨3, ![64, 2576, 1024]⟩ : Shape).Idx → Elt F .bf16) (h : Layout.Tiles ⟨3, ![8, 2576, 1024]⟩ ⟨3, ![64, 2576, 1024]⟩ 0 8)
    (hm : ∀ c : Dev Cert.KernelIdeal.nD, m (c.tc.loc Cert.KernelIdeal.main_arg0) = Layout.block ⟨3, ![8, 2576, 1024]⟩ ⟨3, ![64, 2576, 1024]⟩ 0 8 c V h)
    (h₁ : (⟨3, ![64, 2576, 1024]⟩ : Shape).ShapeCasts ⟨4, ![8, 8, 2576, 1024]⟩)
    (h₂ : (⟨4, ![8, 8, 2576, 1024]⟩ : Shape).Transposes [1, 0, 2, 3] ⟨4, ![8, 8, 2576, 1024]⟩)
    (h₃ : (⟨4, ![8, 8, 2576, 1024]⟩ : Shape).ShapeCasts ⟨3, ![64, 2576, 1024]⟩) (c : Dev Cert.KernelIdeal.nD) :
    Cert.Exchange.want m c = Layout.block ⟨3, ![8, 2576, 1024]⟩ ⟨3, ![64, 2576, 1024]⟩ 0 8 c
      (shapeCast ⟨3, ![64, 2576, 1024]⟩ (transpose ⟨4, ![8, 8, 2576, 1024]⟩ [1, 0, 2, 3] (shapeCast ⟨4, ![8, 8, 2576, 1024]⟩ V h₁) h₂) h₃) h := by
  funext i
  refine (congrFun (hm (i 0)) _).trans ?_
  exact (Cert.Exchange.transposed_rows V h₁ h₂ h₃ h c i).symm

theorem algebraic : Cert.algebraic_KernelIdeal_ReferenceIdeal := fun m g m' g' _ hagree =>
  ⟨_, (θ_run Cert.KernelIdeal.defs _ _).mono (fun _ h c => ⟨(h.1 c).2.trans (want_eq_block m _ _ hagree _ _ _ c), (h.1 c).1⟩)
      (Cert.Exchange.run_main (F := Ideal) m g),
    (θ_run Cert.ReferenceIdeal.defs _ _).mono (fun _ h => h 0) (Cert.ReferenceIdeal.Value.run (F := Ideal) m' g')⟩

theorem bitexact : Cert.bitexact_Kernel_Reference := fun m g m' g' _ hagree =>
  ⟨_, (θ_run Cert.KernelIdeal.defs _ _).mono (fun _ h c => ⟨(h.1 c).2.trans (want_eq_block m _ _ hagree _ _ _ c), (h.1 c).1⟩)
      (Cert.Exchange.run_main (F := Bits) m g),
    (θ_run Cert.Reference.defs _ _).mono (fun _ h => h 0) (Cert.Reference.Value.run (F := Bits) m' g')⟩

/-! ## The gathers -/

theorem frame_weights : Cert.quiescent_GatherWeights := fun m ρ _ =>
  (θ_run Cert.GatherWeightsIdeal.defs _ _).mono (fun _ h => ⟨fun c => (h.1 c).1, h.2⟩) (Cert.WeightsGathered.run_main (F := Bits) m ρ)

theorem frame_weightsIdeal : Cert.quiescent_GatherWeightsIdeal := fun m ρ _ =>
  (θ_run Cert.GatherWeightsIdeal.defs _ _).mono (fun _ h => ⟨fun c => (h.1 c).1, h.2⟩) (Cert.WeightsGathered.run_main (F := Ideal) m ρ)

theorem frame_weightsReferenceIdeal : Cert.quiescent_GatherWeightsReferenceIdeal := fun m ρ _ =>
  (θ_run Cert.GatherWeightsReferenceIdeal.defs _ _).mono (fun r h => ⟨fun c => (h c).2, sem_eq_zero_of_no_sems rfl r.2⟩)
    (Cert.GatherWeightsReferenceIdeal.Value.run (F := Ideal) m ρ)

theorem frame_weightsReference : Cert.quiescent_GatherWeightsReference := fun m ρ _ =>
  (θ_run Cert.GatherWeightsReference.defs _ _).mono (fun r h => ⟨fun c => (h c).2, sem_eq_zero_of_no_sems rfl r.2⟩)
    (Cert.GatherWeightsReference.Value.run (F := Bits) m ρ)

theorem algebraic_weights : Cert.algebraic_GatherWeightsIdeal_GatherWeightsReferenceIdeal := fun m g m' g' _ hagree =>
  ⟨_, (θ_run Cert.GatherWeightsIdeal.defs _ _).mono (fun _ h c => ⟨(h.1 c).2.trans (Cert.WeightsGathered.want_eq m _ _ hagree _), (h.1 c).1⟩)
      (Cert.WeightsGathered.run_main (F := Ideal) m g),
    (θ_run Cert.GatherWeightsReferenceIdeal.defs _ _).mono (fun _ h => h 0) (Cert.GatherWeightsReferenceIdeal.Value.run (F := Ideal) m' g')⟩

theorem bitexact_weights : Cert.bitexact_GatherWeights_GatherWeightsReference := fun m g m' g' _ hagree =>
  ⟨_, (θ_run Cert.GatherWeightsIdeal.defs _ _).mono (fun _ h c => ⟨(h.1 c).2.trans (Cert.WeightsGathered.want_eq m _ _ hagree _), (h.1 c).1⟩)
      (Cert.WeightsGathered.run_main (F := Bits) m g),
    (θ_run Cert.GatherWeightsReference.defs _ _).mono (fun _ h => h 0) (Cert.GatherWeightsReference.Value.run (F := Bits) m' g')⟩

theorem frame_small : Cert.quiescent_GatherSmall := fun m ρ _ =>
  (θ_run Cert.GatherSmallIdeal.defs _ _).mono (fun _ h => ⟨fun c => (h.1 c).1, h.2⟩) (Cert.SmallGathered.run_main (F := Bits) m ρ)

theorem frame_smallIdeal : Cert.quiescent_GatherSmallIdeal := fun m ρ _ =>
  (θ_run Cert.GatherSmallIdeal.defs _ _).mono (fun _ h => ⟨fun c => (h.1 c).1, h.2⟩) (Cert.SmallGathered.run_main (F := Ideal) m ρ)

theorem frame_smallReferenceIdeal : Cert.quiescent_GatherSmallReferenceIdeal := fun m ρ _ =>
  (θ_run Cert.GatherSmallReferenceIdeal.defs _ _).mono (fun r h => ⟨fun c => (h c).2, sem_eq_zero_of_no_sems rfl r.2⟩)
    (Cert.GatherSmallReferenceIdeal.Value.run (F := Ideal) m ρ)

theorem frame_smallReference : Cert.quiescent_GatherSmallReference := fun m ρ _ =>
  (θ_run Cert.GatherSmallReference.defs _ _).mono (fun r h => ⟨fun c => (h c).2, sem_eq_zero_of_no_sems rfl r.2⟩)
    (Cert.GatherSmallReference.Value.run (F := Bits) m ρ)

theorem algebraic_small : Cert.algebraic_GatherSmallIdeal_GatherSmallReferenceIdeal := fun m g m' g' _ hagree =>
  ⟨_, (θ_run Cert.GatherSmallIdeal.defs _ _).mono (fun _ h c => ⟨(h.1 c).2.trans (Cert.SmallGathered.want_eq m _ _ hagree _), (h.1 c).1⟩)
      (Cert.SmallGathered.run_main (F := Ideal) m g),
    (θ_run Cert.GatherSmallReferenceIdeal.defs _ _).mono (fun _ h => h 0) (Cert.GatherSmallReferenceIdeal.Value.run (F := Ideal) m' g')⟩

theorem bitexact_small : Cert.bitexact_GatherSmall_GatherSmallReference := fun m g m' g' _ hagree =>
  ⟨_, (θ_run Cert.GatherSmallIdeal.defs _ _).mono (fun _ h c => ⟨(h.1 c).2.trans (Cert.SmallGathered.want_eq m _ _ hagree _), (h.1 c).1⟩)
      (Cert.SmallGathered.run_main (F := Bits) m g),
    (θ_run Cert.GatherSmallReference.defs _ _).mono (fun _ h => h 0) (Cert.GatherSmallReference.Value.run (F := Bits) m' g')⟩

theorem frame_mod : Cert.quiescent_GatherMod := fun m ρ _ =>
  (θ_run Cert.GatherModIdeal.defs _ _).mono (fun _ h => ⟨fun c => (h.1 c).1, h.2⟩) (Cert.ModGathered.run_main (F := Bits) m ρ)

theorem frame_modIdeal : Cert.quiescent_GatherModIdeal := fun m ρ _ =>
  (θ_run Cert.GatherModIdeal.defs _ _).mono (fun _ h => ⟨fun c => (h.1 c).1, h.2⟩) (Cert.ModGathered.run_main (F := Ideal) m ρ)

theorem frame_modReferenceIdeal : Cert.quiescent_GatherModReferenceIdeal := fun m ρ _ =>
  (θ_run Cert.GatherModReferenceIdeal.defs _ _).mono (fun r h => ⟨fun c => (h c).2, sem_eq_zero_of_no_sems rfl r.2⟩)
    (Cert.GatherModReferenceIdeal.Value.run (F := Ideal) m ρ)

theorem frame_modReference : Cert.quiescent_GatherModReference := fun m ρ _ =>
  (θ_run Cert.GatherModReference.defs _ _).mono (fun r h => ⟨fun c => (h c).2, sem_eq_zero_of_no_sems rfl r.2⟩)
    (Cert.GatherModReference.Value.run (F := Bits) m ρ)

theorem algebraic_mod : Cert.algebraic_GatherModIdeal_GatherModReferenceIdeal := fun m g m' g' _ hagree =>
  ⟨_, (θ_run Cert.GatherModIdeal.defs _ _).mono (fun _ h c => ⟨(h.1 c).2.trans (Cert.ModGathered.want_eq m _ _ hagree _), (h.1 c).1⟩)
      (Cert.ModGathered.run_main (F := Ideal) m g),
    (θ_run Cert.GatherModReferenceIdeal.defs _ _).mono (fun _ h => h 0) (Cert.GatherModReferenceIdeal.Value.run (F := Ideal) m' g')⟩

theorem bitexact_mod : Cert.bitexact_GatherMod_GatherModReference := fun m g m' g' _ hagree =>
  ⟨_, (θ_run Cert.GatherModIdeal.defs _ _).mono (fun _ h c => ⟨(h.1 c).2.trans (Cert.ModGathered.want_eq m _ _ hagree _), (h.1 c).1⟩)
      (Cert.ModGathered.run_main (F := Bits) m g),
    (θ_run Cert.GatherModReference.defs _ _).mono (fun _ h => h 0) (Cert.GatherModReference.Value.run (F := Bits) m' g')⟩

theorem frame_smallGrads : Cert.quiescent_GatherSmallGrads := fun m ρ _ =>
  (θ_run Cert.GatherSmallGradsIdeal.defs _ _).mono (fun _ h => ⟨fun c => (h.1 c).1, h.2⟩) (Cert.SmallGradsGathered.run_main (F := Bits) m ρ)

theorem frame_smallGradsIdeal : Cert.quiescent_GatherSmallGradsIdeal := fun m ρ _ =>
  (θ_run Cert.GatherSmallGradsIdeal.defs _ _).mono (fun _ h => ⟨fun c => (h.1 c).1, h.2⟩) (Cert.SmallGradsGathered.run_main (F := Ideal) m ρ)

theorem frame_smallGradsReferenceIdeal : Cert.quiescent_GatherSmallGradsReferenceIdeal := fun m ρ _ =>
  (θ_run Cert.GatherSmallGradsReferenceIdeal.defs _ _).mono (fun r h => ⟨fun c => (h c).2, sem_eq_zero_of_no_sems rfl r.2⟩)
    (Cert.GatherSmallGradsReferenceIdeal.Value.run (F := Ideal) m ρ)

theorem frame_smallGradsReference : Cert.quiescent_GatherSmallGradsReference := fun m ρ _ =>
  (θ_run Cert.GatherSmallGradsReference.defs _ _).mono (fun r h => ⟨fun c => (h c).2, sem_eq_zero_of_no_sems rfl r.2⟩)
    (Cert.GatherSmallGradsReference.Value.run (F := Bits) m ρ)

theorem algebraic_smallGrads : Cert.algebraic_GatherSmallGradsIdeal_GatherSmallGradsReferenceIdeal := fun m g m' g' _ hagree =>
  ⟨_, (θ_run Cert.GatherSmallGradsIdeal.defs _ _).mono (fun _ h c => ⟨(h.1 c).2.trans (Cert.SmallGradsGathered.want_eq m _ _ hagree _), (h.1 c).1⟩)
      (Cert.SmallGradsGathered.run_main (F := Ideal) m g),
    (θ_run Cert.GatherSmallGradsReferenceIdeal.defs _ _).mono (fun _ h => h 0) (Cert.GatherSmallGradsReferenceIdeal.Value.run (F := Ideal) m' g')⟩

theorem bitexact_smallGrads : Cert.bitexact_GatherSmallGrads_GatherSmallGradsReference := fun m g m' g' _ hagree =>
  ⟨_, (θ_run Cert.GatherSmallGradsIdeal.defs _ _).mono (fun _ h c => ⟨(h.1 c).2.trans (Cert.SmallGradsGathered.want_eq m _ _ hagree _), (h.1 c).1⟩)
      (Cert.SmallGradsGathered.run_main (F := Bits) m g),
    (θ_run Cert.GatherSmallGradsReference.defs _ _).mono (fun _ h => h 0) (Cert.GatherSmallGradsReference.Value.run (F := Bits) m' g')⟩

theorem claim : Cert.Claim := ⟨Cert.Kernel.Gen.facts, Cert.KernelIdeal.Gen.facts, Cert.ReferenceIdeal.Gen.facts, Cert.Reference.Gen.facts,
  Cert.GatherWeights.Gen.facts, Cert.GatherWeightsIdeal.Gen.facts, Cert.GatherWeightsReferenceIdeal.Gen.facts, Cert.GatherWeightsReference.Gen.facts, Cert.GatherSmall.Gen.facts, Cert.GatherSmallIdeal.Gen.facts, Cert.GatherSmallReferenceIdeal.Gen.facts, Cert.GatherSmallReference.Gen.facts, Cert.GatherMod.Gen.facts, Cert.GatherModIdeal.Gen.facts, Cert.GatherModReferenceIdeal.Gen.facts, Cert.GatherModReference.Gen.facts, Cert.GatherSmallGrads.Gen.facts, Cert.GatherSmallGradsIdeal.Gen.facts, Cert.GatherSmallGradsReferenceIdeal.Gen.facts, Cert.GatherSmallGradsReference.Gen.facts,
  Cert.AdamwWAda.Gen.facts, Cert.AdamwWAdaIdeal.Gen.facts, Cert.AdamwWAdaReferenceIdeal.Gen.facts,
  Cert.AdamwFfn1Gate.Gen.facts, Cert.AdamwFfn1GateIdeal.Gen.facts, Cert.AdamwFfn1GateReferenceIdeal.Gen.facts,
  Cert.AdamwFfn1Down.Gen.facts, Cert.AdamwFfn1DownIdeal.Gen.facts, Cert.AdamwFfn1DownReferenceIdeal.Gen.facts,
  Cert.AdamwWIn.Gen.facts, Cert.AdamwWInIdeal.Gen.facts, Cert.AdamwWInReferenceIdeal.Gen.facts,
  Cert.AdamwWOut.Gen.facts, Cert.AdamwWOutIdeal.Gen.facts, Cert.AdamwWOutReferenceIdeal.Gen.facts,
  Cert.AdamwSmall.Gen.facts, Cert.AdamwSmallIdeal.Gen.facts, Cert.AdamwSmallReferenceIdeal.Gen.facts,
  Cert.WAdaGrad.Gen.facts, Cert.WAdaGradIdeal.Gen.facts, Cert.WAdaGradReferenceIdeal.Gen.facts,
  Cert.SumGrads.Gen.facts, Cert.SumGradsIdeal.Gen.facts, Cert.SumGradsReferenceIdeal.Gen.facts,
  Cert.SumSmallGrads.Gen.facts, Cert.SumSmallGradsIdeal.Gen.facts, Cert.SumSmallGradsReferenceIdeal.Gen.facts,
  Cert.ModPart.Gen.facts, Cert.ModPartIdeal.Gen.facts, Cert.ModPartReferenceIdeal.Gen.facts,
  Cert.Norm.Gen.facts, Cert.NormIdeal.Gen.facts, Cert.NormReferenceIdeal.Gen.facts,
  Cert.ResidNorm.Gen.facts, Cert.ResidNormIdeal.Gen.facts, Cert.ResidNormReferenceIdeal.Gen.facts,
  Cert.GradX.Gen.facts, Cert.GradXIdeal.Gen.facts, Cert.GradXReferenceIdeal.Gen.facts,
  Cert.GateBwd.Gen.facts, Cert.GateBwdIdeal.Gen.facts, Cert.GateBwdReferenceIdeal.Gen.facts,
  Cert.FfnFwd.Gen.facts, Cert.FfnFwdIdeal.Gen.facts, Cert.FfnFwdReferenceIdeal.Gen.facts,
  Cert.ProjIn.Gen.facts, Cert.ProjInIdeal.Gen.facts, Cert.ProjInReferenceIdeal.Gen.facts,
  Cert.WeightGrad.Gen.facts, Cert.WeightGradIdeal.Gen.facts, Cert.WeightGradReferenceIdeal.Gen.facts,
  Cert.FinalLoss.Gen.facts, Cert.FinalLossIdeal.Gen.facts, Cert.FinalLossReferenceIdeal.Gen.facts,
  Cert.FfnDh.Gen.facts, Cert.FfnDhIdeal.Gen.facts, Cert.FfnDhReferenceIdeal.Gen.facts,
  Cert.ResidNorm3.Gen.facts, Cert.ResidNorm3Ideal.Gen.facts, Cert.ResidNorm3ReferenceIdeal.Gen.facts,
  Cert.MixGateBwd.Gen.facts, Cert.MixGateBwdIdeal.Gen.facts, Cert.MixGateBwdReferenceIdeal.Gen.facts,
  Cert.MixOut.Gen.facts, Cert.MixOutIdeal.Gen.facts, Cert.MixOutReferenceIdeal.Gen.facts,
  Cert.MixOutBwd.Gen.facts, Cert.MixOutBwdIdeal.Gen.facts, Cert.MixOutBwdReferenceIdeal.Gen.facts,
  Cert.MixDwo.Gen.facts, Cert.MixDwoIdeal.Gen.facts, Cert.MixDwoReferenceIdeal.Gen.facts,
  Cert.ProjInBwd.Gen.facts, Cert.ProjInBwdIdeal.Gen.facts, Cert.ProjInBwdReferenceIdeal.Gen.facts,
  Cert.ProjInDw.Gen.facts, Cert.ProjInDwIdeal.Gen.facts, Cert.ProjInDwReferenceIdeal.Gen.facts,
  frame_kernel, frame_kernelIdeal, frame_referenceIdeal, frame_reference,
  frame_weights, frame_weightsIdeal, frame_weightsReferenceIdeal, frame_weightsReference, frame_small, frame_smallIdeal, frame_smallReferenceIdeal, frame_smallReference, frame_mod, frame_modIdeal, frame_modReferenceIdeal, frame_modReference, frame_smallGrads, frame_smallGradsIdeal, frame_smallGradsReferenceIdeal, frame_smallGradsReference,
  Adamw.frame_wAda, Adamw.frame_wAdaIdeal, Adamw.frame_wAdaReferenceIdeal,
  Adamw.frame_gate, Adamw.frame_gateIdeal, Adamw.frame_gateReferenceIdeal,
  Adamw.frame_down, Adamw.frame_downIdeal, Adamw.frame_downReferenceIdeal,
  Adamw.frame_wIn, Adamw.frame_wInIdeal, Adamw.frame_wInReferenceIdeal,
  Adamw.frame_wOut, Adamw.frame_wOutIdeal, Adamw.frame_wOutReferenceIdeal,
  Adamw.frame_small, Adamw.frame_smallIdeal, Adamw.frame_smallReferenceIdeal,
  AdaGrad.frame, AdaGrad.frameIdeal, AdaGrad.frameReferenceIdeal,
  Sums.frame, Sums.frameIdeal, Sums.frameReferenceIdeal,
  Sums.frameSmall, Sums.frameSmallIdeal, Sums.frameSmallReferenceIdeal,
  ModulationPart.frame, ModulationPart.frameIdeal, ModulationPart.frameReferenceIdeal,
  NormForward.Plain.frame, NormForward.Plain.frameIdeal, NormForward.Plain.frameReferenceIdeal,
  NormForward.Resid.frame, NormForward.Resid.frameIdeal, NormForward.Resid.frameReferenceIdeal,
  InputGrad.frame, InputGrad.frameIdeal, InputGrad.frameReferenceIdeal,
  GateGrad.frame, GateGrad.frameIdeal, GateGrad.frameReferenceIdeal,
  FeedForward.frame, FeedForward.frameIdeal, FeedForward.frameReferenceIdeal,
  InputProjection.frame, InputProjection.frameIdeal, InputProjection.frameReferenceIdeal,
  WeightGradient.frame, WeightGradient.frameIdeal, WeightGradient.frameReferenceIdeal,
  LossGrad.frame, LossGrad.frameIdeal, LossGrad.frameReferenceIdeal,
  FeedForwardGrad.frame, FeedForwardGrad.frameIdeal, FeedForwardGrad.frameReferenceIdeal,
  NormForward.Third.frame, NormForward.Third.frameIdeal, NormForward.Third.frameReferenceIdeal,
  MixGateGrad.frame, MixGateGrad.frameIdeal, MixGateGrad.frameReferenceIdeal,
  MixProducts.Forward.frame, MixProducts.Forward.frameIdeal, MixProducts.Forward.frameReferenceIdeal,
  MixProducts.Backward.frame, MixProducts.Backward.frameIdeal, MixProducts.Backward.frameReferenceIdeal,
  MixProducts.Weight.frame, MixProducts.Weight.frameIdeal, MixProducts.Weight.frameReferenceIdeal,
  ProjectionGrad.Input.frame, ProjectionGrad.Input.frameIdeal, ProjectionGrad.Input.frameReferenceIdeal,
  ProjectionGrad.Weight.frame, ProjectionGrad.Weight.frameIdeal, ProjectionGrad.Weight.frameReferenceIdeal,
  trivial, algebraic, bitexact, trivial, algebraic_weights, bitexact_weights, trivial, algebraic_small, bitexact_small, trivial, algebraic_mod, bitexact_mod, trivial, algebraic_smallGrads, bitexact_smallGrads,
  trivial, Adamw.algebraic_wAda, trivial, Adamw.algebraic_gate, trivial, Adamw.algebraic_down, trivial, Adamw.algebraic_wIn, trivial, Adamw.algebraic_wOut, trivial, Adamw.algebraic_small,
  trivial, AdaGrad.algebraic, trivial, Sums.algebraic, trivial, Sums.algebraicSmall,
  trivial, ModulationPart.algebraic, trivial, NormForward.Plain.algebraic, trivial, NormForward.Resid.algebraic, trivial, InputGrad.algebraic,
  trivial, GateGrad.algebraic, trivial, FeedForward.algebraic, trivial, InputProjection.algebraic, trivial, WeightGradient.algebraic,
  trivial, LossGrad.algebraic, trivial, FeedForwardGrad.algebraic, trivial, NormForward.Third.algebraic, trivial, MixGateGrad.algebraic,
  trivial, MixProducts.Forward.algebraic, trivial, MixProducts.Backward.algebraic, trivial, MixProducts.Weight.algebraic, trivial, ProjectionGrad.Input.algebraic, trivial, ProjectionGrad.Weight.algebraic⟩

end Cert.Proof
